-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_tables : Cert.Pre_tables.Facts] (m : (ℓ : Loc Cert.Kernel8.nD Cert.Kernel8.τ Cert.Kernel8.sig) → Buf (Elt Bits) ℓ) : Prop :=
  ∀ c : Dev Cert.Kernel8.nD,
    (Cert.Pre_tables.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6)) (m ((c.tc : Thread Cert.Kernel8.nD Cert.Kernel8.τ).loc Cert.Kernel8.main_arg7))) = (fun _ => 1#1)

def Pre_Kernel8Ideal [hPre_tables : Cert.Pre_tables.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_tables.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal [hPre_tables : Cert.Pre_tables.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_tables.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] [hPre_tables : Cert.Pre_tables.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] [hPre_tables : Cert.Pre_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] [hPre_tables : Cert.Pre_tables.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)) (v6 : (c : Dev Cert.Kernel2Ideal.nD) → Buf (Elt Ideal) ((c.tc : Thread Cert.Kernel2Ideal.nD Cert.Kernel2Ideal.τ).loc Cert.Kernel2Ideal.main_v4_6)) (v7 : (c : Dev Cert.Kernel2Ideal.nD) → Buf (Elt Ideal) ((c.tc : Thread Cert.Kernel2Ideal.nD Cert.Kernel2Ideal.τ).loc Cert.Kernel2Ideal.main_v4_7)) (v8 : (c : Dev Cert.Kernel2Ideal.nD) → Buf (Elt Ideal) ((c.tc : Thread Cert.Kernel2Ideal.nD Cert.Kernel2Ideal.τ).loc Cert.Kernel2Ideal.main_v4_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_v4_6) = v6 c
          ∧ r.2.mem ((c.tc : Thread Cert.Kernel2Ideal.nD Cert.Kernel2Ideal.τ).loc Cert.Kernel2Ideal.main_v4_7) = v7 c
          ∧ r.2.mem ((c.tc : Thread Cert.Kernel2Ideal.nD Cert.Kernel2Ideal.τ).loc Cert.Kernel2Ideal.main_v4_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_v30) = v6 c
          ∧ r.2.mem ((c.tc : Thread Cert.Reference2Ideal.nD Cert.Reference2Ideal.τ).loc Cert.Reference2Ideal.main_v31) = v7 c
          ∧ r.2.mem ((c.tc : Thread Cert.Reference2Ideal.nD Cert.Reference2Ideal.τ).loc Cert.Reference2Ideal.main_v35) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_v8) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] [hPre_tables : Cert.Pre_tables.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_tables : Cert.Pre_tables.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_tables := hPre_tables)
    ∧ quiescent_Kernel8Ideal (hKernel8Ideal := hKernel8Ideal) (hPre_tables := hPre_tables)
    ∧ quiescent_Reference8Ideal (hReference8Ideal := hReference8Ideal) (hPre_tables := hPre_tables)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_tables := hPre_tables)
-- ==== Pre_finite_qk.lean ====
abbrev S8704x2048 : Shape := ⟨2, ![8704, 2048]⟩
abbrev S_ : Shape := ⟨0, ![]⟩

class Facts : Prop where
  bitsLt_bf16_f32 : FTy.bits .bf16 < FTy.bits .f32
  bcast_S_S8704x2048 : S_.BroadcastsInDim S8704x2048 (![] : Fin 0 → Fin S8704x2048.rank)
  reducesTo_S8704x2048_S_d0_1 : S8704x2048.ReducesTo [0, 1] S_
  h_S_ : 0 < S_.numel

variable [Facts]

def fn {F : FTy → Type} [FloatOps F] (main_arg0 : FVec F S8704x2048 .bf16) (main_arg1 : FVec F S8704x2048 .bf16) (main_arg2 : FVec F S8704x2048 .bf16) : IVec S_ 1 :=
  let main_v0 : FVec F S8704x2048 .f32 := (extf .f32 · bitsLt_bf16_f32) main_arg0
  let main_v1 : FVec F S8704x2048 .f32 := Host.absf main_v0
  let main_cst : FVec F S_ .f32 := constant S_ .f32 0x7F800000#32
  let main_v2 : FVec F S8704x2048 .f32 := broadcastInDim S8704x2048 ![] bcast_S_S8704x2048 main_cst
  let main_v3 : IVec S8704x2048 1 := cmpf .olt main_v1 main_v2
  let main_c : IVec S_ 1 := constantI S_ 1 1#1
  let main_v4 : IVec S_ 1 := (fun x v => Host.reduce IntOp.andi x v reducesTo_S8704x2048_S_d0_1 h_S_) main_v3 main_c
  let main_v5 : FVec F S8704x2048 .f32 := (extf .f32 · bitsLt_bf16_f32) main_arg1
  let main_v6 : FVec F S8704x2048 .f32 := Host.absf main_v5
  let main_cst_0 : FVec F S_ .f32 := constant S_ .f32 0x7F800000#32
  let main_v7 : FVec F S8704x2048 .f32 := broadcastInDim S8704x2048 ![] bcast_S_S8704x2048 main_cst_0
  let main_v8 : IVec S8704x2048 1 := cmpf .olt main_v6 main_v7
  let main_c_1 : IVec S_ 1 := constantI S_ 1 1#1
  let main_v9 : IVec S_ 1 := (fun x v => Host.reduce IntOp.andi x v reducesTo_S8704x2048_S_d0_1 h_S_) main_v8 main_c_1
  let main_v10 : IVec S_ 1 := andi main_v4 main_v9
  main_v10
-- ==== Pre_tables.lean ====
abbrev S200 : Shape := ⟨1, ![200]⟩
abbrev S1 : Shape := ⟨1, ![1]⟩
abbrev S102400x2048 : Shape := ⟨2, ![102400, 2048]⟩
abbrev S2x64x2048x512 : Shape := ⟨4, ![2, 64, 2048, 512]⟩
abbrev S2x64x512x2048 : Shape := ⟨4, ![2, 64, 512, 2048]⟩
abbrev S_ : Shape := ⟨0, ![]⟩
abbrev S199 : Shape := ⟨1, ![199]⟩

class Facts : Prop where
  shapeCasts_S1_S_ : S1.ShapeCasts S_
  bcast_S_S199 : S_.BroadcastsInDim S199 (![] : Fin 0 → Fin S199.rank)
  slices_S200_S199_1 : S200.Slices ![1] S199
  slices_S200_S199_0 : S200.Slices ![0] S199
  bcast_S_S200 : S_.BroadcastsInDim S200 (![] : Fin 0 → Fin S200.rank)
  reducesTo_S200_S_d0 : S200.ReducesTo [0] S_
  h_S_ : 0 < S_.numel
  reducesTo_S199_S_d0 : S199.ReducesTo [0] S_

variable [Facts]

def fn_where {F : FTy → Type} [FloatOps F] (arg0 : IVec S199 1) (arg1 : IVec S199 1) (arg2 : IVec S199 1) : IVec S199 1 :=
  let v0 : IVec S199 1 := select arg0 arg1 arg2
  v0

def fn_where_0 {F : FTy → Type} [FloatOps F] (arg0 : IVec S200 1) (arg1 : IVec S200 1) (arg2 : IVec S_ 1) : IVec S200 1 :=
  let v0 : IVec S200 1 := broadcastInDim S200 ![] bcast_S_S200 arg2
  let v1 : IVec S200 1 := select arg0 arg1 v0
  v1

def fn_where_1 {F : FTy → Type} [FloatOps F] (arg0 : IVec S199 1) (arg1 : IVec S199 1) (arg2 : IVec S_ 1) : IVec S199 1 :=
  let v0 : IVec S199 1 := broadcastInDim S199 ![] bcast_S_S199 arg2
  let v1 : IVec S199 1 := select arg0 arg1 v0
  v1

def fn_part2 {F : FTy → Type} [FloatOps F] (main_arg2 : IVec S200 32) (main_v0 : IVec S_ 32) (main_v5 : IVec S199 1) (main_v25 : IVec S199 1) (main_v32 : IVec S200 1) (main_v38 : IVec S_ 1) (main_c_7 : IVec S_ 32) : IVec S_ 1 :=
  let main_v39 : IVec S_ 1 := cmpi .sge main_v0 main_c_7
  let main_v40 : IVec S_ 1 := andi main_v38 main_v39
  let main_c_8 : IVec S_ 32 := constantI S_ 32 200#32
  let main_v41 : IVec S_ 1 := cmpi .sle main_v0 main_c_8
  let main_v42 : IVec S_ 1 := andi main_v40 main_v41
  let main_c_9 : IVec S_ 32 := constantI S_ 32 0#32
  let main_v43 : IVec S200 32 := broadcastInDim S200 ![] bcast_S_S200 main_c_9
  let main_v44 : IVec S200 1 := cmpi .eq main_arg2 main_v43
  let main_c_10 : IVec S_ 32 := constantI S_ 32 1#32
  let main_v45 : IVec S200 32 := broadcastInDim S200 ![] bcast_S_S200 main_c_10
  let main_v46 : IVec S200 1 := cmpi .eq main_arg2 main_v45
  let main_v47 : IVec S200 1 := ori main_v44 main_v46
  let main_c_11 : IVec S_ 1 := constantI S_ 1 1#1
  let main_v48 : IVec S_ 1 := (fun x v => Host.reduce IntOp.andi x v reducesTo_S200_S_d0 h_S_) main_v47 main_c_11
  let main_v49 : IVec S_ 1 := andi main_v42 main_v48
  let main_c_12 : IVec S_ 1 := constantI S_ 1 1#1
  let main_v50 : IVec S199 1 := fn_where_1 (F := F) main_v5 main_v25 main_c_12
  let main_c_13 : IVec S_ 1 := constantI S_ 1 1#1
  let main_v51 : IVec S_ 1 := (fun x v => Host.reduce IntOp.andi x v reducesTo_S199_S_d0 h_S_) main_v50 main_c_13
  let main_v52 : IVec S_ 1 := andi main_v49 main_v51
  let main_c_14 : IVec S_ 1 := constantI S_ 1 1#1
  let main_v53 : IVec S_ 1 := (fun x v => Host.reduce IntOp.andi x v reducesTo_S200_S_d0 h_S_) main_v32 main_c_14
  let main_v54 : IVec S_ 1 := andi main_v52 main_v53
  main_v54

def fn_part1 {F : FTy → Type} [FloatOps F] (main_arg0 : IVec S200 32) (main_arg2 : IVec S200 32) (main_arg3 : IVec S200 32) (main_v0 : IVec S_ 32) (main_v5 : IVec S199 1) (main_v8 : IVec S199 1) (main_v15 : IVec S199 1) (main_v20 : IVec S199 1) (main_v21 : IVec S199 32) : IVec S_ 1 :=
  let main_v22 : IVec S199 32 := (extractStridedSlice S199 ![1] · slices_S200_S199_1) main_arg0
  let main_v23 : IVec S199 1 := cmpi .eq main_v21 main_v22
  let main_v24 : IVec S199 1 := andi main_v20 main_v23
  let main_v25 : IVec S199 1 := fn_where (F := F) main_v8 main_v15 main_v24
  let main_v26 : IVec S200 32 := iotaInDim S200 32 0
  let main_c_1 : IVec S_ 32 := constantI S_ 32 1#32
  let main_v27 : IVec S_ 32 := subi main_v0 main_c_1
  let main_v28 : IVec S200 32 := broadcastInDim S200 ![] bcast_S_S200 main_v27
  let main_v29 : IVec S200 1 := cmpi .eq main_v26 main_v28
  let main_c_2 : IVec S_ 32 := constantI S_ 32 0#32
  let main_v30 : IVec S200 32 := broadcastInDim S200 ![] bcast_S_S200 main_c_2
  let main_v31 : IVec S200 1 := cmpi .slt main_arg3 main_v30
  let main_c_3 : IVec S_ 1 := constantI S_ 1 1#1
  let main_v32 : IVec S200 1 := fn_where_0 (F := F) main_v29 main_v31 main_c_3
  let main_c_4 : IVec S_ 32 := constantI S_ 32 0#32
  let main_v33 : IVec S200 32 := broadcastInDim S200 ![] bcast_S_S200 main_c_4
  let main_v34 : IVec S200 1 := cmpi .sge main_arg0 main_v33
  let main_c_5 : IVec S_ 32 := constantI S_ 32 64#32
  let main_v35 : IVec S200 32 := broadcastInDim S200 ![] bcast_S_S200 main_c_5
  let main_v36 : IVec S200 1 := cmpi .slt main_arg0 main_v35
  let main_v37 : IVec S200 1 := andi main_v34 main_v36
  let main_c_6 : IVec S_ 1 := constantI S_ 1 1#1
  let main_v38 : IVec S_ 1 := (fun x v => Host.reduce IntOp.andi x v reducesTo_S200_S_d0 h_S_) main_v37 main_c_6
  let main_c_7 : IVec S_ 32 := constantI S_ 32 1#32
  fn_part2 (F := F) main_arg2 main_v0 main_v5 main_v25 main_v32 main_v38 main_c_7

def fn {F : FTy → Type} [FloatOps F] (main_arg0 : IVec S200 32) (main_arg1 : IVec S1 32) (main_arg2 : IVec S200 32) (main_arg3 : IVec S200 32) (main_arg4 : FVec F S102400x2048 .bf16) (main_arg5 : FVec F S2x64x2048x512 .f32) (main_arg6 : FVec F S2x64x2048x512 .f32) (main_arg7 : FVec F S2x64x512x2048 .f32) : IVec S_ 1 :=
  let main_v0 : IVec S_ 32 := shapeCast S_ main_arg1 shapeCasts_S1_S_
  let main_v1 : IVec S199 32 := iotaInDim S199 32 0
  let main_c : IVec S_ 32 := constantI S_ 32 1#32
  let main_v2 : IVec S199 32 := broadcastInDim S199 ![] bcast_S_S199 main_c
  let main_v3 : IVec S199 32 := addi main_v2 main_v1
  let main_v4 : IVec S199 32 := broadcastInDim S199 ![] bcast_S_S199 main_v0
  let main_v5 : IVec S199 1 := cmpi .slt main_v3 main_v4
  let main_v6 : IVec S199 32 := (extractStridedSlice S199 ![1] · slices_S200_S199_1) main_arg0
  let main_v7 : IVec S199 32 := (extractStridedSlice S199 ![0] · slices_S200_S199_0) main_arg0
  let main_v8 : IVec S199 1 := cmpi .eq main_v6 main_v7
  let main_v9 : IVec S199 32 := (extractStridedSlice S199 ![1] · slices_S200_S199_1) main_arg2
  let main_v10 : IVec S199 32 := (extractStridedSlice S199 ![0] · slices_S200_S199_0) main_arg2
  let main_v11 : IVec S199 1 := cmpi .eq main_v9 main_v10
  let main_v12 : IVec S199 32 := (extractStridedSlice S199 ![1] · slices_S200_S199_1) main_arg3
  let main_v13 : IVec S199 32 := (extractStridedSlice S199 ![0] · slices_S200_S199_0) main_arg3
  let main_v14 : IVec S199 1 := cmpi .eq main_v12 main_v13
  let main_v15 : IVec S199 1 := andi main_v11 main_v14
  let main_v16 : IVec S199 32 := (extractStridedSlice S199 ![1] · slices_S200_S199_1) main_arg2
  let main_v17 : IVec S199 32 := (extractStridedSlice S199 ![0] · slices_S200_S199_0) main_arg2
  let main_c_0 : IVec S_ 32 := constantI S_ 32 1#32
  let main_v18 : IVec S199 32 := broadcastInDim S199 ![] bcast_S_S199 main_c_0
  let main_v19 : IVec S199 32 := subi main_v18 main_v17
  let main_v20 : IVec S199 1 := cmpi .eq main_v16 main_v19
  let main_v21 : IVec S199 32 := (extractStridedSlice S199 ![0] · slices_S200_S199_0) main_arg3
  fn_part1 (F := F) main_arg0 main_arg2 main_arg3 main_v0 main_v5 main_v8 main_v15 main_v20 main_v21
-- ==== Kernel.lean ====
abbrev S8704x2048 : Shape := ⟨2, ![8704, 2048]⟩
abbrev S8192x2048 : Shape := ⟨2, ![8192, 2048]⟩
abbrev S256x512 : Shape := ⟨2, ![256, 512]⟩
abbrev S4096x512 : Shape := ⟨2, ![4096, 512]⟩
abbrev S4x256x256 : Shape := ⟨3, ![4, 256, 256]⟩
abbrev S4x256x512 : Shape := ⟨3, ![4, 256, 512]⟩
abbrev S4x256x1 : Shape := ⟨3, ![4, 256, 1]⟩
abbrev S4x256x128 : Shape := ⟨3, ![4, 256, 128]⟩
abbrev S256x256 : Shape := ⟨2, ![256, 256]⟩
abbrev S512x256 : Shape := ⟨2, ![512, 256]⟩
abbrev S32x256 : Shape := ⟨2, ![32, 256]⟩
abbrev S256x128 : Shape := ⟨2, ![256, 128]⟩
abbrev S1x256x256 : Shape := ⟨3, ![1, 256, 256]⟩
abbrev S1x32x256 : Shape := ⟨3, ![1, 32, 256]⟩
abbrev S1x256x512 : Shape := ⟨3, ![1, 256, 512]⟩
abbrev S1x32x1 : Shape := ⟨3, ![1, 32, 1]⟩
abbrev S32x1 : Shape := ⟨2, ![32, 1]⟩
abbrev S1x256x128 : Shape := ⟨3, ![1, 256, 128]⟩

abbrev nBuf : Space → Nat
  | .hbm => 4
  | .vmem => 15
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S8704x2048, .bf16⟩
  | .hbm, ⟨3, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | .local _ .vmem, ⟨8, _⟩ => ⟨S4x256x256, .f32⟩
  | .local _ .vmem, ⟨9, _⟩ => ⟨S4x256x256, .f32⟩
  | .local _ .vmem, ⟨10, _⟩ => ⟨S4x256x512, .bf16⟩
  | .local _ .vmem, ⟨11, _⟩ => ⟨S4x256x256, .f32⟩
  | .local _ .vmem, ⟨12, _⟩ => ⟨S4x256x256, .bf16⟩
  | .local _ .vmem, ⟨13, _⟩ => ⟨S4x256x1, .f32⟩
  | .local _ .vmem, ⟨14, _⟩ => ⟨S4x256x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c256_i32 : BitVec 32 := 256#32
  let v17 : BitVec 32 := Scalar.muli arg2 c256_i32
  v17
def k0_off1 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v20 : Index := Scalar.indexCast v18
  let c0_8 : Index := 0#32
  ![v20.toNat, 0]
def k0_off2 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v27 : Index := Scalar.indexCast v18
  let c128_14 : Index := 128#32
  ![v27.toNat, 128]
def k0_off3 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v34 : Index := Scalar.indexCast v18
  let c256_19 : Index := 256#32
  ![v34.toNat, 256]
def k0_off4 (i : grid0.Coords) : Fin 2 → Nat :=
  let arg2 : BitVec 32 := BitVec.ofNat 32 (i 2).val
  let c256_i32 : BitVec 32 := 256#32
  let v17 : BitVec 32 := Scalar.muli arg2 c256_i32
  let v18 : BitVec 32 := v17
  let v41 : Index := Scalar.indexCast v18
  let c384_24 : Index := 384#32
  ![v41.toNat, 384]
@[reducible] def k0_t1_loop (i : grid0.Coords) : Scf.Loop 32 :=
  let c0_i32_1335 : BitVec 32 := 0#32
  let arg2 : BitVec 32 := BitVec.ofNat 32 (i 2).val
  let v2035 : BitVec 32 := Scalar.subi arg2 c0_i32_1335
  let c1_i32 : BitVec 32 := 1#32
  let v2037 : BitVec 32 := Scalar.divsi v2035 c1_i32
  let v2038 : BitVec 32 := Scalar.muli v2037 c1_i32
  let v2039 : BitVec 32 := Scalar.addi c0_i32_1335 v2038
  let c1_i32_1336 : BitVec 32 := 1#32
  ⟨c0_i32_1335, v2039, c1_i32_1336⟩
def k0_mult2 (i : grid0.Coords) (k0_t1 : Fin (k0_t1_loop i).trips) : BitVec 32 :=
  let arg2 : BitVec 32 := BitVec.ofNat 32 (i 2).val
  let c1_i32_1358 : BitVec 32 := 1#32
  let v2056 : BitVec 32 := Scalar.subi arg2 c1_i32_1358
  let c0_i32_1335 : BitVec 32 := 0#32
  let c1_i32_1336 : BitVec 32 := 1#32
  let arg14 : BitVec 32 := Scf.iv c0_i32_1335 c1_i32_1336 k0_t1
  let v2057 : BitVec 32 := Scalar.subi v2056 arg14
  let c256_i32_1359 : BitVec 32 := 256#32
  let v2058 : BitVec 32 := Scalar.muli v2057 c256_i32_1359
  v2058
def k0_off5 (i : grid0.Coords) (k0_t1 : Fin (k0_t1_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let c1_i32_1336 : BitVec 32 := 1#32
  let arg14 : BitVec 32 := Scf.iv c0_i32_1335 c1_i32_1336 k0_t1
  let v2057 : BitVec 32 := Scalar.subi v2056 arg14
  let c256_i32_1359 : BitVec 32 := 256#32
  let v2058 : BitVec 32 := Scalar.muli v2057 c256_i32_1359
  let v2059 : BitVec 32 := v2058
  let v2061 : Index := Scalar.indexCast v2059
  let c0_1362 : Index := 0#32
  ![v2061.toNat, 0]
def k0_off6 (i : grid0.Coords) (k0_t1 : Fin (k0_t1_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let c1_i32_1336 : BitVec 32 := 1#32
  let arg14 : BitVec 32 := Scf.iv c0_i32_1335 c1_i32_1336 k0_t1
  let v2057 : BitVec 32 := Scalar.subi v2056 arg14
  let c256_i32_1359 : BitVec 32 := 256#32
  let v2058 : BitVec 32 := Scalar.muli v2057 c256_i32_1359
  let v2059 : BitVec 32 := v2058
  let v2068 : Index := Scalar.indexCast v2059
  let c128_1369 : Index := 128#32
  ![v2068.toNat, 128]
def k0_off7 (i : grid0.Coords) (k0_t1 : Fin (k0_t1_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let c1_i32_1336 : BitVec 32 := 1#32
  let arg14 : BitVec 32 := Scf.iv c0_i32_1335 c1_i32_1336 k0_t1
  let v2057 : BitVec 32 := Scalar.subi v2056 arg14
  let c256_i32_1359 : BitVec 32 := 256#32
  let v2058 : BitVec 32 := Scalar.muli v2057 c256_i32_1359
  let v2059 : BitVec 32 := v2058
  let v2075 : Index := Scalar.indexCast v2059
  let c256_1376 : Index := 256#32
  ![v2075.toNat, 256]
def k0_off8 (i : grid0.Coords) (k0_t1 : Fin (k0_t1_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let c1_i32_1336 : BitVec 32 := 1#32
  let arg14 : BitVec 32 := Scf.iv c0_i32_1335 c1_i32_1336 k0_t1
  let v2057 : BitVec 32 := Scalar.subi v2056 arg14
  let c256_i32_1359 : BitVec 32 := 256#32
  let v2058 : BitVec 32 := Scalar.muli v2057 c256_i32_1359
  let v2059 : BitVec 32 := v2058
  let v2082 : Index := Scalar.indexCast v2059
  let c384_1383 : Index := 384#32
  ![v2082.toNat, 384]
@[reducible] def k0_t2_loop (i : grid0.Coords) : Scf.Loop 32 :=
  let c0_i32_1335 : BitVec 32 := 0#32
  let arg2 : BitVec 32 := BitVec.ofNat 32 (i 2).val
  let v2035 : BitVec 32 := Scalar.subi arg2 c0_i32_1335
  let c1_i32 : BitVec 32 := 1#32
  let v2037 : BitVec 32 := Scalar.divsi v2035 c1_i32
  let v2038 : BitVec 32 := Scalar.muli v2037 c1_i32
  let v2039 : BitVec 32 := Scalar.addi c0_i32_1335 v2038
  let v2036 : BitVec 32 := Scalar.addi c0_i32_1335 v2035
  let c1_i32_1337 : BitVec 32 := 1#32
  ⟨v2039, v2036, c1_i32_1337⟩
def k0_mult3 (i : grid0.Coords) (k0_t2 : Fin (k0_t2_loop i).trips) : BitVec 32 :=
  let arg2 : BitVec 32 := BitVec.ofNat 32 (i 2).val
  let c1_i32_1358 : BitVec 32 := 1#32
  let v2056 : BitVec 32 := Scalar.subi arg2 c1_i32_1358
  let c0_i32_1335 : BitVec 32 := 0#32
  let v2035 : BitVec 32 := Scalar.subi arg2 c0_i32_1335
  let c1_i32 : BitVec 32 := 1#32
  let v2037 : BitVec 32 := Scalar.divsi v2035 c1_i32
  let v2038 : BitVec 32 := Scalar.muli v2037 c1_i32
  let v2039 : BitVec 32 := Scalar.addi c0_i32_1335 v2038
  let c1_i32_1337 : BitVec 32 := 1#32
  let arg14 : BitVec 32 := Scf.iv v2039 c1_i32_1337 k0_t2
  let v2057 : BitVec 32 := Scalar.subi v2056 arg14
  let c256_i32_1359 : BitVec 32 := 256#32
  let v2058 : BitVec 32 := Scalar.muli v2057 c256_i32_1359
  v2058
def k0_off9 (i : grid0.Coords) (k0_t2 : Fin (k0_t2_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let v2035 : BitVec 32 := Scalar.subi arg2 c0_i32_1335
  let c1_i32 : BitVec 32 := 1#32
  let v2037 : BitVec 32 := Scalar.divsi v2035 c1_i32
  let v2038 : BitVec 32 := Scalar.muli v2037 c1_i32
  let v2039 : BitVec 32 := Scalar.addi c0_i32_1335 v2038
  let c1_i32_1337 : BitVec 32 := 1#32
  let arg14 : BitVec 32 := Scf.iv v2039 c1_i32_1337 k0_t2
  let v2057 : BitVec 32 := Scalar.subi v2056 arg14
  let c256_i32_1359 : BitVec 32 := 256#32
  let v2058 : BitVec 32 := Scalar.muli v2057 c256_i32_1359
  let v2059 : BitVec 32 := v2058
  let v2061 : Index := Scalar.indexCast v2059
  let c0_1362 : Index := 0#32
  ![v2061.toNat, 0]
def k0_off10 (i : grid0.Coords) (k0_t2 : Fin (k0_t2_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let v2035 : BitVec 32 := Scalar.subi arg2 c0_i32_1335
  let c1_i32 : BitVec 32 := 1#32
  let v2037 : BitVec 32 := Scalar.divsi v2035 c1_i32
  let v2038 : BitVec 32 := Scalar.muli v2037 c1_i32
  let v2039 : BitVec 32 := Scalar.addi c0_i32_1335 v2038
  let c1_i32_1337 : BitVec 32 := 1#32
  let arg14 : BitVec 32 := Scf.iv v2039 c1_i32_1337 k0_t2
  let v2057 : BitVec 32 := Scalar.subi v2056 arg14
  let c256_i32_1359 : BitVec 32 := 256#32
  let v2058 : BitVec 32 := Scalar.muli v2057 c256_i32_1359
  let v2059 : BitVec 32 := v2058
  let v2068 : Index := Scalar.indexCast v2059
  let c128_1369 : Index := 128#32
  ![v2068.toNat, 128]
def k0_off11 (i : grid0.Coords) (k0_t2 : Fin (k0_t2_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let v2035 : BitVec 32 := Scalar.subi arg2 c0_i32_1335
  let c1_i32 : BitVec 32 := 1#32
  let v2037 : BitVec 32 := Scalar.divsi v2035 c1_i32
  let v2038 : BitVec 32 := Scalar.muli v2037 c1_i32
  let v2039 : BitVec 32 := Scalar.addi c0_i32_1335 v2038
  let c1_i32_1337 : BitVec 32 := 1#32
  let arg14 : BitVec 32 := Scf.iv v2039 c1_i32_1337 k0_t2
  let v2057 : BitVec 32 := Scalar.subi v2056 arg14
  let c256_i32_1359 : BitVec 32 := 256#32
  let v2058 : BitVec 32 := Scalar.muli v2057 c256_i32_1359
  let v2059 : BitVec 32 := v2058
  let v2075 : Index := Scalar.indexCast v2059
  let c256_1376 : Index := 256#32
  ![v2075.toNat, 256]
def k0_off12 (i : grid0.Coords) (k0_t2 : Fin (k0_t2_loop i).trips) : Fin 2 → Nat :=
  let arg2 : BitVec 32 := BitVec.ofNat 32 (i 2).val
  let c1_i32_1358 : BitVec 32 := 1#32
  let v2056 : BitVec 32 := Scalar.subi arg2 c1_i32_1358
  let c0_i32_1335 : BitVec 32 := 0#32
  let v2035 : BitVec 32 := Scalar.subi arg2 c0_i32_1335
  let c1_i32 : BitVec 32 := 1#32
  let v2037 : BitVec 32 := Scalar.divsi v2035 c1_i32
  let v2038 : BitVec 32 := Scalar.muli v2037 c1_i32
  let v2039 : BitVec 32 := Scalar.addi c0_i32_1335 v2038
  let c1_i32_1337 : BitVec 32 := 1#32
  let arg14 : BitVec 32 := Scf.iv v2039 c1_i32_1337 k0_t2
  let v2057 : BitVec 32 := Scalar.subi v2056 arg14
  let c256_i32_1359 : BitVec 32 := 256#32
  let v2058 : BitVec 32 := Scalar.muli v2057 c256_i32_1359
  let v2059 : BitVec 32 := v2058
  let v2082 : Index := Scalar.indexCast v2059
  let c384_1383 : Index := 384#32
  ![v2082.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8704x2048 : Shape := ⟨2, ![8704, 2048]⟩
abbrev S8192x2048 : Shape := ⟨2, ![8192, 2048]⟩
abbrev S2x4096x16x128 : Shape := ⟨4, ![2, 4096, 16, 128]⟩
abbrev S4096 : Shape := ⟨1, ![4096]⟩
abbrev S2x16x4096x4096 : Shape := ⟨4, ![2, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S8704x2048, .bf16⟩
  | .hbm, ⟨3, _⟩ => ⟨S8704x2048, .f32⟩
  | .hbm, ⟨4, _⟩ => ⟨S8192x2048, .f32⟩
  | .hbm, ⟨5, _⟩ => ⟨S2x4096x16x128, .f32⟩
  | .hbm, ⟨6, _⟩ => ⟨S8704x2048, .f32⟩
  | .hbm, ⟨7, _⟩ => ⟨S8192x2048, .f32⟩
  | .hbm, ⟨8, _⟩ => ⟨S2x4096x16x128, .f32⟩
  | .hbm, ⟨9, _⟩ => ⟨S8704x2048, .f32⟩
  | .hbm, ⟨10, _⟩ => ⟨S8192x2048, .f32⟩
  | .hbm, ⟨11, _⟩ => ⟨S2x4096x16x128, .f32⟩
  | .hbm, ⟨12, _⟩ => ⟨S4096, .i32⟩
  | .hbm, ⟨13, _⟩ => ⟨S4096, .i32⟩
  | .hbm, ⟨14, _⟩ => ⟨S2x16x4096x4096, .f32⟩
  | .hbm, ⟨15, _⟩ => ⟨S_, .f32⟩
  | .hbm, ⟨16, _⟩ => ⟨S2x16x4096x4096, .f32⟩
  | .hbm, ⟨17, _⟩ => ⟨S2x16x4096x4096, .f32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S2x16x4096x4096, .i1⟩
  | .hbm, ⟨26, _⟩ => ⟨S2x16x4096x4096, .f32⟩
  | .hbm, ⟨27, _⟩ => ⟨S2x16x4096x4096, .f32⟩
  | .hbm, ⟨28, _⟩ => ⟨S_, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .i1⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S2x16x4096x4096, .f32⟩
  | .hbm, ⟨40, _⟩ => ⟨S2x16x4096x4096, .f32⟩
  | .hbm, ⟨41, _⟩ => ⟨S2x16x4096x4096, .f32⟩
  | .hbm, ⟨42, _⟩ => ⟨S_, .f32⟩
  | .hbm, ⟨43, _⟩ => ⟨S_, .f32⟩
  | .hbm, ⟨44, _⟩ => ⟨S2x16x4096x4096, .f32⟩
  | .hbm, ⟨45, _⟩ => ⟨S2x16x4096x4096, .f32⟩
  | .hbm, ⟨46, _⟩ => ⟨S2x16x4096x4096, .f32⟩
  | .hbm, ⟨47, _⟩ => ⟨S_, .f32⟩
  | .hbm, ⟨48, _⟩ => ⟨S2x16x4096x4096, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .i1⟩
  | .hbm, ⟨53, _⟩ => ⟨S2x16x4096x4096, .f32⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x128x4096, .f32⟩
  | .hbm, ⟨65, _⟩ => ⟨S2x4096x16x128, .f32⟩
  | .hbm, ⟨66, _⟩ => ⟨S8192x2048, .f32⟩
  | .hbm, ⟨67, _⟩ => ⟨S8192x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩

abbrev nD : Nat := 1
abbrev τ : Topo := Topo.v7x

variable {F : FTy → Type} [FloatOps F]
-- ==== Kernel2.lean ====
abbrev S2x4096x2048 : Shape := ⟨3, ![2, 4096, 2048]⟩
abbrev S32x16x2048 : Shape := ⟨3, ![32, 16, 2048]⟩
abbrev S1x2048x5120 : Shape := ⟨3, ![1, 2048, 5120]⟩
abbrev S8192x2048 : Shape := ⟨2, ![8192, 2048]⟩
abbrev S512x2048 : Shape := ⟨2, ![512, 2048]⟩
abbrev S2048x5120 : Shape := ⟨2, ![2048, 5120]⟩
abbrev S8704x1024 : Shape := ⟨2, ![8704, 1024]⟩
abbrev S8192x1024 : Shape := ⟨2, ![8192, 1024]⟩
abbrev S512x1024 : Shape := ⟨2, ![512, 1024]⟩
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 16
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S32x16x2048, .f32⟩
  | .hbm, ⟨2, _⟩ => ⟨S1x2048x5120, .f32⟩
  | .hbm, ⟨3, _⟩ => ⟨S8192x2048, .f32⟩
  | .hbm, ⟨4, _⟩ => ⟨S512x2048, .f32⟩
  | .hbm, ⟨5, _⟩ => ⟨S2048x5120, .f32⟩
  | .hbm, ⟨6, _⟩ => ⟨S2048x5120, .bf16⟩
  | .hbm, ⟨7, _⟩ => ⟨S8704x1024, .f32⟩
  | .hbm, ⟨8, _⟩ => ⟨S8704x1024, .f32⟩
  | .hbm, ⟨9, _⟩ => ⟨S8704x1024, .bf16⟩
  | .hbm, ⟨10, _⟩ => ⟨S8192x1024, .f32⟩
  | .hbm, ⟨11, _⟩ => ⟨S512x1024, .f32⟩
  | .hbm, ⟨12, _⟩ => ⟨S8704x1024, .bf16⟩
  | .hbm, ⟨13, _⟩ => ⟨S8192x1024, .f32⟩
  | .hbm, ⟨14, _⟩ => ⟨S512x1024, .f32⟩
  | .hbm, ⟨15, _⟩ => ⟨S8704x1024, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x5120, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev main_v4_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32_17 : BitVec 32 := 32#32
  let v23 : BitVec 1 := Scalar.cmpi .slt arg0 c32_i32_17
  let v24 : BitVec 32 := Scalar.extui v23
  let c0_i32 : BitVec 32 := 0#32
  let v25 : BitVec 1 := Scalar.cmpi .ne v24 c0_i32
  v25

def k0_cond2 (i : grid0.Coords) : BitVec 1 :=
  let arg0 : BitVec 32 := BitVec.ofNat 32 (i 0).val
  let c32_i32_18 : BitVec 32 := 32#32
  let v26 : BitVec 1 := Scalar.cmpi .sge arg0 c32_i32_18
  let v27 : BitVec 32 := Scalar.extui v26
  let c0_i32_19 : BitVec 32 := 0#32
  let v28 : BitVec 1 := Scalar.cmpi .ne v27 c0_i32_19
  v28

def k0_cond3 (i : grid0.Coords) : BitVec 1 :=
  let arg0 : BitVec 32 := BitVec.ofNat 32 (i 0).val
  let c32_i32_24 : BitVec 32 := 32#32
  let v34 : BitVec 1 := Scalar.cmpi .slt arg0 c32_i32_24
  let v35 : BitVec 32 := Scalar.extui v34
  let c0_i32_25 : BitVec 32 := 0#32
  let v36 : BitVec 1 := Scalar.cmpi .ne v35 c0_i32_25
  v36

def k0_cond4 (i : grid0.Coords) : BitVec 1 :=
  let arg0 : BitVec 32 := BitVec.ofNat 32 (i 0).val
  let c32_i32_26 : BitVec 32 := 32#32
  let v37 : BitVec 1 := Scalar.cmpi .sge arg0 c32_i32_26
  let v38 : BitVec 32 := Scalar.extui v37
  let c0_i32_27 : BitVec 32 := 0#32
  let v39 : BitVec 1 := Scalar.cmpi .ne v38 c0_i32_27
  v39

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S2x4096x2048 : Shape := ⟨3, ![2, 4096, 2048]⟩
abbrev S32x16x2048 : Shape := ⟨3, ![32, 16, 2048]⟩
abbrev S1x2048x5120 : Shape := ⟨3, ![1, 2048, 5120]⟩
abbrev S2048x5120 : Shape := ⟨2, ![2048, 5120]⟩
abbrev S2x4096x5120 : Shape := ⟨3, ![2, 4096, 5120]⟩
abbrev S2x4096x1024 : Shape := ⟨3, ![2, 4096, 1024]⟩
abbrev S32x16x5120 : Shape := ⟨3, ![32, 16, 5120]⟩
abbrev S32x16x1024 : Shape := ⟨3, ![32, 16, 1024]⟩
abbrev S8192x1024 : Shape := ⟨2, ![8192, 1024]⟩
abbrev S512x1024 : Shape := ⟨2, ![512, 1024]⟩
abbrev S8704x1024 : Shape := ⟨2, ![8704, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x16x2048, .f32⟩
  | .hbm, ⟨2, _⟩ => ⟨S1x2048x5120, .f32⟩
  | .hbm, ⟨3, _⟩ => ⟨S2048x5120, .f32⟩
  | .hbm, ⟨4, _⟩ => ⟨S2x4096x5120, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2048x5120, .f32⟩
  | .hbm, ⟨11, _⟩ => ⟨S32x16x5120, .f32⟩
  | .hbm, ⟨12, _⟩ => ⟨S32x16x1024, .f32⟩
  | .hbm, ⟨13, _⟩ => ⟨S32x16x1024, .f32⟩
  | .hbm, ⟨14, _⟩ => ⟨S32x16x1024, .f32⟩
  | .hbm, ⟨15, _⟩ => ⟨S32x16x1024, .f32⟩
  | .hbm, ⟨16, _⟩ => ⟨S32x16x1024, .f32⟩
  | .hbm, ⟨17, _⟩ => ⟨S8192x1024, .f32⟩
  | .hbm, ⟨18, _⟩ => ⟨S512x1024, .f32⟩
  | .hbm, ⟨19, _⟩ => ⟨S8704x1024, .f32⟩
  | .hbm, ⟨20, _⟩ => ⟨S8192x1024, .f32⟩
  | .hbm, ⟨21, _⟩ => ⟨S512x1024, .f32⟩
  | .hbm, ⟨22, _⟩ => ⟨S8704x1024, .f32⟩
  | .hbm, ⟨23, _⟩ => ⟨S8192x1024, .f32⟩
  | .hbm, ⟨24, _⟩ => ⟨S512x1024, .f32⟩
  | .hbm, ⟨25, _⟩ => ⟨S8704x1024, .f32⟩
  | .hbm, ⟨26, _⟩ => ⟨S8704x1024, .bf16⟩
  | .hbm, ⟨27, _⟩ => ⟨S8192x1024, .f32⟩
  | .hbm, ⟨28, _⟩ => ⟨S512x1024, .f32⟩
  | .hbm, ⟨29, _⟩ => ⟨S8192x1024, .f32⟩
  | .hbm, ⟨30, _⟩ => ⟨S512x1024, .f32⟩
  | .hbm, ⟨31, _⟩ => ⟨S8704x1024, .f32⟩
  | .hbm, ⟨32, _⟩ => ⟨S8704x1024, .bf16⟩
  | .hbm, ⟨33, _⟩ => ⟨S8192x1024, .f32⟩
  | .hbm, ⟨34, _⟩ => ⟨S512x1024, .f32⟩
  | .hbm, ⟨35, _⟩ => ⟨S8192x1024, .f32⟩
  | .hbm, ⟨36, _⟩ => ⟨S512x1024, .f32⟩
  | .hbm, ⟨37, _⟩ => ⟨S8704x1024, .f32⟩
  | .hbm, ⟨38, _⟩ => ⟨S8704x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩

abbrev nD : Nat := 1
abbrev τ : Topo := Topo.v7x

variable {F : FTy → Type} [FloatOps F]
-- ==== Kernel3.lean ====
abbrev S8704x2048 : Shape := ⟨2, ![8704, 2048]⟩
abbrev S1x2048x6144 : Shape := ⟨3, ![1, 2048, 6144]⟩
abbrev S2048x6144 : Shape := ⟨2, ![2048, 6144]⟩
abbrev S8192x2048 : Shape := ⟨2, ![8192, 2048]⟩
abbrev S512x2048 : Shape := ⟨2, ![512, 2048]⟩
abbrev S256x2048 : Shape := ⟨2, ![256, 2048]⟩
abbrev S2048x4096 : Shape := ⟨2, ![2048, 4096]⟩
abbrev S2048x2048 : Shape := ⟨2, ![2048, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S1x2048x6144, .f32⟩
  | .hbm, ⟨2, _⟩ => ⟨S2048x6144, .f32⟩
  | .hbm, ⟨3, _⟩ => ⟨S2048x6144, .bf16⟩
  | .hbm, ⟨4, _⟩ => ⟨S8704x2048, .bf16⟩
  | .hbm, ⟨5, _⟩ => ⟨S8192x2048, .f32⟩
  | .hbm, ⟨6, _⟩ => ⟨S512x2048, .f32⟩
  | .hbm, ⟨7, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v10 : BitVec 1 := Scalar.cmpi .slt arg0 c32_i32
  let v11 : BitVec 32 := Scalar.extui v10
  let c0_i32 : BitVec 32 := 0#32
  let v12 : BitVec 1 := Scalar.cmpi .ne v11 c0_i32
  v12

def k0_cond2 (i : grid0.Coords) : BitVec 1 :=
  let arg0 : BitVec 32 := BitVec.ofNat 32 (i 0).val
  let c32_i32_7 : BitVec 32 := 32#32
  let v13 : BitVec 1 := Scalar.cmpi .sge arg0 c32_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8704x2048 : Shape := ⟨2, ![8704, 2048]⟩
abbrev S1x2048x6144 : Shape := ⟨3, ![1, 2048, 6144]⟩
abbrev S2048x6144 : Shape := ⟨2, ![2048, 6144]⟩
abbrev S8704x6144 : Shape := ⟨2, ![8704, 6144]⟩
abbrev S8192x2048 : Shape := ⟨2, ![8192, 2048]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x6144, .f32⟩
  | .hbm, ⟨2, _⟩ => ⟨S2048x6144, .f32⟩
  | .hbm, ⟨3, _⟩ => ⟨S8704x6144, .f32⟩
  | .hbm, ⟨4, _⟩ => ⟨S8704x2048, .f32⟩
  | .hbm, ⟨5, _⟩ => ⟨S8704x2048, .f32⟩
  | .hbm, ⟨6, _⟩ => ⟨S8704x2048, .f32⟩
  | .hbm, ⟨7, _⟩ => ⟨S8704x2048, .bf16⟩
  | .hbm, ⟨8, _⟩ => ⟨S8192x2048, .f32⟩
  | .hbm, ⟨9, _⟩ => ⟨S512x2048, .f32⟩
  | .hbm, ⟨10, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel4.lean ====
abbrev S8704x2048 : Shape := ⟨2, ![8704, 2048]⟩
abbrev S1x2048x6144 : Shape := ⟨3, ![1, 2048, 6144]⟩
abbrev S2048x6144 : Shape := ⟨2, ![2048, 6144]⟩
abbrev S8192x2048 : Shape := ⟨2, ![8192, 2048]⟩
abbrev S512x2048 : Shape := ⟨2, ![512, 2048]⟩
abbrev S256x2048 : Shape := ⟨2, ![256, 2048]⟩
abbrev S2048x2048 : Shape := ⟨2, ![2048, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S1x2048x6144, .f32⟩
  | .hbm, ⟨2, _⟩ => ⟨S2048x6144, .f32⟩
  | .hbm, ⟨3, _⟩ => ⟨S2048x6144, .bf16⟩
  | .hbm, ⟨4, _⟩ => ⟨S8192x2048, .f32⟩
  | .hbm, ⟨5, _⟩ => ⟨S512x2048, .f32⟩
  | .hbm, ⟨6, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v5 : BitVec 1 := Scalar.cmpi .slt arg0 c32_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c32_i32_3 : BitVec 32 := 32#32
  let v8 : BitVec 1 := Scalar.cmpi .sge arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8704x2048 : Shape := ⟨2, ![8704, 2048]⟩
abbrev S1x2048x6144 : Shape := ⟨3, ![1, 2048, 6144]⟩
abbrev S2048x6144 : Shape := ⟨2, ![2048, 6144]⟩
abbrev S8704x6144 : Shape := ⟨2, ![8704, 6144]⟩
abbrev S8192x2048 : Shape := ⟨2, ![8192, 2048]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x6144, .f32⟩
  | .hbm, ⟨2, _⟩ => ⟨S2048x6144, .f32⟩
  | .hbm, ⟨3, _⟩ => ⟨S8704x6144, .f32⟩
  | .hbm, ⟨4, _⟩ => ⟨S8704x2048, .f32⟩
  | .hbm, ⟨5, _⟩ => ⟨S8704x2048, .f32⟩
  | .hbm, ⟨6, _⟩ => ⟨S8704x2048, .f32⟩
  | .hbm, ⟨7, _⟩ => ⟨S8192x2048, .f32⟩
  | .hbm, ⟨8, _⟩ => ⟨S512x2048, .f32⟩
  | .hbm, ⟨9, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel5.lean ====
abbrev S8704x2048 : Shape := ⟨2, ![8704, 2048]⟩
abbrev S2x2x4096x256 : Shape := ⟨4, ![2, 2, 4096, 256]⟩
abbrev S2x32x16x256 : Shape := ⟨4, ![2, 32, 16, 256]⟩
abbrev S2x256x2048 : Shape := ⟨3, ![2, 256, 2048]⟩
abbrev S2x2048x2048 : Shape := ⟨3, ![2, 2048, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x32x16x256 : Shape := ⟨4, ![1, 32, 16, 256]⟩
abbrev S32x16x256 : Shape := ⟨3, ![32, 16, 256]⟩
abbrev S512x256 : Shape := ⟨2, ![512, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S256x256 : Shape := ⟨2, ![256, 256]⟩

abbrev nBuf : Space → Nat
  | .hbm => 18
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S2x2x4096x256, .f32⟩
  | .hbm, ⟨2, _⟩ => ⟨S2x32x16x256, .f32⟩
  | .hbm, ⟨3, _⟩ => ⟨S2x256x2048, .f32⟩
  | .hbm, ⟨4, _⟩ => ⟨S2x2048x2048, .f32⟩
  | .hbm, ⟨5, _⟩ => ⟨S1x2x4096x256, .f32⟩
  | .hbm, ⟨6, _⟩ => ⟨S2x4096x256, .f32⟩
  | .hbm, ⟨7, _⟩ => ⟨S8192x256, .f32⟩
  | .hbm, ⟨8, _⟩ => ⟨S1x32x16x256, .f32⟩
  | .hbm, ⟨9, _⟩ => ⟨S32x16x256, .f32⟩
  | .hbm, ⟨10, _⟩ => ⟨S512x256, .f32⟩
  | .hbm, ⟨11, _⟩ => ⟨S1x256x2048, .f32⟩
  | .hbm, ⟨12, _⟩ => ⟨S256x2048, .f32⟩
  | .hbm, ⟨13, _⟩ => ⟨S256x2048, .bf16⟩
  | .hbm, ⟨14, _⟩ => ⟨S1x2048x2048, .f32⟩
  | .hbm, ⟨15, _⟩ => ⟨S2048x2048, .f32⟩
  | .hbm, ⟨16, _⟩ => ⟨S2048x2048, .bf16⟩
  | .hbm, ⟨17, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S2048x2048, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x2048, .f32⟩
  | .local _ .vmem, ⟨9, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8704x2048 : Shape := ⟨2, ![8704, 2048]⟩
abbrev S2x2x4096x256 : Shape := ⟨4, ![2, 2, 4096, 256]⟩
abbrev S2x32x16x256 : Shape := ⟨4, ![2, 32, 16, 256]⟩
abbrev S2x256x2048 : Shape := ⟨3, ![2, 256, 2048]⟩
abbrev S2x2048x2048 : Shape := ⟨3, ![2, 2048, 2048]⟩
abbrev S1x2x4096x256 : Shape := ⟨4, ![1, 2, 4096, 256]⟩
abbrev S2x4096x256 : Shape := ⟨3, ![2, 4096, 256]⟩
abbrev S1x32x16x256 : Shape := ⟨4, ![1, 32, 16, 256]⟩
abbrev S32x16x256 : Shape := ⟨3, ![32, 16, 256]⟩
abbrev S8192x256 : Shape := ⟨2, ![8192, 256]⟩
abbrev S512x256 : Shape := ⟨2, ![512, 256]⟩
abbrev S8704x256 : Shape := ⟨2, ![8704, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2x4096x256, .f32⟩
  | .hbm, ⟨2, _⟩ => ⟨S2x32x16x256, .f32⟩
  | .hbm, ⟨3, _⟩ => ⟨S2x256x2048, .f32⟩
  | .hbm, ⟨4, _⟩ => ⟨S2x2048x2048, .f32⟩
  | .hbm, ⟨5, _⟩ => ⟨S1x2x4096x256, .f32⟩
  | .hbm, ⟨6, _⟩ => ⟨S2x4096x256, .f32⟩
  | .hbm, ⟨7, _⟩ => ⟨S1x32x16x256, .f32⟩
  | .hbm, ⟨8, _⟩ => ⟨S32x16x256, .f32⟩
  | .hbm, ⟨9, _⟩ => ⟨S8192x256, .f32⟩
  | .hbm, ⟨10, _⟩ => ⟨S512x256, .f32⟩
  | .hbm, ⟨11, _⟩ => ⟨S8704x256, .f32⟩
  | .hbm, ⟨12, _⟩ => ⟨S1x256x2048, .f32⟩
  | .hbm, ⟨13, _⟩ => ⟨S256x2048, .f32⟩
  | .hbm, ⟨14, _⟩ => ⟨S8704x2048, .f32⟩
  | .hbm, ⟨15, _⟩ => ⟨S1x2048x2048, .f32⟩
  | .hbm, ⟨16, _⟩ => ⟨S2048x2048, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704x2048, .f32⟩
  | .hbm, ⟨22, _⟩ => ⟨S8704x2048, .f32⟩
  | .hbm, ⟨23, _⟩ => ⟨S_, .f32⟩
  | .hbm, ⟨24, _⟩ => ⟨S8704x2048, .f32⟩
  | .hbm, ⟨25, _⟩ => ⟨S8704x2048, .f32⟩
  | .hbm, ⟨26, _⟩ => ⟨S8704x2048, .f32⟩
  | .hbm, ⟨27, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S8704x2048 : Shape := ⟨2, ![8704, 2048]⟩
abbrev S2x2x4096x256 : Shape := ⟨4, ![2, 2, 4096, 256]⟩
abbrev S2x32x16x256 : Shape := ⟨4, ![2, 32, 16, 256]⟩
abbrev S2x256x2048 : Shape := ⟨3, ![2, 256, 2048]⟩
abbrev S2x2048x2048 : Shape := ⟨3, ![2, 2048, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S1x32x16x256 : Shape := ⟨4, ![1, 32, 16, 256]⟩
abbrev S32x16x256 : Shape := ⟨3, ![32, 16, 256]⟩
abbrev S512x256 : Shape := ⟨2, ![512, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S8192x2048 : Shape := ⟨2, ![8192, 2048]⟩
abbrev S512x2048 : Shape := ⟨2, ![512, 2048]⟩
abbrev S256x256 : Shape := ⟨2, ![256, 256]⟩

abbrev nBuf : Space → Nat
  | .hbm => 19
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S2x2x4096x256, .f32⟩
  | .hbm, ⟨2, _⟩ => ⟨S2x32x16x256, .f32⟩
  | .hbm, ⟨3, _⟩ => ⟨S2x256x2048, .f32⟩
  | .hbm, ⟨4, _⟩ => ⟨S2x2048x2048, .f32⟩
  | .hbm, ⟨5, _⟩ => ⟨S1x2x4096x256, .f32⟩
  | .hbm, ⟨6, _⟩ => ⟨S2x4096x256, .f32⟩
  | .hbm, ⟨7, _⟩ => ⟨S8192x256, .f32⟩
  | .hbm, ⟨8, _⟩ => ⟨S1x32x16x256, .f32⟩
  | .hbm, ⟨9, _⟩ => ⟨S32x16x256, .f32⟩
  | .hbm, ⟨10, _⟩ => ⟨S512x256, .f32⟩
  | .hbm, ⟨11, _⟩ => ⟨S1x256x2048, .f32⟩
  | .hbm, ⟨12, _⟩ => ⟨S256x2048, .f32⟩
  | .hbm, ⟨13, _⟩ => ⟨S256x2048, .bf16⟩
  | .hbm, ⟨14, _⟩ => ⟨S1x2048x2048, .f32⟩
  | .hbm, ⟨15, _⟩ => ⟨S2048x2048, .f32⟩
  | .hbm, ⟨16, _⟩ => ⟨S2048x2048, .bf16⟩
  | .hbm, ⟨17, _⟩ => ⟨S8192x2048, .f32⟩
  | .hbm, ⟨18, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S2048x2048, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32_10 : BitVec 32 := 32#32
  let v18 : BitVec 1 := Scalar.cmpi .slt arg0 c32_i32_10
  let v19 : BitVec 32 := Scalar.extui v18
  let c0_i32 : BitVec 32 := 0#32
  let v20 : BitVec 1 := Scalar.cmpi .ne v19 c0_i32
  v20

def k0_cond2 (i : grid0.Coords) : BitVec 1 :=
  let arg0 : BitVec 32 := BitVec.ofNat 32 (i 0).val
  let c32_i32_11 : BitVec 32 := 32#32
  let v21 : BitVec 1 := Scalar.cmpi .sge arg0 c32_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8704x2048 : Shape := ⟨2, ![8704, 2048]⟩
abbrev S2x2x4096x256 : Shape := ⟨4, ![2, 2, 4096, 256]⟩
abbrev S2x32x16x256 : Shape := ⟨4, ![2, 32, 16, 256]⟩
abbrev S2x256x2048 : Shape := ⟨3, ![2, 256, 2048]⟩
abbrev S2x2048x2048 : Shape := ⟨3, ![2, 2048, 2048]⟩
abbrev S1x2x4096x256 : Shape := ⟨4, ![1, 2, 4096, 256]⟩
abbrev S2x4096x256 : Shape := ⟨3, ![2, 4096, 256]⟩
abbrev S1x32x16x256 : Shape := ⟨4, ![1, 32, 16, 256]⟩
abbrev S32x16x256 : Shape := ⟨3, ![32, 16, 256]⟩
abbrev S8192x256 : Shape := ⟨2, ![8192, 256]⟩
abbrev S512x256 : Shape := ⟨2, ![512, 256]⟩
abbrev S8704x256 : Shape := ⟨2, ![8704, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S_ : Shape := ⟨0, ![]⟩
abbrev S8192x2048 : Shape := ⟨2, ![8192, 2048]⟩
abbrev S512x2048 : Shape := ⟨2, ![512, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2x4096x256, .f32⟩
  | .hbm, ⟨2, _⟩ => ⟨S2x32x16x256, .f32⟩
  | .hbm, ⟨3, _⟩ => ⟨S2x256x2048, .f32⟩
  | .hbm, ⟨4, _⟩ => ⟨S2x2048x2048, .f32⟩
  | .hbm, ⟨5, _⟩ => ⟨S1x2x4096x256, .f32⟩
  | .hbm, ⟨6, _⟩ => ⟨S2x4096x256, .f32⟩
  | .hbm, ⟨7, _⟩ => ⟨S1x32x16x256, .f32⟩
  | .hbm, ⟨8, _⟩ => ⟨S32x16x256, .f32⟩
  | .hbm, ⟨9, _⟩ => ⟨S8192x256, .f32⟩
  | .hbm, ⟨10, _⟩ => ⟨S512x256, .f32⟩
  | .hbm, ⟨11, _⟩ => ⟨S8704x256, .f32⟩
  | .hbm, ⟨12, _⟩ => ⟨S1x256x2048, .f32⟩
  | .hbm, ⟨13, _⟩ => ⟨S256x2048, .f32⟩
  | .hbm, ⟨14, _⟩ => ⟨S8704x2048, .f32⟩
  | .hbm, ⟨15, _⟩ => ⟨S1x2048x2048, .f32⟩
  | .hbm, ⟨16, _⟩ => ⟨S2048x2048, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704x2048, .f32⟩
  | .hbm, ⟨22, _⟩ => ⟨S8704x2048, .f32⟩
  | .hbm, ⟨23, _⟩ => ⟨S_, .f32⟩
  | .hbm, ⟨24, _⟩ => ⟨S8704x2048, .f32⟩
  | .hbm, ⟨25, _⟩ => ⟨S8704x2048, .f32⟩
  | .hbm, ⟨26, _⟩ => ⟨S8704x2048, .f32⟩
  | .hbm, ⟨27, _⟩ => ⟨S8704x2048, .f32⟩
  | .hbm, ⟨28, _⟩ => ⟨S8192x2048, .f32⟩
  | .hbm, ⟨29, _⟩ => ⟨S512x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel7.lean ====
abbrev S8704x1024 : Shape := ⟨2, ![8704, 1024]⟩
abbrev S1x8x128x128 : Shape := ⟨4, ![1, 8, 128, 128]⟩
abbrev S1x8x128 : Shape := ⟨3, ![1, 8, 128]⟩
abbrev S8x128 : Shape := ⟨2, ![8, 128]⟩
abbrev S128x8 : Shape := ⟨2, ![128, 8]⟩
abbrev S8x128x128 : Shape := ⟨3, ![8, 128, 128]⟩
abbrev S8x16x16 : Shape := ⟨3, ![8, 16, 16]⟩
abbrev S16x8 : Shape := ⟨2, ![16, 8]⟩
abbrev S512x1024 : Shape := ⟨2, ![512, 1024]⟩
abbrev S16x1024 : Shape := ⟨2, ![16, 1024]⟩
abbrev S16x16 : Shape := ⟨2, ![16, 16]⟩
abbrev S16x128 : Shape := ⟨2, ![16, 128]⟩
abbrev S1x128 : Shape := ⟨2, ![1, 128]⟩
abbrev S16 : Shape := ⟨1, ![16]⟩
abbrev S16x1 : Shape := ⟨2, ![16, 1]⟩
abbrev S1x16x16 : Shape := ⟨3, ![1, 16, 16]⟩

abbrev nBuf : Space → Nat
  | .hbm => 15
  | .vmem => 12
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x8x128x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S8x128, .f32⟩
  | .hbm, ⟨7, _⟩ => ⟨S128x8, .f32⟩
  | .hbm, ⟨8, _⟩ => ⟨S8x128x128, .f32⟩
  | .hbm, ⟨9, _⟩ => ⟨S8x16x16, .f32⟩
  | .hbm, ⟨10, _⟩ => ⟨S16x8, .f32⟩
  | .hbm, ⟨11, _⟩ => ⟨S8x128, .f32⟩
  | .hbm, ⟨12, _⟩ => ⟨S8x128, .f32⟩
  | .hbm, ⟨13, _⟩ => ⟨S512x1024, .bf16⟩
  | .hbm, ⟨14, _⟩ => ⟨S512x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S8x16x16, .f32⟩
  | .local _ .vmem, ⟨5, _⟩ => ⟨S16x8, .f32⟩
  | .local _ .vmem, ⟨6, _⟩ => ⟨S8x128, .f32⟩
  | .local _ .vmem, ⟨7, _⟩ => ⟨S8x128, .f32⟩
  | .local _ .vmem, ⟨8, _⟩ => ⟨S16x1024, .bf16⟩
  | .local _ .vmem, ⟨9, _⟩ => ⟨S16x1024, .bf16⟩
  | .local _ .vmem, ⟨10, _⟩ => ⟨S16x1024, .f32⟩
  | .local _ .vmem, ⟨11, _⟩ => ⟨S16x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c512_i32 : BitVec 32 := 512#32
  let v0 : BitVec 32 := Scalar.addi arg0 c512_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c512_i32 : BitVec 32 := 512#32
  let v0 : BitVec 32 := Scalar.addi arg0 c512_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8704x1024 : Shape := ⟨2, ![8704, 1024]⟩
abbrev S1x8x128x128 : Shape := ⟨4, ![1, 8, 128, 128]⟩
abbrev S1x8x128 : Shape := ⟨3, ![1, 8, 128]⟩
abbrev S512x1024 : Shape := ⟨2, ![512, 1024]⟩
abbrev S32x16x1024 : Shape := ⟨3, ![32, 16, 1024]⟩
abbrev S_ : Shape := ⟨0, ![]⟩
abbrev S32x16x8x128 : Shape := ⟨4, ![32, 16, 8, 128]⟩
abbrev S8x128 : Shape := ⟨2, ![8, 128]⟩
abbrev S32x16x8 : Shape := ⟨3, ![32, 16, 8]⟩
abbrev S32x16x8x1 : Shape := ⟨4, ![32, 16, 8, 1]⟩
abbrev S1x1x8x128 : Shape := ⟨4, ![1, 1, 8, 128]⟩
abbrev S8x128x128 : Shape := ⟨3, ![8, 128, 128]⟩
abbrev S8x16x16 : Shape := ⟨3, ![8, 16, 16]⟩
abbrev S16x16 : Shape := ⟨2, ![16, 16]⟩
abbrev S8x32x128x16 : Shape := ⟨4, ![8, 32, 128, 16]⟩
abbrev S8x16 : Shape := ⟨2, ![8, 16]⟩
abbrev S16x8 : Shape := ⟨2, ![16, 8]⟩
abbrev S16x8x1 : Shape := ⟨3, ![16, 8, 1]⟩
abbrev S1x16x8x1 : Shape := ⟨4, ![1, 16, 8, 1]⟩

abbrev nBuf : Space → Nat
  | .hbm => 84
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1x8x128x128, .f32⟩
  | .hbm, ⟨3, _⟩ => ⟨S1x8x128, .f32⟩
  | .hbm, ⟨4, _⟩ => ⟨S1x8x128, .f32⟩
  | .hbm, ⟨5, _⟩ => ⟨S1x8x128, .f32⟩
  | .hbm, ⟨6, _⟩ => ⟨S512x1024, .f32⟩
  | .hbm, ⟨7, _⟩ => ⟨S32x16x1024, .f32⟩
  | .hbm, ⟨8, _⟩ => ⟨S512x1024, .f32⟩
  | .hbm, ⟨9, _⟩ => ⟨S32x16x1024, .f32⟩
  | .hbm, ⟨10, _⟩ => ⟨S_, .f32⟩
  | .hbm, ⟨11, _⟩ => ⟨S32x16x1024, .f32⟩
  | .hbm, ⟨12, _⟩ => ⟨S32x16x1024, .f32⟩
  | .hbm, ⟨13, _⟩ => ⟨S32x16x1024, .f32⟩
  | .hbm, ⟨14, _⟩ => ⟨S_, .f32⟩
  | .hbm, ⟨15, _⟩ => ⟨S32x16x1024, .f32⟩
  | .hbm, ⟨16, _⟩ => ⟨S32x16x1024, .f32⟩
  | .hbm, ⟨17, _⟩ => ⟨S32x16x1024, .f32⟩
  | .hbm, ⟨18, _⟩ => ⟨S32x16x1024, .f32⟩
  | .hbm, ⟨19, _⟩ => ⟨S_, .f32⟩
  | .hbm, ⟨20, _⟩ => ⟨S32x16x1024, .f32⟩
  | .hbm, ⟨21, _⟩ => ⟨S32x16x1024, .f32⟩
  | .hbm, ⟨22, _⟩ => ⟨S32x16x1024, .f32⟩
  | .hbm, ⟨23, _⟩ => ⟨S_, .f32⟩
  | .hbm, ⟨24, _⟩ => ⟨S32x16x1024, .f32⟩
  | .hbm, ⟨25, _⟩ => ⟨S32x16x1024, .f32⟩
  | .hbm, ⟨26, _⟩ => ⟨S32x16x1024, .f32⟩
  | .hbm, ⟨27, _⟩ => ⟨S32x16x1024, .f32⟩
  | .hbm, ⟨28, _⟩ => ⟨S32x16x8x128, .f32⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S32x16x8, .f32⟩
  | .hbm, ⟨33, _⟩ => ⟨S32x16x8x1, .f32⟩
  | .hbm, ⟨34, _⟩ => ⟨S_, .f32⟩
  | .hbm, ⟨35, _⟩ => ⟨S32x16x8x1, .f32⟩
  | .hbm, ⟨36, _⟩ => ⟨S32x16x8x1, .f32⟩
  | .hbm, ⟨37, _⟩ => ⟨S32x16x8x128, .f32⟩
  | .hbm, ⟨38, _⟩ => ⟨S32x16x8x128, .f32⟩
  | .hbm, ⟨39, _⟩ => ⟨S32x16x8x128, .f32⟩
  | .hbm, ⟨40, _⟩ => ⟨S_, .f32⟩
  | .hbm, ⟨41, _⟩ => ⟨S32x16x8, .f32⟩
  | .hbm, ⟨42, _⟩ => ⟨S32x16x8x1, .f32⟩
  | .hbm, ⟨43, _⟩ => ⟨S_, .f32⟩
  | .hbm, ⟨44, _⟩ => ⟨S32x16x8x1, .f32⟩
  | .hbm, ⟨45, _⟩ => ⟨S32x16x8x1, .f32⟩
  | .hbm, ⟨46, _⟩ => ⟨S_, .f32⟩
  | .hbm, ⟨47, _⟩ => ⟨S32x16x8x1, .f32⟩
  | .hbm, ⟨48, _⟩ => ⟨S32x16x8x1, .f32⟩
  | .hbm, ⟨49, _⟩ => ⟨S32x16x8x1, .f32⟩
  | .hbm, ⟨50, _⟩ => ⟨S32x16x8x128, .f32⟩
  | .hbm, ⟨51, _⟩ => ⟨S32x16x8x128, .f32⟩
  | .hbm, ⟨52, _⟩ => ⟨S1x1x8x128, .f32⟩
  | .hbm, ⟨53, _⟩ => ⟨S32x16x8x128, .f32⟩
  | .hbm, ⟨54, _⟩ => ⟨S32x16x8x128, .f32⟩
  | .hbm, ⟨55, _⟩ => ⟨S1x1x8x128, .f32⟩
  | .hbm, ⟨56, _⟩ => ⟨S32x16x8x128, .f32⟩
  | .hbm, ⟨57, _⟩ => ⟨S32x16x8x128, .f32⟩
  | .hbm, ⟨58, _⟩ => ⟨S8x128x128, .f32⟩
  | .hbm, ⟨59, _⟩ => ⟨S8x16x16, .f32⟩
  | .hbm, ⟨60, _⟩ => ⟨S16x16, .i32⟩
  | .hbm, ⟨61, _⟩ => ⟨S_, .i32⟩
  | .hbm, ⟨62, _⟩ => ⟨S16x16, .i32⟩
  | .hbm, ⟨63, _⟩ => ⟨S16x16, .i32⟩
  | .hbm, ⟨64, _⟩ => ⟨S16x16, .i32⟩
  | .hbm, ⟨65, _⟩ => ⟨S16x16, .i1⟩
  | .hbm, ⟨66, _⟩ => ⟨S8x16x16, .i1⟩
  | .hbm, ⟨67, _⟩ => ⟨S_, .f32⟩
  | .hbm, ⟨68, _⟩ => ⟨S8x16x16, .f32⟩
  | .hbm, ⟨69, _⟩ => ⟨S8x16x16, .f32⟩
  | .hbm, ⟨70, _⟩ => ⟨S8x32x128x16, .f32⟩
  | .hbm, ⟨71, _⟩ => ⟨S32x16x8x128, .f32⟩
  | .hbm, ⟨72, _⟩ => ⟨S8x128, .f32⟩
  | .hbm, ⟨73, _⟩ => ⟨S8x16, .f32⟩
  | .hbm, ⟨74, _⟩ => ⟨S16x8, .f32⟩
  | .hbm, ⟨75, _⟩ => ⟨S16x8x1, .f32⟩
  | .hbm, ⟨76, _⟩ => ⟨S1x16x8x1, .f32⟩
  | .hbm, ⟨77, _⟩ => ⟨S32x16x8x128, .f32⟩
  | .hbm, ⟨78, _⟩ => ⟨S32x16x8x128, .f32⟩
  | .hbm, ⟨79, _⟩ => ⟨S32x16x1024, .f32⟩
  | .hbm, ⟨80, _⟩ => ⟨S32x16x1024, .f32⟩
  | .hbm, ⟨81, _⟩ => ⟨S512x1024, .f32⟩
  | .hbm, ⟨82, _⟩ => ⟨S512x1024, .bf16⟩
  | .hbm, ⟨83, _⟩ => ⟨S512x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_cst : Ref sig .tc := ⟨.hbm, 67, rfl⟩
abbrev main_call0_v6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel8.lean ====
abbrev S200 : Shape := ⟨1, ![200]⟩
abbrev S1 : Shape := ⟨1, ![1]⟩
abbrev S102400x2048 : Shape := ⟨2, ![102400, 2048]⟩
abbrev S2x64x2048x512 : Shape := ⟨4, ![2, 64, 2048, 512]⟩
abbrev S2x64x512x2048 : Shape := ⟨4, ![2, 64, 512, 2048]⟩
abbrev S512x2048 : Shape := ⟨2, ![512, 2048]⟩
abbrev S2x2048x512 : Shape := ⟨3, ![2, 2048, 512]⟩
abbrev S2x512x2048 : Shape := ⟨3, ![2, 512, 2048]⟩
abbrev S2048x512 : Shape := ⟨2, ![2048, 512]⟩
abbrev S2 : Shape := ⟨1, ![2]⟩
abbrev S_ : Shape := ⟨0, ![]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S512x512 : Shape := ⟨2, ![512, 512]⟩

abbrev nBuf : Space → Nat
  | .hbm => 5
  | .vmem => 10
  | .smem => 4
  | _ => 0

abbrev bufTy : (tb : Table) → Fin (tcTables nBuf tb) → BufTy
  | .hbm, ⟨0, _⟩ => ⟨S102400x2048, .bf16⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S102400x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S200, .i32⟩
  | .local _ .smem, ⟨1, _⟩ => ⟨S1, .i32⟩
  | .local _ .smem, ⟨2, _⟩ => ⟨S200, .i32⟩
  | .local _ .smem, ⟨3, _⟩ => ⟨S200, .i32⟩
  | _, _ => ⟨S102400x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![200], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (v24 : BitVec 32) : Fin 1 → Nat :=
  ![v24.toNat]
def k0_cond1 (i : grid0.Coords) (v0 : BitVec 32) : BitVec 1 :=
  let arg0 : BitVec 32 := BitVec.ofNat 32 (i 0).val
  let v1 : BitVec 1 := Scalar.cmpi .slt arg0 v0
  let c0_i32_1 : BitVec 32 := 0#32
  let v11 : BitVec 1 := Scalar.cmpi .eq arg0 c0_i32_1
  let v12 : BitVec 1 := Scalar.andi v1 v11
  let v13 : BitVec 32 := Scalar.extui v12
  let c0_i32_2 : BitVec 32 := 0#32
  let v14 : BitVec 1 := Scalar.cmpi .ne v13 c0_i32_2
  v14

def k0_off4 (v24 : BitVec 32) : Fin 3 → Nat :=
  let c0_i32_9 : BitVec 32 := 0#32
  let c0_i32_10 : BitVec 32 := 0#32
  ![v24.toNat, 0, 0]
def k0_off5 (v23 : BitVec 32) : Fin 4 → Nat :=
  let c0_i32_8 : BitVec 32 := 0#32
  let c0_i32_11 : BitVec 32 := 0#32
  let c0_i32_12 : BitVec 32 := 0#32
  ![0, v23.toNat, 0, 0]

def k0_off6 (v24 : BitVec 32) : Fin 1 → Nat :=
  ![v24.toNat]
def k0_off7 (v24 : BitVec 32) : Fin 3 → Nat :=
  let c0_i32_14 : BitVec 32 := 0#32
  let c0_i32_15 : BitVec 32 := 0#32
  ![v24.toNat, 0, 0]
def k0_off8 (v24 : BitVec 32) : Fin 3 → Nat :=
  let c0_i32_19 : BitVec 32 := 0#32
  let c0_i32_20 : BitVec 32 := 0#32
  ![v24.toNat, 0, 0]

def k0_chk1 (i : grid0.Coords) (v0 : BitVec 32) (v24 : BitVec 32) : Prop :=
  (∀ (k0_h1 : k0_cond1 i v0 = 1#1), ∀ a, (k0_off3 v24) a + S1.size a ≤ S2.size a) ∧
  (∀ (k0_h1 : k0_cond1 i v0 = 1#1), ∀ a, (k0_off4 v24) a + S1x2048x512.size a ≤ S2x2048x512.size a) ∧
  (∀ (k0_h1 : k0_cond1 i v0 = 1#1), ∀ a, (k0_off6 v24) a + S1.size a ≤ S2.size a) ∧
  (∀ (k0_h1 : k0_cond1 i v0 = 1#1), ∀ a, (k0_off7 v24) a + S1x2048x512.size a ≤ S2x2048x512.size a) ∧
  (∀ (k0_h1 : k0_cond1 i v0 = 1#1), ∀ a, (k0_off8 v24) a + S1x512x2048.size a ≤ S2x512x2048.size a)
theorem k0_off3_inb : ∀ (i : grid0.Coords) (v0 : BitVec 32) (v24 : BitVec 32) (k0_hw1 : k0_chk1 i v0 v24), ∀ (k0_h1 : k0_cond1 i v0 = 1#1), ∀ a, (k0_off3 v24) a + S1.size a ≤ S2.size a := fun i v0 v24 k0_hw1 k0_h1 => k0_hw1.1 k0_h1
theorem k0_off4_inb : ∀ (i : grid0.Coords) (v0 : BitVec 32) (v24 : BitVec 32) (k0_hw1 : k0_chk1 i v0 v24), ∀ (k0_h1 : k0_cond1 i v0 = 1#1), ∀ a, (k0_off4 v24) a + S1x2048x512.size a ≤ S2x2048x512.size a := fun i v0 v24 k0_hw1 k0_h1 => k0_hw1.2.1 k0_h1
theorem k0_off6_inb : ∀ (i : grid0.Coords) (v0 : BitVec 32) (v24 : BitVec 32) (k0_hw1 : k0_chk1 i v0 v24), ∀ (k0_h1 : k0_cond1 i v0 = 1#1), ∀ a, (k0_off6 v24) a + S1.size a ≤ S2.size a := fun i v0 v24 k0_hw1 k0_h1 => k0_hw1.2.2.1 k0_h1
theorem k0_off7_inb : ∀ (i : grid0.Coords) (v0 : BitVec 32) (v24 : BitVec 32) (k0_hw1 : k0_chk1 i v0 v24), ∀ (k0_h1 : k0_cond1 i v0 = 1#1), ∀ a, (k0_off7 v24) a + S1x2048x512.size a ≤ S2x2048x512.size a := fun i v0 v24 k0_hw1 k0_h1 => k0_hw1.2.2.2.1 k0_h1
theorem k0_off8_inb : ∀ (i : grid0.Coords) (v0 : BitVec 32) (v24 : BitVec 32) (k0_hw1 : k0_chk1 i v0 v24), ∀ (k0_h1 : k0_cond1 i v0 = 1#1), ∀ a, (k0_off8 v24) a + S1x512x2048.size a ≤ S2x512x2048.size a := fun i v0 v24 k0_hw1 k0_h1 => k0_hw1.2.2.2.2 k0_h1

def k0_off9 (v23 : BitVec 32) : Fin 4 → Nat :=
  let c0_i32_18 : BitVec 32 := 0#32
  let c0_i32_21 : BitVec 32 := 0#32
  let c0_i32_22 : BitVec 32 := 0#32
  ![0, v23.toNat, 0, 0]

def k0_chk2 (i : grid0.Coords) (v0 : BitVec 32) (v23 : BitVec 32) : Prop :=
  (∀ (k0_h1 : k0_cond1 i v0 = 1#1), ∀ a, (k0_off5 v23) a + S1x1x2048x512.size a ≤ S2x64x2048x512.size a) ∧
  (∀ (k0_h1 : k0_cond1 i v0 = 1#1), ∀ a, (k0_off9 v23) a + S1x1x512x2048.size a ≤ S2x64x512x2048.size a)
theorem k0_off5_inb : ∀ (i : grid0.Coords) (v0 : BitVec 32) (v23 : BitVec 32) (k0_hw2 : k0_chk2 i v0 v23), ∀ (k0_h1 : k0_cond1 i v0 = 1#1), ∀ a, (k0_off5 v23) a + S1x1x2048x512.size a ≤ S2x64x2048x512.size a := fun i v0 v23 k0_hw2 k0_h1 => k0_hw2.1 k0_h1
theorem k0_off9_inb : ∀ (i : grid0.Coords) (v0 : BitVec 32) (v23 : BitVec 32) (k0_hw2 : k0_chk2 i v0 v23), ∀ (k0_h1 : k0_cond1 i v0 = 1#1), ∀ a, (k0_off9 v23) a + S1x1x512x2048.size a ≤ S2x64x512x2048.size a := fun i v0 v23 k0_hw2 k0_h1 => k0_hw2.2 k0_h1

def k0_off10 (i : grid0.Coords) : Fin 1 → Nat :=
  let arg0 : BitVec 32 := BitVec.ofNat 32 (i 0).val
  let v23 : Index := Scalar.indexCast arg0
  ![v23.toNat]
def k0_off11 (v24 : BitVec 32) : Fin 1 → Nat :=
  ![v24.toNat]
def k0_cond2 (i : grid0.Coords) (v0 : BitVec 32) (v4 : BitVec 32) (v8 : BitVec 32) : BitVec 1 :=
  let arg0 : BitVec 32 := BitVec.ofNat 32 (i 0).val
  let v1 : BitVec 1 := Scalar.cmpi .slt arg0 v0
  let c0_i32 : BitVec 32 := 0#32
  let v2 : BitVec 1 := Scalar.cmpi .eq arg0 c0_i32
  let v9 : BitVec 1 := Scalar.cmpi .ne v4 v8
  let v10 : BitVec 1 := Scalar.ori v2 v9
  let v15 : BitVec 1 := Scalar.andi v1 v10
  let v16 : BitVec 32 := Scalar.extui v15
  let c0_i32_3 : BitVec 32 := 0#32
  let v17 : BitVec 1 := Scalar.cmpi .ne v16 c0_i32_3
  v17

def k0_off12 (v24 : BitVec 32) : Fin 3 → Nat :=
  let c0_i32_7 : BitVec 32 := 0#32
  let c0_i32_8 : BitVec 32 := 0#32
  ![v24.toNat, 0, 0]
def k0_off13 (v26 : BitVec 32) : Fin 4 → Nat :=
  let c0_i32_6 : BitVec 32 := 0#32
  let c0_i32_9 : BitVec 32 := 0#32
  let c0_i32_10 : BitVec 32 := 0#32
  ![0, v26.toNat, 0, 0]

def k0_off14 (v24 : BitVec 32) : Fin 1 → Nat :=
  ![v24.toNat]
def k0_off15 (v24 : BitVec 32) : Fin 3 → Nat :=
  let c0_i32_12 : BitVec 32 := 0#32
  let c0_i32_13 : BitVec 32 := 0#32
  ![v24.toNat, 0, 0]
def k0_off16 (v24 : BitVec 32) : Fin 3 → Nat :=
  let c0_i32_17 : BitVec 32 := 0#32
  let c0_i32_18 : BitVec 32 := 0#32
  ![v24.toNat, 0, 0]
def k0_off17 (v26 : BitVec 32) : Fin 4 → Nat :=
  let c0_i32_16 : BitVec 32 := 0#32
  let c0_i32_19 : BitVec 32 := 0#32
  let c0_i32_20 : BitVec 32 := 0#32
  ![0, v26.toNat, 0, 0]

def k0_chk4 (i : grid0.Coords) (v0 : BitVec 32) (v4 : BitVec 32) (v8 : BitVec 32) (v26 : BitVec 32) : Prop :=
  (∀ (k0_h2 : k0_cond2 i v0 v4 v8 = 1#1), ∀ a, (k0_off13 v26) a + S1x1x2048x512.size a ≤ S2x64x2048x512.size a) ∧
  (∀ (k0_h2 : k0_cond2 i v0 v4 v8 = 1#1), ∀ a, (k0_off17 v26) a + S1x1x512x2048.size a ≤ S2x64x512x2048.size a)
theorem k0_off13_inb : ∀ (i : grid0.Coords) (v0 : BitVec 32) (v4 : BitVec 32) (v8 : BitVec 32) (v26 : BitVec 32) (k0_hw4 : k0_chk4 i v0 v4 v8 v26), ∀ (k0_h2 : k0_cond2 i v0 v4 v8 = 1#1), ∀ a, (k0_off13 v26) a + S1x1x2048x512.size a ≤ S2x64x2048x512.size a := fun i v0 v4 v8 v26 k0_hw4 k0_h2 => k0_hw4.1 k0_h2
theorem k0_off17_inb : ∀ (i : grid0.Coords) (v0 : BitVec 32) (v4 : BitVec 32) (v8 : BitVec 32) (v26 : BitVec 32) (k0_hw4 : k0_chk4 i v0 v4 v8 v26), ∀ (k0_h2 : k0_cond2 i v0 v4 v8 = 1#1), ∀ a, (k0_off17 v26) a + S1x1x512x2048.size a ≤ S2x64x512x2048.size a := fun i v0 v4 v8 v26 k0_hw4 k0_h2 => k0_hw4.2 k0_h2

def k0_off18 (v24 : BitVec 32) : Fin 3 → Nat :=
  let v45 : Index := Scalar.indexCast v24
  let c0_21 : Index := 0#32
  let c0_22 : Index := 0#32
  ![v45.toNat, 0, 0]
def k0_off19 (v24 : BitVec 32) : Fin 3 → Nat :=
  let v59 : Index := Scalar.indexCast v24
  let c0_29 : Index := 0#32
  let c0_30 : Index := 0#32
  ![v59.toNat, 0, 0]

def k0_chk3 (i : grid0.Coords) (v0 : BitVec 32) (v4 : BitVec 32) (v8 : BitVec 32) (v24 : BitVec 32) : Prop :=
  (∀ (k0_h2 : k0_cond2 i v0 v4 v8 = 1#1), ∀ a, (k0_off11 v24) a + S1.size a ≤ S2.size a) ∧
  (∀ (k0_h2 : k0_cond2 i v0 v4 v8 = 1#1), ∀ a, (k0_off12 v24) a + S1x2048x512.size a ≤ S2x2048x512.size a) ∧
  (∀ (k0_h2 : k0_cond2 i v0 v4 v8 = 1#1), ∀ a, (k0_off14 v24) a + S1.size a ≤ S2.size a) ∧
  (∀ (k0_h2 : k0_cond2 i v0 v4 v8 = 1#1), ∀ a, (k0_off15 v24) a + S1x2048x512.size a ≤ S2x2048x512.size a) ∧
  (∀ (k0_h2 : k0_cond2 i v0 v4 v8 = 1#1), ∀ a, (k0_off16 v24) a + S1x512x2048.size a ≤ S2x512x2048.size a) ∧
  (∀ (k0_h2 : k0_cond2 i v0 v4 v8 = 1#1), ∀ a, (k0_off18 v24) a + S1x2048x512.size a ≤ S2x2048x512.size a) ∧
  (∀ (k0_h2 : k0_cond2 i v0 v4 v8 = 1#1), ∀ a, (k0_off19 v24) a + S1x512x2048.size a ≤ S2x512x2048.size a)
theorem k0_off11_inb : ∀ (i : grid0.Coords) (v0 : BitVec 32) (v4 : BitVec 32) (v8 : BitVec 32) (v24 : BitVec 32) (k0_hw3 : k0_chk3 i v0 v4 v8 v24), ∀ (k0_h2 : k0_cond2 i v0 v4 v8 = 1#1), ∀ a, (k0_off11 v24) a + S1.size a ≤ S2.size a := fun i v0 v4 v8 v24 k0_hw3 k0_h2 => k0_hw3.1 k0_h2
theorem k0_off12_inb : ∀ (i : grid0.Coords) (v0 : BitVec 32) (v4 : BitVec 32) (v8 : BitVec 32) (v24 : BitVec 32) (k0_hw3 : k0_chk3 i v0 v4 v8 v24), ∀ (k0_h2 : k0_cond2 i v0 v4 v8 = 1#1), ∀ a, (k0_off12 v24) a + S1x2048x512.size a ≤ S2x2048x512.size a := fun i v0 v4 v8 v24 k0_hw3 k0_h2 => k0_hw3.2.1 k0_h2
theorem k0_off14_inb : ∀ (i : grid0.Coords) (v0 : BitVec 32) (v4 : BitVec 32) (v8 : BitVec 32) (v24 : BitVec 32) (k0_hw3 : k0_chk3 i v0 v4 v8 v24), ∀ (k0_h2 : k0_cond2 i v0 v4 v8 = 1#1), ∀ a, (k0_off14 v24) a + S1.size a ≤ S2.size a := fun i v0 v4 v8 v24 k0_hw3 k0_h2 => k0_hw3.2.2.1 k0_h2
theorem k0_off15_inb : ∀ (i : grid0.Coords) (v0 : BitVec 32) (v4 : BitVec 32) (v8 : BitVec 32) (v24 : BitVec 32) (k0_hw3 : k0_chk3 i v0 v4 v8 v24), ∀ (k0_h2 : k0_cond2 i v0 v4 v8 = 1#1), ∀ a, (k0_off15 v24) a + S1x2048x512.size a ≤ S2x2048x512.size a := fun i v0 v4 v8 v24 k0_hw3 k0_h2 => k0_hw3.2.2.2.1 k0_h2
theorem k0_off16_inb : ∀ (i : grid0.Coords) (v0 : BitVec 32) (v4 : BitVec 32) (v8 : BitVec 32) (v24 : BitVec 32) (k0_hw3 : k0_chk3 i v0 v4 v8 v24), ∀ (k0_h2 : k0_cond2 i v0 v4 v8 = 1#1), ∀ a, (k0_off16 v24) a + S1x512x2048.size a ≤ S2x512x2048.size a := fun i v0 v4 v8 v24 k0_hw3 k0_h2 => k0_hw3.2.2.2.2.1 k0_h2
theorem k0_off18_inb : ∀ (i : grid0.Coords) (v0 : BitVec 32) (v4 : BitVec 32) (v8 : BitVec 32) (v24 : BitVec 32) (k0_hw3 : k0_chk3 i v0 v4 v8 v24), ∀ (k0_h2 : k0_cond2 i v0 v4 v8 = 1#1), ∀ a, (k0_off18 v24) a + S1x2048x512.size a ≤ S2x2048x512.size a := fun i v0 v4 v8 v24 k0_hw3 k0_h2 => k0_hw3.2.2.2.2.2.1 k0_h2
theorem k0_off19_inb : ∀ (i : grid0.Coords) (v0 : BitVec 32) (v4 : BitVec 32) (v8 : BitVec 32) (v24 : BitVec 32) (k0_hw3 : k0_chk3 i v0 v4 v8 v24), ∀ (k0_h2 : k0_cond2 i v0 v4 v8 = 1#1), ∀ a, (k0_off19 v24) a + S1x512x2048.size a ≤ S2x512x2048.size a := fun i v0 v4 v8 v24 k0_hw3 k0_h2 => k0_hw3.2.2.2.2.2.2 k0_h2

def k0_off20 (i : grid0.Coords) : Fin 1 → Nat :=
  let arg0 : BitVec 32 := BitVec.ofNat 32 (i 0).val
  let v66 : Index := Scalar.indexCast arg0
  ![v66.toNat]
def k0_off21 (i : grid0.Coords) : Fin 1 → Nat :=
  let arg0 : BitVec 32 := BitVec.ofNat 32 (i 0).val
  let v71 : Index := Scalar.indexCast arg0
  ![v71.toNat]
def k0_off22 (v24 : BitVec 32) : Fin 1 → Nat :=
  let c1_i32_35 : BitVec 32 := 1#32
  let v73 : BitVec 32 := Scalar.subi c1_i32_35 v24
  ![v73.toNat]
def k0_cond3 (v67 : BitVec 32) : BitVec 1 :=
  let c0_i32_33 : BitVec 32 := 0#32
  let v68 : BitVec 1 := Scalar.cmpi .sge v67 c0_i32_33
  let v69 : BitVec 32 := Scalar.extui v68
  let c0_i32_34 : BitVec 32 := 0#32
  let v70 : BitVec 1 := Scalar.cmpi .ne v69 c0_i32_34
  v70

def k0_off23 (v24 : BitVec 32) : Fin 3 → Nat :=
  let c1_i32_35 : BitVec 32 := 1#32
  let v73 : BitVec 32 := Scalar.subi c1_i32_35 v24
  let c0_i32_37 : BitVec 32 := 0#32
  let c0_i32_38 : BitVec 32 := 0#32
  ![v73.toNat, 0, 0]
def k0_off24 (v72 : BitVec 32) : Fin 4 → Nat :=
  let c0_i32_36 : BitVec 32 := 0#32
  let c0_i32_39 : BitVec 32 := 0#32
  let c0_i32_40 : BitVec 32 := 0#32
  ![0, v72.toNat, 0, 0]

def k0_off25 (v24 : BitVec 32) : Fin 1 → Nat :=
  let c1_i32_35 : BitVec 32 := 1#32
  let v73 : BitVec 32 := Scalar.subi c1_i32_35 v24
  ![v73.toNat]
def k0_off26 (v24 : BitVec 32) : Fin 3 → Nat :=
  let c1_i32_35 : BitVec 32 := 1#32
  let v73 : BitVec 32 := Scalar.subi c1_i32_35 v24
  let c0_i32_42 : BitVec 32 := 0#32
  let c0_i32_43 : BitVec 32 := 0#32
  ![v73.toNat, 0, 0]
def k0_off27 (v24 : BitVec 32) : Fin 3 → Nat :=
  let c1_i32_35 : BitVec 32 := 1#32
  let v73 : BitVec 32 := Scalar.subi c1_i32_35 v24
  let c0_i32_47 : BitVec 32 := 0#32
  let c0_i32_48 : BitVec 32 := 0#32
  ![v73.toNat, 0, 0]

def k0_chk5 (i : grid0.Coords) (v0 : BitVec 32) (v4 : BitVec 32) (v8 : BitVec 32) (v24 : BitVec 32) (v67 : BitVec 32) : Prop :=
  (∀ (k0_h2 : k0_cond2 i v0 v4 v8 = 1#1), ∀ (k0_h3 : k0_cond3 v67 = 1#1), ∀ a, (k0_off22 v24) a + S1.size a ≤ S2.size a) ∧
  (∀ (k0_h2 : k0_cond2 i v0 v4 v8 = 1#1), ∀ (k0_h3 : k0_cond3 v67 = 1#1), ∀ a, (k0_off23 v24) a + S1x2048x512.size a ≤ S2x2048x512.size a) ∧
  (∀ (k0_h2 : k0_cond2 i v0 v4 v8 = 1#1), ∀ (k0_h3 : k0_cond3 v67 = 1#1), ∀ a, (k0_off25 v24) a + S1.size a ≤ S2.size a) ∧
  (∀ (k0_h2 : k0_cond2 i v0 v4 v8 = 1#1), ∀ (k0_h3 : k0_cond3 v67 = 1#1), ∀ a, (k0_off26 v24) a + S1x2048x512.size a ≤ S2x2048x512.size a) ∧
  (∀ (k0_h2 : k0_cond2 i v0 v4 v8 = 1#1), ∀ (k0_h3 : k0_cond3 v67 = 1#1), ∀ a, (k0_off27 v24) a + S1x512x2048.size a ≤ S2x512x2048.size a)
theorem k0_off22_inb : ∀ (i : grid0.Coords) (v0 : BitVec 32) (v4 : BitVec 32) (v8 : BitVec 32) (v24 : BitVec 32) (v67 : BitVec 32) (k0_hw5 : k0_chk5 i v0 v4 v8 v24 v67), ∀ (k0_h2 : k0_cond2 i v0 v4 v8 = 1#1), ∀ (k0_h3 : k0_cond3 v67 = 1#1), ∀ a, (k0_off22 v24) a + S1.size a ≤ S2.size a := fun i v0 v4 v8 v24 v67 k0_hw5 k0_h2 k0_h3 => k0_hw5.1 k0_h2 k0_h3
theorem k0_off23_inb : ∀ (i : grid0.Coords) (v0 : BitVec 32) (v4 : BitVec 32) (v8 : BitVec 32) (v24 : BitVec 32) (v67 : BitVec 32) (k0_hw5 : k0_chk5 i v0 v4 v8 v24 v67), ∀ (k0_h2 : k0_cond2 i v0 v4 v8 = 1#1), ∀ (k0_h3 : k0_cond3 v67 = 1#1), ∀ a, (k0_off23 v24) a + S1x2048x512.size a ≤ S2x2048x512.size a := fun i v0 v4 v8 v24 v67 k0_hw5 k0_h2 k0_h3 => k0_hw5.2.1 k0_h2 k0_h3
theorem k0_off25_inb : ∀ (i : grid0.Coords) (v0 : BitVec 32) (v4 : BitVec 32) (v8 : BitVec 32) (v24 : BitVec 32) (v67 : BitVec 32) (k0_hw5 : k0_chk5 i v0 v4 v8 v24 v67), ∀ (k0_h2 : k0_cond2 i v0 v4 v8 = 1#1), ∀ (k0_h3 : k0_cond3 v67 = 1#1), ∀ a, (k0_off25 v24) a + S1.size a ≤ S2.size a := fun i v0 v4 v8 v24 v67 k0_hw5 k0_h2 k0_h3 => k0_hw5.2.2.1 k0_h2 k0_h3
theorem k0_off26_inb : ∀ (i : grid0.Coords) (v0 : BitVec 32) (v4 : BitVec 32) (v8 : BitVec 32) (v24 : BitVec 32) (v67 : BitVec 32) (k0_hw5 : k0_chk5 i v0 v4 v8 v24 v67), ∀ (k0_h2 : k0_cond2 i v0 v4 v8 = 1#1), ∀ (k0_h3 : k0_cond3 v67 = 1#1), ∀ a, (k0_off26 v24) a + S1x2048x512.size a ≤ S2x2048x512.size a := fun i v0 v4 v8 v24 v67 k0_hw5 k0_h2 k0_h3 => k0_hw5.2.2.2.1 k0_h2 k0_h3
theorem k0_off27_inb : ∀ (i : grid0.Coords) (v0 : BitVec 32) (v4 : BitVec 32) (v8 : BitVec 32) (v24 : BitVec 32) (v67 : BitVec 32) (k0_hw5 : k0_chk5 i v0 v4 v8 v24 v67), ∀ (k0_h2 : k0_cond2 i v0 v4 v8 = 1#1), ∀ (k0_h3 : k0_cond3 v67 = 1#1), ∀ a, (k0_off27 v24) a + S1x512x2048.size a ≤ S2x512x2048.size a := fun i v0 v4 v8 v24 v67 k0_hw5 k0_h2 k0_h3 => k0_hw5.2.2.2.2 k0_h2 k0_h3

def k0_off28 (v72 : BitVec 32) : Fin 4 → Nat :=
  let c0_i32_46 : BitVec 32 := 0#32
  let c0_i32_49 : BitVec 32 := 0#32
  let c0_i32_50 : BitVec 32 := 0#32
  ![0, v72.toNat, 0, 0]

def k0_chk6 (i : grid0.Coords) (v0 : BitVec 32) (v4 : BitVec 32) (v8 : BitVec 32) (v67 : BitVec 32) (v72 : BitVec 32) : Prop :=
  (∀ (k0_h2 : k0_cond2 i v0 v4 v8 = 1#1), ∀ (k0_h3 : k0_cond3 v67 = 1#1), ∀ a, (k0_off24 v72) a + S1x1x2048x512.size a ≤ S2x64x2048x512.size a) ∧
  (∀ (k0_h2 : k0_cond2 i v0 v4 v8 = 1#1), ∀ (k0_h3 : k0_cond3 v67 = 1#1), ∀ a, (k0_off28 v72) a + S1x1x512x2048.size a ≤ S2x64x512x2048.size a)
theorem k0_off24_inb : ∀ (i : grid0.Coords) (v0 : BitVec 32) (v4 : BitVec 32) (v8 : BitVec 32) (v67 : BitVec 32) (v72 : BitVec 32) (k0_hw6 : k0_chk6 i v0 v4 v8 v67 v72), ∀ (k0_h2 : k0_cond2 i v0 v4 v8 = 1#1), ∀ (k0_h3 : k0_cond3 v67 = 1#1), ∀ a, (k0_off24 v72) a + S1x1x2048x512.size a ≤ S2x64x2048x512.size a := fun i v0 v4 v8 v67 v72 k0_hw6 k0_h2 k0_h3 => k0_hw6.1 k0_h2 k0_h3
theorem k0_off28_inb : ∀ (i : grid0.Coords) (v0 : BitVec 32) (v4 : BitVec 32) (v8 : BitVec 32) (v67 : BitVec 32) (v72 : BitVec 32) (k0_hw6 : k0_chk6 i v0 v4 v8 v67 v72), ∀ (k0_h2 : k0_cond2 i v0 v4 v8 = 1#1), ∀ (k0_h3 : k0_cond3 v67 = 1#1), ∀ a, (k0_off28 v72) a + S1x1x512x2048.size a ≤ S2x64x512x2048.size a := fun i v0 v4 v8 v67 v72 k0_hw6 k0_h2 k0_h3 => k0_hw6.2 k0_h2 k0_h3

def k0_cond4 (i : grid0.Coords) (v0 : BitVec 32) : BitVec 1 :=
  let arg0 : BitVec 32 := BitVec.ofNat 32 (i 0).val
  let v1 : BitVec 1 := Scalar.cmpi .slt arg0 v0
  let v18 : BitVec 32 := Scalar.extui v1
  let c0_i32_4 : BitVec 32 := 0#32
  let v19 : BitVec 1 := Scalar.cmpi .ne v18 c0_i32_4
  v19

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v20 : BitVec 1 := Scalar.xori v1 v_true
  let v21 : BitVec 32 := Scalar.extui v20
  let c0_i32_5 : BitVec 32 := 0#32
  let v22 : BitVec 1 := Scalar.cmpi .ne v21 c0_i32_5
  v22

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S200 : Shape := ⟨1, ![200]⟩
abbrev S1 : Shape := ⟨1, ![1]⟩
abbrev S102400x2048 : Shape := ⟨2, ![102400, 2048]⟩
abbrev S2x64x2048x512 : Shape := ⟨4, ![2, 64, 2048, 512]⟩
abbrev S2x64x512x2048 : Shape := ⟨4, ![2, 64, 512, 2048]⟩
abbrev S200x512x2048 : Shape := ⟨3, ![200, 512, 2048]⟩
abbrev S1x64x2048x512 : Shape := ⟨4, ![1, 64, 2048, 512]⟩
abbrev S64x2048x512 : Shape := ⟨3, ![64, 2048, 512]⟩
abbrev S_ : Shape := ⟨0, ![]⟩
abbrev S200x1 : Shape := ⟨2, ![200, 1]⟩
abbrev S200x2048x512 : Shape := ⟨3, ![200, 2048, 512]⟩
abbrev S1x64x512x2048 : Shape := ⟨4, ![1, 64, 512, 2048]⟩
abbrev S64x512x2048 : Shape := ⟨3, ![64, 512, 2048]⟩
abbrev S200x512x512 : Shape := ⟨3, ![200, 512, 512]⟩
abbrev S200x1x1 : Shape := ⟨3, ![200, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S200, .i32⟩
  | .hbm, ⟨1, _⟩ => ⟨S1, .i32⟩
  | .hbm, ⟨2, _⟩ => ⟨S200, .i32⟩
  | .hbm, ⟨3, _⟩ => ⟨S200, .i32⟩
  | .hbm, ⟨4, _⟩ => ⟨S102400x2048, .bf16⟩
  | .hbm, ⟨5, _⟩ => ⟨S2x64x2048x512, .f32⟩
  | .hbm, ⟨6, _⟩ => ⟨S2x64x2048x512, .f32⟩
  | .hbm, ⟨7, _⟩ => ⟨S2x64x512x2048, .f32⟩
  | .hbm, ⟨8, _⟩ => ⟨S102400x2048, .f32⟩
  | .hbm, ⟨9, _⟩ => ⟨S200x512x2048, .f32⟩
  | .hbm, ⟨10, _⟩ => ⟨S1x64x2048x512, .f32⟩
  | .hbm, ⟨11, _⟩ => ⟨S64x2048x512, .f32⟩
  | .hbm, ⟨12, _⟩ => ⟨S_, .i32⟩
  | .hbm, ⟨13, _⟩ => ⟨S200, .i32⟩
  | .hbm, ⟨14, _⟩ => ⟨S200, .i1⟩
  | .hbm, ⟨15, _⟩ => ⟨S_, .i32⟩
  | .hbm, ⟨16, _⟩ => ⟨S200, .i32⟩
  | .hbm, ⟨17, _⟩ => ⟨S200, .i32⟩
  | .hbm, ⟨18, _⟩ => ⟨S200, .i32⟩
  | .hbm, ⟨19, _⟩ => ⟨S200x1, .i32⟩
  | .hbm, ⟨20, _⟩ => ⟨S200x2048x512, .f32⟩
  | .hbm, ⟨21, _⟩ => ⟨S1x64x2048x512, .f32⟩
  | .hbm, ⟨22, _⟩ => ⟨S64x2048x512, .f32⟩
  | .hbm, ⟨23, _⟩ => ⟨S_, .i32⟩
  | .hbm, ⟨24, _⟩ => ⟨S200, .i32⟩
  | .hbm, ⟨25, _⟩ => ⟨S200, .i1⟩
  | .hbm, ⟨26, _⟩ => ⟨S_, .i32⟩
  | .hbm, ⟨27, _⟩ => ⟨S200, .i32⟩
  | .hbm, ⟨28, _⟩ => ⟨S200, .i32⟩
  | .hbm, ⟨29, _⟩ => ⟨S200, .i32⟩
  | .hbm, ⟨30, _⟩ => ⟨S200x1, .i32⟩
  | .hbm, ⟨31, _⟩ => ⟨S200x2048x512, .f32⟩
  | .hbm, ⟨32, _⟩ => ⟨S1x64x512x2048, .f32⟩
  | .hbm, ⟨33, _⟩ => ⟨S64x512x2048, .f32⟩
  | .hbm, ⟨34, _⟩ => ⟨S_, .i32⟩
  | .hbm, ⟨35, _⟩ => ⟨S200, .i32⟩
  | .hbm, ⟨36, _⟩ => ⟨S200, .i1⟩
  | .hbm, ⟨37, _⟩ => ⟨S_, .i32⟩
  | .hbm, ⟨38, _⟩ => ⟨S200, .i32⟩
  | .hbm, ⟨39, _⟩ => ⟨S200, .i32⟩
  | .hbm, ⟨40, _⟩ => ⟨S200, .i32⟩
  | .hbm, ⟨41, _⟩ => ⟨S200x1, .i32⟩
  | .hbm, ⟨42, _⟩ => ⟨S200x512x2048, .f32⟩
  | .hbm, ⟨43, _⟩ => ⟨S200x512x512, .f32⟩
  | .hbm, ⟨44, _⟩ => ⟨S200x512x512, .f32⟩
  | .hbm, ⟨45, _⟩ => ⟨S200x512x512, .f32⟩
  | .hbm, ⟨46, _⟩ => ⟨S_, .f32⟩
  | .hbm, ⟨47, _⟩ => ⟨S200x512x512, .f32⟩
  | .hbm, ⟨48, _⟩ => ⟨S200x512x512, .f32⟩
  | .hbm, ⟨49, _⟩ => ⟨S_, .f32⟩
  | .hbm, ⟨50, _⟩ => ⟨S200x512x512, .f32⟩
  | .hbm, ⟨51, _⟩ => ⟨S200x512x512, .f32⟩
  | .hbm, ⟨52, _⟩ => ⟨S200x512x512, .f32⟩
  | .hbm, ⟨53, _⟩ => ⟨S200x512x512, .f32⟩
  | .hbm, ⟨54, _⟩ => ⟨S200x512x512, .f32⟩
  | .hbm, ⟨55, _⟩ => ⟨S200x512x2048, .f32⟩
  | .hbm, ⟨56, _⟩ => ⟨S200, .i32⟩
  | .hbm, ⟨57, _⟩ => ⟨S_, .i32⟩
  | .hbm, ⟨58, _⟩ => ⟨S200, .i32⟩
  | .hbm, ⟨59, _⟩ => ⟨S200, .i1⟩
  | .hbm, ⟨60, _⟩ => ⟨S200x1x1, .i1⟩
  | .hbm, ⟨61, _⟩ => ⟨S_, .f32⟩
  | .hbm, ⟨62, _⟩ => ⟨S_, .f32⟩
  | .hbm, ⟨63, _⟩ => ⟨S200x512x2048, .i1⟩
  | .hbm, ⟨64, _⟩ => ⟨S200x512x2048, .f32⟩
  | .hbm, ⟨65, _⟩ => ⟨S200x512x2048, .f32⟩
  | .hbm, ⟨66, _⟩ => ⟨S102400x2048, .f32⟩
  | .hbm, ⟨67, _⟩ => ⟨S102400x2048, .bf16⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Proof.S.Trip.lean ====
/-
  One trip of the body's loop over the earlier key blocks: from any contents of the scratch buffers, the carry and the
  accumulator end with the trip's stores written over what they held.
-/
module

public import proofs.«01_k».proof.Proof.Gen.KernelIdeal.Skeleton
public import proofs.«01_k».proof.Proof.Gen.KernelIdeal.Loops
public import Idealize.ShloMosaic.Lib.Tactic
public import Idealize.ShloMosaic.Lib.Exec
public import Idealize.ShloMosaic.Lib.Pipeline.Kit

@[expose] public section

set_option maxRecDepth 65536

noncomputable section

namespace Cert.Proof.S

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loops' variants: none is stated. -/
abbrev 𝒱₀ : Variants := Variants.none

/-- The contents of a staging or scratch buffer on a device. -/
abbrev Bf (c : Dev nD) {sp : Space} {S : Shape} {e : EltTy} (M : Memref sig .tc sp S e) : Type := Buf (Elt F) (M.view.loc (c : Thread nD τ))
/-- The whole buffer, held at given contents. -/
abbrev pt (c : Dev nD) {sp : Space} {S : Shape} {e : EltTy} (M : Memref sig .tc sp S e) (f : Bf (F := F) c M) : sProp 𝕄 :=
  M.view.loc (c : Thread nD τ) ↦{fullShare} f

/-- An operand's block, held at given contents. -/
abbrev po (c : Dev nD) {sp : Space} {S : Shape} {e : EltTy} (M : Memref sig .tc sp S e) (f : Bf (F := F) c M) : sProp 𝕄 :=
  M.view.loc (c : Thread nD τ) ↦[M.view.set]{fullShare} f

set_option maxHeartbeats 0 in
/-- The trip's stores to the carry and to the accumulator, and the run that leaves them. -/
noncomputable def trip (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16)
    (k : Fin (k0_t1_loop i).trips) (q : Bf (F := F) c arg3) (kk : Bf (F := F) c arg4) (v : Bf (F := F) c arg5) (g12 : Bf (F := F) c arg12) (g13 : Bf (F := F) c arg13) :
    { L : List (View.Piece (Elt F) S4x256x1 .f32) × List (View.Piece (Elt F) S4x256x128 .f32) //
      ∀ (f7 : Bf (F := F) c arg7) (f8 : Bf (F := F) c arg8) (f9 : Bf (F := F) c arg9) (f10 : Bf (F := F) c arg10) (f11 : Bf (F := F) c arg11),
      iprop(po c arg3 q ∗ po c arg4 kk ∗ po c arg5 v ∗ pt c arg7 f7 ∗ pt c arg8 f8 ∗ pt c arg9 f9 ∗ pt c arg10 f10 ∗ pt c arg11 f11 ∗ pt c arg12 g12 ∗ pt c arg13 g13)
        ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 arg11 harg11 arg12 harg12 arg13 harg13 arg2 v6 0#32 (constant S256x128 .f32 0#32) k ())
          (fun _ => iprop(po c arg3 q ∗ po c arg4 kk ∗ po c arg5 v ∗ (∃ f, pt c arg7 f) ∗ (∃ f, pt c arg8 f) ∗ (∃ f, pt c arg9 f) ∗ (∃ f, pt c arg10 f) ∗ (∃ f, pt c arg11 f)
             ∗ pt c arg12 (arg12.view.writes (Elt F) g12 L.1) ∗ pt c arg13 (arg13.view.writes (Elt F) g13 L.2))) } := by
  refine ⟨⟨?_, ?_⟩, fun f7 f8 f9 f10 f11 => ?run⟩
  case run =>
    iintro ⟨H3, H4, H5, H7, H8, H9, H10, H11, H12, H13⟩
    unfold k0_t1_body
    sl_exec_parts
    sl_step
    isplitl [H3]; · iexact H3
    isplitl [H4]; · iexact H4
    isplitl [H5]; · iexact H5
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    iexact H13

end Cert.Proof.S
-- ==== Proof.S.Body.lean ====
/-
  The run of the kernel's body: the diagonal block, the loop over the earlier key blocks by its trips' stores, and the
  accumulator stored to the result's block.
-/
module

public import proofs.«01_k».proof.Proof.Gen.KernelIdeal.Skeleton
public import proofs.«01_k».proof.Proof.Gen.KernelIdeal.Loops
public import proofs.«01_k».proof.Proof.S.Trip
public import Idealize.ShloMosaic.Lib.LoopRemainder
public import proofs.«01_k».proof.Proof.Gen.KernelIdeal.Frame
public import Idealize.ShloMosaic.Lib.Tactic
public import Idealize.ShloMosaic.Lib.Exec
public import Idealize.ShloMosaic.Lib.Pipeline.Kit

@[expose] public section

set_option maxRecDepth 65536

noncomputable section

namespace Cert.Proof.S

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The carry and the accumulator after trip `k` of the loop over the earlier key blocks, from what they hold before it. -/
noncomputable def stepSt (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16) (q : Bf (F := F) c arg3) (kk : Bf (F := F) c arg4) (v : Bf (F := F) c arg5) (k : ℕ) (s : Bf (F := F) c arg12 × Bf (F := F) c arg13) : Bf (F := F) c arg12 × Bf (F := F) c arg13 :=
  if h : k < (k0_t1_loop i).trips then
      (arg12.view.writes (Elt F) s.1 (trip c i arg3 harg3 arg4 harg4 arg5 harg5 arg6 harg6 arg7 harg7 arg8 harg8 arg9 harg9 arg10 harg10 arg11 harg11 arg12 harg12 arg13 harg13 arg2 v6 ⟨k, h⟩ q kk v s.1 s.2).1.1,
       arg13.view.writes (Elt F) s.2 (trip c i arg3 harg3 arg4 harg4 arg5 harg5 arg6 harg6 arg7 harg7 arg8 harg8 arg9 harg9 arg10 harg10 arg11 harg11 arg12 harg12 arg13 harg13 arg2 v6 ⟨k, h⟩ q kk v s.1 s.2).1.2)
    else s

/-- The carry and the accumulator before trip `k` of the loop over the earlier key blocks, from what they hold at its entry. -/
noncomputable def st (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16) (q : Bf (F := F) c arg3) (kk : Bf (F := F) c arg4) (v : Bf (F := F) c arg5) (g12 : Bf (F := F) c arg12) (g13 : Bf (F := F) c arg13) (k : ℕ) : Bf (F := F) c arg12 × Bf (F := F) c arg13 :=
  Nat.rec (g12, g13) (fun k s => stepSt c i arg3 harg3 arg4 harg4 arg5 harg5 arg6 harg6 arg7 harg7 arg8 harg8 arg9 harg9 arg10 harg10 arg11 harg11 arg12 harg12 arg13 harg13 arg2 v6 q kk v k s) k

theorem st_succ (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16) (q : Bf (F := F) c arg3) (kk : Bf (F := F) c arg4) (v : Bf (F := F) c arg5) (g12 : Bf (F := F) c arg12) (g13 : Bf (F := F) c arg13)
    (k : Fin (k0_t1_loop i).trips) :
    st c i arg3 harg3 arg4 harg4 arg5 harg5 arg6 harg6 arg7 harg7 arg8 harg8 arg9 harg9 arg10 harg10 arg11 harg11 arg12 harg12 arg13 harg13 arg2 v6 q kk v g12 g13 (k.val + 1) =
      (arg12.view.writes (Elt F) (st c i arg3 harg3 arg4 harg4 arg5 harg5 arg6 harg6 arg7 harg7 arg8 harg8 arg9 harg9 arg10 harg10 arg11 harg11 arg12 harg12 arg13 harg13 arg2 v6 q kk v g12 g13 k.val).1 (trip c i arg3 harg3 arg4 harg4 arg5 harg5 arg6 harg6 arg7 harg7 arg8 harg8 arg9 harg9 arg10 harg10 arg11 harg11 arg12 harg12 arg13 harg13 arg2 v6 k q kk v (st c i arg3 harg3 arg4 harg4 arg5 harg5 arg6 harg6 arg7 harg7 arg8 harg8 arg9 harg9 arg10 harg10 arg11 harg11 arg12 harg12 arg13 harg13 arg2 v6 q kk v g12 g13 k.val).1 (st c i arg3 harg3 arg4 harg4 arg5 harg5 arg6 harg6 arg7 harg7 arg8 harg8 arg9 harg9 arg10 harg10 arg11 harg11 arg12 harg12 arg13 harg13 arg2 v6 q kk v g12 g13 k.val).2).1.1,
       arg13.view.writes (Elt F) (st c i arg3 harg3 arg4 harg4 arg5 harg5 arg6 harg6 arg7 harg7 arg8 harg8 arg9 harg9 arg10 harg10 arg11 harg11 arg12 harg12 arg13 harg13 arg2 v6 q kk v g12 g13 k.val).2 (trip c i arg3 harg3 arg4 harg4 arg5 harg5 arg6 harg6 arg7 harg7 arg8 harg8 arg9 harg9 arg10 harg10 arg11 harg11 arg12 harg12 arg13 harg13 arg2 v6 k q kk v (st c i arg3 harg3 arg4 harg4 arg5 harg5 arg6 harg6 arg7 harg7 arg8 harg8 arg9 harg9 arg10 harg10 arg11 harg11 arg12 harg12 arg13 harg13 arg2 v6 q kk v g12 g13 k.val).1 (st c i arg3 harg3 arg4 harg4 arg5 harg5 arg6 harg6 arg7 harg7 arg8 harg8 arg9 harg9 arg10 harg10 arg11 harg11 arg12 harg12 arg13 harg13 arg2 v6 q kk v g12 g13 k.val).2).1.2) := by
  exact dif_pos k.isLt

/-- The carry's and the accumulator's buffers before trip `k`: at the entry, what they held. -/
noncomputable def tail (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16) (q : Bf (F := F) c arg3) (kk : Bf (F := F) c arg4) (v : Bf (F := F) c arg5) (g12 : Bf (F := F) c arg12) (g13 : Bf (F := F) c arg13) (k : ℕ) : sProp 𝕄 :=
  Nat.rec iprop(pt c arg12 g12 ∗ pt c arg13 g13) (fun k _ => iprop(pt c arg12 (st c i arg3 harg3 arg4 harg4 arg5 harg5 arg6 harg6 arg7 harg7 arg8 harg8 arg9 harg9 arg10 harg10 arg11 harg11 arg12 harg12 arg13 harg13 arg2 v6 q kk v g12 g13 (k + 1)).1 ∗ pt c arg13 (st c i arg3 harg3 arg4 harg4 arg5 harg5 arg6 harg6 arg7 harg7 arg8 harg8 arg9 harg9 arg10 harg10 arg11 harg11 arg12 harg12 arg13 harg13 arg2 v6 q kk v g12 g13 (k + 1)).2)) k

theorem tail_eq (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16) (q : Bf (F := F) c arg3) (kk : Bf (F := F) c arg4) (v : Bf (F := F) c arg5) (g12 : Bf (F := F) c arg12) (g13 : Bf (F := F) c arg13) (k : ℕ) : (tail c i arg3 harg3 arg4 harg4 arg5 harg5 arg6 harg6 arg7 harg7 arg8 harg8 arg9 harg9 arg10 harg10 arg11 harg11 arg12 harg12 arg13 harg13 arg2 v6 q kk v g12 g13 k) = iprop(pt c arg12 (st c i arg3 harg3 arg4 harg4 arg5 harg5 arg6 harg6 arg7 harg7 arg8 harg8 arg9 harg9 arg10 harg10 arg11 harg11 arg12 harg12 arg13 harg13 arg2 v6 q kk v g12 g13 k).1 ∗ pt c arg13 (st c i arg3 harg3 arg4 harg4 arg5 harg5 arg6 harg6 arg7 harg7 arg8 harg8 arg9 harg9 arg10 harg10 arg11 harg11 arg12 harg12 arg13 harg13 arg2 v6 q kk v g12 g13 k).2) := by
  cases k <;> rfl

/-- The loop over the earlier key blocks: the three operands as they were, five scratch buffers at anything, the carry and the accumulator at `st`. -/
@[sl_loop, instance_reducible] noncomputable def loopInv (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16) (q : Bf (F := F) c arg3) (kk : Bf (F := F) c arg4) (v : Bf (F := F) c arg5) (g12 : Bf (F := F) c arg12) (g13 : Bf (F := F) c arg13) :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg2 v6 0#32 (constant S256x128 .f32 0#32) where
  inv := fun k _ => iprop(po c arg3 q ∗ po c arg4 kk ∗ po c arg5 v ∗ (∃ f, pt c arg7 f) ∗ (∃ f, pt c arg8 f) ∗ (∃ f, pt c arg9 f) ∗ (∃ f, pt c arg10 f) ∗ (∃ f, pt c arg11 f)
             ∗ tail c i arg3 harg3 arg4 harg4 arg5 harg5 arg6 harg6 arg7 harg7 arg8 harg8 arg9 harg9 arg10 harg10 arg11 harg11 arg12 harg12 arg13 harg13 arg2 v6 q kk v g12 g13 k)
  step := fun k acc => by
    rw [tail_eq, tail_eq, st_succ]
    iintro ⟨H3, H4, H5, ⟨%f7, H7⟩, ⟨%f8, H8⟩, ⟨%f9, H9⟩, ⟨%f10, H10⟩, ⟨%f11, H11⟩, H12, H13⟩
    iapply ((trip c i arg3 harg3 arg4 harg4 arg5 harg5 arg6 harg6 arg7 harg7 arg8 harg8 arg9 harg9 arg10 harg10 arg11 harg11 arg12 harg12 arg13 harg13 arg2 v6 k q kk v (st c i arg3 harg3 arg4 harg4 arg5 harg5 arg6 harg6 arg7 harg7 arg8 harg8 arg9 harg9 arg10 harg10 arg11 harg11 arg12 harg12 arg13 harg13 arg2 v6 q kk v g12 g13 k.val).1 (st c i arg3 harg3 arg4 harg4 arg5 harg5 arg6 harg6 arg7 harg7 arg8 harg8 arg9 harg9 arg10 harg10 arg11 harg11 arg12 harg12 arg13 harg13 arg2 v6 q kk v g12 g13 k.val).2).2 f7 f8 f9 f10 f11)
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    iexact H13

/-- What the loop leaves: the carry and the accumulator at `st` of its trip count. -/
noncomputable instance loopExit (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32) (v6 : FVec F S512x256 .bf16) (q : Bf (F := F) c arg3) (kk : Bf (F := F) c arg4) (v : Bf (F := F) c arg5) (g12 : Bf (F := F) c arg12) (g13 : Bf (F := F) c arg13) : LoopExit (loopInv c i arg3 harg3 arg4 harg4 arg5 harg5 arg6 harg6 arg7 harg7 arg8 harg8 arg9 harg9 arg10 harg10 arg11 harg11 arg12 harg12 arg13 harg13 arg2 v6 q kk v g12 g13) where
  post _ := iprop(po c arg3 q ∗ po c arg4 kk ∗ po c arg5 v ∗ (∃ f, pt c arg7 f) ∗ (∃ f, pt c arg8 f) ∗ (∃ f, pt c arg9 f) ∗ (∃ f, pt c arg10 f) ∗ (∃ f, pt c arg11 f)
             ∗ pt c arg12 (st c i arg3 harg3 arg4 harg4 arg5 harg5 arg6 harg6 arg7 harg7 arg8 harg8 arg9 harg9 arg10 harg10 arg11 harg11 arg12 harg12 arg13 harg13 arg2 v6 q kk v g12 g13 (k0_t1_loop i).trips).1 ∗ pt c arg13 (st c i arg3 harg3 arg4 harg4 arg5 harg5 arg6 harg6 arg7 harg7 arg8 harg8 arg9 harg9 arg10 harg10 arg11 harg11 arg12 harg12 arg13 harg13 arg2 v6 q kk v g12 g13 (k0_t1_loop i).trips).2)
  exit _ := by
    change iprop(po c arg3 q ∗ po c arg4 kk ∗ po c arg5 v ∗ (∃ f, pt c arg7 f) ∗ (∃ f, pt c arg8 f) ∗ (∃ f, pt c arg9 f) ∗ (∃ f, pt c arg10 f) ∗ (∃ f, pt c arg11 f) ∗ (tail c i arg3 harg3 arg4 harg4 arg5 harg5 arg6 harg6 arg7 harg7 arg8 harg8 arg9 harg9 arg10 harg10 arg11 harg11 arg12 harg12 arg13 harg13 arg2 v6 q kk v g12 g13 (k0_t1_loop i).trips)) ⊢ _
    rw [tail_eq]

set_option maxHeartbeats 0 in
/-- What the body leaves in the result's block, with the run that leaves it: from the three operands' blocks, the result's buffer and the seven scratch buffers at anything. -/
noncomputable def kernelRun (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole)
    (x3 : Vec F S256x512 .bf16) (x4 : Vec F S4096x512 .bf16) (x5 : Vec F S4096x512 .bf16) :
    { Y : Vec F S256x512 .bf16 //
      ∀ (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d)
            ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f)
            ∗ (iprop(owns (c : Thread nD τ) arg3 fullShare x3 ∗ owns (c : Thread nD τ) arg4 fullShare x4 ∗ owns (c : Thread nD τ) arg5 fullShare x5 ∗ owns (c : Thread nD τ) arg6 fullShare Y
                ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f)) -∗ K ⟨⟩))
          ⊢ wp frame (wpE (defs₀ (F := F)) 𝒱₀ c none) Set.univ (cc0_sb_prompt i arg3 harg3 arg4 harg4 arg5 harg5 arg6 harg6 arg7 harg7 arg8 harg8 arg9 harg9 arg10 harg10 arg11 harg11 arg12 harg12 arg13 harg13) K } := by
  refine ⟨?_, fun K => ?run⟩
  case run =>
    unfold owns
    iintro ⟨⟨%f3, %hf3, H3⟩, ⟨%f4, %hf4, H4⟩, ⟨%f5, %hf5, H5⟩, ⟨%d6, %f6, -, H6⟩, ⟨%f7, H7⟩, ⟨%f8, H8⟩, ⟨%f9, H9⟩, ⟨%f10, H10⟩, ⟨%f11, H11⟩, ⟨%f12, H12⟩, ⟨%f13, H13⟩, Hk⟩
    obtain rfl := harg3.eq_unread hf3; obtain rfl := harg4.eq_unread hf4; obtain rfl := harg5.eq_unread hf5
    sl_unfold [cc0_sb_prompt]
    sl_exec_parts!
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; rfl
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Proof.S
-- ==== Proof.S.Run.lean ====
/-
  The run of the kernel over its grid: the pipeline's proof data (each operand's staging buffer at its block, the result's
  at what the body's run finds), the body's obligation, and the run of the whole program.
-/
module

public import proofs.«01_k».proof.Proof.S.Body
public import proofs.«01_k».proof.Proof.Gen.KernelIdeal.Points

@[expose] public section

set_option maxRecDepth 65536

noncomputable section

namespace Cert.Proof.S

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at the staging buffers of a grid point, from any contents of the three operands' blocks. -/
abbrev runAt (c : Dev nD) (t : Fin cfg0.N) (x3 : Vec F S256x512 .bf16) (x4 x5 : Vec F S4096x512 .bf16) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) x3 x4 x5

/-- The block the body leaves in the result's staging buffer at a grid point. -/
def outsAt (c : Dev nD) (t : Fin cfg0.N) : Vec F S256x512 .bf16 :=
  (runAt c t (iblk m c 0 t) (X0_1 m c t) (X0_2 m c t)).1

/-- The arrays as the region finds them; after the body each operand's buffer at its block and the result's at `outsAt`;
    the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d

/-- At each grid point the body takes the operands' blocks to the result's block. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold Pipeline.ΦA
  rw [scopedRest0_eq]
  unfold outsAt
  iintro ⟨⟨⟨S0, S1, S2, S3, S4, S5, S6⟩, Hr⟩, Ho, ⟨%d0, H0⟩, ⟨%d1, H1⟩, ⟨%d2, H2⟩, ⟨%d3, H3⟩⟩
  iapply ((runAt c t (iblk m c 0 t) (X0_1 m c t) (X0_2 m c t)).2 _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, S0, S1, S2, S3, S4, S5, S6⟩
  isplitl [S0 S1 S2 S3 S4 S5 S6 Hr]
  · isplitr [Hr]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  iexact H3

set_option backward.isDefEq.respectTransparency.types false in
/-- From any memory with zero counters the program runs to its end, with every array of the pipeline at what the proof
    data gives and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.S
-- ==== Proof.S.Frames.lean ====
/-
  The frames of the two programs, and that the idealized program names the mask.
-/
module

public import proofs.«01_k».proof.Defs
public import proofs.«01_k».proof.Proof.Gen.Kernel
public import proofs.«01_k».proof.Proof.Gen.KernelIdeal
public import proofs.«01_k».proof.Proof.S.Run
public import proofs.«01_k».proof.Proof.W.Run

@[expose] public section

set_option maxRecDepth 65536

noncomputable section

namespace Cert.Proof.S

open Idealize.ShloMosaic Idealize.SL.Sem

theorem frame_kernel : Cert.quiescent_Kernel := fun m ρ _ => Cert.Proof.W.frame m ρ

theorem frame_ideal : Cert.quiescent_KernelIdeal := fun m ρ _ => frame m ρ

theorem preserves : Cert.preserves_Kernel_KernelIdeal :=
  IdealRules.named_const.statement Cert.KernelIdeal.κ "mask" .f32 0xCE6E6B28#32 ⊥ rfl

end Cert.Proof.S
-- ==== Proof.S.Chunk.lean ====
/-
  What one key block is computed by, piece by piece: the rectangles the body stores (a head's block of all 256 rows, or a
  chunk of 32 of its rows), the vector each store holds, and the lists of stores as the body makes them, last first.
  Both the diagonal block and the blocks before it are instances: they differ in where the scores come from, in the mask,
  and in what the carry and the accumulator hold before.
-/
module

public import proofs.«01_k».proof.Proof.S.Body

@[expose] public section

set_option maxRecDepth 65536

noncomputable section

namespace Cert.Proof.S

open Cert.KernelIdeal Cert.KernelIdeal.Gen
open Idealize.ShloMosaic Idealize.ShloMosaic.TcCoe

variable {F : FTy → Type} [FloatOps F] [Named F]

/-! ## The rectangles -/

/-- Chunk `j` (32 rows) of head `h` of a scratch of 256 columns. -/
def rc (h : Fin 4) (j : Fin 8) : Rect S4x256x256 :=
  Rect.unit ![h.val, 32 * j.val, 0] S1x32x256.size (by intro a; fin_cases a <;> simp <;> omega)
/-- Chunk `j` of head `h` of the scratch of 512 columns, its first 256 columns; -/
def ra (h : Fin 4) (j : Fin 8) : Rect S4x256x512 :=
  Rect.unit ![h.val, 32 * j.val, 0] S1x32x256.size (by intro a; fin_cases a <;> simp <;> omega)
/-- its last 256 columns. -/
def rb (h : Fin 4) (j : Fin 8) : Rect S4x256x512 :=
  Rect.unit ![h.val, 32 * j.val, 256] S1x32x256.size (by intro a; fin_cases a <;> simp <;> omega)
/-- Column 0 of chunk `j` of head `h` of the scratch of 512 columns, and column 256. -/
def ra0 (h : Fin 4) (j : Fin 8) : Rect S4x256x512 :=
  Rect.unit ![h.val, 32 * j.val, 0] S1x32x1.size (by intro a; fin_cases a <;> simp <;> omega)
def rb0 (h : Fin 4) (j : Fin 8) : Rect S4x256x512 :=
  Rect.unit ![h.val, 32 * j.val, 256] S1x32x1.size (by intro a; fin_cases a <;> simp <;> omega)
/-- Chunk `j` of head `h` of the carry. -/
def r1 (h : Fin 4) (j : Fin 8) : Rect S4x256x1 :=
  Rect.unit ![h.val, 32 * j.val, 0] S1x32x1.size (by intro a; fin_cases a <;> simp <;> omega)
/-- Head `h` of a scratch of 256 columns, of 512 columns, of the accumulator. -/
def rh (h : Fin 4) : Rect S4x256x256 :=
  Rect.unit ![h.val, 0, 0] S1x256x256.size (by intro a; fin_cases a <;> simp <;> omega)
def rh9 (h : Fin 4) : Rect S4x256x512 :=
  Rect.unit ![h.val, 0, 0] S1x256x512.size (by intro a; fin_cases a <;> simp <;> omega)
def rh13 (h : Fin 4) : Rect S4x256x128 :=
  Rect.unit ![h.val, 0, 0] S1x256x128.size (by intro a; fin_cases a <;> simp <;> omega)
/-- The 128 columns of head `h` in the queries' block. -/
def rq (h : Fin 4) : Rect S256x512 :=
  Rect.unit ![0, 128 * h.val] S256x128.size (by intro a; fin_cases a <;> simp <;> omega)

/-- The heads, and the chunks of the heads, last stored first. -/
def heads : List (Fin 4) := [3, 2, 1, 0]
def order : List (Fin 4 × Fin 8) := heads.flatMap fun h => ([7, 6, 5, 4, 3, 2, 1, 0] : List (Fin 8)).map fun j => (h, j)

theorem mem_heads (h : Fin 4) : h ∈ heads := by revert h; decide
theorem mem_order (h : Fin 4) (j : Fin 8) : (h, j) ∈ order := by revert h j; decide

/-! ## The vectors stored -/

/-- The products of the queries of one head with the keys of a block. -/
def qkPay (q k : Vec F S256x128 .bf16) : Vec F S1x256x256 .f32 :=
  shapeCast S1x256x256 (matmul dot_S256x128_S256x128_S256x256_1_1_0_0_n_n none q k (constant S256x256 .f32 0x00000000#32)) shapeCasts_S256x256_S1x256x256

/-- A chunk of scores: the products times the scale; -/
def scl (x : Vec F S1x32x256 .f32) : FVec F S32x256 .f32 :=
  mulf (shapeCast S32x256 x shapeCasts_S1x32x256_S32x256) (broadcast S32x256 (Scalar.ofBits .f32 0x3DB504F3#32))

/-- on the diagonal block the mask's value at the columns from the row on. -/
def msk (j : Fin 8) (x : Vec F S1x32x256 .f32) : FVec F S32x256 .f32 :=
  select (cmpi .slt (iota .tc S32x256 32 [1] iota_S32x256_d1_w32) (addi (iota .tc S32x256 32 [0] iota_S32x256_d0_w32) (broadcast S32x256 (BitVec.ofNat 32 (32 * j.val)))))
    (scl x) (broadcast S32x256 (Named.named κ "mask" 0xCE6E6B28#32))

/-- Softplus of a chunk of scores. -/
def spl (z : FVec F S32x256 .f32) : FVec F S32x256 .f32 :=
  addf (maximumf z (broadcast S32x256 (Scalar.ofBits .f32 0x00000000#32)))
    (log (addf (broadcast S32x256 (Scalar.ofBits .f32 0x3F800000#32)) (exp (subf (broadcast S32x256 (Scalar.ofBits .f32 0x00000000#32)) (absf z)))))

/-- The logarithm of the sigmoid, softplus rounded, and what the rounding leaves. -/
def lsPay (z : FVec F S32x256 .f32) : Vec F S1x32x256 .f32 := shapeCast S1x32x256 (subf z (spl z)) shapeCasts_S32x256_S1x32x256
def hiPay (z : FVec F S32x256 .f32) : Vec F S1x32x256 .bf16 := shapeCast S1x32x256 (truncf .bf16 (spl z) bitsLt_bf16_f32) shapeCasts_S32x256_S1x32x256
def loPay (z : FVec F S32x256 .f32) : Vec F S1x32x256 .bf16 :=
  shapeCast S1x32x256 (truncf .bf16 (subf (spl z) (extf .f32 (truncf .bf16 (spl z) bitsLt_bf16_f32) bitsLt_bf16_f32)) bitsLt_bf16_f32) shapeCasts_S32x256_S1x32x256

/-- One head's sums over the later columns of the block. -/
def latPay (x : Vec F S1x256x512 .bf16) (u : FVec F S512x256 .bf16) : Vec F S1x256x256 .f32 :=
  shapeCast S1x256x256 (matmul dot_S256x512_S512x256_S256x256_1_0_0_1_n_n none (shapeCast S256x512 x shapeCasts_S1x256x512_S256x512) u (constant S256x256 .f32 0x00000000#32)) shapeCasts_S256x256_S1x256x256

/-- A chunk of weights. -/
def wPay (ls : Vec F S1x32x256 .f32) (cr : Vec F S1x32x1 .f32) (lat : Vec F S1x32x256 .f32) : Vec F S1x32x256 .bf16 :=
  shapeCast S1x32x256 (truncf .bf16 (exp (subf (shapeCast S32x256 ls shapeCasts_S1x32x256_S32x256)
    (addf (broadcastTo S32x256 (shapeCast S32x1 cr shapeCasts_S1x32x1_S32x1) broadcasts_S32x1_S32x256) (shapeCast S32x256 lat shapeCasts_S1x32x256_S32x256)))) bitsLt_bf16_f32)
    shapeCasts_S32x256_S1x32x256

/-- A chunk of the carry to the next block. -/
def crPay (cr : Vec F S1x32x1 .f32) (lat : Vec F S1x32x256 .f32) (a b : Vec F S1x32x1 .bf16) : Vec F S1x32x1 .f32 :=
  shapeCast S1x32x1 (addf (addf (shapeCast S32x1 cr shapeCasts_S1x32x1_S32x1) (extractStridedSlice S32x1 ![0, 0] (shapeCast S32x256 lat shapeCasts_S1x32x256_S32x256) slices_S32x256_o0_0_S32x1))
    (addf (extf .f32 (shapeCast S32x1 a shapeCasts_S1x32x1_S32x1) bitsLt_bf16_f32) (extf .f32 (shapeCast S32x1 b shapeCasts_S1x32x1_S32x1) bitsLt_bf16_f32))) shapeCasts_S32x1_S1x32x1

/-- One head of the accumulator with the block's weighted values added. -/
def acPay (a : Vec F S1x256x128 .f32) (w : Vec F S1x256x256 .bf16) (v : Vec F S256x128 .bf16) : Vec F S1x256x128 .f32 :=
  shapeCast S1x256x128 (addf (shapeCast S256x128 a shapeCasts_S1x256x128_S256x128)
    (matmul dot_S256x256_S256x128_S256x128_1_0_0_1_n_n none (shapeCast S256x256 w shapeCasts_S1x256x256_S256x256) v (constant S256x128 .f32 0x00000000#32))) shapeCasts_S256x128_S1x256x128

/-! ## The lists of stores -/

def qkL (q k : Fin 4 → Vec F S256x128 .bf16) : List (View.Piece (Elt F) S4x256x256 .f32) := heads.map fun h => ⟨rh h, qkPay (q h) (k h)⟩
def lsL (z : Fin 4 → Fin 8 → FVec F S32x256 .f32) : List (View.Piece (Elt F) S4x256x256 .f32) := order.map fun p => ⟨rc p.1 p.2, lsPay (z p.1 p.2)⟩
def hlL (z : Fin 4 → Fin 8 → FVec F S32x256 .f32) : List (View.Piece (Elt F) S4x256x512 .bf16) :=
  order.flatMap fun p => [⟨rb p.1 p.2, loPay (z p.1 p.2)⟩, ⟨ra p.1 p.2, hiPay (z p.1 p.2)⟩]
def latL (x : Fin 4 → Vec F S1x256x512 .bf16) (u : FVec F S512x256 .bf16) : List (View.Piece (Elt F) S4x256x256 .f32) := heads.map fun h => ⟨rh h, latPay (x h) u⟩
def wL (ls lat : Fin 4 → Fin 8 → Vec F S1x32x256 .f32) (cr : Fin 4 → Fin 8 → Vec F S1x32x1 .f32) : List (View.Piece (Elt F) S4x256x256 .bf16) :=
  order.map fun p => ⟨rc p.1 p.2, wPay (ls p.1 p.2) (cr p.1 p.2) (lat p.1 p.2)⟩
def crL (lat : Fin 4 → Fin 8 → Vec F S1x32x256 .f32) (a b : Fin 4 → Fin 8 → Vec F S1x32x1 .bf16) (cr : Fin 4 → Fin 8 → Vec F S1x32x1 .f32) :
    List (View.Piece (Elt F) S4x256x1 .f32) :=
  order.map fun p => ⟨r1 p.1 p.2, crPay (cr p.1 p.2) (lat p.1 p.2) (a p.1 p.2) (b p.1 p.2)⟩
def acL (ac : Fin 4 → Vec F S1x256x128 .f32) (w : Fin 4 → Vec F S1x256x256 .bf16) (v : Fin 4 → Vec F S256x128 .bf16) : List (View.Piece (Elt F) S4x256x128 .f32) :=
  heads.map fun h => ⟨rh13 h, acPay (ac h) (w h) (v h)⟩

end Cert.Proof.S
-- ==== Proof.S.Block.lean ====
/-
  What one key block computes over the extended reals, from its scores: the scratch buffers, the carry and the accumulator
  after the stores of `Chunk`, element by element.
-/
module

public import proofs.«01_k».proof.Proof.S.Chunk
public import Idealize.ShloMosaic.Lib.Pointwise

@[expose] public section

set_option maxRecDepth 65536

noncomputable section

namespace Cert.Proof.S

open Cert.KernelIdeal Cert.KernelIdeal.Gen
open Idealize.ShloMosaic Idealize.ShloMosaic.TcCoe

/-! ## Places -/

/-- Row `x` of chunk `j`. -/
def row (j : Fin 8) (x : Fin 32) : Fin 256 := ⟨32 * j.val + x.val, by omega⟩

theorem exists_row (r : Fin 256) : ∃ j x, r = row j x :=
  ⟨⟨r.val / 32, by omega⟩, ⟨r.val % 32, by omega⟩, Fin.ext (by simp only [row]; omega)⟩

/-- Columns of the scratch of 512: the first 256, and the last. -/
def fstC (s : Fin 256) : Fin 512 := ⟨s.val, by omega⟩
def sndC (s : Fin 256) : Fin 512 := ⟨256 + s.val, by omega⟩

theorem emb_rc (h : Fin 4) (j : Fin 8) (x0 : Fin 1) (x1 : Fin 32) (x2 : Fin 256) :
    (rc h j).idx (ix3 x0 x1 x2) = ix3 h (row j x1) x2 := by
  funext a; apply Fin.ext; fin_cases a <;> simp [rc, row, ix3]
theorem emb_ra (h : Fin 4) (j : Fin 8) (x0 : Fin 1) (x1 : Fin 32) (x2 : Fin 256) :
    (ra h j).idx (ix3 x0 x1 x2) = ix3 h (row j x1) (fstC x2) := by
  funext a; apply Fin.ext; fin_cases a <;> simp [ra, row, ix3, fstC]
theorem emb_rb (h : Fin 4) (j : Fin 8) (x0 : Fin 1) (x1 : Fin 32) (x2 : Fin 256) :
    (rb h j).idx (ix3 x0 x1 x2) = ix3 h (row j x1) (sndC x2) := by
  funext a; apply Fin.ext; fin_cases a <;> simp [rb, row, ix3, sndC]
theorem emb_ra0 (h : Fin 4) (j : Fin 8) (x0 : Fin 1) (x1 : Fin 32) (x2 : Fin 1) :
    (ra0 h j).idx (ix3 x0 x1 x2) = ix3 h (row j x1) (fstC 0) := by
  funext a; apply Fin.ext; fin_cases a <;> simp [ra0, row, ix3, fstC]
theorem emb_rb0 (h : Fin 4) (j : Fin 8) (x0 : Fin 1) (x1 : Fin 32) (x2 : Fin 1) :
    (rb0 h j).idx (ix3 x0 x1 x2) = ix3 h (row j x1) (sndC 0) := by
  funext a; apply Fin.ext; fin_cases a <;> simp [rb0, row, ix3, sndC]
theorem emb_r1 (h : Fin 4) (j : Fin 8) (x0 : Fin 1) (x1 : Fin 32) (x2 : Fin 1) :
    (r1 h j).idx (ix3 x0 x1 x2) = ix3 h (row j x1) 0 := by
  funext a; apply Fin.ext; fin_cases a <;> simp [r1, row, ix3]
theorem emb_rh (h : Fin 4) (x0 : Fin 1) (x1 x2 : Fin 256) : (rh h).idx (ix3 x0 x1 x2) = ix3 h x1 x2 := by
  funext a; apply Fin.ext; fin_cases a <;> simp [rh, ix3]
theorem emb_rh9 (h : Fin 4) (x0 : Fin 1) (x1 : Fin 256) (x2 : Fin 512) : (rh9 h).idx (ix3 x0 x1 x2) = ix3 h x1 x2 := by
  funext a; apply Fin.ext; fin_cases a <;> simp [rh9, ix3]
theorem emb_rh13 (h : Fin 4) (x0 : Fin 1) (x1 : Fin 256) (x2 : Fin 128) : (rh13 h).idx (ix3 x0 x1 x2) = ix3 h x1 x2 := by
  funext a; apply Fin.ext; fin_cases a <;> simp [rh13, ix3]
theorem emb_rq (h : Fin 4) (x1 : Fin 256) (x2 : Fin 128) : (rq h).idx (ix2 x1 x2) = ix2 x1 ⟨128 * h.val + x2.val, by omega⟩ := by
  funext a; apply Fin.ext; fin_cases a <;> simp [rq, ix2]

/-! ## Stores that are all blocks of one function -/

theorem canon_map {ι : Type} {s : Shape} {e : EltTy} (l : List ι) (R : ι → Rect s) (w : (p : ι) → (R p).shape.Idx → Elt Ideal e)
    (G : s.Idx → Elt Ideal e) (hw : ∀ p ∈ l, ∀ x, w p x = G ((R p).idx x)) (y : s.Idx) (p : ι) (hp : p ∈ l) (x : (R p).shape.Idx) (hy : y = (R p).idx x) :
    View.canon (Val := Elt Ideal) (l.map fun p => (⟨R p, w p⟩ : View.Piece (Elt Ideal) s e)) y = G y := by
  refine View.canon_apply_of_pieces G _ ?_ y ⟨⟨R p, w p⟩, List.mem_map.mpr ⟨p, hp, rfl⟩, ?_⟩
  · intro P hP x
    obtain ⟨p, hp, rfl⟩ := List.mem_map.mp hP
    exact hw p hp x
  · subst hy; exact (R p).idx_mem x

/-! ## The elements -/

theorem coe_sum {ι : Type} (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- Softplus, as the body computes it. -/
def spI (x : EReal) : EReal := max x 0 + Ideal.log (1 + Ideal.exp (0 - FloatOps.absf (F := Ideal) (φ := .f32) x))

/-- The sum over the later columns of the block. -/
def latR (S : Fin 4 → Fin 256 → Fin 256 → ℝ) (h : Fin 4) (r s : Fin 256) : ℝ := ∑ t : Fin 256, if s < t then S h r t else 0

/-- What the scratch of 512 columns holds: softplus, and past column 256 nothing. -/
def hlG (S : Fin 4 → Fin 256 → Fin 256 → ℝ) (y : S4x256x512.Idx) : EReal :=
  if hy : (y 2).val < 256 then (S (y 0) (y 1) ⟨(y 2).val, hy⟩ : EReal) else 0

theorem hlG_fst (S : Fin 4 → Fin 256 → Fin 256 → ℝ) (h : Fin 4) (r s : Fin 256) : hlG S (ix3 h r (fstC s)) = (S h r s : EReal) := dif_pos s.isLt
theorem hlG_snd (S : Fin 4 → Fin 256 → Fin 256 → ℝ) (h : Fin 4) (r s : Fin 256) : hlG S (ix3 h r (sndC s)) = 0 := dif_neg (by simp [ix3, sndC])

/-- A weight. -/
def wI (z : Fin 4 → Fin 256 → Fin 256 → EReal) (S : Fin 4 → Fin 256 → Fin 256 → ℝ) (C : Fin 4 → Fin 256 → ℝ) (h : Fin 4) (r s : Fin 256) : EReal :=
  Ideal.exp (z h r s - (S h r s : EReal) - ((C h r + latR S h r s : ℝ) : EReal))

section
variable (z : Fin 4 → Fin 256 → Fin 256 → EReal) (S : Fin 4 → Fin 256 → Fin 256 → ℝ) (C : Fin 4 → Fin 256 → ℝ)
  (hS : ∀ h r s, spI (z h r s) = (S h r s : EReal))

theorem canon_qkL (q k : Fin 4 → Vec Ideal S256x128 .bf16) (h : Fin 4) (r s : Fin 256) :
    View.canon (Val := Elt Ideal) (qkL q k) (ix3 h r s) = (∑ d : Fin 128, (q h (ix2 r d) : EReal) * (k h (ix2 s d) : EReal) : EReal) := by
  refine canon_map (e := .f32) heads rh _ (fun y => (∑ d : Fin 128, (q (y 0) (ix2 (y 1) d) : EReal) * (k (y 0) (ix2 (y 2) d) : EReal) : EReal)) ?_ _ h (mem_heads h) (ix3 0 r s) (emb_rh h 0 r s).symm
  intro h _ x
  change S1x256x256.Idx at x
  idx_vars x
  rw [emb_rh]
  pointwise [qkPay]

variable (zf : Fin 4 → Fin 8 → FVec Ideal S32x256 .f32) (hz : ∀ h j a b, zf h j (ix2 a b) = z h (row j a) b)
include hz hS

theorem canon_lsL (h : Fin 4) (r s : Fin 256) : View.canon (Val := Elt Ideal) (lsL zf) (ix3 h r s) = z h r s - (S h r s : EReal) := by
  obtain ⟨j, x, rfl⟩ := exists_row r
  refine canon_map (e := .f32) order (fun p => rc p.1 p.2) _ (fun y => z (y 0) (y 1) (y 2) - (S (y 0) (y 1) (y 2) : EReal)) ?_ _ (h, j) (mem_order h j) (ix3 0 x s) (emb_rc h j 0 x s).symm
  rintro ⟨h, j⟩ _ x
  change S1x32x256.Idx at x
  idx_vars x
  rw [emb_rc]
  pointwise [lsPay, spl]
  rw [hz, ← hS]; rfl

theorem canon_hlL (h : Fin 4) (r s : Fin 256) :
    View.canon (Val := Elt Ideal) (hlL zf) (ix3 h r (fstC s)) = (S h r s : EReal) ∧ View.canon (Val := Elt Ideal) (hlL zf) (ix3 h r (sndC s)) = 0 := by
  obtain ⟨j, x, rfl⟩ := exists_row r
  have key := View.canon_apply_of_pieces (Val := Elt Ideal) (S := S4x256x512) (e := .bf16)
    (hlG S) (hlL zf) (by
      intro P hP x
      obtain ⟨⟨h, j⟩, -, hP⟩ := List.mem_flatMap.mp hP
      simp only [List.mem_cons, List.not_mem_nil, or_false] at hP
      rcases hP with rfl | rfl
      · change S1x32x256.Idx at x
        idx_vars x
        refine Eq.trans ?_ ((congrArg (hlG S) (emb_rb h j x0 x1 x2)).trans (hlG_snd S h (row j x1) x2)).symm
        pointwise [loPay, spl]
        rw [hz]
        change spI _ - spI _ = _
        rw [hS, ← EReal.coe_sub, sub_self, EReal.coe_zero]
      · change S1x32x256.Idx at x
        idx_vars x
        refine Eq.trans ?_ ((congrArg (hlG S) (emb_ra h j x0 x1 x2)).trans (hlG_fst S h (row j x1) x2)).symm
        pointwise [hiPay, spl]
        rw [hz]
        exact hS _ _ _)
  constructor
  · rw [key _ ⟨⟨ra h j, hiPay (zf h j)⟩, List.mem_flatMap.mpr ⟨(h, j), mem_order h j, by simp⟩, by
      rw [← emb_ra h j 0 x s]; exact (ra h j).idx_mem _⟩]
    exact hlG_fst S h _ s
  · rw [key _ ⟨⟨rb h j, loPay (zf h j)⟩, List.mem_flatMap.mpr ⟨(h, j), mem_order h j, by simp⟩, by
      rw [← emb_rb h j 0 x s]; exact (rb h j).idx_mem _⟩]
    exact hlG_snd S h _ s

end

section
variable (z : Fin 4 → Fin 256 → Fin 256 → EReal) (S : Fin 4 → Fin 256 → Fin 256 → ℝ) (C : Fin 4 → Fin 256 → ℝ)

theorem canon_latL (x : Fin 4 → Vec Ideal S1x256x512 .bf16) (u : FVec Ideal S512x256 .bf16)
    (hx : ∀ h r s, x h (ix3 0 r (fstC s)) = (S h r s : EReal) ∧ x h (ix3 0 r (sndC s)) = 0)
    (hu : ∀ t s, u (ix2 (fstC t) s) = if s < t then 1 else 0) (h : Fin 4) (r s : Fin 256) :
    View.canon (Val := Elt Ideal) (latL x u) (ix3 h r s) = (latR S h r s : EReal) := by
  refine canon_map (e := .f32) heads rh _ (fun y => (latR S (y 0) (y 1) (y 2) : EReal)) ?_ _ h (mem_heads h) (ix3 0 r s) (emb_rh h 0 r s).symm
  intro h _ y
  change S1x256x256.Idx at y
  idx_vars y
  rw [emb_rh]
  pointwise [latPay]
  rw [Fin.sum_univ_two_halves 256 256 rfl]
  have h2 : ∀ t : Fin 256, x h (ix3 0 y1 (sndC t)) * u (ix2 (sndC t) y2) = 0 := fun t => by rw [(hx h y1 t).2]; exact zero_mul _
  have h1 : ∀ t : Fin 256, x h (ix3 0 y1 (fstC t)) * u (ix2 (fstC t) y2) = ((if y2 < t then S h y1 t else 0 : ℝ) : EReal) := fun t => by
    rw [(hx h y1 t).1, hu]; split <;> simp
  rw [latR, coe_sum]
  refine Eq.trans (congrArg₂ (· + ·) (Finset.sum_congr rfl fun t _ => h1 t) (Finset.sum_eq_zero fun t _ => h2 t)) ?_
  exact add_zero _

theorem canon_wL (ls lat : Fin 4 → Fin 8 → Vec Ideal S1x32x256 .f32) (cr : Fin 4 → Fin 8 → Vec Ideal S1x32x1 .f32)
    (hls : ∀ h j a s, ls h j (ix3 0 a s) = z h (row j a) s - (S h (row j a) s : EReal))
    (hlat : ∀ h j a s, lat h j (ix3 0 a s) = (latR S h (row j a) s : EReal))
    (hcr : ∀ h j a, cr h j (ix3 0 a 0) = (C h (row j a) : EReal)) (h : Fin 4) (r s : Fin 256) :
    View.canon (Val := Elt Ideal) (wL ls lat cr) (ix3 h r s) = wI z S C h r s := by
  obtain ⟨j, x, rfl⟩ := exists_row r
  refine canon_map (e := .bf16) order (fun p => rc p.1 p.2) _ (fun y => wI z S C (y 0) (y 1) (y 2)) ?_ _ (h, j) (mem_order h j) (ix3 0 x s) (emb_rc h j 0 x s).symm
  rintro ⟨h, j⟩ _ x
  change S1x32x256.Idx at x
  idx_vars x
  rw [emb_rc]
  pointwise [wPay]
  rw [hls, hlat, hcr, wI, ← EReal.coe_add]

/-- One head's sum over a block. -/
theorem crPay_apply (cr : Vec Ideal S1x32x1 .f32) (lat : Vec Ideal S1x32x256 .f32) (a b : Vec Ideal S1x32x1 .bf16) (h : Fin 4) (j : Fin 8) (x : Fin 32)
    (hlat : ∀ s, lat (ix3 0 x s) = (latR S h (row j x) s : EReal))
    (ha : a (ix3 0 x 0) = (S h (row j x) 0 : EReal)) (hb : b (ix3 0 x 0) = 0)
    (hcr : cr (ix3 0 x 0) = (C h (row j x) : EReal)) :
    crPay cr lat a b (ix3 0 x 0) = ((C h (row j x) + ∑ s, S h (row j x) s : ℝ) : EReal) := by
  pointwise [crPay]
  rw [hlat, ha, hb, hcr, add_zero, ← EReal.coe_add, ← EReal.coe_add, add_assoc]
  congr 2
  rw [latR, Fin.sum_univ_succ (n := 255), Fin.sum_univ_succ (n := 255)]
  have h0 : ¬ ((0 : Fin 256) < 0) := lt_irrefl _
  have h1 : ∀ t : Fin 255, ((0 : Fin 256) < t.succ) := fun t => Fin.succ_pos t
  rw [if_neg h0, zero_add, add_comm]
  congr 1

end

end Cert.Proof.S
-- ==== Proof.S.TripShape.lean ====
/-
  The stores of one trip of the loop over the earlier key blocks, as the lists of `Chunk`.
-/
module

public import proofs.«01_k».proof.Proof.S.Chunk

@[expose] public section

set_option maxRecDepth 65536

noncomputable section

namespace Cert.Proof.S.T

open Cert.KernelIdeal Cert.KernelIdeal.Gen
open Idealize.ShloMosaic Idealize.ShloMosaic.TcCoe

variable {F : FTy → Type} [FloatOps F] [Named F]

variable (c : Dev nD) (i : grid0.Coords) (arg3 : Memref sig .tc .vmem S256x512 .bf16) (arg4 : Memref sig .tc .vmem S4096x512 .bf16) (arg5 : Memref sig .tc .vmem S4096x512 .bf16) (arg7 : Memref sig .tc .vmem S4x256x256 .f32) (arg8 : Memref sig .tc .vmem S4x256x256 .f32) (arg9 : Memref sig .tc .vmem S4x256x512 .bf16) (arg10 : Memref sig .tc .vmem S4x256x256 .f32) (arg11 : Memref sig .tc .vmem S4x256x256 .bf16) (arg12 : Memref sig .tc .vmem S4x256x1 .f32) (arg13 : Memref sig .tc .vmem S4x256x128 .f32)
  (v6 : FVec F S512x256 .bf16) (k : Fin (k0_t1_loop i).trips) (q : Bf (F := F) c arg3) (kk : Bf (F := F) c arg4) (v : Bf (F := F) c arg5) (g12 : Bf (F := F) c arg12) (g13 : Bf (F := F) c arg13)

/-- What the trip loads of the keys and of the values of head `h`. -/
def ldK (h : Fin 4) : Vec F S256x128 .bf16 :=
  match h with
  | 0 => View.readAt (Elt F) arg4.view (Rect.unit (s := S4096x512) (k0_off5 i k) S256x128.size (k0_off5_inb i k)).toLoadRect kk
  | 1 => View.readAt (Elt F) arg4.view (Rect.unit (s := S4096x512) (k0_off6 i k) S256x128.size (k0_off6_inb i k)).toLoadRect kk
  | 2 => View.readAt (Elt F) arg4.view (Rect.unit (s := S4096x512) (k0_off7 i k) S256x128.size (k0_off7_inb i k)).toLoadRect kk
  | 3 => View.readAt (Elt F) arg4.view (Rect.unit (s := S4096x512) (k0_off8 i k) S256x128.size (k0_off8_inb i k)).toLoadRect kk

theorem trips_eq : ∀ i : grid0.Coords, (k0_t1_loop i).trips = (i 2).val := by decide +kernel

theorem off5_eq : ∀ (i : grid0.Coords) (k : Fin (k0_t1_loop i).trips), k0_off5 i k = ![256 * ((i 2).val - 1 - k.val), 0] := by decide +kernel
theorem off6_eq : ∀ (i : grid0.Coords) (k : Fin (k0_t1_loop i).trips), k0_off6 i k = ![256 * ((i 2).val - 1 - k.val), 128] := by decide +kernel
theorem off7_eq : ∀ (i : grid0.Coords) (k : Fin (k0_t1_loop i).trips), k0_off7 i k = ![256 * ((i 2).val - 1 - k.val), 256] := by decide +kernel
theorem off8_eq : ∀ (i : grid0.Coords) (k : Fin (k0_t1_loop i).trips), k0_off8 i k = ![256 * ((i 2).val - 1 - k.val), 384] := by decide +kernel

theorem qk_eq : trip.sl.H7_4 c i arg3 arg4 k q kk =
    qkL (fun h => View.readAt (Elt F) arg3.view (rq h).toLoadRect q) (ldK c i arg4 k kk) := rfl

theorem ls_eq : trip.sl.H8_32 c i arg3 arg4 arg7 k q kk =
    lsL (fun h j => scl (arg7.view.readCov (trip.sl.H7_4 c i arg3 arg4 k q kk) (rc h j).toLoadRect)) := rfl

theorem hl_eq : trip.sl.H9_64 c i arg3 arg4 arg7 k q kk =
    hlL (fun h j => scl (arg7.view.readCov (trip.sl.H7_4 c i arg3 arg4 k q kk) (rc h j).toLoadRect)) := rfl

theorem lat_eq : trip.sl.H10_4 c i arg3 arg4 arg7 arg9 v6 k q kk =
    latL (fun h => arg9.view.readCov (trip.sl.H9_64 c i arg3 arg4 arg7 k q kk) (rh9 h).toLoadRect) v6 := rfl

theorem w_eq : trip.sl.H11_32 c i arg3 arg4 arg7 arg8 arg9 arg10 arg12 v6 k q kk g12 =
    wL (fun h j => arg8.view.readCov (trip.sl.H8_32 c i arg3 arg4 arg7 k q kk) (rc h j).toLoadRect)
      (fun h j => arg10.view.readCov (trip.sl.H10_4 c i arg3 arg4 arg7 arg9 v6 k q kk) (rc h j).toLoadRect)
      (fun h j => View.readAt (Elt F) arg12.view (r1 h j).toLoadRect g12) := rfl

theorem cr_eq : trip.sl.H12_32 c i arg3 arg4 arg7 arg9 arg10 arg12 v6 k q kk g12 =
    crL (fun h j => arg10.view.readCov (trip.sl.H10_4 c i arg3 arg4 arg7 arg9 v6 k q kk) (rc h j).toLoadRect)
      (fun h j => arg9.view.readCov (trip.sl.H9_64 c i arg3 arg4 arg7 k q kk) (ra0 h j).toLoadRect)
      (fun h j => arg9.view.readCov (trip.sl.H9_64 c i arg3 arg4 arg7 k q kk) (rb0 h j).toLoadRect)
      (fun h j => View.readAt (Elt F) arg12.view (r1 h j).toLoadRect g12) := rfl

theorem fst_eq (harg3) (harg4) (harg5) (arg6) (harg6) (harg7) (harg8) (harg9) (harg10) (harg11) (harg12) (harg13) (arg2) :
    (trip c i arg3 harg3 arg4 harg4 arg5 harg5 arg6 harg6 arg7 harg7 arg8 harg8 arg9 harg9 arg10 harg10 arg11 harg11 arg12 harg12 arg13 harg13 arg2 v6 k q kk v g12 g13).1.1 =
      trip.sl.H12_32 c i arg3 arg4 arg7 arg9 arg10 arg12 v6 k q kk g12 := rfl

theorem snd_eq (harg3) (harg4) (harg5) (arg6) (harg6) (harg7) (harg8) (harg9) (harg10) (harg11) (harg12) (harg13) (arg2) :
    (trip c i arg3 harg3 arg4 harg4 arg5 harg5 arg6 harg6 arg7 harg7 arg8 harg8 arg9 harg9 arg10 harg10 arg11 harg11 arg12 harg12 arg13 harg13 arg2 v6 k q kk v g12 g13).1.2 =
      acL (fun h => View.readAt (Elt F) arg13.view (rh13 h).toLoadRect g13)
        (fun h => arg11.view.readCov (trip.sl.H11_32 c i arg3 arg4 arg7 arg8 arg9 arg10 arg12 v6 k q kk g12) (rh h).toLoadRect)
        (ldK c i arg5 k v) := rfl

end Cert.Proof.S.T
-- ==== Proof.S.BlockVals.lean ====
/-
  The stores of one key block chained: from the products of queries and keys to the weights and to what the carry reads,
  for any scratch buffers. Then the last two buffers, the carry and the accumulator, after the stores of a trip.
-/
module

public import proofs.«01_k».proof.Proof.S.Block
public import proofs.«01_k».proof.Proof.S.TripShape
public import Idealize.ShloMosaic.Lib.WholeRead
public import Idealize.ShloMosaic.Lib.WordCmp

@[expose] public section

set_option maxRecDepth 65536

noncomputable section

namespace Cert.Proof.S

open Cert.KernelIdeal Cert.KernelIdeal.Gen
open Idealize.ShloMosaic Idealize.ShloMosaic.TcCoe

theorem readCov_at {s : Shape} {e : EltTy} (m : Memref sig .tc .vmem s e) (L : List (View.Piece (Elt Ideal) s e)) (R : Rect s) (x : R.shape.Idx) (y : s.Idx)
    (h : R.idx x = y) : m.view.readCov L R.toLoadRect x = View.canon (Val := Elt Ideal) L y := by
  rw [View.readCov_eq_canon']; exact congrArg _ h

/-- The block's scratch buffers, each read off the stores into the one before. -/
theorem block_vals (arg8 : Memref sig .tc .vmem S4x256x256 .f32) (arg9 : Memref sig .tc .vmem S4x256x512 .bf16) (arg10 : Memref sig .tc .vmem S4x256x256 .f32)
    (z : Fin 4 → Fin 256 → Fin 256 → EReal) (S : Fin 4 → Fin 256 → Fin 256 → ℝ) (C : Fin 4 → Fin 256 → ℝ)
    (hS : ∀ h r s, spI (z h r s) = (S h r s : EReal))
    (zf : Fin 4 → Fin 8 → FVec Ideal S32x256 .f32) (hz : ∀ h j a b, zf h j (ix2 a b) = z h (row j a) b)
    (u : FVec Ideal S512x256 .bf16) (hu : ∀ t s, u (ix2 (fstC t) s) = if s < t then 1 else 0)
    (cr : Fin 4 → Fin 8 → Vec Ideal S1x32x1 .f32) (hcr : ∀ h j a, cr h j (ix3 0 a 0) = (C h (row j a) : EReal))
    (L8 : List (View.Piece (Elt Ideal) S4x256x256 .f32)) (h8 : L8 = lsL zf)
    (L9 : List (View.Piece (Elt Ideal) S4x256x512 .bf16)) (h9 : L9 = hlL zf)
    (L10 : List (View.Piece (Elt Ideal) S4x256x256 .f32)) (h10 : L10 = latL (fun h => arg9.view.readCov L9 (rh9 h).toLoadRect) u)
    (L11 : List (View.Piece (Elt Ideal) S4x256x256 .bf16))
    (h11 : L11 = wL (fun h j => arg8.view.readCov L8 (rc h j).toLoadRect) (fun h j => arg10.view.readCov L10 (rc h j).toLoadRect) cr) :
    (∀ h j a s, arg10.view.readCov L10 (rc h j).toLoadRect (ix3 0 a s) = (latR S h (row j a) s : EReal))
    ∧ (∀ h j a, arg9.view.readCov L9 (ra0 h j).toLoadRect (ix3 0 a 0) = (S h (row j a) 0 : EReal))
    ∧ (∀ h j a, arg9.view.readCov L9 (rb0 h j).toLoadRect (ix3 0 a 0) = 0)
    ∧ (∀ h r s, View.canon (Val := Elt Ideal) L11 (ix3 h r s) = wI z S C h r s) := by
  have e8 : ∀ h j a s, arg8.view.readCov L8 (rc h j).toLoadRect (ix3 0 a s) = z h (row j a) s - (S h (row j a) s : EReal) := fun h j a s =>
    (readCov_at arg8 L8 (rc h j) (ix3 0 a s) _ (emb_rc h j 0 a s)).trans (by rw [h8]; exact canon_lsL z S hS zf hz h (row j a) s)
  have e9 : ∀ h r s, arg9.view.readCov L9 (rh9 h).toLoadRect (ix3 0 r (fstC s)) = (S h r s : EReal) ∧ arg9.view.readCov L9 (rh9 h).toLoadRect (ix3 0 r (sndC s)) = 0 := fun h r s =>
    ⟨(readCov_at arg9 L9 (rh9 h) (ix3 0 r (fstC s)) _ (emb_rh9 h 0 r (fstC s))).trans (by rw [h9]; exact (canon_hlL z S hS zf hz h r s).1),
     (readCov_at arg9 L9 (rh9 h) (ix3 0 r (sndC s)) _ (emb_rh9 h 0 r (sndC s))).trans (by rw [h9]; exact (canon_hlL z S hS zf hz h r s).2)⟩
  have e10 : ∀ h j a s, arg10.view.readCov L10 (rc h j).toLoadRect (ix3 0 a s) = (latR S h (row j a) s : EReal) := fun h j a s =>
    (readCov_at arg10 L10 (rc h j) (ix3 0 a s) _ (emb_rc h j 0 a s)).trans (by rw [h10]; exact canon_latL S _ u e9 hu h (row j a) s)
  refine ⟨e10, fun h j a => ?_, fun h j a => ?_, fun h r s => ?_⟩
  · exact (readCov_at arg9 L9 (ra0 h j) (ix3 0 a 0) _ (emb_ra0 h j 0 a 0)).trans (by rw [h9]; exact (canon_hlL z S hS zf hz h (row j a) 0).1)
  · exact (readCov_at arg9 L9 (rb0 h j) (ix3 0 a 0) _ (emb_rb0 h j 0 a 0)).trans (by rw [h9]; exact (canon_hlL z S hS zf hz h (row j a) 0).2)
  · rw [h11]; exact canon_wL z S C _ _ cr e8 e10 hcr h r s

/-- A buffer after stores that are all blocks of one function, where they cover. -/
theorem read_writes_map {ι : Type} {s : Shape} {e : EltTy} (m : Memref sig .tc .vmem s e) (f) (l : List ι) (R : ι → Rect s) (w : (p : ι) → (R p).shape.Idx → Elt Ideal e)
    (G : s.Idx → Elt Ideal e) (hw : ∀ p ∈ l, ∀ x, w p x = G ((R p).idx x)) (y : s.Idx) (p : ι) (hp : p ∈ l) (x : (R p).shape.Idx) (hy : y = (R p).idx x) :
    m.view.read (Elt Ideal) (m.view.writes (Elt Ideal) f (l.map fun p => (⟨R p, w p⟩ : View.Piece (Elt Ideal) s e))) y = G y := by
  refine View.read_writes_apply_of_pieces m.view f G _ ?_ y ⟨⟨R p, w p⟩, List.mem_map.mpr ⟨p, hp, rfl⟩, ?_⟩
  · intro P hP x
    obtain ⟨p, hp, rfl⟩ := List.mem_map.mp hP
    exact hw p hp x
  · subst hy; exact (R p).idx_mem x

/-- The carry after a block's stores. -/
theorem carry_vals (arg12 : Memref sig .tc .vmem S4x256x1 .f32) (g) (S : Fin 4 → Fin 256 → Fin 256 → ℝ) (C : Fin 4 → Fin 256 → ℝ)
    (lat : Fin 4 → Fin 8 → Vec Ideal S1x32x256 .f32) (a b : Fin 4 → Fin 8 → Vec Ideal S1x32x1 .bf16) (cr : Fin 4 → Fin 8 → Vec Ideal S1x32x1 .f32)
    (hlat : ∀ h j x s, lat h j (ix3 0 x s) = (latR S h (row j x) s : EReal)) (ha : ∀ h j x, a h j (ix3 0 x 0) = (S h (row j x) 0 : EReal))
    (hb : ∀ h j x, b h j (ix3 0 x 0) = 0) (hcr : ∀ h j x, cr h j (ix3 0 x 0) = (C h (row j x) : EReal)) (h : Fin 4) (r : Fin 256) :
    arg12.view.read (Elt Ideal) (arg12.view.writes (Elt Ideal) g (crL lat a b cr)) (ix3 h r 0) = ((C h r + ∑ s, S h r s : ℝ) : EReal) := by
  obtain ⟨j, x, rfl⟩ := exists_row r
  refine read_writes_map (e := .f32) arg12 g order (fun p => r1 p.1 p.2) _ (fun y => ((C (y 0) (y 1) + ∑ s, S (y 0) (y 1) s : ℝ) : EReal)) ?_ _ (h, j) (mem_order h j) (ix3 0 x 0) (emb_r1 h j 0 x 0).symm
  rintro ⟨h, j⟩ _ x
  change S1x32x1.Idx at x
  idx_vars x
  rw [emb_r1]
  obtain rfl : x0 = 0 := Subsingleton.elim _ _
  obtain rfl : x2 = 0 := Subsingleton.elim _ _
  exact crPay_apply S C _ _ _ _ h j x1 (hlat h j x1) (ha h j x1) (hb h j x1) (hcr h j x1)

theorem acPay_apply (a : Vec Ideal S1x256x128 .f32) (w : Vec Ideal S1x256x256 .bf16) (v : Vec Ideal S256x128 .bf16) (r : Fin 256) (d : Fin 128) :
    acPay a w v (ix3 0 r d) = ((a (ix3 0 r d) : EReal) + ∑ s : Fin 256, (w (ix3 0 r s) : EReal) * (v (ix2 s d) : EReal) : EReal) := by
  pointwise [acPay]

/-- The accumulator after a block's stores. -/
theorem acc_vals (arg13 : Memref sig .tc .vmem S4x256x128 .f32) (g)
    (ac : Fin 4 → Vec Ideal S1x256x128 .f32) (w : Fin 4 → Vec Ideal S1x256x256 .bf16) (v : Fin 4 → Vec Ideal S256x128 .bf16) (h : Fin 4) (r : Fin 256) (d : Fin 128) :
    arg13.view.read (Elt Ideal) (arg13.view.writes (Elt Ideal) g (acL ac w v)) (ix3 h r d) = acPay (ac h) (w h) (v h) (ix3 0 r d) := by
  refine read_writes_map (e := .f32) arg13 g heads rh13 _ (fun y => acPay (ac (y 0)) (w (y 0)) (v (y 0)) (ix3 0 (y 1) (y 2))) ?_ _ h (mem_heads h) (ix3 0 r d) (emb_rh13 h 0 r d).symm
  intro h _ x
  change S1x256x128.Idx at x
  idx_vars x
  rw [emb_rh13]
  obtain rfl : x0 = 0 := Subsingleton.elim _ _
  rfl

/-- The matrix of ones below the diagonal, twice. -/
theorem upper_apply (t s : Fin 256) : kernelRun.sl.v6 (F := Ideal) (ix2 (fstC t) s) = if s < t then 1 else 0 := by
  unfold kernelRun.sl.v6 kernelRun.sl.v5 kernelRun.sl.v4 kernelRun.sl.v3 kernelRun.sl.v0 kernelRun.sl.v1
  pointwise [fstC]
  rw [WordCmp.cmpi_sgt_ofNat (by omega) (by omega)]
  by_cases h : s < t
  · rw [if_pos h, decide_eq_true (by exact h)]
    show (((BitVec.setWidth 32 (BitVec.ofBool true)).toInt : ℝ) : EReal) = 1
    rw [show (BitVec.setWidth 32 (BitVec.ofBool true)).toInt = 1 from by decide]; norm_num
  · rw [if_neg h, decide_eq_false (by exact h)]
    show (((BitVec.setWidth 32 (BitVec.ofBool false)).toInt : ℝ) : EReal) = 0
    norm_num

/-! ## One trip -/

/-- Places in the operands' blocks: column `d` of head `h`, and row `s` of block `b`. -/
def colF (h : Fin 4) (d : Fin 128) : Fin 512 := ⟨128 * h.val + d.val, by omega⟩
def rowF (b : Fin 16) (s : Fin 256) : Fin 4096 := ⟨256 * b.val + s.val, by omega⟩

/-- The scores of a block of keys. -/
def zT (x3 : Vec Ideal S256x512 .bf16) (x4 : Vec Ideal S4096x512 .bf16) (b : Fin 16) (h : Fin 4) (r s : Fin 256) : EReal :=
  (∑ d : Fin 128, (x3 (ix2 r (colF h d)) : EReal) * (x4 (ix2 (rowF b s) (colF h d)) : EReal) : EReal) * Ideal.ofBits .f32 0x3DB504F3#32

theorem scl_apply (x : Vec Ideal S1x32x256 .f32) (a : Fin 32) (b : Fin 256) : scl x (ix2 a b) = ((x (ix3 0 a b) : EReal) * Ideal.ofBits .f32 0x3DB504F3#32 : EReal) := by
  pointwise [scl]

theorem msk_apply (j : Fin 8) (x : Vec Ideal S1x32x256 .f32) (a : Fin 32) (b : Fin 256) :
    msk j x (ix2 a b) = (if b < row j a then ((x (ix3 0 a b) : EReal) * Ideal.ofBits .f32 0x3DB504F3#32 : EReal) else ⊥ : EReal) := by
  pointwise [msk, scl]
  rw [IdealRules.named_const.ideal_named_scalar κ "mask" _ _ rfl]
  rw [show IntOp.addi (BitVec.ofNat 32 a.val) (BitVec.ofNat 32 (32 * j.val)) = BitVec.ofNat 32 (a.val + 32 * j.val) from (BitVec.ofNat_add ..).symm,
    WordCmp.cmpi_slt_ofNat (by omega) (by omega)]
  have e : (b < row j a) = (b.val < a.val + 32 * j.val) := by
    show (b.val < 32 * j.val + a.val) = _
    rw [Nat.add_comm]
  by_cases h : b.val < a.val + 32 * j.val
  · rw [if_pos (e ▸ h), decide_eq_true h]; rfl
  · rw [if_neg (e ▸ h), decide_eq_false h]; rfl

section
variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole) (arg2 : BitVec 32)
  (x3 : Vec Ideal S256x512 .bf16) (x4 x5 : Vec Ideal S4096x512 .bf16)

/-- What a trip loads of a head of the keys (of the values): rows of the block it names. -/
theorem T.ldK_apply (k : Fin (k0_t1_loop i).trips) (b : Fin 16) (hb : b.val = (i 2).val - 1 - k.val) (h : Fin 4) (s : Fin 256) (d : Fin 128) :
    T.ldK c i arg4 k (harg4.unread x4) h (ix2 s d) = x4 (ix2 (rowF b s) (colF h d)) := by
  have e : ∀ (off : Fin 2 → ℕ) (inb) (o : ℕ), off = ![256 * ((i 2).val - 1 - k.val), o] → o = 128 * h.val →
      View.readAt (Elt Ideal) arg4.view (Rect.unit (s := S4096x512) off S256x128.size inb).toLoadRect (harg4.unread x4) (ix2 s d) = x4 (ix2 (rowF b s) (colF h d)) := by
    intro off inb o hoff ho
    rw [harg4.readAt_unread]
    refine congrArg x4 ?_
    subst hoff ho
    funext a; apply Fin.ext; fin_cases a <;> simp [ix2, rowF, colF, hb]
  fin_cases h
  · exact e _ _ _ (T.off5_eq i k) rfl
  · exact e _ _ _ (T.off6_eq i k) rfl
  · exact e _ _ _ (T.off7_eq i k) rfl
  · exact e _ _ _ (T.off8_eq i k) rfl

/-- What the body loads of a head of the queries. -/
theorem ldQ_apply (h : Fin 4) (r : Fin 256) (d : Fin 128) :
    View.readAt (Elt Ideal) arg3.view (rq h).toLoadRect (harg3.unread x3) (ix2 r d) = x3 (ix2 r (colF h d)) :=
  (harg3.readAt_unread x3 _ _).trans (congrArg x3 (emb_rq h r d))

theorem trip_vals (k : Fin (k0_t1_loop i).trips) (b : Fin 16) (hb : b.val = (i 2).val - 1 - k.val)
    (g12 : Bf (F := Ideal) c arg12) (g13 : Bf (F := Ideal) c arg13)
    (S : Fin 4 → Fin 256 → Fin 256 → ℝ) (C : Fin 4 → Fin 256 → ℝ)
    (hS : ∀ h r s, spI (zT x3 x4 b h r s) = (S h r s : EReal))
    (hC : ∀ h r, arg12.view.read (Elt Ideal) g12 (ix3 h r 0) = (C h r : EReal)) :
    let L := (trip c i arg3 harg3 arg4 harg4 arg5 harg5 arg6 harg6 arg7 harg7 arg8 harg8 arg9 harg9 arg10 harg10 arg11 harg11 arg12 harg12 arg13 harg13 arg2 (kernelRun.sl.v6 (F := Ideal)) k (harg3.unread x3) (harg4.unread x4) (harg5.unread x5) g12 g13).1
    (∀ h r, arg12.view.read (Elt Ideal) (arg12.view.writes (Elt Ideal) g12 L.1) (ix3 h r 0) = ((C h r + ∑ s, S h r s : ℝ) : EReal))
    ∧ ∀ h r d, arg13.view.read (Elt Ideal) (arg13.view.writes (Elt Ideal) g13 L.2) (ix3 h r d)
        = ((arg13.view.read (Elt Ideal) g13 (ix3 h r d) : EReal) + ∑ s : Fin 256, wI (zT x3 x4 b) S C h r s * (x5 (ix2 (rowF b s) (colF h d)) : EReal) : EReal) := by
  intro L
  have e7 : ∀ h r s, View.canon (Val := Elt Ideal) (trip.sl.H7_4 c i arg3 arg4 k (harg3.unread x3) (harg4.unread x4)) (ix3 h r s)
      = (∑ d : Fin 128, (x3 (ix2 r (colF h d)) : EReal) * (x4 (ix2 (rowF b s) (colF h d)) : EReal) : EReal) := fun h r s => by
    rw [T.qk_eq]
    refine (canon_qkL _ _ h r s).trans ?_
    refine Finset.sum_congr rfl fun d _ => ?_
    exact congrArg₂ (fun a b : EReal => a * b) (ldQ_apply arg3 harg3 x3 h r d) (T.ldK_apply c i arg4 harg4 x4 k b hb h s d)
  have hcr : ∀ h j x, View.readAt (Elt Ideal) arg12.view (r1 h j).toLoadRect g12 (ix3 0 x 0) = (C h (row j x) : EReal) := fun h j x => by
    exact (congrArg (arg12.view.read (Elt Ideal) g12) (emb_r1 h j 0 x 0)).trans (hC h (row j x))
  obtain ⟨hlat, ha, hb0, hw⟩ := block_vals arg8 arg9 arg10 (zT x3 x4 b) S C hS
    (fun h j => scl (arg7.view.readCov (trip.sl.H7_4 c i arg3 arg4 k (harg3.unread x3) (harg4.unread x4)) (rc h j).toLoadRect))
    (fun h j a s => (scl_apply _ a s).trans (congrArg (· * Ideal.ofBits .f32 0x3DB504F3#32)
      ((readCov_at arg7 _ (rc h j) (ix3 0 a s) _ (emb_rc h j 0 a s)).trans (e7 h (row j a) s))))
    (kernelRun.sl.v6 (F := Ideal)) upper_apply
    (fun h j => View.readAt (Elt Ideal) arg12.view (r1 h j).toLoadRect g12) hcr
    _ (T.ls_eq c i arg3 arg4 arg7 k (harg3.unread x3) (harg4.unread x4))
    _ (T.hl_eq c i arg3 arg4 arg7 k (harg3.unread x3) (harg4.unread x4))
    _ (T.lat_eq c i arg3 arg4 arg7 arg9 (kernelRun.sl.v6 (F := Ideal)) k (harg3.unread x3) (harg4.unread x4))
    _ (T.w_eq c i arg3 arg4 arg7 arg8 arg9 arg10 arg12 (kernelRun.sl.v6 (F := Ideal)) k (harg3.unread x3) (harg4.unread x4) g12)
  constructor
  · intro h r
    show arg12.view.read (Elt Ideal) (arg12.view.writes (Elt Ideal) g12 (trip.sl.H12_32 c i arg3 arg4 arg7 arg9 arg10 arg12 (kernelRun.sl.v6 (F := Ideal)) k (harg3.unread x3) (harg4.unread x4) g12)) (ix3 h r 0) = _
    rw [T.cr_eq]
    exact carry_vals arg12 g12 S C _ _ _ _ hlat ha hb0 hcr h r
  · intro h r d
    have e := T.snd_eq c i arg3 arg4 arg5 arg7 arg8 arg9 arg10 arg11 arg12 arg13 (kernelRun.sl.v6 (F := Ideal)) k (harg3.unread x3) (harg4.unread x4) (harg5.unread x5) g12 g13
      harg3 harg4 harg5 arg6 harg6 harg7 harg8 harg9 harg10 harg11 harg12 harg13 arg2
    refine (congrArg (fun L => arg13.view.read (Elt Ideal) (arg13.view.writes (Elt Ideal) g13 L) (ix3 h r d)) e).trans ?_
    refine (acc_vals arg13 g13 _ _ _ h r d).trans ((acPay_apply _ _ _ r d).trans ?_)
    refine congrArg₂ (fun a b : EReal => a + b) ?_ (Finset.sum_congr rfl fun s _ => ?_)
    · exact congrArg (arg13.view.read (Elt Ideal) g13) (emb_rh13 h 0 r d)
    · exact congrArg₂ (fun a b : EReal => a * b) ((readCov_at arg11 _ (rh h) (ix3 0 r s) _ (emb_rh h 0 r s)).trans (hw h r s))
        (T.ldK_apply c i arg5 harg5 x5 k b hb h s d)

end

end Cert.Proof.S
-- ==== Proof.S.DiagShape.lean ====
/-
  The stores the body makes for the diagonal key block, before the loop, as the lists of `Chunk`: the carry and the
  accumulator are zeroed whole first, and every chunk of the carry (every head of the accumulator) is read back before
  it is stored.
-/
module

public import proofs.«01_k».proof.Proof.S.Chunk

@[expose] public section

set_option maxRecDepth 65536

noncomputable section

namespace Cert.Proof.S.D

open Cert.KernelIdeal Cert.KernelIdeal.Gen
open Idealize.ShloMosaic Idealize.ShloMosaic.TcCoe

variable {F : FTy → Type} [FloatOps F] [Named F]

/-- The list of stores of a buffer filled whole with zeros and then stored piece by piece, each piece computed from what
    the buffer holds there before it. -/
def crD (arg12 : Memref sig .tc .vmem S4x256x1 .f32) (f : Fin 4 → Fin 8 → Vec F S1x32x1 .f32 → Vec F S1x32x1 .f32) (l : List (Fin 4 × Fin 8)) :
    List (View.Piece (Elt F) S4x256x1 .f32) :=
  l.foldr (fun p L => ⟨r1 p.1 p.2, f p.1 p.2 (arg12.view.readCov L (r1 p.1 p.2).toLoadRect)⟩ :: L)
    [⟨Rect.unit ![0, 0, 0] S4x256x1.size (by intro a; fin_cases a <;> simp), shapeCast S4x256x1 (broadcast S4x256x1 (Scalar.ofBits .f32 0x00000000#32)) shapeCasts_S4x256x1_S4x256x1⟩]
def acD (arg13 : Memref sig .tc .vmem S4x256x128 .f32) (f : Fin 4 → Vec F S1x256x128 .f32 → Vec F S1x256x128 .f32) (l : List (Fin 4)) :
    List (View.Piece (Elt F) S4x256x128 .f32) :=
  l.foldr (fun h L => ⟨rh13 h, f h (arg13.view.readCov L (rh13 h).toLoadRect)⟩ :: L)
    [⟨Rect.unit ![0, 0, 0] S4x256x128.size (by intro a; fin_cases a <;> simp), shapeCast S4x256x128 (broadcast S4x256x128 (Scalar.ofBits .f32 0x00000000#32)) shapeCasts_S4x256x128_S4x256x128⟩]

/-- The chunks stored before chunk `j` of head `h`. -/
def before (h : Fin 4) (j : Fin 8) : List (Fin 4 × Fin 8) := order.drop (32 - (8 * h.val + j.val))

variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S4x256x256 .f32) (arg8 : Memref sig .tc .vmem S4x256x256 .f32) (arg9 : Memref sig .tc .vmem S4x256x512 .bf16) (arg10 : Memref sig .tc .vmem S4x256x256 .f32) (arg11 : Memref sig .tc .vmem S4x256x256 .bf16) (arg12 : Memref sig .tc .vmem S4x256x1 .f32) (arg13 : Memref sig .tc .vmem S4x256x128 .f32)
  (x3 : Vec F S256x512 .bf16) (x4 x5 : Vec F S4096x512 .bf16)

/-- What the body loads of the diagonal block of the keys and of the values, of head `h`. -/
def ldK (y : Bf (F := F) c arg4) (h : Fin 4) : Vec F S256x128 .bf16 :=
  match h with
  | 0 => View.readAt (Elt F) arg4.view (Rect.unit (s := S4096x512) (k0_off1 i) S256x128.size (k0_off1_inb i)).toLoadRect y
  | 1 => View.readAt (Elt F) arg4.view (Rect.unit (s := S4096x512) (k0_off2 i) S256x128.size (k0_off2_inb i)).toLoadRect y
  | 2 => View.readAt (Elt F) arg4.view (Rect.unit (s := S4096x512) (k0_off3 i) S256x128.size (k0_off3_inb i)).toLoadRect y
  | 3 => View.readAt (Elt F) arg4.view (Rect.unit (s := S4096x512) (k0_off4 i) S256x128.size (k0_off4_inb i)).toLoadRect y

theorem qk_eq : kernelRun.sl.H7_4 c i arg3 harg3 arg4 harg4 x3 x4 =
    qkL (fun h => View.readAt (Elt F) arg3.view (rq h).toLoadRect (harg3.unread x3)) (ldK c i arg4 (harg4.unread x4)) := rfl

theorem ls_eq : kernelRun.sl.H8_32 c i arg3 harg3 arg4 harg4 arg7 x3 x4 =
    lsL (fun h j => msk j (arg7.view.readCov (kernelRun.sl.H7_4 c i arg3 harg3 arg4 harg4 x3 x4) (rc h j).toLoadRect)) := rfl

theorem hl_eq : kernelRun.sl.H9_64 c i arg3 harg3 arg4 harg4 arg7 x3 x4 =
    hlL (fun h j => msk j (arg7.view.readCov (kernelRun.sl.H7_4 c i arg3 harg3 arg4 harg4 x3 x4) (rc h j).toLoadRect)) := rfl

theorem lat_eq : kernelRun.sl.H10_4 c i arg3 harg3 arg4 harg4 arg7 arg9 x3 x4 =
    latL (fun h => arg9.view.readCov (kernelRun.sl.H9_64 c i arg3 harg3 arg4 harg4 arg7 x3 x4) (rh9 h).toLoadRect) kernelRun.sl.v6 := rfl

/-- How a chunk of the carry is stored, from what it held. -/
def crF (h : Fin 4) (j : Fin 8) (x : Vec F S1x32x1 .f32) : Vec F S1x32x1 .f32 :=
  crPay x (arg10.view.readCov (kernelRun.sl.H10_4 c i arg3 harg3 arg4 harg4 arg7 arg9 x3 x4) (rc h j).toLoadRect)
    (arg9.view.readCov (kernelRun.sl.H9_64 c i arg3 harg3 arg4 harg4 arg7 x3 x4) (ra0 h j).toLoadRect) (arg9.view.readCov (kernelRun.sl.H9_64 c i arg3 harg3 arg4 harg4 arg7 x3 x4) (rb0 h j).toLoadRect)

theorem cr_eq : kernelRun.sl.H12_33 c i arg3 harg3 arg4 harg4 arg7 arg9 arg10 arg12 x3 x4 =
    crD arg12 (crF c i arg3 harg3 arg4 harg4 arg7 arg9 arg10 x3 x4) order := rfl

theorem w_eq : kernelRun.sl.H11_32 c i arg3 harg3 arg4 harg4 arg7 arg8 arg9 arg10 arg12 x3 x4 =
    wL (fun h j => arg8.view.readCov (kernelRun.sl.H8_32 c i arg3 harg3 arg4 harg4 arg7 x3 x4) (rc h j).toLoadRect)
      (fun h j => arg10.view.readCov (kernelRun.sl.H10_4 c i arg3 harg3 arg4 harg4 arg7 arg9 x3 x4) (rc h j).toLoadRect)
      (fun h j => arg12.view.readCov (crD arg12 (crF c i arg3 harg3 arg4 harg4 arg7 arg9 arg10 x3 x4) (before h j)) (r1 h j).toLoadRect) := rfl

theorem ac_eq : kernelRun.sl.H13_5 c i arg3 harg3 arg4 harg4 arg5 harg5 arg7 arg8 arg9 arg10 arg11 arg12 arg13 x3 x4 x5 =
    acD arg13 (fun h x => acPay x (arg11.view.readCov (kernelRun.sl.H11_32 c i arg3 harg3 arg4 harg4 arg7 arg8 arg9 arg10 arg12 x3 x4) (rh h).toLoadRect) (ldK c i arg5 (harg5.unread x5) h)) heads := rfl

end Cert.Proof.S.D
-- ==== Proof.S.Diag.lean ====
/-
  The diagonal key block, before the loop: the carry and the accumulator start at zero, so each chunk reads zeros before it
  is stored; what the two buffers hold when the loop begins.
-/
module

public import proofs.«01_k».proof.Proof.S.BlockVals
public import proofs.«01_k».proof.Proof.S.DiagShape

@[expose] public section

set_option maxRecDepth 65536

noncomputable section

namespace Cert.Proof.S.D

open Cert.KernelIdeal Cert.KernelIdeal.Gen
open Idealize.ShloMosaic Idealize.ShloMosaic.TcCoe

theorem not_mem_of_ne {s : Shape} (R : Rect s) (y : s.Idx) (h : ∀ x, R.idx x ≠ y) : y ∉ R.set := fun hy => by
  obtain ⟨x, hx⟩ := R.toLoadRect.exists_idx_of_mem hy
  exact h x hx

theorem zero_off : (![0, 0, 0] : Fin 3 → ℕ) = fun _ => 0 := by funext a; fin_cases a <;> rfl

theorem r1_ne (p : Fin 4 × Fin 8) (h : Fin 4) (j : Fin 8) (a : Fin 32) (hne : (h, j) ≠ p) : (ix3 h (row j a) 0 : S4x256x1.Idx) ∉ (r1 p.1 p.2).set := by
  refine not_mem_of_ne _ _ fun x => ?_
  change S1x32x1.Idx at x
  idx_vars x
  intro e
  have e' := (emb_r1 p.1 p.2 x0 x1 x2).symm.trans e
  have h0 := congrFun e' 0
  have h1 := congrArg Fin.val (congrFun e' 1)
  change p.1 = h at h0
  change 32 * p.2.val + x1.val = 32 * j.val + a.val at h1
  exact hne (Prod.ext h0.symm (Fin.ext (by show j.val = p.2.val; omega)))

theorem rh13_ne (p h : Fin 4) (r : Fin 256) (d : Fin 128) (hne : h ≠ p) : (ix3 h r d : S4x256x128.Idx) ∉ (rh13 p).set := by
  refine not_mem_of_ne _ _ fun x => ?_
  change S1x256x128.Idx at x
  idx_vars x
  intro e
  have h0 := congrFun ((emb_rh13 p x0 x1 x2).symm.trans e) 0
  change p = h at h0
  exact hne h0.symm

section
variable (arg12 : Memref sig .tc .vmem S4x256x1 .f32) (f : Fin 4 → Fin 8 → Vec Ideal S1x32x1 .f32 → Vec Ideal S1x32x1 .f32)

theorem crD_cons (p : Fin 4 × Fin 8) (l : List (Fin 4 × Fin 8)) :
    crD arg12 f (p :: l) = (⟨r1 p.1 p.2, f p.1 p.2 (arg12.view.readCov (crD arg12 f l) (r1 p.1 p.2).toLoadRect)⟩ : View.Piece (Elt Ideal) S4x256x1 .f32) :: crD arg12 f l := rfl

/-- A chunk of the carry not yet stored is zero. -/
theorem crD_zero : ∀ (l : List (Fin 4 × Fin 8)) (h : Fin 4) (j : Fin 8) (hl : (h, j) ∉ l) (a : Fin 32),
    View.canon (Val := Elt Ideal) (crD arg12 f l) (ix3 h (row j a) 0) = (0 : EReal)
  | [], h, j, _, a => by
    refine (congrFun (View.canon_unit_zero (Val := Elt Ideal) (S := S4x256x1) (e := .f32) zero_off _ _) _).trans ?_
    pointwise []
  | p :: l, h, j, hl, a => by
    rw [crD_cons]
    refine (View.canon_cons_of_not_mem (Val := Elt Ideal) (e := .f32) ⟨r1 p.1 p.2, _⟩ _ ?_).trans ?_
    · exact r1_ne p h j a fun e => hl (List.mem_cons.mpr (Or.inl e))
    exact crD_zero l h j (fun hh => hl (List.mem_cons_of_mem _ hh)) a

theorem crD_read_zero (l : List (Fin 4 × Fin 8)) (h : Fin 4) (j : Fin 8) (hl : (h, j) ∉ l) (a : Fin 32) :
    arg12.view.readCov (crD arg12 f l) (r1 h j).toLoadRect (ix3 0 a 0) = (0 : EReal) :=
  (readCov_at arg12 _ (r1 h j) (ix3 0 a 0) _ (emb_r1 h j 0 a 0)).trans (crD_zero arg12 f l h j hl a)

/-- A chunk of the carry that is stored is what it is stored from zero. -/
theorem crD_mem (G : Fin 4 → Fin 256 → EReal) (hf : ∀ h j X, (∀ a, X (ix3 0 a 0) = (0 : EReal)) → ∀ a, f h j X (ix3 0 a 0) = G h (row j a)) :
    ∀ (l : List (Fin 4 × Fin 8)) (hn : l.Nodup) (h : Fin 4) (j : Fin 8) (hl : (h, j) ∈ l) (a : Fin 32),
    View.canon (Val := Elt Ideal) (crD arg12 f l) (ix3 h (row j a) 0) = G h (row j a)
  | [], _, h, j, hl, _ => absurd hl List.not_mem_nil
  | p :: l, hn, h, j, hl, a => by
    rw [crD_cons]
    by_cases e : (h, j) = p
    · subst e
      have hx : (ix3 h (row j a) 0 : S4x256x1.Idx) = (r1 h j).emb (ix3 0 a 0) := (emb_r1 h j 0 a 0).symm
      rw [hx]
      refine (View.canon_cons_emb (Val := Elt Ideal) (e := .f32) (r1 h j) _ _ _).trans ?_
      exact hf h j _ (crD_read_zero arg12 f l h j (List.nodup_cons.mp hn).1) a
    · refine (View.canon_cons_of_not_mem (Val := Elt Ideal) (e := .f32) ⟨r1 p.1 p.2, _⟩ _ ?_).trans ?_
      · exact r1_ne p h j a e
      exact crD_mem G hf l (List.nodup_cons.mp hn).2 h j ((List.mem_cons.mp hl).resolve_left e) a
end

section
variable (arg13 : Memref sig .tc .vmem S4x256x128 .f32) (f : Fin 4 → Vec Ideal S1x256x128 .f32 → Vec Ideal S1x256x128 .f32)

theorem acD_cons (p : Fin 4) (l : List (Fin 4)) :
    acD arg13 f (p :: l) = (⟨rh13 p, f p (arg13.view.readCov (acD arg13 f l) (rh13 p).toLoadRect)⟩ : View.Piece (Elt Ideal) S4x256x128 .f32) :: acD arg13 f l := rfl

theorem acD_zero : ∀ (l : List (Fin 4)) (h : Fin 4) (hl : h ∉ l) (r : Fin 256) (d : Fin 128),
    View.canon (Val := Elt Ideal) (acD arg13 f l) (ix3 h r d) = (0 : EReal)
  | [], h, _, r, d => by
    refine (congrFun (View.canon_unit_zero (Val := Elt Ideal) (S := S4x256x128) (e := .f32) zero_off _ _) _).trans ?_
    pointwise []
  | p :: l, h, hl, r, d => by
    rw [acD_cons]
    refine (View.canon_cons_of_not_mem (Val := Elt Ideal) (e := .f32) ⟨rh13 p, _⟩ _ ?_).trans ?_
    · exact rh13_ne p h r d fun e => hl (List.mem_cons.mpr (Or.inl e))
    exact acD_zero l h (fun hh => hl (List.mem_cons_of_mem _ hh)) r d

theorem acD_mem (G : Fin 4 → Fin 256 → Fin 128 → EReal) (hf : ∀ h X, (∀ r d, X (ix3 0 r d) = (0 : EReal)) → ∀ r d, f h X (ix3 0 r d) = G h r d) :
    ∀ (l : List (Fin 4)) (hn : l.Nodup) (h : Fin 4) (hl : h ∈ l) (r : Fin 256) (d : Fin 128),
    View.canon (Val := Elt Ideal) (acD arg13 f l) (ix3 h r d) = G h r d
  | [], _, h, hl, _, _ => absurd hl List.not_mem_nil
  | p :: l, hn, h, hl, r, d => by
    rw [acD_cons]
    by_cases e : h = p
    · subst e
      have hx : (ix3 h r d : S4x256x128.Idx) = (rh13 h).emb (ix3 0 r d) := (emb_rh13 h 0 r d).symm
      rw [hx]
      refine (View.canon_cons_emb (Val := Elt Ideal) (e := .f32) (rh13 h) _ _ _).trans ?_
      exact hf h _ (fun r d => (readCov_at arg13 _ (rh13 h) (ix3 0 r d) _ (emb_rh13 h 0 r d)).trans (acD_zero arg13 f l h (List.nodup_cons.mp hn).1 r d)) r d
    · refine (View.canon_cons_of_not_mem (Val := Elt Ideal) (e := .f32) ⟨rh13 p, _⟩ _ ?_).trans ?_
      · exact rh13_ne p h r d e
      exact acD_mem G hf l (List.nodup_cons.mp hn).2 h ((List.mem_cons.mp hl).resolve_left e) r d
end

theorem not_mem_before : ∀ (h : Fin 4) (j : Fin 8), (h, j) ∉ before h j := by decide
theorem nodup_order : order.Nodup := by decide
theorem nodup_heads : heads.Nodup := by decide

section
variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S4x256x256 .f32) (arg8 : Memref sig .tc .vmem S4x256x256 .f32) (arg9 : Memref sig .tc .vmem S4x256x512 .bf16) (arg10 : Memref sig .tc .vmem S4x256x256 .f32) (arg11 : Memref sig .tc .vmem S4x256x256 .bf16) (arg12 : Memref sig .tc .vmem S4x256x1 .f32) (arg13 : Memref sig .tc .vmem S4x256x128 .f32)
  (x3 : Vec Ideal S256x512 .bf16) (x4 x5 : Vec Ideal S4096x512 .bf16)

theorem ldK_apply (b : Fin 16) (hb : b.val = (i 2).val) (h : Fin 4) (s : Fin 256) (d : Fin 128) :
    ldK c i arg4 (harg4.unread x4) h (ix2 s d) = x4 (ix2 (rowF b s) (colF h d)) := by
  have e : ∀ (off : Fin 2 → ℕ) (inb) (o : ℕ), off = ![256 * (i 2).val, o] → o = 128 * h.val →
      View.readAt (Elt Ideal) arg4.view (Rect.unit (s := S4096x512) off S256x128.size inb).toLoadRect (harg4.unread x4) (ix2 s d) = x4 (ix2 (rowF b s) (colF h d)) := by
    intro off inb o hoff ho
    rw [harg4.readAt_unread]
    refine congrArg x4 ?_
    subst hoff ho
    funext a; apply Fin.ext; fin_cases a <;> simp [ix2, rowF, colF, hb]
  fin_cases h
  · exact e _ _ _ (k0_off1_eq i) rfl
  · exact e _ _ _ (k0_off2_eq i) rfl
  · exact e _ _ _ (k0_off3_eq i) rfl
  · exact e _ _ _ (k0_off4_eq i) rfl

/-- The scores of the diagonal block, the columns from the row's own on left out. -/
def zD (x3 : Vec Ideal S256x512 .bf16) (x4 : Vec Ideal S4096x512 .bf16) (b : Fin 16) (h : Fin 4) (r s : Fin 256) : EReal :=
  if s < r then zT x3 x4 b h r s else ⊥

theorem diag_vals (b : Fin 16) (hb : b.val = (i 2).val)
    (S : Fin 4 → Fin 256 → Fin 256 → ℝ) (hS : ∀ h r s, spI (zD x3 x4 b h r s) = (S h r s : EReal)) :
    (∀ h r, View.canon (Val := Elt Ideal) (kernelRun.sl.H12_33 c i arg3 harg3 arg4 harg4 arg7 arg9 arg10 arg12 x3 x4) (ix3 h r 0) = ((0 + ∑ s, S h r s : ℝ) : EReal))
    ∧ ∀ h r d, View.canon (Val := Elt Ideal) (kernelRun.sl.H13_5 c i arg3 harg3 arg4 harg4 arg5 harg5 arg7 arg8 arg9 arg10 arg11 arg12 arg13 x3 x4 x5) (ix3 h r d)
        = (0 + ∑ s : Fin 256, wI (zD x3 x4 b) S (fun _ _ => 0) h r s * (x5 (ix2 (rowF b s) (colF h d)) : EReal) : EReal) := by
  have e7 : ∀ h r s, View.canon (Val := Elt Ideal) (kernelRun.sl.H7_4 c i arg3 harg3 arg4 harg4 x3 x4) (ix3 h r s)
      = (∑ d : Fin 128, (x3 (ix2 r (colF h d)) : EReal) * (x4 (ix2 (rowF b s) (colF h d)) : EReal) : EReal) := fun h r s => by
    rw [qk_eq]
    refine (canon_qkL _ _ h r s).trans ?_
    refine Finset.sum_congr rfl fun d _ => ?_
    exact congrArg₂ (fun a b : EReal => a * b) (ldQ_apply arg3 harg3 x3 h r d) (ldK_apply c i arg4 harg4 x4 b hb h s d)
  obtain ⟨hlat, ha, hb0, hw⟩ := block_vals arg8 arg9 arg10 (zD x3 x4 b) S (fun _ _ => 0) hS
    (fun h j => msk j (arg7.view.readCov (kernelRun.sl.H7_4 c i arg3 harg3 arg4 harg4 x3 x4) (rc h j).toLoadRect))
    (fun h j a s => (msk_apply j _ a s).trans (by
      have e := (readCov_at arg7 (kernelRun.sl.H7_4 c i arg3 harg3 arg4 harg4 x3 x4) (rc h j) (ix3 0 a s) _ (emb_rc h j 0 a s)).trans (e7 h (row j a) s)
      unfold zD zT
      exact if_congr Iff.rfl (congrArg (· * Ideal.ofBits .f32 0x3DB504F3#32) e) rfl))
    (kernelRun.sl.v6 (F := Ideal)) upper_apply
    (fun h j => arg12.view.readCov (crD arg12 (crF c i arg3 harg3 arg4 harg4 arg7 arg9 arg10 x3 x4) (before h j)) (r1 h j).toLoadRect)
    (fun h j a => (crD_read_zero arg12 _ _ h j (not_mem_before h j) a).trans EReal.coe_zero.symm)
    _ (ls_eq c i arg3 harg3 arg4 harg4 arg7 x3 x4)
    _ (hl_eq c i arg3 harg3 arg4 harg4 arg7 x3 x4)
    _ (lat_eq c i arg3 harg3 arg4 harg4 arg7 arg9 x3 x4)
    _ (w_eq c i arg3 harg3 arg4 harg4 arg7 arg8 arg9 arg10 arg12 x3 x4)
  constructor
  · intro h r
    obtain ⟨j, x, rfl⟩ := exists_row r
    rw [cr_eq]
    refine crD_mem arg12 _ (fun h r => ((0 + ∑ s, S h r s : ℝ) : EReal)) ?_ order nodup_order h j (mem_order h j) x
    intro h j X hX x
    exact crPay_apply S (fun _ _ => 0) X _ _ _ h j x (hlat h j x) (ha h j x) (hb0 h j x) ((hX x).trans EReal.coe_zero.symm)
  · intro h r d
    rw [ac_eq]
    refine acD_mem arg13 _ (fun h r d => (0 + ∑ s : Fin 256, wI (zD x3 x4 b) S (fun _ _ => 0) h r s * (x5 (ix2 (rowF b s) (colF h d)) : EReal) : EReal)) ?_ heads nodup_heads h (mem_heads h) r d
    intro h X hX r d
    refine (acPay_apply _ _ _ r d).trans ?_
    refine congrArg₂ (fun a b : EReal => a + b) (hX r d) (Finset.sum_congr rfl fun s _ => ?_)
    exact congrArg₂ (fun a b : EReal => a * b) ((readCov_at arg11 _ (rh h) (ix3 0 r s) _ (emb_rh h 0 r s)).trans (hw h r s))
        (ldK_apply c i arg5 harg5 x5 b hb h s d)

end

end Cert.Proof.S.D
-- ==== Proof.S.Sums.lean ====
/-
  The sums of the stick-breaking weights, block by block from the last key block to the first: what a block adds to the
  carry and to the weighted sum of the values.
-/
module

public import proofs.«01_k».proof.Proof.S.Block
public import Mathlib.Algebra.BigOperators.Intervals

@[expose] public section

set_option maxRecDepth 65536

noncomputable section

namespace Cert.Proof.S

open Idealize.ShloMosaic

theorem exp_bot : Ideal.exp (⊥ : EReal) = 0 := rfl

/-- The sum of a head's and a row's terms from column `n` on. -/
def fromC (SN : Fin 4 → Fin 256 → ℕ → ℝ) (h : Fin 4) (r : Fin 256) (n : ℕ) : ℝ := ∑ m ∈ Finset.Ico n 4096, SN h r m

/-- The weight of column `n`. -/
def wN (zN : Fin 4 → Fin 256 → ℕ → EReal) (SN : Fin 4 → Fin 256 → ℕ → ℝ) (h : Fin 4) (r : Fin 256) (n : ℕ) : EReal :=
  Ideal.exp (zN h r n - (SN h r n : EReal) - (fromC SN h r (n + 1) : EReal))

theorem sum_block {M : Type} [AddCommMonoid M] (f : ℕ → M) (a : ℕ) : ∑ s : Fin 256, f (a + s.val) = ∑ n ∈ Finset.Ico a (a + 256), f n := by
  rw [Finset.sum_Ico_eq_sum_range, show a + 256 - a = 256 by omega, Finset.sum_range]

theorem sum_after {M : Type} [AddCommMonoid M] (f : ℕ → M) (a : ℕ) (s : Fin 256) :
    (∑ t : Fin 256, if s < t then f (a + t.val) else 0) = ∑ n ∈ Finset.Ico (a + s.val + 1) (a + 256), f n := by
  have e := sum_block (fun n => if a + s.val < n then f n else 0) a
  have e1 : (∑ t : Fin 256, if s < t then f (a + t.val) else 0) = ∑ t : Fin 256, (fun n => if a + s.val < n then f n else 0) (a + t.val) := by
    refine Finset.sum_congr rfl fun t _ => if_congr ?_ rfl rfl
    rw [Fin.lt_def]; omega
  rw [e1, e, ← Finset.sum_Ico_consecutive _ (show a ≤ a + s.val + 1 by omega) (show a + s.val + 1 ≤ a + 256 by omega)]
  rw [Finset.sum_eq_zero (s := Finset.Ico a (a + s.val + 1)) fun n hn => if_neg (by have := Finset.mem_Ico.mp hn; omega), zero_add]
  exact Finset.sum_congr rfl fun n hn => if_pos (by have := Finset.mem_Ico.mp hn; omega)

section
variable (zN : Fin 4 → Fin 256 → ℕ → EReal) (SN : Fin 4 → Fin 256 → ℕ → ℝ) (b : ℕ) (hb : b < 16)

include hb in
/-- A block's weights, from the carry over the later blocks. -/
theorem wI_block (h : Fin 4) (r s : Fin 256) :
    wI (fun h r s => zN h r (256 * b + s.val)) (fun h r s => SN h r (256 * b + s.val)) (fun h r => fromC SN h r (256 * (b + 1))) h r s = wN zN SN h r (256 * b + s.val) := by
  unfold wI wN
  refine congrArg (fun x : ℝ => Ideal.exp (zN h r (256 * b + s.val) - (SN h r (256 * b + s.val) : EReal) - (x : EReal))) ?_
  show fromC SN h r (256 * (b + 1)) + (∑ t : Fin 256, if s < t then SN h r (256 * b + t.val) else 0) = _
  rw [sum_after (fun n => SN h r n)]
  unfold fromC
  rw [add_comm, show 256 * (b + 1) = 256 * b + 256 by ring, Finset.sum_Ico_consecutive _ (by omega) (by omega)]

include hb in
theorem fromC_block (h : Fin 4) (r : Fin 256) : fromC SN h r (256 * (b + 1)) + ∑ s : Fin 256, SN h r (256 * b + s.val) = fromC SN h r (256 * b) := by
  rw [sum_block (fun n => SN h r n)]
  unfold fromC
  rw [add_comm, show 256 * (b + 1) = 256 * b + 256 by ring, Finset.sum_Ico_consecutive _ (by omega) (by omega)]

include hb in
theorem acc_block (g : ℕ → EReal) :
    (∑ n ∈ Finset.Ico (256 * (b + 1)) 4096, g n) + ∑ s : Fin 256, g (256 * b + s.val) = ∑ n ∈ Finset.Ico (256 * b) 4096, g n := by
  rw [sum_block g, add_comm, show 256 * (b + 1) = 256 * b + 256 by ring, Finset.sum_Ico_consecutive _ (by omega) (by omega)]

end

end Cert.Proof.S
-- ==== Proof.S.Out.lean ====
/-
  The body's result block: the diagonal block, then the earlier key blocks trip by trip, then the accumulator stored.
-/
module

public import proofs.«01_k».proof.Proof.S.Body
public import proofs.«01_k».proof.Proof.S.Diag
public import proofs.«01_k».proof.Proof.S.Sums

@[expose] public section

set_option maxRecDepth 65536

noncomputable section

namespace Cert.Proof.S

open Cert.KernelIdeal Cert.KernelIdeal.Gen
open Idealize.ShloMosaic Idealize.ShloMosaic.TcCoe

/-- A column's number as a row of the keys. -/
def rowN (n : ℕ) : Fin 4096 := ⟨n % 4096, Nat.mod_lt _ (by omega)⟩

theorem rowF_eq (b : Fin 16) (s : Fin 256) : rowF b s = rowN (256 * b.val + s.val) := Fin.ext (Nat.mod_eq_of_lt (by omega)).symm

/-- The scores of query row `r` of block `i`: the columns from the row's own on left out. -/
def zN (x3 : Vec Ideal S256x512 .bf16) (x4 : Vec Ideal S4096x512 .bf16) (i : ℕ) (h : Fin 4) (r : Fin 256) (n : ℕ) : EReal :=
  if n < 256 * i + r.val then (∑ d : Fin 128, (x3 (ix2 r (colF h d)) : EReal) * (x4 (ix2 (rowN n) (colF h d)) : EReal) : EReal) * Ideal.ofBits .f32 0x3DB504F3#32 else ⊥

section
variable (x3 : Vec Ideal S256x512 .bf16) (x4 x5 : Vec Ideal S4096x512 .bf16)

theorem zT_eq (i : ℕ) (b : Fin 16) (hb : b.val < i) : zT x3 x4 b = fun h r s => zN x3 x4 i h r (256 * b.val + s.val) := by
  funext h r s
  unfold zN zT
  rw [if_pos (by omega), rowF_eq]

theorem zD_eq (i : ℕ) (b : Fin 16) (hb : b.val = i) : D.zD x3 x4 b = fun h r s => zN x3 x4 i h r (256 * b.val + s.val) := by
  funext h r s
  unfold zN D.zD zT
  rw [rowF_eq]
  exact if_congr (by rw [Fin.lt_def]; omega) rfl rfl
end

section
variable (c : Dev nD) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x512 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x512 .bf16) (harg9 : arg9.IsWhole) (arg10 : Memref sig .tc .vmem S4x256x256 .f32) (harg10 : arg10.IsWhole) (arg11 : Memref sig .tc .vmem S4x256x256 .bf16) (harg11 : arg11.IsWhole) (arg12 : Memref sig .tc .vmem S4x256x1 .f32) (harg12 : arg12.IsWhole) (arg13 : Memref sig .tc .vmem S4x256x128 .f32) (harg13 : arg13.IsWhole)
  (x3 : Vec Ideal S256x512 .bf16) (x4 x5 : Vec Ideal S4096x512 .bf16)

/-- The accumulator and the carry before trip `k`. -/
abbrev stI (k : ℕ) := st (F := Ideal) c i arg3 harg3 arg4 harg4 arg5 harg5 arg6 harg6 arg7 harg7 arg8 harg8 arg9 harg9 arg10 harg10 arg11 harg11 arg12 harg12 arg13 harg13 (BitVec.ofNat 32 (i 2).val) (kernelRun.sl.v6 (F := Ideal)) (harg3.unread x3) (harg4.unread x4) (harg5.unread x5)
  (arg12.view.writes (Elt Ideal) arg12.view.junk (kernelRun.sl.H12_33 c i arg3 harg3 arg4 harg4 arg7 arg9 arg10 arg12 x3 x4))
  (arg13.view.writes (Elt Ideal) arg13.view.junk (kernelRun.sl.H13_5 c i arg3 harg3 arg4 harg4 arg5 harg5 arg7 arg8 arg9 arg10 arg11 arg12 arg13 x3 x4 x5)) k

theorem SN_late (SN : Fin 4 → Fin 256 → ℕ → ℝ) (hspb : spI ⊥ = 0) (hS : ∀ h r n, spI (zN x3 x4 (i 2).val h r n) = (SN h r n : EReal))
    (h : Fin 4) (r : Fin 256) (n : ℕ) (hn : 256 * ((i 2).val + 1) ≤ n) : SN h r n = 0 := by
  have e := hS h r n
  unfold zN at e
  rw [if_neg (by omega), hspb] at e
  exact (EReal.coe_eq_zero.mp e.symm)

theorem wN_late (SN : Fin 4 → Fin 256 → ℕ → ℝ)
    (h : Fin 4) (r : Fin 256) (n : ℕ) (hn : 256 * ((i 2).val + 1) ≤ n) : wN (zN x3 x4 (i 2).val) SN h r n = 0 := by
  unfold wN zN
  rw [if_neg (by omega), sub_eq_add_neg, sub_eq_add_neg, EReal.bot_add, EReal.bot_add]
  exact exp_bot

set_option maxHeartbeats 2000000 in
theorem st_vals (SN : Fin 4 → Fin 256 → ℕ → ℝ) (hspb : spI ⊥ = 0) (hS : ∀ h r n, spI (zN x3 x4 (i 2).val h r n) = (SN h r n : EReal)) :
    ∀ (k : ℕ), k ≤ (i 2).val →
    (∀ h r, arg12.view.read (Elt Ideal) (stI c i arg3 harg3 arg4 harg4 arg5 harg5 arg6 harg6 arg7 harg7 arg8 harg8 arg9 harg9 arg10 harg10 arg11 harg11 arg12 harg12 arg13 harg13 x3 x4 x5 k).1 (ix3 h r 0) = (fromC SN h r (256 * ((i 2).val - k)) : EReal))
    ∧ ∀ h r d, arg13.view.read (Elt Ideal) (stI c i arg3 harg3 arg4 harg4 arg5 harg5 arg6 harg6 arg7 harg7 arg8 harg8 arg9 harg9 arg10 harg10 arg11 harg11 arg12 harg12 arg13 harg13 x3 x4 x5 k).2 (ix3 h r d)
        = (∑ n ∈ Finset.Ico (256 * ((i 2).val - k)) 4096, wN (zN x3 x4 (i 2).val) SN h r n * (x5 (ix2 (rowN n) (colF h d)) : EReal) : EReal)
  | 0, _ => by
    have hi : (i 2).val < 16 := (i 2).isLt
    obtain ⟨e1, e2⟩ := D.diag_vals c i arg3 harg3 arg4 harg4 arg5 harg5 arg7 arg8 arg9 arg10 arg11 arg12 arg13 x3 x4 x5 ⟨(i 2).val, hi⟩ rfl
      (fun h r s => SN h r (256 * (i 2).val + s.val)) (fun h r s => by rw [zD_eq x3 x4 (i 2).val ⟨(i 2).val, hi⟩ rfl]; exact hS h r _)
    have hz : ∀ h r, fromC SN h r (256 * ((i 2).val + 1)) = 0 := fun h r =>
      Finset.sum_eq_zero fun n hn => SN_late i x3 x4 SN hspb hS h r n (Finset.mem_Ico.mp hn).1
    constructor
    · intro h r
      refine (View.read_writes_junk_apply_eq_canon (Val := Elt Ideal) (e := .f32) arg12.view (ix3 h r 0) (kernelRun.sl.H12_33 c i arg3 harg3 arg4 harg4 arg7 arg9 arg10 arg12 x3 x4)).trans ((e1 h r).trans ?_)
      refine congrArg (fun x : ℝ => (x : EReal)) ?_
      rw [← hz h r]
      exact fromC_block SN (i 2).val hi h r
    · intro h r d
      refine (View.read_writes_junk_apply_eq_canon (Val := Elt Ideal) (e := .f32) arg13.view (ix3 h r d) (kernelRun.sl.H13_5 c i arg3 harg3 arg4 harg4 arg5 harg5 arg7 arg8 arg9 arg10 arg11 arg12 arg13 x3 x4 x5)).trans ((e2 h r d).trans ?_)
      have hw : ∀ s : Fin 256, wI (D.zD x3 x4 ⟨(i 2).val, hi⟩) (fun h r s => SN h r (256 * (i 2).val + s.val)) (fun _ _ => 0) h r s = wN (zN x3 x4 (i 2).val) SN h r (256 * (i 2).val + s.val) := fun s => by
        rw [zD_eq x3 x4 (i 2).val ⟨(i 2).val, hi⟩ rfl, ← wI_block (zN x3 x4 (i 2).val) SN (i 2).val hi h r s]
        refine congrArg (fun C => wI _ _ C h r s) ?_
        funext h r; exact (hz h r).symm
      refine Eq.trans ?_ (acc_block (i 2).val hi fun n => wN (zN x3 x4 (i 2).val) SN h r n * (x5 (ix2 (rowN n) (colF h d)) : EReal))
      refine congrArg₂ (fun a b : EReal => a + b) ?_ (Finset.sum_congr rfl fun s _ => ?_)
      · exact (Finset.sum_eq_zero fun n hn => by rw [wN_late i x3 x4 SN h r n (Finset.mem_Ico.mp hn).1, zero_mul]).symm
      · rw [hw s, rowF_eq]
  | k + 1, hk => by
    have hi : (i 2).val < 16 := (i 2).isLt
    have hkt : k < (k0_t1_loop i).trips := by rw [T.trips_eq]; omega
    obtain ⟨i1, i2⟩ := st_vals SN hspb hS k (by omega)
    have hbv : (i 2).val - 1 - k < 16 := by omega
    have hb1 : (i 2).val - k = (i 2).val - 1 - k + 1 := by omega
    have hb2 : (i 2).val - (k + 1) = (i 2).val - 1 - k := by omega
    have hlt : (i 2).val - 1 - k < (i 2).val := by omega
    rw [hb1] at i1 i2
    rw [hb2]
    have hzT := zT_eq x3 x4 (i 2).val ⟨(i 2).val - 1 - k, hbv⟩ hlt
    obtain ⟨e1, e2⟩ := trip_vals c i arg3 harg3 arg4 harg4 arg5 harg5 arg6 harg6 arg7 harg7 arg8 harg8 arg9 harg9 arg10 harg10 arg11 harg11 arg12 harg12 arg13 harg13 (BitVec.ofNat 32 (i 2).val) x3 x4 x5 ⟨k, hkt⟩ ⟨(i 2).val - 1 - k, hbv⟩ rfl
      (stI c i arg3 harg3 arg4 harg4 arg5 harg5 arg6 harg6 arg7 harg7 arg8 harg8 arg9 harg9 arg10 harg10 arg11 harg11 arg12 harg12 arg13 harg13 x3 x4 x5 k).1 (stI c i arg3 harg3 arg4 harg4 arg5 harg5 arg6 harg6 arg7 harg7 arg8 harg8 arg9 harg9 arg10 harg10 arg11 harg11 arg12 harg12 arg13 harg13 x3 x4 x5 k).2
      (fun h r s => SN h r (256 * ((i 2).val - 1 - k) + s.val)) (fun h r => fromC SN h r (256 * ((i 2).val - 1 - k + 1)))
      (fun h r s => by rw [hzT]; exact hS h r _) i1
    have es := st_succ (F := Ideal) c i arg3 harg3 arg4 harg4 arg5 harg5 arg6 harg6 arg7 harg7 arg8 harg8 arg9 harg9 arg10 harg10 arg11 harg11 arg12 harg12 arg13 harg13 (BitVec.ofNat 32 (i 2).val) (kernelRun.sl.v6 (F := Ideal)) (harg3.unread x3) (harg4.unread x4) (harg5.unread x5)
      (arg12.view.writes (Elt Ideal) arg12.view.junk (kernelRun.sl.H12_33 c i arg3 harg3 arg4 harg4 arg7 arg9 arg10 arg12 x3 x4))
      (arg13.view.writes (Elt Ideal) arg13.view.junk (kernelRun.sl.H13_5 c i arg3 harg3 arg4 harg4 arg5 harg5 arg7 arg8 arg9 arg10 arg11 arg12 arg13 x3 x4 x5)) ⟨k, hkt⟩
    constructor
    · intro h r
      refine (congrArg (fun s => arg12.view.read (Elt Ideal) s.1 (ix3 h r 0)) es).trans ((e1 h r).trans ?_)
      exact congrArg (fun x : ℝ => (x : EReal)) (fromC_block SN _ hbv h r)
    · intro h r d
      refine (congrArg (fun s => arg13.view.read (Elt Ideal) s.2 (ix3 h r d)) es).trans ((e2 h r d).trans ?_)
      refine Eq.trans ?_ (acc_block _ hbv fun n => wN (zN x3 x4 (i 2).val) SN h r n * (x5 (ix2 (rowN n) (colF h d)) : EReal))
      refine congrArg₂ (fun a b : EReal => a + b) (i2 h r d) (Finset.sum_congr rfl fun s _ => ?_)
      rw [hzT, rowF_eq]
      exact congrArg (· * (x5 (ix2 (rowN (256 * ((i 2).val - 1 - k) + s.val)) (colF h d)) : EReal)) (wI_block (zN x3 x4 (i 2).val) SN _ hbv h r s)

/-- How a head of the accumulator is stored. -/
def outPay (x : Vec Ideal S1x256x128 .f32) : Vec Ideal S256x128 .bf16 :=
  truncf (F := Ideal) .bf16 (shapeCast S256x128 x shapeCasts_S1x256x128_S256x128) bitsLt_bf16_f32

theorem outPay_apply (x : Vec Ideal S1x256x128 .f32) (r : Fin 256) (d : Fin 128) : outPay x (ix2 r d) = (x (ix3 0 r d) : EReal) := by
  pointwise [outPay]

set_option maxHeartbeats 1000000 in
theorem out_eq : (kernelRun (F := Ideal) c i arg3 harg3 arg4 harg4 arg5 harg5 arg6 harg6 arg7 harg7 arg8 harg8 arg9 harg9 arg10 harg10 arg11 harg11 arg12 harg12 arg13 harg13 x3 x4 x5).1 =
    View.read (Elt Ideal) arg6.view (arg6.view.writes (Elt Ideal) arg6.view.junk
      (heads.map fun h => (⟨rq h, outPay (View.readAt (Elt Ideal) arg13.view (rh13 h).toLoadRect (stI c i arg3 harg3 arg4 harg4 arg5 harg5 arg6 harg6 arg7 harg7 arg8 harg8 arg9 harg9 arg10 harg10 arg11 harg11 arg12 harg12 arg13 harg13 x3 x4 x5 (k0_t1_loop i).trips).2)⟩ : View.Piece (Elt Ideal) S256x512 .bf16))) := rfl

/-- The block the body stores: each row's weighted sum of the values over all columns. -/
theorem out_apply (SN : Fin 4 → Fin 256 → ℕ → ℝ) (hspb : spI ⊥ = 0) (hS : ∀ h r n, spI (zN x3 x4 (i 2).val h r n) = (SN h r n : EReal)) (h : Fin 4) (r : Fin 256) (d : Fin 128) :
    (kernelRun (F := Ideal) c i arg3 harg3 arg4 harg4 arg5 harg5 arg6 harg6 arg7 harg7 arg8 harg8 arg9 harg9 arg10 harg10 arg11 harg11 arg12 harg12 arg13 harg13 x3 x4 x5).1 (ix2 r (colF h d)) =
      (∑ n ∈ Finset.range 4096, wN (zN x3 x4 (i 2).val) SN h r n * (x5 (ix2 (rowN n) (colF h d)) : EReal) : EReal) := by
  have e2 := (st_vals c i arg3 harg3 arg4 harg4 arg5 harg5 arg6 harg6 arg7 harg7 arg8 harg8 arg9 harg9 arg10 harg10 arg11 harg11 arg12 harg12 arg13 harg13 x3 x4 x5 SN hspb hS (i 2).val le_rfl).2
  rw [out_eq]
  refine (congrFun (View.read_writes_junk_eq_canon (Val := Elt Ideal) arg6.view _) _).trans ?_
  refine (canon_map (e := .bf16) heads rq _ (fun y => outPay (View.readAt (Elt Ideal) arg13.view (rh13 ⟨(y 1).val / 128, Nat.div_lt_of_lt_mul (y 1).isLt⟩).toLoadRect (stI c i arg3 harg3 arg4 harg4 arg5 harg5 arg6 harg6 arg7 harg7 arg8 harg8 arg9 harg9 arg10 harg10 arg11 harg11 arg12 harg12 arg13 harg13 x3 x4 x5 (k0_t1_loop i).trips).2)
      (ix2 (y 0) ⟨(y 1).val % 128, Nat.mod_lt _ (by omega)⟩)) ?_ _ h (mem_heads h) (ix2 r d) (emb_rq h r d).symm).trans ?_
  · intro h _ x
    change S256x128.Idx at x
    idx_vars x
    rw [emb_rq]
    have e0 : (⟨(128 * h.val + x1.val) / 128, by omega⟩ : Fin 4) = h := Fin.ext (by show (128 * h.val + x1.val) / 128 = h.val; omega)
    have e1 : (⟨(128 * h.val + x1.val) % 128, by omega⟩ : Fin 128) = x1 := Fin.ext (by show (128 * h.val + x1.val) % 128 = x1.val; omega)
    show _ = outPay (View.readAt (Elt Ideal) arg13.view (rh13 (⟨(128 * h.val + x1.val) / 128, _⟩ : Fin 4)).toLoadRect _) (ix2 x0 (⟨(128 * h.val + x1.val) % 128, _⟩ : Fin 128))
    rw [e0, e1]
  · have e0 : (⟨(128 * h.val + d.val) / 128, by omega⟩ : Fin 4) = h := Fin.ext (by show (128 * h.val + d.val) / 128 = h.val; omega)
    have e1 : (⟨(128 * h.val + d.val) % 128, by omega⟩ : Fin 128) = d := Fin.ext (by show (128 * h.val + d.val) % 128 = d.val; omega)
    show outPay (View.readAt (Elt Ideal) arg13.view (rh13 (⟨(128 * h.val + d.val) / 128, _⟩ : Fin 4)).toLoadRect _) (ix2 r (⟨(128 * h.val + d.val) % 128, _⟩ : Fin 128)) = _
    rw [e0, e1]
    refine (outPay_apply _ r d).trans ?_
    refine (congrArg (arg13.view.read (Elt Ideal) _) (emb_rh13 h 0 r d)).trans ?_
    rw [T.trips_eq]
    refine (e2 h r d).trans ?_
    rw [Nat.sub_self, Finset.range_eq_Ico]

end

end Cert.Proof.S
-- ==== Proof.S.Spec.lean ====
/-
  Stick-breaking attention over the whole arrays, as one function of the queries, keys and values: the scores, their
  softplus, the weights and the weighted sum of the values.
-/
module

public import proofs.«01_k».proof.Proof.S.Out

@[expose] public section

set_option maxRecDepth 65536

noncomputable section

namespace Cert.Proof.S

open Cert.KernelIdeal Cert.KernelIdeal.Gen
open Idealize.ShloMosaic Idealize.ShloMosaic.TcCoe

/-- Row `n` of sequence `b` among the rows of the arrays. -/
def rowA (b : Fin 2) (n : ℕ) : Fin 8704 := ⟨4096 * b.val + n % 4096, by omega⟩

/-- Column `d` of head `H`. -/
def colA (H : Fin 16) (d : Fin 128) : Fin 2048 := ⟨128 * H.val + d.val, by omega⟩

section
variable (q k v : Vec Ideal S8704x2048 .bf16)

/-- The score of key `n` for query `r`: the keys from the query's own on left out. -/
def zA (b : Fin 2) (H : Fin 16) (r n : ℕ) : EReal :=
  if n < r then (∑ d : Fin 128, (q (ix2 (rowA b r) (colA H d)) : EReal) * (k (ix2 (rowA b n) (colA H d)) : EReal) : EReal) * Ideal.ofBits .f32 0x3DB504F3#32 else ⊥

/-- The softplus of a score, a real number. -/
def SA (b : Fin 2) (H : Fin 16) (r n : ℕ) : ℝ := (spI (zA q k b H r n)).toReal

/-- The weight of key `n` for query `r`. -/
def wA (b : Fin 2) (H : Fin 16) (r n : ℕ) : EReal :=
  Ideal.exp (zA q k b H r n - (SA q k b H r n : EReal) - ((∑ m ∈ Finset.Ico (n + 1) 4096, SA q k b H r m : ℝ) : EReal))

/-- The result at a row and a column. -/
def attA (b : Fin 2) (H : Fin 16) (r : ℕ) (d : Fin 128) : EReal :=
  ∑ n ∈ Finset.range 4096, wA q k b H r n * (v (ix2 (rowA b n) (colA H d)) : EReal)

/-- The result array. -/
def attArr : Vec Ideal S8192x2048 .bf16 := fun y =>
  attA q k v ⟨(y 0).val / 4096, Nat.div_lt_of_lt_mul (y 0).isLt⟩ ⟨(y 1).val / 128, Nat.div_lt_of_lt_mul (y 1).isLt⟩ ((y 0).val % 4096) ⟨(y 1).val % 128, Nat.mod_lt _ (by omega)⟩

/-- The softplus of the scores is real. -/
def SReal : Prop := ∀ b H r n, spI (zA q k b H r n) = (SA q k b H r n : EReal)

end

end Cert.Proof.S
-- ==== Proof.S.Array.lean ====
/-
  The kernel's result array: every block at what the body leaves, which is the attention read at the block's rows and
  columns.
-/
module

public import proofs.«01_k».proof.Proof.S.Spec
public import proofs.«01_k».proof.Proof.S.Run
public import Idealize.ShloMosaic.Lib.Pipeline.ValueKit

@[expose] public section

set_option maxRecDepth 65536

noncomputable section

namespace Cert.Proof.S

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The operand arrays of a device. -/
abbrev qM (c : Dev nD) : Vec Ideal S8704x2048 .bf16 := m ((c.tc : Thread nD τ).loc main_arg0)
abbrev kM (c : Dev nD) : Vec Ideal S8704x2048 .bf16 := m ((c.tc : Thread nD τ).loc main_arg1)
abbrev vM (c : Dev nD) : Vec Ideal S8704x2048 .bf16 := m ((c.tc : Thread nD τ).loc main_arg2)

theorem idx0 : ∀ t : Fin cfg0.N, win0_0.index t = ![(grid0.coords t 0).val * 16 + (grid0.coords t 2).val, (grid0.coords t 1).val] :=
  (by decide +kernel : ∀ t : Fin grid0.N, _)
theorem idx1 : ∀ t : Fin cfg0.N, win0_1.index t = ![(grid0.coords t 0).val, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val * 16 + (grid0.coords t 2).val, (grid0.coords t 1).val] :=
  (by decide +kernel : ∀ t : Fin grid0.N, _)

/-- The sequence, head and row block of a grid point. -/
def bT (t : Fin cfg0.N) : Fin 2 := grid0.coords t 0
def HT (t : Fin cfg0.N) (h : Fin 4) : Fin 16 := ⟨4 * (grid0.coords t 1).val + h.val, by have : (grid0.coords t 1).val < 4 := (grid0.coords t 1).isLt; omega⟩
def iT (t : Fin cfg0.N) : Fin 16 := grid0.coords t 2

theorem qblk (c : Dev nD) (t : Fin cfg0.N) (r : Fin 256) (h : Fin 4) (d : Fin 128) :
    iblk m c 0 t (ix2 r (colF h d)) = qM m c (ix2 (rowA (bT t) (256 * (iT t).val + r.val)) (colA (HT t h) d)) := by
  have hi : (iT t).val < 16 := (iT t).isLt
  have e : (256 * (iT t).val + r.val) % 4096 = 256 * (iT t).val + r.val := Nat.mod_eq_of_lt (by omega)
  refine congrArg (qM m c) ?_
  unfold rowA colA HT colF bT iT at *
  blk_ext [idx0 t]

theorem kblk (c : Dev nD) (t : Fin cfg0.N) (n : ℕ) (h : Fin 4) (d : Fin 128) :
    X0_1 m c t (ix2 (rowN n) (colF h d)) = kM m c (ix2 (rowA (bT t) n) (colA (HT t h) d)) := by
  unfold X0_1 Pipeline.Window.fill
  rw [dif_pos (moved0_1 t _)]
  refine congrArg (kM m c) ?_
  unfold rowA colA HT colF bT rowN
  blk_ext [idx1 t]

theorem vblk (c : Dev nD) (t : Fin cfg0.N) (n : ℕ) (h : Fin 4) (d : Fin 128) :
    X0_2 m c t (ix2 (rowN n) (colF h d)) = vM m c (ix2 (rowA (bT t) n) (colA (HT t h) d)) := by
  unfold X0_2 Pipeline.Window.fill
  rw [dif_pos (moved0_2 t _)]
  refine congrArg (vM m c) ?_
  unfold rowA colA HT colF bT rowN
  blk_ext [idx2 t]

theorem zN_blk (c : Dev nD) (t : Fin cfg0.N) (h : Fin 4) (r : Fin 256) (n : ℕ) :
    zN (iblk m c 0 t) (X0_1 m c t) (iT t).val h r n = zA (qM m c) (kM m c) (bT t) (HT t h) (256 * (iT t).val + r.val) n := by
  unfold zN zA
  refine if_congr Iff.rfl (congrArg (fun x : EReal => x * Ideal.ofBits .f32 0x3DB504F3#32) ?_) rfl
  exact Finset.sum_congr rfl fun d _ => congrArg₂ (fun a b : EReal => a * b) (qblk m c t r h d) (kblk m c t n h d)

/-- The block the body leaves, at a row and a column of a head. -/
theorem outsAt_apply (c : Dev nD) (hspb : spI ⊥ = 0) (hS : SReal (qM m c) (kM m c)) (t : Fin cfg0.N) (h : Fin 4) (r : Fin 256) (d : Fin 128) :
    outsAt m c t (ix2 r (colF h d)) = attA (qM m c) (kM m c) (vM m c) (bT t) (HT t h) (256 * (iT t).val + r.val) d := by
  unfold outsAt
  refine (out_apply c (grid0.coords t) _ _ _ _ _ _ _ _ _ _ _ _ _ _ _ _ _ _ _ _ _ _ (iblk m c 0 t) (X0_1 m c t) (X0_2 m c t)
    (fun h r n => SA (qM m c) (kM m c) (bT t) (HT t h) (256 * (iT t).val + r.val) n) hspb (fun h r n => ?_) h r d).trans ?_
  · exact (congrArg spI (zN_blk m c t h r n)).trans (hS _ _ _ _)
  · unfold attA
    refine Finset.sum_congr rfl fun n _ => congrArg₂ (fun a b : EReal => a * b) ?_ (vblk m c t n h d)
    unfold wN wA
    rw [show zN (iblk m c 0 t) (X0_1 m c t) ((grid0.coords t) 2).val h r n = _ from zN_blk m c t h r n]
    rfl

/-- The kernel's result array is the attention. -/
theorem arr_eq (c : Dev nD) (hspb : spI ⊥ = 0) (hS : SReal (qM m c) (kM m c)) :
    (dats m 0 c).arrAt 3 cfg0.N = attArr (qM m c) (kM m c) (vM m c) := by
  refine (dats m 0 c).arrAt_eq_of_covers 3 _ (by decide +kernel) fun t hf y => ?_
  change S256x512.Idx at y
  idx_vars y
  blk_simp
  rw [after0_3]
  have hy : (ix2 y0 y1 : S256x512.Idx) = ix2 y0 (colF ⟨y1.val / 128, by omega⟩ ⟨y1.val % 128, by omega⟩) :=
    congrArg (ix2 y0) (Fin.ext (by show y1.val = 128 * (y1.val / 128) + y1.val % 128; omega))
  refine (congrArg (outsAt m c t) hy).trans ((outsAt_apply m c hspb hS t _ y0 _).trans ?_)
  have hi : (iT t).val < 16 := (iT t).isLt
  have hb : (bT t).val < 2 := (bT t).isLt
  have hH : (grid0.coords t 1).val < 4 := (grid0.coords t 1).isLt
  have r0 : (((cfg0.win 3).blk t).view.emb (ix2 y0 y1) 0).val = 4096 * (bT t).val + (256 * (iT t).val + y0.val) := by
    blk_simp [idx3 t]; unfold bT iT; show ((grid0.coords t 0).val * 16 + (grid0.coords t 2).val) * 256 + y0.val = _; omega
  have r1 : (((cfg0.win 3).blk t).view.emb (ix2 y0 y1) 1).val = 512 * (grid0.coords t 1).val + y1.val := by
    blk_simp [idx3 t]; show (grid0.coords t 1).val * 512 + y1.val = _; omega
  unfold attArr
  refine congr (congr (congr (congrArg (attA (qM m c) (kM m c) (vM m c)) (Fin.ext ?_)) (Fin.ext ?_)) ?_) (Fin.ext ?_)
  · show _ = (((cfg0.win 3).blk t).view.emb (ix2 y0 y1) 0).val / 4096; rw [r0]; omega
  · show 4 * (grid0.coords t 1).val + y1.val / 128 = (((cfg0.win 3).blk t).view.emb (ix2 y0 y1) 1).val / 128; rw [r1]; omega
  · show _ = (((cfg0.win 3).blk t).view.emb (ix2 y0 y1) 0).val % 4096; rw [r0]; omega
  · show y1.val % 128 = (((cfg0.win 3).blk t).view.emb (ix2 y0 y1) 1).val % 128; rw [r1]; omega

/-- From any memory whose scores have real softplus the kernel ends with its result at the attention. -/
theorem run_att (hspb : spI ⊥ = 0) (hS : ∀ c, SReal (qM m c) (kM m c)) :
    θ_run defs (onTc (τ := τ) (main (F := Ideal))) ⟨m, fun _ => 0, ρ⟩ (fun r => ∀ c : Dev nD,
      r.2.mem ((c.tc : Thread nD τ).loc main_v0) = attArr (qM m c) (kM m c) (vM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (arr_eq m c hspb (hS c)), ((h.1 c).1 0).trans ((dats m 0 c).arrAt_in 0 rfl _),
    ((h.1 c).1 1).trans ((dats m 0 c).arrAt_in 1 rfl _), ((h.1 c).1 2).trans ((dats m 0 c).arrAt_in 2 rfl _)⟩) (run_main m ρ)

end Cert.Proof.S
-- ==== Proof.S.Softplus.lean ====
/-
  Softplus on the extended reals: real at a real number, zero at `-∞`, and the logarithm of the sigmoid by it; and that
  the scores of finite queries and keys have real softplus.
-/
module

public import proofs.«01_k».proof.Proof.S.Spec
public import proofs.«01_k».proof.Proof.Gen.Pre_finite_qk
public import Idealize.ShloMosaic.Lib.ReduceAll

@[expose] public section

set_option maxRecDepth 65536

noncomputable section

namespace Cert.Proof.S

open Cert.KernelIdeal Cert.KernelIdeal.Gen
open Idealize.ShloMosaic Idealize.ShloMosaic.TcCoe

theorem log_of_pos (x : ℝ) (h : 0 < x) : Ideal.log (x : EReal) = (Real.log x : EReal) := by
  show (if x ≤ 0 then ⊥ else (Real.log x : EReal)) = _
  rw [if_neg (not_le.mpr h)]

theorem coe_max (x y : ℝ) : max (x : EReal) (y : EReal) = ((max x y : ℝ) : EReal) := EReal.coe_strictMono.monotone.map_max.symm

/-- The real softplus. -/
def spR (x : ℝ) : ℝ := max x 0 + Real.log (1 + Real.exp (-|x|))

theorem absf_coe (x : ℝ) : FloatOps.absf (F := Ideal) (φ := .f32) (x : EReal) = ((|x| : ℝ) : EReal) := by
  show max (x : EReal) (-(x : EReal)) = _
  rw [← EReal.coe_neg, coe_max]; rfl

theorem spI_coe (x : ℝ) : spI (x : EReal) = (spR x : EReal) := by
  unfold spI spR
  rw [absf_coe, zero_sub, ← EReal.coe_neg]
  rw [show Ideal.exp ((-|x| : ℝ) : EReal) = (Real.exp (-|x|) : EReal) from rfl, ← EReal.coe_one, ← EReal.coe_add,
    log_of_pos _ (by positivity), ← EReal.coe_zero, coe_max, ← EReal.coe_add]

theorem absf_bot : FloatOps.absf (F := Ideal) (φ := .f32) (⊥ : EReal) = (⊤ : EReal) := by
  show max (⊥ : EReal) (-⊥) = _
  rw [EReal.neg_bot]; exact max_eq_right bot_le

theorem absf_top : FloatOps.absf (F := Ideal) (φ := .f32) (⊤ : EReal) = (⊤ : EReal) := by
  show max (⊤ : EReal) (-⊤) = _
  exact max_eq_left le_top

theorem log_one_exp_bot : Ideal.log (1 + Ideal.exp (0 - (⊤ : EReal))) = 0 := by
  rw [zero_sub, EReal.neg_top, exp_bot, add_zero, ← EReal.coe_one, log_of_pos 1 one_pos, Real.log_one, EReal.coe_zero]

theorem spI_bot : spI ⊥ = 0 := by
  unfold spI
  rw [absf_bot, log_one_exp_bot, add_zero]; exact max_eq_right bot_le

theorem spI_top : spI ⊤ = ⊤ := by
  unfold spI
  rw [absf_top, log_one_exp_bot, add_zero]; exact max_eq_left le_top

/-- The logarithm of the sigmoid, as the reference takes it and as the kernel does. -/
theorem logSigmoid (z : EReal) (h : z ≠ ⊤) : -(spI (-z)) = z - spI z := by
  induction z with
  | bot => rw [EReal.neg_bot, spI_top, spI_bot, EReal.neg_top, sub_zero]
  | top => exact absurd rfl h
  | coe x =>
    rw [← EReal.coe_neg, spI_coe, spI_coe, ← EReal.coe_neg, ← EReal.coe_sub]
    refine congrArg _ ?_
    unfold spR
    rw [abs_neg]
    rcases le_total x 0 with hx | hx
    · rw [max_eq_left (by linarith : 0 ≤ -x), max_eq_right hx]; ring
    · rw [max_eq_right (by linarith : -x ≤ 0), max_eq_left hx]; ring

theorem scale_real : ∃ s : ℝ, Ideal.ofBits .f32 0x3DB504F3#32 = (s : EReal) :=
  ⟨_, by simp [Ideal.ofBits, Ideal.ieee]; rfl⟩

section
variable (q k : Vec Ideal S8704x2048 .bf16)

theorem sum_real {n : ℕ} (f : Fin n → EReal) (h : ∀ i, ∃ r : ℝ, f i = (r : EReal)) : ∃ r : ℝ, (∑ i, f i) = (r : EReal) := by
  choose g hg using h
  exact ⟨∑ i, g i, by rw [coe_sum]; exact Finset.sum_congr rfl fun i _ => hg i⟩

theorem zA_real (hq : ∀ i, ∃ r : ℝ, (q i : EReal) = r) (hk : ∀ i, ∃ r : ℝ, (k i : EReal) = r) (b H) (r n : ℕ) :
    zA q k b H r n = ⊥ ∨ ∃ x : ℝ, zA q k b H r n = (x : EReal) := by
  unfold zA
  split
  · right
    obtain ⟨s, hs⟩ := scale_real
    obtain ⟨x, hx⟩ := sum_real (fun d : Fin 128 => (q (ix2 (rowA b r) (colA H d)) : EReal) * (k (ix2 (rowA b n) (colA H d)) : EReal)) fun d => by
      obtain ⟨a, ha⟩ := hq (ix2 (rowA b r) (colA H d))
      obtain ⟨c, hc⟩ := hk (ix2 (rowA b n) (colA H d))
      exact ⟨a * c, by rw [EReal.coe_mul, ← ha, ← hc]⟩
    exact ⟨x * s, by rw [EReal.coe_mul, ← hs, ← hx]⟩
  · exact Or.inl rfl

theorem zA_ne_top (hq : ∀ i, ∃ r : ℝ, (q i : EReal) = r) (hk : ∀ i, ∃ r : ℝ, (k i : EReal) = r) (b H) (r n : ℕ) : zA q k b H r n ≠ ⊤ := by
  rcases zA_real q k hq hk b H r n with h | ⟨x, h⟩ <;> rw [h]
  · exact bot_ne_top
  · exact EReal.coe_ne_top x

theorem sReal (hq : ∀ i, ∃ r : ℝ, (q i : EReal) = r) (hk : ∀ i, ∃ r : ℝ, (k i : EReal) = r) : SReal q k := fun b H r n => by
  unfold SA
  rcases zA_real q k hq hk b H r n with h | ⟨x, h⟩ <;> rw [h]
  · rw [spI_bot]; rfl
  · rw [spI_coe]; rfl

theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x with
  | bot => simp at h
  | top => simp at h
  | coe x => exact ⟨x, rfl⟩

instance : Subsingleton Cert.Pre_finite_qk.S_.Idx := ⟨fun a b => funext fun i => i.elim0⟩

theorem real_of_all (x : Vec Ideal S8704x2048 .bf16) (j : Cert.Pre_finite_qk.S_.Idx)
    (h : Host.reduce IntOp.andi (cmpf .olt (Host.absf (extf .f32 x Cert.Pre_finite_qk.Gen.bitsLt_bf16_f32))
      (broadcastInDim Cert.Pre_finite_qk.S8704x2048 ![] Cert.Pre_finite_qk.Gen.bcast_S_S8704x2048 (constant (F := Ideal) Cert.Pre_finite_qk.S_ .f32 0x7F800000#32)))
      (constantI Cert.Pre_finite_qk.S_ 1 1#1) Cert.Pre_finite_qk.Gen.reducesTo_S8704x2048_S_d0_1 Cert.Pre_finite_qk.Gen.h_S_ j = 1#1) :
    ∀ i, ∃ r : ℝ, (x i : EReal) = r := fun i =>
  real_of_lt (x i) (Host.reduce_andi_all _ _ _ _ j h i)

theorem real_of_pre (v : Vec Ideal S8704x2048 .bf16) (h : Cert.Pre_finite_qk.fn (F := Ideal) q k v = fun _ => 1#1) :
    (∀ i, ∃ r : ℝ, (q i : EReal) = r) ∧ ∀ i, ∃ r : ℝ, (k i : EReal) = r := by
  have h0 := congrFun h (fun i => i.elim0)
  have h1 := (IntOp.andi_eq_one.mp h0)
  exact ⟨real_of_all q _ h1.1, real_of_all k _ h1.2⟩

end

end Cert.Proof.S
-- ==== Proof.S.Window.lean ====
/-
  The running sum over the last axis, taken from the end: at a position, the sum of the entries from it on.
-/
module

public import proofs.«01_k».proof.Proof.S.Spec
public import proofs.«01_k».proof.Proof.Gen.ReferenceIdeal

@[expose] public section

set_option maxRecDepth 65536

noncomputable section

namespace Cert.Proof.S

open Cert.ReferenceIdeal
open Idealize.ShloMosaic Idealize.ShloMosaic.TcCoe

theorem foldl_sum {N : ℕ} (f : Fin N → EReal) : (List.finRange N).foldl (fun r n => r + f n) 0 = ∑ n, f n := by
  rw [← List.sum_ofFn, List.ofFn_eq_map, List.sum_eq_foldl, List.foldl_map]

/-- The window's positions: one along each of the first axes. -/
abbrev SW : Shape := ⟨4, ![1, 1, 1, 4096]⟩

def winEquiv : SW.Idx ≃ Fin 4096 where
  toFun w := w 3
  invFun n := ix4 (0 : Fin 1) (0 : Fin 1) (0 : Fin 1) n
  left_inv w := by
    have h : ∀ a : Fin 3, (w a.castSucc).val = 0 := fun a => by
      fin_cases a
      · exact Nat.lt_one_iff.mp (w 0).isLt
      · exact Nat.lt_one_iff.mp (w 1).isLt
      · exact Nat.lt_one_iff.mp (w 2).isLt
    funext a
    refine Fin.ext ?_
    fin_cases a
    · exact (h 0).symm
    · exact (h 1).symm
    · exact (h 2).symm
    · rfl
  right_inv n := rfl

theorem window_apply (x : S2x16x4096x4096.Idx → EReal) (h : S2x16x4096x4096.ReduceWindows ![1, 1, 1, 4096] ![1, 1, 1, 1] ![0, 0, 0, 0] ![0, 0, 0, 4095] S2x16x4096x4096)
    (b : Fin 2) (H : Fin 16) (r n : Fin 4096) :
    Ideal.hostReduceWindowAdd ![1, 1, 1, 4096] ![1, 1, 1, 1] ![0, 0, 0, 0] ![0, 0, 0, 4095] h x 0 (ix4 b H r n)
      = ∑ j : Fin 4096, if hj : n.val + j.val < 4096 then x (ix4 b H r ⟨n.val + j.val, hj⟩) else 0 := by
  unfold Ideal.hostReduceWindowAdd Host.reduceWindow
  refine (foldl_sum _).trans ?_
  refine (Finset.sum_congr rfl fun i _ => ?_).trans ((Equiv.sum_comp SW.rowMajor.symm (fun w : SW.Idx =>
    if hj : n.val + (w 3).val < 4096 then x (ix4 b H r ⟨n.val + (w 3).val, hj⟩) else 0)).trans (Equiv.sum_comp winEquiv.symm _).symm)
  change Fin SW.numel at i
  have h : ∀ a : Fin 3, (SW.rowMajor.symm i a.castSucc).val = 0 := fun a => by
    fin_cases a
    · exact Nat.lt_one_iff.mp (SW.rowMajor.symm i 0).isLt
    · exact Nat.lt_one_iff.mp (SW.rowMajor.symm i 1).isLt
    · exact Nat.lt_one_iff.mp (SW.rowMajor.symm i 2).isLt
  have h0 : (SW.rowMajor.symm i 0).val = 0 := h 0
  have h1 : (SW.rowMajor.symm i 1).val = 0 := h 1
  have h2 : (SW.rowMajor.symm i 2).val = 0 := h 2
  by_cases hj : n.val + (SW.rowMajor.symm i 3).val < 4096
  · have e : (if hj : n.val + (SW.rowMajor.symm i 3).val < 4096 then x (ix4 b H r ⟨n.val + (SW.rowMajor.symm i 3).val, hj⟩) else 0)
        = x (ix4 b H r ⟨n.val + (SW.rowMajor.symm i 3).val, hj⟩) := dif_pos hj
    refine (dif_pos ?_).trans ((congrArg x (funext fun a => Fin.ext ?_)).trans e.symm)
    · intro a
      refine ⟨by fin_cases a <;> exact Nat.zero_le _, ?_⟩
      fin_cases a
      · show b.val * 1 + (SW.rowMajor.symm i 0).val - 0 < 2; omega
      · show H.val * 1 + (SW.rowMajor.symm i 1).val - 0 < 16; omega
      · show r.val * 1 + (SW.rowMajor.symm i 2).val - 0 < 4096; omega
      · show n.val * 1 + (SW.rowMajor.symm i 3).val - 0 < 4096; omega
    · fin_cases a
      · show b.val * 1 + (SW.rowMajor.symm i 0).val - 0 = b.val; omega
      · show H.val * 1 + (SW.rowMajor.symm i 1).val - 0 = H.val; omega
      · show r.val * 1 + (SW.rowMajor.symm i 2).val - 0 = r.val; omega
      · show n.val * 1 + (SW.rowMajor.symm i 3).val - 0 = n.val + (SW.rowMajor.symm i 3).val; omega
  · have e : (if hj : n.val + (SW.rowMajor.symm i 3).val < 4096 then x (ix4 b H r ⟨n.val + (SW.rowMajor.symm i 3).val, hj⟩) else 0) = 0 := dif_neg hj
    refine (dif_neg ?_).trans e.symm
    intro hin
    have h3 : n.val * 1 + (SW.rowMajor.symm i 3).val - 0 < 4096 := (hin 3).2
    omega

/-- The same, the entries given by a function of the column's number. -/
theorem window_sum (x : S2x16x4096x4096.Idx → EReal) (h : S2x16x4096x4096.ReduceWindows ![1, 1, 1, 4096] ![1, 1, 1, 1] ![0, 0, 0, 0] ![0, 0, 0, 4095] S2x16x4096x4096)
    (b : Fin 2) (H : Fin 16) (r n : Fin 4096) (f : ℕ → ℝ) (hx : ∀ j : Fin 4096, x (ix4 b H r j) = (f j.val : EReal)) :
    Ideal.hostReduceWindowAdd ![1, 1, 1, 4096] ![1, 1, 1, 1] ![0, 0, 0, 0] ![0, 0, 0, 4095] h x 0 (ix4 b H r n)
      = ((∑ j ∈ Finset.Ico n.val 4096, f j : ℝ) : EReal) := by
  rw [window_apply, Finset.sum_Ico_eq_sum_range, coe_sum]
  have e : ∀ j : Fin 4096, (if hj : n.val + j.val < 4096 then x (ix4 b H r ⟨n.val + j.val, hj⟩) else 0)
      = (fun m : ℕ => if n.val + m < 4096 then (f (n.val + m) : EReal) else 0) j.val := fun j => by
    show _ = if n.val + j.val < 4096 then (f (n.val + j.val) : EReal) else 0
    by_cases hj : n.val + j.val < 4096
    · rw [dif_pos hj, if_pos hj, hx]
    · rw [dif_neg hj, if_neg hj]
  rw [Finset.sum_congr rfl fun j _ => e j, Fin.sum_univ_eq_sum_range (fun m : ℕ => if n.val + m < 4096 then (f (n.val + m) : EReal) else 0)]
  have hn := n.isLt
  rw [← Finset.sum_subset (Finset.range_subset_range.mpr (show 4096 - n.val ≤ 4096 by omega)) fun m _ hm => if_neg (by rw [Finset.mem_range] at hm; omega)]
  exact Finset.sum_congr rfl fun m hm => if_pos (by rw [Finset.mem_range] at hm; omega)

end Cert.Proof.S
-- ==== Proof.S.Ref.lean ====
/-
  The reference's result, read at a row and a column: the attention of `Spec`.
-/
module

public import proofs.«01_k».proof.Proof.S.Softplus
public import proofs.«01_k».proof.Proof.S.Window
public import proofs.«01_k».proof.Proof.Gen.ReferenceIdeal.Read
public import Idealize.ShloMosaic.Lib.WordCmp

@[expose] public section

set_option maxRecDepth 65536

noncomputable section

namespace Cert.Proof.S

open Cert.ReferenceIdeal Cert.ReferenceIdeal.Gen Cert.ReferenceIdeal.Read
open Idealize.ShloMosaic Idealize.ShloMosaic.TcCoe

theorem ofBits_zero : Ideal.ofBits .f32 0x00000000#32 = 0 := by simp [Ideal.ofBits, Ideal.ieee]
theorem ofBits_ninf : Ideal.ofBits .f32 0xFF800000#32 = ⊥ := by simp [Ideal.ofBits, Ideal.ieee]

theorem reduceWindowAdd_eq (x : FVec Ideal S2x16x4096x4096 .f32) (init : FVec Ideal S_ .f32) (h : S2x16x4096x4096.ReduceWindows ![1, 1, 1, 4096] ![1, 1, 1, 1] ![0, 0, 0, 0] ![0, 0, 0, 4095] S2x16x4096x4096) (hu : 0 < S_.numel) :
    Host.reduceWindowAdd ![1, 1, 1, 4096] ![1, 1, 1, 1] ![0, 0, 0, 0] ![0, 0, 0, 4095] x init h hu
      = Ideal.hostReduceWindowAdd ![1, 1, 1, 4096] ![1, 1, 1, 1] ![0, 0, 0, 0] ![0, 0, 0, 4095] h x (init (Shape.Idx.first hu)) := rfl

/-- The host's softplus on one value: its guard against an undefined value never applies, and the rest is the kernel's. -/
theorem softplus_eq (x z : EReal) (hz : z = 0) :
    Scalar.select (Ideal.cmp .une (x - z) (x - z)) (x + z) (max x z + Ideal.log1p (Ideal.exp (-(max (x - z) (-(x - z)))))) = spI x := by
  subst hz
  have h : Ideal.cmp .une (x - 0) (x - 0) = 0#1 := by unfold Ideal.cmp; simp
  rw [h]
  show max x 0 + Ideal.log (1 + Ideal.exp (-(max (x - 0) (-(x - 0))))) = _
  rw [sub_zero]
  unfold spI
  rw [zero_sub]; rfl

section
variable (q k v : Vec Ideal S8704x2048 .bf16)

theorem v2_apply (b : Fin 2) (r : Fin 4096) (H : Fin 16) (d : Fin 128) : val_main_v2 (F := Ideal) q (ix4 b r H d) = q (ix2 (rowA b r.val) (colA H d)) := by
  rw [val_main_v2_apply, val_main_v1_apply, val_main_v0_apply]
  refine congrArg q (funext fun a => Fin.ext ?_)
  have hr := Nat.mod_eq_of_lt r.isLt
  fin_cases a
  · show (((b.val * 4096 + r.val) * 16 + H.val) * 128 + d.val) / 2048 = 4096 * b.val + r.val % 4096; omega
  · show (((b.val * 4096 + r.val) * 16 + H.val) * 128 + d.val) % 2048 = 128 * H.val + d.val; omega

theorem v5_apply (b : Fin 2) (r : Fin 4096) (H : Fin 16) (d : Fin 128) : val_main_v5 (F := Ideal) k (ix4 b r H d) = k (ix2 (rowA b r.val) (colA H d)) := v2_apply k b r H d
theorem v8_apply (b : Fin 2) (r : Fin 4096) (H : Fin 16) (d : Fin 128) : val_main_v8 (F := Ideal) v (ix4 b r H d) = v (ix2 (rowA b r.val) (colA H d)) := v2_apply v b r H d

theorem v19_apply (b : Fin 2) (H : Fin 16) (r n : Fin 4096) : val_main_v19 (F := Ideal) q k (ix4 b H r n) = zA q k b H r.val n.val := by
  rw [val_main_v19_apply, val_main_call0_v1_apply, val_main_v18_apply, val_main_v16_apply, val_main_v17_apply, val_main_v14_apply, val_main_v15_apply,
    val_main_v9_apply, val_main_v10_apply, val_main_v13_apply, val_main_v12_apply, val_main_cst_apply, val_main_call0_v2_apply, val_main_call0_v0_apply, val_main_cst_0_apply, val_main_v11_apply]
  unfold zA
  by_cases h : n.val < r.val
  · rw [if_pos h]
    have e : IntOp.cmpi .slt (BitVec.ofNat 32 n.val) (BitVec.ofNat 32 r.val) = 1#1 := by
      rw [WordCmp.cmpi_slt_ofNat (by omega) (by omega), decide_eq_true h]; rfl
    refine (congrArg (fun c => Scalar.select c _ _) e).trans ?_
    refine congrArg (fun x : EReal => x * Ideal.ofBits .f32 0x3DB504F3#32) ?_
    refine Finset.sum_congr rfl fun d _ => congrArg₂ (fun a b : EReal => a * b) ?_ ?_
    · refine (congrArg (val_main_v2 (F := Ideal) q) (?_ : _ = ix4 b r H d)).trans (v2_apply q b r H d)
      funext a; fin_cases a <;> rfl
    · refine (congrArg (val_main_v5 (F := Ideal) k) (?_ : _ = ix4 b n H d)).trans (v5_apply k b n H d)
      funext a; fin_cases a <;> rfl
  · rw [if_neg h]
    have e : IntOp.cmpi .slt (BitVec.ofNat 32 n.val) (BitVec.ofNat 32 r.val) = 0#1 := by
      rw [WordCmp.cmpi_slt_ofNat (by omega) (by omega), decide_eq_false h]; rfl
    exact (congrArg (fun c => Scalar.select c _ _) e).trans ofBits_ninf

theorem v20_apply (i : S2x16x4096x4096.Idx) : val_main_v20 (F := Ideal) q k i = spI (val_main_v19 (F := Ideal) q k i) := by
  rw [val_main_v20_apply, val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v2_apply, val_main_call1_v5_apply,
    val_main_call1_v0_apply, val_main_call1_cst_apply]
  exact softplus_eq _ _ ofBits_zero

theorem v23_apply (i : S2x16x4096x4096.Idx) : val_main_v23 (F := Ideal) q k i = -(spI (-(val_main_v19 (F := Ideal) q k i))) := by
  rw [val_main_v23_apply, val_main_call3_v1_apply, val_main_call3_call0_v4_apply, val_main_call3_call0_v6_apply, val_main_call3_call0_v11_apply, val_main_call3_call0_v1_apply, val_main_call3_call0_v10_apply,
    val_main_call3_call0_v9_apply, val_main_call3_call0_v8_apply, val_main_call3_call0_v7_apply, val_main_call3_call0_v3_apply, val_main_call3_call0_v2_apply, val_main_call3_call0_v5_apply,
    val_main_call3_call0_v0_apply, val_main_call3_call0_cst_apply, val_main_call3_v0_apply]
  exact congrArg (fun x : EReal => -x) (softplus_eq _ _ ofBits_zero)

variable (hS : SReal q k) (hz : ∀ b H r n, zA q k b H r n ≠ ⊤)

include hS in
theorem v21_apply (b : Fin 2) (H : Fin 16) (r n : Fin 4096) :
    val_main_v21 (F := Ideal) q k (ix4 b H r n) = ((∑ j ∈ Finset.Ico n.val 4096, SA q k b H r.val j : ℝ) : EReal) := by
  unfold val_main_v21
  have e0 : val_main_call2_v0 (F := Ideal) (Shape.Idx.first h_S_) = 0 := by
    rw [val_main_call2_v0_apply, val_main_call2_cst_apply]; exact ofBits_zero
  refine (congrFun (reduceWindowAdd_eq _ _ _ _) _).trans ?_
  rw [e0]
  refine window_sum _ _ b H r n (fun j => SA q k b H r.val j) fun j => ?_
  rw [v20_apply, v19_apply]
  exact hS b H r.val j.val

include hS hz in
/-- The reference's weights are the kernel's. -/
theorem v25_apply (b : Fin 2) (H : Fin 16) (r n : Fin 4096) : val_main_v25 (F := Ideal) q k (ix4 b H r n) = wA q k b H r.val n.val := by
  rw [val_main_v25_apply, val_main_v24_apply, val_main_v22_apply, v21_apply q k hS, v20_apply, v23_apply, v19_apply, logSigmoid _ (hz _ _ _ _), hS]
  show Ideal.exp ((zA q k b H r.val n.val - (SA q k b H r.val n.val : EReal)) - (((∑ j ∈ Finset.Ico n.val 4096, SA q k b H r.val j : ℝ) : EReal) - (SA q k b H r.val n.val : EReal))) = _
  unfold wA
  rw [← EReal.coe_sub, Finset.sum_eq_sum_Ico_succ_bot n.isLt, add_sub_cancel_left]

include hS hz in
theorem v26_apply (b : Fin 2) (H : Fin 16) (d : Fin 128) (r : Fin 4096) : val_main_v26 (F := Ideal) q k v (ix4 b H d r) = attA q k v b H r.val d := by
  rw [val_main_v26_apply]
  unfold attA
  rw [Finset.sum_range]
  refine Finset.sum_congr rfl fun n _ => ?_
  refine (mul_comm (_ : EReal) _).trans (congrArg₂ (fun a b : EReal => a * b) ?_ ?_)
  · refine (congrArg (val_main_v25 (F := Ideal) q k) (?_ : _ = ix4 b H r n)).trans (v25_apply q k hS hz b H r n)
    funext a; fin_cases a <;> rfl
  · refine (congrArg (val_main_v8 (F := Ideal) v) (?_ : _ = ix4 b n H d)).trans (v8_apply v b n H d)
    funext a; fin_cases a <;> rfl

include hS hz in
/-- The reference's result is the attention. -/
theorem v29_eq : val_main_v29 (F := Ideal) q k v = attArr q k v := by
  funext y
  idx_vars y
  rw [val_main_v29_apply, val_main_v28_apply, val_main_v27_apply]
  refine (congrArg (val_main_v26 (F := Ideal) q k v) (?_ : _ = ix4 (⟨y0.val / 4096, by omega⟩ : Fin 2) (⟨y1.val / 128, by omega⟩ : Fin 16)
    (⟨y1.val % 128, by omega⟩ : Fin 128) (⟨y0.val % 4096, by omega⟩ : Fin 4096))).trans (v26_apply q k v hS hz _ _ _ _)
  funext a
  refine Fin.ext ?_
  fin_cases a
  · show (y0.val * 2048 + y1.val) / 8388608 = y0.val / 4096; omega
  · show (y0.val * 2048 + y1.val) / 128 % 16 = y1.val / 128; omega
  · show (y0.val * 2048 + y1.val) % 128 = y1.val % 128; omega
  · show (y0.val * 2048 + y1.val) / 2048 % 4096 = y0.val % 4096; omega

end

end Cert.Proof.S
-- ==== Proof.S.Value.lean ====
/-
  The value claim: for finite queries and keys the kernel and the reference end at the same result, the attention.
-/
module

public import proofs.«01_k».proof.Proof.S.Array
public import proofs.«01_k».proof.Proof.S.Ref
public import proofs.«01_k».proof.Proof.Gen.ReferenceIdeal.Run
public import proofs.«01_k».proof.Defs
public import Idealize.ShloMosaic.Lib.Quiescent

@[expose] public section

noncomputable section

namespace Cert.Proof.S

open Idealize.ShloMosaic Idealize.SL.Sem

/-- The reference has no semaphores, so its run leaves every counter at zero. -/
theorem frame_ref : Cert.quiescent_ReferenceIdeal := fun m g _ =>
  (θ_run _ _ _).mono (fun r h => ⟨fun c => (h c).2, sem_eq_zero_of_no_sems (by decide) r.2⟩) (Cert.ReferenceIdeal.Value.run m g)

theorem algebraic : Cert.algebraic_KernelIdeal_ReferenceIdeal_pre_finite_qk := fun m g m' g' hpre hm => by
  have hreal := fun c => real_of_pre (qM m c) (kM m c) (vM m c) (hpre c)
  have hS := fun c => sReal (qM m c) (kM m c) (hreal c).1 (hreal c).2
  have hz := fun c => zA_ne_top (qM m c) (kM m c) (hreal c).1 (hreal c).2
  refine ⟨fun c => attArr (qM m c) (kM m c) (vM m c), run_att m g spI_bot hS, ?_⟩
  refine (θ_run _ _ _).mono (fun r h c => ⟨?_, (h c).2⟩) (Cert.ReferenceIdeal.Value.run m' g')
  refine (h c).1.trans ((Cert.ReferenceIdeal.Read.val_main_v29_eq m' c).trans ?_)
  rw [(hm c).1, (hm c).2.1, (hm c).2.2]
  exact v29_eq (qM m c) (kM m c) (vM m c) (hS c) (hz c)

end Cert.Proof.S
-- ==== Proof.A.Spec.lean ====
/-
  The projection as a function of the two activations and the weights: row `r` of the 8704 rows is the prompt's up to
  8192 and the samples' from there on; column group `g` is 1024 columns of the weights.
-/
module

public import proofs.«01_k».proof.Kernel2Ideal
public import Idealize.ShloMosaic.Lib.Pointwise

@[expose] public section

noncomputable section

namespace Cert.Proof.A

open Cert.Kernel2Ideal
open Idealize.ShloMosaic Idealize.ShloMosaic.TcCoe

section
variable (x0 : Vec Ideal S2x4096x2048 .f32) (x1 : Vec Ideal S32x16x2048 .f32) (w : Vec Ideal S1x2048x5120 .f32)

/-- Row `r` of the prompt's rows, then the samples'. -/
def rowX (r : ℕ) (k : Fin 2048) : EReal :=
  if r < 8192 then x0 (ix3 (⟨r / 4096 % 2, Nat.mod_lt _ (by omega)⟩ : Fin 2) (⟨r % 4096, Nat.mod_lt _ (by omega)⟩ : Fin 4096) k)
  else x1 (ix3 (⟨(r - 8192) / 16 % 32, Nat.mod_lt _ (by omega)⟩ : Fin 32) (⟨r % 16, Nat.mod_lt _ (by omega)⟩ : Fin 16) k)

/-- Column `j` of group `g`. -/
def colG (g : Fin 5) (j : Fin 1024) : Fin 5120 := ⟨1024 * g.val + j.val, by omega⟩

/-- The projection at row `r` and column `j` of group `g`. -/
def projA (g : Fin 5) (r : ℕ) (j : Fin 1024) : EReal := ∑ k : Fin 2048, rowX x0 x1 r k * (w (ix3 (0 : Fin 1) k (colG g j)) : EReal)

/-- All its rows, the prompt's and the samples'. -/
def arrA (g : Fin 5) : S8704x1024.Idx → EReal := fun y => projA x0 x1 w g (y 0).val (y 1)
def arrP (g : Fin 5) : S8192x1024.Idx → EReal := fun y => projA x0 x1 w g (y 0).val (y 1)
def arrS (g : Fin 5) : S512x1024.Idx → EReal := fun y => projA x0 x1 w g (8192 + (y 0).val) (y 1)
end

end Cert.Proof.A
-- ==== Proof.A.Body.lean ====
/-
  The run of the first projection's body at a grid point: of a point of the prompt's rows, and of a point of the samples'
  rows.
-/
module

public import proofs.«01_k».proof.Proof.Gen.Kernel2Ideal.Skeleton
public import proofs.«01_k».proof.Proof.Gen.Kernel2Ideal.Frame
public import Idealize.ShloMosaic.Lib.WholeRead
public import Idealize.ShloMosaic.Lib.Tactic
public import Idealize.ShloMosaic.Lib.Exec
public import Idealize.ShloMosaic.Lib.Pipeline.Kit

@[expose] public section

set_option maxRecDepth 65536

noncomputable section

namespace Cert.Proof.A

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No loop of the program needs a variant. -/
abbrev 𝒱₀ : Variants := Variants.none

local notation "𝕄" => MT nD τ sig Unit (Elt F) ℕ (UR sig nD τ) ℕ

theorem hz : (![0, 0] : Fin 2 → ℕ) = fun _ => 0 := by funext a; fin_cases a <;> rfl

/-- A load through a whole memref that holds `X` reads `X` through the load's rectangle. -/
theorem ld_unread {Val : EltTy → Type} {sp : Space} {s : Shape} {e : EltTy} {a : Memref sig .tc sp s e} (h : a.IsWhole) (X : s.Idx → Val e) (R : Rect s) :
    View.readAt Val a.view R.toLoadRect (h.unread X) = View.ld X R := funext fun x => h.readAt_unread X _ x

theorem ldx (X : Vec F S256x2048 .f32) : View.ld X (Rect.unit (s := S256x2048) ![0, 0] ![256, 2048] inb_S256x2048_S256x2048_0_0) = X :=
  View.ld_unit_zero hz _ X

section
variable (x : Vec F S256x2048 .bf16) (w : Vec F S2048x5120 .bf16)

/-- The block's products with the weights' five groups of 1024 columns. -/
def prod0 : FVec F S256x1024 .f32 := matmul dot_S256x2048_S2048x1024_S256x1024_1_0_0_1_n_n none x (View.ld w (Rect.unit (s := S2048x5120) ![0, 0] S2048x1024.size inb_S2048x5120_S2048x1024_0_0)) (constant S256x1024 .f32 0x00000000#32)
def prod1 : FVec F S256x1024 .f32 := matmul dot_S256x2048_S2048x1024_S256x1024_1_0_0_1_n_n none x (View.ld w (Rect.unit (s := S2048x5120) ![0, 1024] S2048x1024.size inb_S2048x5120_S2048x1024_0_1024)) (constant S256x1024 .f32 0x00000000#32)
def prod2 : FVec F S256x1024 .f32 := matmul dot_S256x2048_S2048x1024_S256x1024_1_0_0_1_n_n none x (View.ld w (Rect.unit (s := S2048x5120) ![0, 2048] S2048x1024.size inb_S2048x5120_S2048x1024_0_2048)) (constant S256x1024 .f32 0x00000000#32)
def prod3 : FVec F S256x1024 .f32 := matmul dot_S256x2048_S2048x1024_S256x1024_1_0_0_1_n_n none x (View.ld w (Rect.unit (s := S2048x5120) ![0, 3072] S2048x1024.size inb_S2048x5120_S2048x1024_0_3072)) (constant S256x1024 .f32 0x00000000#32)
def prod4 : FVec F S256x1024 .f32 := matmul dot_S256x2048_S2048x1024_S256x1024_1_0_0_1_n_n none x (View.ld w (Rect.unit (s := S2048x5120) ![0, 4096] S2048x1024.size inb_S2048x5120_S2048x1024_0_4096)) (constant S256x1024 .f32 0x00000000#32)
end

/-- The rows of the point: the prompt's or the samples', rounded to bf16. -/
def rowsOf (i : grid0.Coords) (x1 x2 : Vec F S256x2048 .f32) : FVec F S256x2048 .bf16 := k0_pay4 i x1 x2

set_option maxHeartbeats 0 in
/-- At a point of the prompt's rows: the seven results' blocks left, with the run that leaves them. -/
theorem runP (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S2048x5120 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole)
    (h1 : k0_cond1 i = 1#1) (h2 : ¬ k0_cond2 i = 1#1) (h3 : k0_cond3 i = 1#1) (h4 : ¬ k0_cond4 i = 1#1)
    (x1 x2 : Vec F S256x2048 .f32) (x3 : Vec F S2048x5120 .bf16)
    (K : PUnit → sProp 𝕄) :
        iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg9 fullShare d) ∗ (∃ d, owns (c : Thread nD τ) arg10 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare (prod0 (rowsOf i x1 x2) x3) ∗ owns (c : Thread nD τ) arg5 fullShare (prod1 (rowsOf i x1 x2) x3) ∗ owns (c : Thread nD τ) arg6 fullShare (truncf .bf16 (prod2 (rowsOf i x1 x2) x3) bitsLt_bf16_f32) ∗ owns (c : Thread nD τ) arg7 fullShare (prod3 (rowsOf i x1 x2) x3) ∗ owns (c : Thread nD τ) arg9 fullShare (truncf .bf16 (prod3 (rowsOf i x1 x2) x3) bitsLt_bf16_f32) ∗ owns (c : Thread nD τ) arg10 fullShare (prod4 (rowsOf i x1 x2) x3) ∗ owns (c : Thread nD τ) arg12 fullShare (truncf .bf16 (prod4 (rowsOf i x1 x2) x3) bitsLt_bf16_f32)) -∗ K ⟨⟩))
          ⊢ wp frame (wpE (defs₀ (F := F)) 𝒱₀ c none) Set.univ (cc0_proj_ab i arg1 harg1 arg2 harg2 arg3 harg3 arg4 harg4 arg5 harg5 arg6 harg6 arg7 harg7 arg8 harg8 arg9 harg9 arg10 harg10 arg11 harg11 arg12 harg12) K := by
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d9, %f9, -, H9⟩, ⟨%d10, %f10, -, H10⟩, ⟨%d12, %f12, -, H12⟩, Hk⟩
    obtain rfl := harg1.eq_unread hf1; obtain rfl := harg2.eq_unread hf2; obtain rfl := harg3.eq_unread hf3
    sl_unfold [cc0_proj_ab]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; refine (View.read_writes_junk_eq_canon _ _).trans ((View.canon_unit_zero hz _ _).trans ?_); (try delta runP.sl.r_1); (try delta runP.sl.r); simp only [ldx, k0_pay1, k0_pay2, k0_pay3, k0_pay5, k0_pay6, k0_pay7, k0_pay8, prod0, prod1, prod2, prod3, prod4, rowsOf, ld_unread, shapeCast_self]
    isplitl [H5]
    · iexists _; isplitr; swap; · iexact H5
      ipureintro; refine (View.read_writes_junk_eq_canon _ _).trans ((View.canon_unit_zero hz _ _).trans ?_); (try delta runP.sl.r_1); (try delta runP.sl.r); simp only [ldx, k0_pay1, k0_pay2, k0_pay3, k0_pay5, k0_pay6, k0_pay7, k0_pay8, prod0, prod1, prod2, prod3, prod4, rowsOf, ld_unread, shapeCast_self]
    isplitl [H6]
    · iexists _; isplitr; swap; · iexact H6
      ipureintro; refine (View.read_writes_junk_eq_canon _ _).trans ((View.canon_unit_zero hz _ _).trans ?_); (try delta runP.sl.r_1); (try delta runP.sl.r); simp only [ldx, k0_pay1, k0_pay2, k0_pay3, k0_pay5, k0_pay6, k0_pay7, k0_pay8, prod0, prod1, prod2, prod3, prod4, rowsOf, ld_unread, shapeCast_self]
    isplitl [H7]
    · iexists _; isplitr; swap; · iexact H7
      ipureintro; refine (View.read_writes_junk_eq_canon _ _).trans ((View.canon_unit_zero hz _ _).trans ?_); (try delta runP.sl.r_1); (try delta runP.sl.r); simp only [ldx, k0_pay1, k0_pay2, k0_pay3, k0_pay5, k0_pay6, k0_pay7, k0_pay8, prod0, prod1, prod2, prod3, prod4, rowsOf, ld_unread, shapeCast_self]
    isplitl [H9]
    · iexists _; isplitr; swap; · iexact H9
      ipureintro; refine (View.read_writes_junk_eq_canon _ _).trans ((View.canon_unit_zero hz _ _).trans ?_); (try delta runP.sl.r_1); (try delta runP.sl.r); simp only [ldx, k0_pay1, k0_pay2, k0_pay3, k0_pay5, k0_pay6, k0_pay7, k0_pay8, prod0, prod1, prod2, prod3, prod4, rowsOf, ld_unread, shapeCast_self]
    isplitl [H10]
    · iexists _; isplitr; swap; · iexact H10
      ipureintro; refine (View.read_writes_junk_eq_canon _ _).trans ((View.canon_unit_zero hz _ _).trans ?_); (try delta runP.sl.r_1); (try delta runP.sl.r); simp only [ldx, k0_pay1, k0_pay2, k0_pay3, k0_pay5, k0_pay6, k0_pay7, k0_pay8, prod0, prod1, prod2, prod3, prod4, rowsOf, ld_unread, shapeCast_self]
    iexists _; isplitr; swap; · iexact H12
    ipureintro; refine (View.read_writes_junk_eq_canon _ _).trans ((View.canon_unit_zero hz _ _).trans ?_); (try delta runP.sl.r_1); (try delta runP.sl.r); simp only [ldx, k0_pay1, k0_pay2, k0_pay3, k0_pay5, k0_pay6, k0_pay7, k0_pay8, prod0, prod1, prod2, prod3, prod4, rowsOf, ld_unread, shapeCast_self]

set_option maxHeartbeats 0 in
/-- At a point of the samples' rows, the same of their seven results. -/
theorem runS (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S2048x5120 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole)
    (h1 : ¬ k0_cond1 i = 1#1) (h2 : k0_cond2 i = 1#1) (h3 : ¬ k0_cond3 i = 1#1) (h4 : k0_cond4 i = 1#1)
    (x1 x2 : Vec F S256x2048 .f32) (x3 : Vec F S2048x5120 .bf16)
    (K : PUnit → sProp 𝕄) :
        iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg8 fullShare d) ∗ (∃ d, owns (c : Thread nD τ) arg9 fullShare d) ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare (prod0 (rowsOf i x1 x2) x3) ∗ owns (c : Thread nD τ) arg5 fullShare (prod1 (rowsOf i x1 x2) x3) ∗ owns (c : Thread nD τ) arg6 fullShare (truncf .bf16 (prod2 (rowsOf i x1 x2) x3) bitsLt_bf16_f32) ∗ owns (c : Thread nD τ) arg8 fullShare (prod3 (rowsOf i x1 x2) x3) ∗ owns (c : Thread nD τ) arg9 fullShare (truncf .bf16 (prod3 (rowsOf i x1 x2) x3) bitsLt_bf16_f32) ∗ owns (c : Thread nD τ) arg11 fullShare (prod4 (rowsOf i x1 x2) x3) ∗ owns (c : Thread nD τ) arg12 fullShare (truncf .bf16 (prod4 (rowsOf i x1 x2) x3) bitsLt_bf16_f32)) -∗ K ⟨⟩))
          ⊢ wp frame (wpE (defs₀ (F := F)) 𝒱₀ c none) Set.univ (cc0_proj_ab i arg1 harg1 arg2 harg2 arg3 harg3 arg4 harg4 arg5 harg5 arg6 harg6 arg7 harg7 arg8 harg8 arg9 harg9 arg10 harg10 arg11 harg11 arg12 harg12) K := by
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d8, %f8, -, H8⟩, ⟨%d9, %f9, -, H9⟩, ⟨%d11, %f11, -, H11⟩, ⟨%d12, %f12, -, H12⟩, Hk⟩
    obtain rfl := harg1.eq_unread hf1; obtain rfl := harg2.eq_unread hf2; obtain rfl := harg3.eq_unread hf3
    sl_unfold [cc0_proj_ab]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; refine (View.read_writes_junk_eq_canon _ _).trans ((View.canon_unit_zero hz _ _).trans ?_); (try delta runS.sl.r_1); (try delta runS.sl.r); simp only [ldx, k0_pay1, k0_pay2, k0_pay3, k0_pay5, k0_pay6, k0_pay7, k0_pay8, prod0, prod1, prod2, prod3, prod4, rowsOf, ld_unread, shapeCast_self]
    isplitl [H5]
    · iexists _; isplitr; swap; · iexact H5
      ipureintro; refine (View.read_writes_junk_eq_canon _ _).trans ((View.canon_unit_zero hz _ _).trans ?_); (try delta runS.sl.r_1); (try delta runS.sl.r); simp only [ldx, k0_pay1, k0_pay2, k0_pay3, k0_pay5, k0_pay6, k0_pay7, k0_pay8, prod0, prod1, prod2, prod3, prod4, rowsOf, ld_unread, shapeCast_self]
    isplitl [H6]
    · iexists _; isplitr; swap; · iexact H6
      ipureintro; refine (View.read_writes_junk_eq_canon _ _).trans ((View.canon_unit_zero hz _ _).trans ?_); (try delta runS.sl.r_1); (try delta runS.sl.r); simp only [ldx, k0_pay1, k0_pay2, k0_pay3, k0_pay5, k0_pay6, k0_pay7, k0_pay8, prod0, prod1, prod2, prod3, prod4, rowsOf, ld_unread, shapeCast_self]
    isplitl [H8]
    · iexists _; isplitr; swap; · iexact H8
      ipureintro; refine (View.read_writes_junk_eq_canon _ _).trans ((View.canon_unit_zero hz _ _).trans ?_); (try delta runS.sl.r_1); (try delta runS.sl.r); simp only [ldx, k0_pay1, k0_pay2, k0_pay3, k0_pay5, k0_pay6, k0_pay7, k0_pay8, prod0, prod1, prod2, prod3, prod4, rowsOf, ld_unread, shapeCast_self]
    isplitl [H9]
    · iexists _; isplitr; swap; · iexact H9
      ipureintro; refine (View.read_writes_junk_eq_canon _ _).trans ((View.canon_unit_zero hz _ _).trans ?_); (try delta runS.sl.r_1); (try delta runS.sl.r); simp only [ldx, k0_pay1, k0_pay2, k0_pay3, k0_pay5, k0_pay6, k0_pay7, k0_pay8, prod0, prod1, prod2, prod3, prod4, rowsOf, ld_unread, shapeCast_self]
    isplitl [H11]
    · iexists _; isplitr; swap; · iexact H11
      ipureintro; refine (View.read_writes_junk_eq_canon _ _).trans ((View.canon_unit_zero hz _ _).trans ?_); (try delta runS.sl.r_1); (try delta runS.sl.r); simp only [ldx, k0_pay1, k0_pay2, k0_pay3, k0_pay5, k0_pay6, k0_pay7, k0_pay8, prod0, prod1, prod2, prod3, prod4, rowsOf, ld_unread, shapeCast_self]
    iexists _; isplitr; swap; · iexact H12
    ipureintro; refine (View.read_writes_junk_eq_canon _ _).trans ((View.canon_unit_zero hz _ _).trans ?_); (try delta runS.sl.r_1); (try delta runS.sl.r); simp only [ldx, k0_pay1, k0_pay2, k0_pay3, k0_pay5, k0_pay6, k0_pay7, k0_pay8, prod0, prod1, prod2, prod3, prod4, rowsOf, ld_unread, shapeCast_self]

end Cert.Proof.A
-- ==== Proof.A.Run.lean ====
/-
  The run of the first projection over its grid of 34 points: 32 of the prompt's rows, then 2 of the samples'. A window of
  the prompt's results keeps its last block through the samples' points, and is written back after the last; a window of
  the samples' results is written from point 32 on.
-/
module

public import proofs.«01_k».proof.Proof.A.Body
public import proofs.«01_k».proof.Proof.Gen.Kernel2Ideal.Points

@[expose] public section

set_option maxRecDepth 65536

noncomputable section

namespace Cert.Proof.A

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last of the prompt's points up to `t`. -/
def toP (t : Fin cfg0.N) : Fin cfg0.N := ⟨min t.val 31, lt_of_le_of_lt (min_le_left _ _) t.isLt⟩

theorem toP_of_lt (t : Fin cfg0.N) (h : t.val < 32) : toP t = t := Fin.ext (min_eq_left (by omega))
theorem toP_of_ge (t t' : Fin cfg0.N) (h : 31 ≤ t.val) (h' : 31 ≤ t'.val) : toP t = toP t' :=
  Fin.ext ((min_eq_right h).trans (min_eq_right h').symm)

/-- The rows and the weights of a point. -/
def xr (c : Dev nD) (t : Fin cfg0.N) : FVec F S256x2048 .bf16 := rowsOf (grid0.coords t) (iblk m c 0 t) (iblk m c 1 t)
def wr (c : Dev nD) (t : Fin cfg0.N) : Vec F S2048x5120 .bf16 := iblk m c 2 t

/-- The arrays as the region finds them; after the body each operand's buffer at its block and each result's at its
    products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod0 (xr m c t) (wr m c t)
    | ⟨4, _⟩ => prod1 (xr m c t) (wr m c t)
    | ⟨5, _⟩ => truncf .bf16 (prod2 (xr m c t) (wr m c t)) bitsLt_bf16_f32
    | ⟨6, _⟩ => prod3 (xr m c (toP t)) (wr m c (toP t))
    | ⟨7, _⟩ => prod3 (xr m c t) (wr m c t)
    | ⟨8, _⟩ => truncf .bf16 (prod3 (xr m c t) (wr m c t)) bitsLt_bf16_f32
    | ⟨9, _⟩ => prod4 (xr m c (toP t)) (wr m c (toP t))
    | ⟨10, _⟩ => prod4 (xr m c t) (wr m c t)
    | ⟨11, _⟩ => truncf .bf16 (prod4 (xr m c t) (wr m c t)) bitsLt_bf16_f32
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prod0 (xr m c t) (wr m c t) := by dsimp only [dats]
theorem after0_4 (c : Dev nD) (t : Fin cfg0.N) : (dats m 0 c).after 4 t = prod1 (xr m c t) (wr m c t) := by dsimp only [dats]
theorem after0_5 (c : Dev nD) (t : Fin cfg0.N) : (dats m 0 c).after 5 t = truncf .bf16 (prod2 (xr m c t) (wr m c t)) bitsLt_bf16_f32 := by dsimp only [dats]
theorem after0_6 (c : Dev nD) (t : Fin cfg0.N) : (dats m 0 c).after 6 t = prod3 (xr m c (toP t)) (wr m c (toP t)) := by dsimp only [dats]
theorem after0_7 (c : Dev nD) (t : Fin cfg0.N) : (dats m 0 c).after 7 t = prod3 (xr m c t) (wr m c t) := by dsimp only [dats]
theorem after0_8 (c : Dev nD) (t : Fin cfg0.N) : (dats m 0 c).after 8 t = truncf .bf16 (prod3 (xr m c t) (wr m c t)) bitsLt_bf16_f32 := by dsimp only [dats]
theorem after0_9 (c : Dev nD) (t : Fin cfg0.N) : (dats m 0 c).after 9 t = prod4 (xr m c (toP t)) (wr m c (toP t)) := by dsimp only [dats]
theorem after0_10 (c : Dev nD) (t : Fin cfg0.N) : (dats m 0 c).after 10 t = prod4 (xr m c t) (wr m c t) := by dsimp only [dats]
theorem after0_11 (c : Dev nD) (t : Fin cfg0.N) : (dats m 0 c).after 11 t = truncf .bf16 (prod4 (xr m c t) (wr m c t)) bitsLt_bf16_f32 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Which points are whose -/

theorem cond1_eq : ∀ t : Fin cfg0.N, k0_cond1 (grid0.coords t) = 1#1 ↔ t.val < 32 := (by decide +kernel : ∀ t : Fin grid0.N, _)
theorem cond2_eq : ∀ t : Fin cfg0.N, k0_cond2 (grid0.coords t) = 1#1 ↔ ¬ t.val < 32 := (by decide +kernel : ∀ t : Fin grid0.N, _)
theorem cond3_eq : ∀ t : Fin cfg0.N, k0_cond3 (grid0.coords t) = 1#1 ↔ t.val < 32 := (by decide +kernel : ∀ t : Fin grid0.N, _)
theorem cond4_eq : ∀ t : Fin cfg0.N, k0_cond4 (grid0.coords t) = 1#1 ↔ ¬ t.val < 32 := (by decide +kernel : ∀ t : Fin grid0.N, _)

theorem idle_6 : ∀ t : Fin cfg0.N, idle0 6 (grid0.coords t) = (!decide (t.val < 32)) := (by decide +kernel : ∀ t : Fin grid0.N, idle0 6 (grid0.coords t) = _)
theorem idle_7 : ∀ t : Fin cfg0.N, idle0 7 (grid0.coords t) = (decide (t.val < 32)) := (by decide +kernel : ∀ t : Fin grid0.N, idle0 7 (grid0.coords t) = _)
theorem idle_9 : ∀ t : Fin cfg0.N, idle0 9 (grid0.coords t) = (!decide (t.val < 32)) := (by decide +kernel : ∀ t : Fin grid0.N, idle0 9 (grid0.coords t) = _)
theorem idle_10 : ∀ t : Fin cfg0.N, idle0 10 (grid0.coords t) = (decide (t.val < 32)) := (by decide +kernel : ∀ t : Fin grid0.N, idle0 10 (grid0.coords t) = _)
theorem kept_6 : ∀ t : Fin cfg0.N, 31 ≤ t.val → t.val < 33 → (cfg0.win 6).flush t = false := (by decide +kernel : ∀ t : Fin grid0.N, 31 ≤ t.val → t.val < 33 → win0_6.flush t = false)
theorem kept_9 : ∀ t : Fin cfg0.N, 31 ≤ t.val → t.val < 33 → (cfg0.win 9).flush t = false := (by decide +kernel : ∀ t : Fin grid0.N, 31 ≤ t.val → t.val < 33 → win0_9.flush t = false)
theorem idles_7 : ∀ t : Fin cfg0.N, t.val < 32 → (win0 7).flush t = false := (by decide +kernel : ∀ t : Fin grid0.N, t.val < 32 → win0_7.flush t = false)
theorem idles_10 : ∀ t : Fin cfg0.N, t.val < 32 → (win0 10).flush t = false := (by decide +kernel : ∀ t : Fin grid0.N, t.val < 32 → win0_10.flush t = false)

/-- A window written at the prompt's points alone holds its last block through the samples' points. -/
theorem hold (c : Dev nD) (w : Fin cfg0.W) (hfe : ∀ t, (cfg0.win w).fetch t = false)
    (hfl : ∀ t : Fin cfg0.N, 31 ≤ t.val → t.val < 33 → (cfg0.win w).flush t = false)
    (hid : ∀ t : Fin cfg0.N, cfg0.idle w (cfg0.grid.coords t) = !decide (t.val < 32))
    (hclip : ∀ i a, (cfg0.win w).clip i a = none)
    (haf : ∀ t t' : Fin cfg0.N, 31 ≤ t.val → 31 ≤ t'.val → (dats m 0 c).after w t = (dats m 0 c).after w t') :
    ∀ (n : ℕ) (hn : n < cfg0.N), 32 ≤ n → ∀ d, (dats m 0 c).before w ⟨n, hn⟩ d = (dats m 0 c).after w ⟨n, hn⟩
  | 0, _, h, _ => absurd h (by omega)
  | n + 1, hn, h, d => by
    have hN : n + 1 < 34 := hn
    rw [(dats m 0 c).before_of_pos w ⟨n + 1, hn⟩ (Nat.succ_ne_zero n) (hfe _) d]
    have hp : (⟨n + 1 - 1, Nat.lt_of_le_of_lt (Nat.sub_le _ _) hn⟩ : Fin cfg0.N) = ⟨n, by omega⟩ := rfl
    rw [hp, hfl ⟨n, by omega⟩ (by show 31 ≤ n; omega) (by show n < 33; omega), if_neg Bool.false_ne_true]
    unfold Dat.left
    rw [hid ⟨n, by omega⟩]
    by_cases h32 : n < 32
    · rw [decide_eq_true h32]
      refine Eq.trans ?_ (haf ⟨n, by omega⟩ ⟨n + 1, hn⟩ (by show 31 ≤ n; omega) (by show 31 ≤ n + 1; omega))
      show (dats m 0 c).kept w ⟨n, by omega⟩ d = _
      unfold Dat.kept
      rw [Pipeline.fill_of_clip_none w _ (hclip _) d ((dats m 0 c).after w ⟨n, by omega⟩), Window.fill_cut]
    · rw [decide_eq_false h32]
      refine Eq.trans ?_ (haf ⟨n, by omega⟩ ⟨n + 1, hn⟩ (by show 31 ≤ n; omega) (by show 31 ≤ n + 1; omega))
      exact hold c w hfe hfl hid hclip haf n (by omega) (by omega) d

theorem before0_6 (c : Dev nD) (t : Fin cfg0.N) (h : ¬ t.val < 32) (d) : (dats m 0 c).before 6 t d = (dats m 0 c).after 6 t :=
  hold m c 6 (fun _ => rfl) kept_6 idle_6 (fun _ _ => rfl) (fun t t' h h' => by rw [after0_6, after0_6, toP_of_ge t t' h h']) t.val t.isLt (by omega) d
theorem before0_9 (c : Dev nD) (t : Fin cfg0.N) (h : ¬ t.val < 32) (d) : (dats m 0 c).before 9 t d = (dats m 0 c).after 9 t :=
  hold m c 9 (fun _ => rfl) kept_9 idle_9 (fun _ _ => rfl) (fun t t' h h' => by rw [after0_9, after0_9, toP_of_ge t t' h h']) t.val t.isLt (by omega) d

set_option maxHeartbeats 1000000 in
/-- At each grid point the body takes the operands' blocks to the results' blocks. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_5, after0_7, after0_8, after0_10, after0_11]
  by_cases h : t.val < 32
  · simp only [after0_6, after0_9]
    have h6 := idle_6 t; have h7 := idle_7 t; have h9 := idle_9 t; have h10 := idle_10 t
    rw [decide_eq_true h] at h6 h7 h9 h10
    simp only [h6, h7, h9, h10, idles_7 t h, idles_10 t h, Bool.not_true, toP_of_lt t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runP (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
      ((cond1_eq t).2 h) (fun e => (cond2_eq t).1 e h) ((cond3_eq t).2 h) (fun e => (cond4_eq t).1 e h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H8]; · iexists _; iexact H8
    isplitl [H9]; · iexists _; iexact H9
    isplitl [H11]; · iexists _; iexact H11
    iintro ⟨H0, H1, H2, H3, H4, H5, H6, H8, H9, H11⟩
    isplitl [HΦ]; · iexact HΦ
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexists d7; iexact H7
    isplitl [H8]
    · iexact H8
    isplitl [H9]
    · iexact H9
    isplitl [H10]
    · iexists d10; iexact H10
    iexact H11
  · skip
    have h6 := idle_6 t; have h7 := idle_7 t; have h9 := idle_9 t; have h10 := idle_10 t
    rw [decide_eq_false h] at h6 h7 h9 h10
    simp only [h6, h7, h9, h10, before0_6 m c t h, before0_9 m c t h, Bool.not_false, after0_6, after0_9]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runS (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
      (fun e => h ((cond1_eq t).1 e)) ((cond2_eq t).2 h) (fun e => h ((cond3_eq t).1 e)) ((cond4_eq t).2 h) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H7]; · iexists _; iexact H7
    isplitl [H8]; · iexists _; iexact H8
    isplitl [H10]; · iexists _; iexact H10
    isplitl [H11]; · iexists _; iexact H11
    iintro ⟨H0, H1, H2, H3, H4, H5, H7, H8, H10, H11⟩
    isplitl [HΦ]; · iexact HΦ
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · cases (win0 6).flush t
      · iexists d6; iexact H6
      · iexact H6
    isplitl [H7]
    · iexact H7
    isplitl [H8]
    · iexact H8
    isplitl [H9]
    · cases (win0 9).flush t
      · iexists d9; iexact H9
      · iexact H9
    isplitl [H10]
    · iexact H10
    iexact H11

set_option backward.isDefEq.respectTransparency.types false in
/-- From any memory with zero counters the program runs to its end, with every array of the pipeline at what the proof
    data gives and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.A
-- ==== Proof.A.Array.lean ====
/-
  The arrays the projection's kernel ends with: each block is the products of the point's rows with a group of columns.
-/
module

public import proofs.«01_k».proof.Proof.A.Spec
public import proofs.«01_k».proof.Proof.A.Run
public import Idealize.ShloMosaic.Lib.Pipeline.ValueKit

@[expose] public section

set_option maxRecDepth 65536

noncomputable section

namespace Cert.Proof.A

open Cert.Kernel2Ideal Cert.Kernel2Ideal.Gen
open Idealize.ShloMosaic Idealize.ShloMosaic.TcCoe
open Idealize.SL Idealize.SL.Sem

variable (m : (ℓ : Loc nD τ sig) → Buf (Elt Ideal) ℓ) (ρ : Dev nD → PrngReg)

/-- The arguments of a device. -/
abbrev x0M (c : Dev nD) : Vec Ideal S2x4096x2048 .f32 := m ((c.tc : Thread nD τ).loc main_arg0)
abbrev x1M (c : Dev nD) : Vec Ideal S32x16x2048 .f32 := m ((c.tc : Thread nD τ).loc main_arg1)
abbrev wM (c : Dev nD) : Vec Ideal S1x2048x5120 .f32 := m ((c.tc : Thread nD τ).loc main_arg2)

theorem V_v0 (c : Dev nD) : V m c main_v0 = shapeCast S8192x2048 (x0M m c) shapeCasts_S2x4096x2048_S8192x2048 := by
  unfold_abbrev_sides
  after_results
  rfl

theorem V_v1 (c : Dev nD) : V m c main_v1 = shapeCast S512x2048 (x1M m c) shapeCasts_S32x16x2048_S512x2048 := by
  unfold_abbrev_sides
  after_results
  rfl

theorem V_v3 (c : Dev nD) : V m c main_v3 = truncf (F := Ideal) .bf16 (shapeCast S2048x5120 (wM m c) shapeCasts_S1x2048x5120_S2048x5120) bitsLt_bf16_f32 := by
  unfold_abbrev_sides
  after_results
  rfl

theorem idx0 : ∀ t : Fin cfg0.N, win0_0.index t = ![min t.val 31, 0] := (by decide +kernel : ∀ t : Fin grid0.N, _)
theorem idx1 : ∀ t : Fin cfg0.N, win0_1.index t = ![t.val - 32, 0] := (by decide +kernel : ∀ t : Fin grid0.N, _)
theorem idx2 : ∀ t : Fin cfg0.N, win0_2.index t = ![0, 0] := (by decide +kernel : ∀ t : Fin grid0.N, _)

theorem xblk0 (c : Dev nD) (t : Fin cfg0.N) (h : t.val < 32) (a : Fin 256) (k : Fin 2048) :
    iblk m c 0 t (ix2 a k) = rowX (x0M m c) (x1M m c) (256 * t.val + a.val) k := by
  have e : iblk m c 0 t (ix2 a k) = V m c main_v0 (ix2 (⟨256 * t.val + a.val, by omega⟩ : Fin 8192) k) := by
    refine congrArg (V m c main_v0) ?_
    blk_ext [idx0 t]
  rw [e, V_v0]
  unfold rowX
  rw [if_pos (by omega)]
  refine (shapeCast_apply (x0M m c) _ _ (ix3 (⟨(256 * t.val + a.val) / 4096 % 2, Nat.mod_lt _ (by omega)⟩ : Fin 2) (⟨(256 * t.val + a.val) % 4096, Nat.mod_lt _ (by omega)⟩ : Fin 4096) k) ?_).trans rfl
  rw [Shape.rowMajor_val_three, Shape.rowMajor_val_two]
  show ((256 * t.val + a.val) / 4096 % 2 * 4096 + (256 * t.val + a.val) % 4096) * 2048 + k.val = (256 * t.val + a.val) * 2048 + k.val
  omega

theorem xblk1 (c : Dev nD) (t : Fin cfg0.N) (h : ¬ t.val < 32) (a : Fin 256) (k : Fin 2048) :
    iblk m c 1 t (ix2 a k) = rowX (x0M m c) (x1M m c) (256 * t.val + a.val) k := by
  have ht : t.val < 34 := t.isLt
  have e : iblk m c 1 t (ix2 a k) = V m c main_v1 (ix2 (⟨256 * (t.val - 32) + a.val, by omega⟩ : Fin 512) k) := by
    refine congrArg (V m c main_v1) ?_
    blk_ext [idx1 t]
  rw [e, V_v1]
  unfold rowX
  rw [if_neg (by omega)]
  refine (shapeCast_apply (x1M m c) _ _ (ix3 (⟨(256 * t.val + a.val - 8192) / 16 % 32, Nat.mod_lt _ (by omega)⟩ : Fin 32) (⟨(256 * t.val + a.val) % 16, Nat.mod_lt _ (by omega)⟩ : Fin 16) k) ?_).trans rfl
  rw [Shape.rowMajor_val_three, Shape.rowMajor_val_two]
  show ((256 * t.val + a.val - 8192) / 16 % 32 * 16 + (256 * t.val + a.val) % 16) * 2048 + k.val = (256 * (t.val - 32) + a.val) * 2048 + k.val
  omega

theorem wblk (c : Dev nD) (t : Fin cfg0.N) (k : Fin 2048) (j : Fin 5120) :
    wr m c t (ix2 k j) = wM m c (ix3 (0 : Fin 1) k j) := by
  have e : wr m c t (ix2 k j) = V m c main_v3 (ix2 k j) := by
    refine congrArg (V m c main_v3) ?_
    blk_ext [idx2 t]
  rw [e, V_v3]
  refine (shapeCast_apply (wM m c) _ _ (ix3 (0 : Fin 1) k j) ?_).trans rfl
  rw [Shape.rowMajor_val_three, Shape.rowMajor_val_two]
  show (0 * 2048 + k.val) * 5120 + j.val = k.val * 5120 + j.val
  omega

/-- The rows of a point. -/
theorem xr_apply (c : Dev nD) (t : Fin cfg0.N) (a : Fin 256) (k : Fin 2048) :
    xr m c t (ix2 a k) = rowX (x0M m c) (x1M m c) (256 * t.val + a.val) k := by
  have ht : t.val < 34 := t.isLt
  unfold xr rowsOf k0_pay4
  by_cases h : t.val < 32
  · rw [← xblk0 m c t h a k]
    have hc : Scalar.cmpi .slt (BitVec.ofNat 32 ((grid0.coords t) 0).val) 32#32 = 1#1 :=
      (by decide +kernel : ∀ t : Fin grid0.N, t.val < 32 → Scalar.cmpi .slt (BitVec.ofNat 32 ((grid0.coords t) 0).val) 32#32 = 1#1) t h
    rw [hc, shapeCast_self, shapeCast_self]
    rfl
  · rw [← xblk1 m c t h a k]
    have hc : Scalar.cmpi .slt (BitVec.ofNat 32 ((grid0.coords t) 0).val) 32#32 = 0#1 :=
      (by decide +kernel : ∀ t : Fin grid0.N, ¬ t.val < 32 → Scalar.cmpi .slt (BitVec.ofNat 32 ((grid0.coords t) 0).val) 32#32 = 0#1) t h
    rw [hc, shapeCast_self, shapeCast_self]
    rfl

theorem prod0_apply (x : Vec Ideal S256x2048 .bf16) (w : Vec Ideal S2048x5120 .bf16) (a : Fin 256) (j : Fin 1024) :
    prod0 x w (ix2 a j) = ∑ k : Fin 2048, (x (ix2 a k) : EReal) * (w (ix2 k (colG 0 j)) : EReal) := by
  have e : prod0 x w (ix2 a j) = ∑ k : Fin 2048, (x (ix2 a k) : EReal) * (View.ld w (Rect.unit (s := S2048x5120) ![0, 0] S2048x1024.size inb_S2048x5120_S2048x1024_0_0) (ix2 k j) : EReal) := by
    pointwise [prod0]
  rw [e]
  refine Finset.sum_congr rfl fun k _ => congrArg (fun y : EReal => (x (ix2 a k) : EReal) * y) ?_
  refine congrArg w (funext fun b => Fin.ext ?_)
  fin_cases b
  · show 0 + 1 * k.val = k.val; omega
  · show 0 + 1 * j.val = 1024 * 0 + j.val; omega

theorem prod0_proj (c : Dev nD) (t : Fin cfg0.N) (a : Fin 256) (j : Fin 1024) :
    prod0 (xr m c t) (wr m c t) (ix2 a j) = projA (x0M m c) (x1M m c) (wM m c) 0 (256 * t.val + a.val) j := by
  rw [prod0_apply]
  exact Finset.sum_congr rfl fun k _ => congrArg₂ (fun a b : EReal => a * b) (xr_apply m c t a k) (wblk m c t k _)

theorem prod1_apply (x : Vec Ideal S256x2048 .bf16) (w : Vec Ideal S2048x5120 .bf16) (a : Fin 256) (j : Fin 1024) :
    prod1 x w (ix2 a j) = ∑ k : Fin 2048, (x (ix2 a k) : EReal) * (w (ix2 k (colG 1 j)) : EReal) := by
  have e : prod1 x w (ix2 a j) = ∑ k : Fin 2048, (x (ix2 a k) : EReal) * (View.ld w (Rect.unit (s := S2048x5120) ![0, 1024] S2048x1024.size inb_S2048x5120_S2048x1024_0_1024) (ix2 k j) : EReal) := by
    pointwise [prod1]
  rw [e]
  refine Finset.sum_congr rfl fun k _ => congrArg (fun y : EReal => (x (ix2 a k) : EReal) * y) ?_
  refine congrArg w (funext fun b => Fin.ext ?_)
  fin_cases b
  · show 0 + 1 * k.val = k.val; omega
  · show 1024 + 1 * j.val = 1024 * 1 + j.val; omega

theorem prod1_proj (c : Dev nD) (t : Fin cfg0.N) (a : Fin 256) (j : Fin 1024) :
    prod1 (xr m c t) (wr m c t) (ix2 a j) = projA (x0M m c) (x1M m c) (wM m c) 1 (256 * t.val + a.val) j := by
  rw [prod1_apply]
  exact Finset.sum_congr rfl fun k _ => congrArg₂ (fun a b : EReal => a * b) (xr_apply m c t a k) (wblk m c t k _)

theorem prod2_apply (x : Vec Ideal S256x2048 .bf16) (w : Vec Ideal S2048x5120 .bf16) (a : Fin 256) (j : Fin 1024) :
    prod2 x w (ix2 a j) = ∑ k : Fin 2048, (x (ix2 a k) : EReal) * (w (ix2 k (colG 2 j)) : EReal) := by
  have e : prod2 x w (ix2 a j) = ∑ k : Fin 2048, (x (ix2 a k) : EReal) * (View.ld w (Rect.unit (s := S2048x5120) ![0, 2048] S2048x1024.size inb_S2048x5120_S2048x1024_0_2048) (ix2 k j) : EReal) := by
    pointwise [prod2]
  rw [e]
  refine Finset.sum_congr rfl fun k _ => congrArg (fun y : EReal => (x (ix2 a k) : EReal) * y) ?_
  refine congrArg w (funext fun b => Fin.ext ?_)
  fin_cases b
  · show 0 + 1 * k.val = k.val; omega
  · show 2048 + 1 * j.val = 1024 * 2 + j.val; omega

theorem prod2_proj (c : Dev nD) (t : Fin cfg0.N) (a : Fin 256) (j : Fin 1024) :
    prod2 (xr m c t) (wr m c t) (ix2 a j) = projA (x0M m c) (x1M m c) (wM m c) 2 (256 * t.val + a.val) j := by
  rw [prod2_apply]
  exact Finset.sum_congr rfl fun k _ => congrArg₂ (fun a b : EReal => a * b) (xr_apply m c t a k) (wblk m c t k _)

theorem prod3_apply (x : Vec Ideal S256x2048 .bf16) (w : Vec Ideal S2048x5120 .bf16) (a : Fin 256) (j : Fin 1024) :
    prod3 x w (ix2 a j) = ∑ k : Fin 2048, (x (ix2 a k) : EReal) * (w (ix2 k (colG 3 j)) : EReal) := by
  have e : prod3 x w (ix2 a j) = ∑ k : Fin 2048, (x (ix2 a k) : EReal) * (View.ld w (Rect.unit (s := S2048x5120) ![0, 3072] S2048x1024.size inb_S2048x5120_S2048x1024_0_3072) (ix2 k j) : EReal) := by
    pointwise [prod3]
  rw [e]
  refine Finset.sum_congr rfl fun k _ => congrArg (fun y : EReal => (x (ix2 a k) : EReal) * y) ?_
  refine congrArg w (funext fun b => Fin.ext ?_)
  fin_cases b
  · show 0 + 1 * k.val = k.val; omega
  · show 3072 + 1 * j.val = 1024 * 3 + j.val; omega

theorem prod3_proj (c : Dev nD) (t : Fin cfg0.N) (a : Fin 256) (j : Fin 1024) :
    prod3 (xr m c t) (wr m c t) (ix2 a j) = projA (x0M m c) (x1M m c) (wM m c) 3 (256 * t.val + a.val) j := by
  rw [prod3_apply]
  exact Finset.sum_congr rfl fun k _ => congrArg₂ (fun a b : EReal => a * b) (xr_apply m c t a k) (wblk m c t k _)

theorem prod4_apply (x : Vec Ideal S256x2048 .bf16) (w : Vec Ideal S2048x5120 .bf16) (a : Fin 256) (j : Fin 1024) :
    prod4 x w (ix2 a j) = ∑ k : Fin 2048, (x (ix2 a k) : EReal) * (w (ix2 k (colG 4 j)) : EReal) := by
  have e : prod4 x w (ix2 a j) = ∑ k : Fin 2048, (x (ix2 a k) : EReal) * (View.ld w (Rect.unit (s := S2048x5120) ![0, 4096] S2048x1024.size inb_S2048x5120_S2048x1024_0_4096) (ix2 k j) : EReal) := by
    pointwise [prod4]
  rw [e]
  refine Finset.sum_congr rfl fun k _ => congrArg (fun y : EReal => (x (ix2 a k) : EReal) * y) ?_
  refine congrArg w (funext fun b => Fin.ext ?_)
  fin_cases b
  · show 0 + 1 * k.val = k.val; omega
  · show 4096 + 1 * j.val = 1024 * 4 + j.val; omega

theorem prod4_proj (c : Dev nD) (t : Fin cfg0.N) (a : Fin 256) (j : Fin 1024) :
    prod4 (xr m c t) (wr m c t) (ix2 a j) = projA (x0M m c) (x1M m c) (wM m c) 4 (256 * t.val + a.val) j := by
  rw [prod4_apply]
  exact Finset.sum_congr rfl fun k _ => congrArg₂ (fun a b : EReal => a * b) (xr_apply m c t a k) (wblk m c t k _)

theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![min t.val 31, 0] := (by decide +kernel : ∀ t : Fin grid0.N, _)
theorem idx7 : ∀ t : Fin cfg0.N, win0_7.index t = ![t.val - 32, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![min t.val 31, 0] := (by decide +kernel : ∀ t : Fin grid0.N, _)
theorem idx10 : ∀ t : Fin cfg0.N, win0_10.index t = ![t.val - 32, 0] := (by decide +kernel : ∀ t : Fin grid0.N, _)
theorem idx11 : ∀ t : Fin cfg0.N, win0_11.index t = ![t.val, 0] := (by decide +kernel : ∀ t : Fin grid0.N, _)
theorem late7 : ∀ t : Fin cfg0.N, (cfg0.win 7).flush t = true → 32 ≤ t.val := (by decide +kernel : ∀ t : Fin grid0.N, win0_7.flush t = true → 32 ≤ t.val)
theorem late10 : ∀ t : Fin cfg0.N, (cfg0.win 10).flush t = true → 32 ≤ t.val := (by decide +kernel : ∀ t : Fin grid0.N, win0_10.flush t = true → 32 ≤ t.val)

theorem arr3 (c : Dev nD) : (dats m 0 c).arrAt 3 cfg0.N = arrA (x0M m c) (x1M m c) (wM m c) 0 := by
  refine (dats m 0 c).arrAt_eq_of_covers 3 _ (by decide +kernel) fun t hf y => ?_
  change S256x1024.Idx at y
  idx_vars y
  blk_simp
  rw [after0_3]
  have ht : t.val < 34 := t.isLt
  have r0 : (((cfg0.win 3).blk t).view.emb (ix2 y0 y1) 0).val = 256 * t.val + y0.val := by
    blk_simp [idx3 t]; show ((t.val) * 256 + y0.val) = 256 * t.val + y0.val; omega
  have r1 : (((cfg0.win 3).blk t).view.emb (ix2 y0 y1) 1).val = y1.val := by
    blk_simp [idx3 t]
  refine (show _ = prod0 (xr m c t) (wr m c t) (ix2 y0 y1) from rfl).trans ((prod0_proj m c t y0 y1).trans ?_)
  unfold arrA
  exact congrArg₂ (projA (x0M m c) (x1M m c) (wM m c) 0) r0.symm (Fin.ext r1.symm)

theorem arr4 (c : Dev nD) : (dats m 0 c).arrAt 4 cfg0.N = arrA (x0M m c) (x1M m c) (wM m c) 1 := by
  refine (dats m 0 c).arrAt_eq_of_covers 4 _ (by decide +kernel) fun t hf y => ?_
  change S256x1024.Idx at y
  idx_vars y
  blk_simp
  rw [after0_4]
  have ht : t.val < 34 := t.isLt
  have r0 : (((cfg0.win 4).blk t).view.emb (ix2 y0 y1) 0).val = 256 * t.val + y0.val := by
    blk_simp [idx4 t]; show ((t.val) * 256 + y0.val) = 256 * t.val + y0.val; omega
  have r1 : (((cfg0.win 4).blk t).view.emb (ix2 y0 y1) 1).val = y1.val := by
    blk_simp [idx4 t]
  refine (show _ = prod1 (xr m c t) (wr m c t) (ix2 y0 y1) from rfl).trans ((prod1_proj m c t y0 y1).trans ?_)
  unfold arrA
  exact congrArg₂ (projA (x0M m c) (x1M m c) (wM m c) 1) r0.symm (Fin.ext r1.symm)

theorem arr5 (c : Dev nD) : (dats m 0 c).arrAt 5 cfg0.N = arrA (x0M m c) (x1M m c) (wM m c) 2 := by
  refine (dats m 0 c).arrAt_eq_of_covers 5 _ (by decide +kernel) fun t hf y => ?_
  change S256x1024.Idx at y
  idx_vars y
  blk_simp
  rw [after0_5]
  have ht : t.val < 34 := t.isLt
  have r0 : (((cfg0.win 5).blk t).view.emb (ix2 y0 y1) 0).val = 256 * t.val + y0.val := by
    blk_simp [idx5 t]; show ((t.val) * 256 + y0.val) = 256 * t.val + y0.val; omega
  have r1 : (((cfg0.win 5).blk t).view.emb (ix2 y0 y1) 1).val = y1.val := by
    blk_simp [idx5 t]
  refine (show _ = prod2 (xr m c t) (wr m c t) (ix2 y0 y1) from rfl).trans ((prod2_proj m c t y0 y1).trans ?_)
  unfold arrA
  exact congrArg₂ (projA (x0M m c) (x1M m c) (wM m c) 2) r0.symm (Fin.ext r1.symm)

theorem arr6 (c : Dev nD) : (dats m 0 c).arrAt 6 cfg0.N = arrP (x0M m c) (x1M m c) (wM m c) 3 := by
  refine (dats m 0 c).arrAt_eq_of_covers 6 _ (by decide +kernel) fun t hf y => ?_
  change S256x1024.Idx at y
  idx_vars y
  blk_simp
  rw [after0_6]
  have ht : t.val < 34 := t.isLt
  have r0 : (((cfg0.win 6).blk t).view.emb (ix2 y0 y1) 0).val = 256 * (toP t).val + y0.val := by
    blk_simp [idx6 t]; show ((min t.val 31) * 256 + y0.val) = 256 * (min t.val 31) + y0.val; omega
  have r1 : (((cfg0.win 6).blk t).view.emb (ix2 y0 y1) 1).val = y1.val := by
    blk_simp [idx6 t]
  refine (show _ = prod3 (xr m c (toP t)) (wr m c (toP t)) (ix2 y0 y1) from rfl).trans ((prod3_proj m c (toP t) y0 y1).trans ?_)
  unfold arrP
  exact congrArg₂ (projA (x0M m c) (x1M m c) (wM m c) 3) r0.symm (Fin.ext r1.symm)

theorem arr7 (c : Dev nD) : (dats m 0 c).arrAt 7 cfg0.N = arrS (x0M m c) (x1M m c) (wM m c) 3 := by
  refine (dats m 0 c).arrAt_eq_of_covers 7 _ (by decide +kernel) fun t hf y => ?_
  change S256x1024.Idx at y
  idx_vars y
  blk_simp
  rw [after0_7]
  have ht : t.val < 34 := t.isLt
  have hl := late7 t hf
  have r0 : 8192 + (((cfg0.win 7).blk t).view.emb (ix2 y0 y1) 0).val = 256 * t.val + y0.val := by
    blk_simp [idx7 t]; show 8192 + ((t.val - 32) * 256 + y0.val) = 256 * t.val + y0.val; omega
  have r1 : (((cfg0.win 7).blk t).view.emb (ix2 y0 y1) 1).val = y1.val := by
    blk_simp [idx7 t]
  refine (show _ = prod3 (xr m c t) (wr m c t) (ix2 y0 y1) from rfl).trans ((prod3_proj m c t y0 y1).trans ?_)
  unfold arrS
  exact congrArg₂ (projA (x0M m c) (x1M m c) (wM m c) 3) r0.symm (Fin.ext r1.symm)

theorem arr8 (c : Dev nD) : (dats m 0 c).arrAt 8 cfg0.N = arrA (x0M m c) (x1M m c) (wM m c) 3 := by
  refine (dats m 0 c).arrAt_eq_of_covers 8 _ (by decide +kernel) fun t hf y => ?_
  change S256x1024.Idx at y
  idx_vars y
  blk_simp
  rw [after0_8]
  have ht : t.val < 34 := t.isLt
  have r0 : (((cfg0.win 8).blk t).view.emb (ix2 y0 y1) 0).val = 256 * t.val + y0.val := by
    blk_simp [idx8 t]; show ((t.val) * 256 + y0.val) = 256 * t.val + y0.val; omega
  have r1 : (((cfg0.win 8).blk t).view.emb (ix2 y0 y1) 1).val = y1.val := by
    blk_simp [idx8 t]
  refine (show _ = prod3 (xr m c t) (wr m c t) (ix2 y0 y1) from rfl).trans ((prod3_proj m c t y0 y1).trans ?_)
  unfold arrA
  exact congrArg₂ (projA (x0M m c) (x1M m c) (wM m c) 3) r0.symm (Fin.ext r1.symm)

theorem arr9 (c : Dev nD) : (dats m 0 c).arrAt 9 cfg0.N = arrP (x0M m c) (x1M m c) (wM m c) 4 := by
  refine (dats m 0 c).arrAt_eq_of_covers 9 _ (by decide +kernel) fun t hf y => ?_
  change S256x1024.Idx at y
  idx_vars y
  blk_simp
  rw [after0_9]
  have ht : t.val < 34 := t.isLt
  have r0 : (((cfg0.win 9).blk t).view.emb (ix2 y0 y1) 0).val = 256 * (toP t).val + y0.val := by
    blk_simp [idx9 t]; show ((min t.val 31) * 256 + y0.val) = 256 * (min t.val 31) + y0.val; omega
  have r1 : (((cfg0.win 9).blk t).view.emb (ix2 y0 y1) 1).val = y1.val := by
    blk_simp [idx9 t]
  refine (show _ = prod4 (xr m c (toP t)) (wr m c (toP t)) (ix2 y0 y1) from rfl).trans ((prod4_proj m c (toP t) y0 y1).trans ?_)
  unfold arrP
  exact congrArg₂ (projA (x0M m c) (x1M m c) (wM m c) 4) r0.symm (Fin.ext r1.symm)

theorem arr10 (c : Dev nD) : (dats m 0 c).arrAt 10 cfg0.N = arrS (x0M m c) (x1M m c) (wM m c) 4 := by
  refine (dats m 0 c).arrAt_eq_of_covers 10 _ (by decide +kernel) fun t hf y => ?_
  change S256x1024.Idx at y
  idx_vars y
  blk_simp
  rw [after0_10]
  have ht : t.val < 34 := t.isLt
  have hl := late10 t hf
  have r0 : 8192 + (((cfg0.win 10).blk t).view.emb (ix2 y0 y1) 0).val = 256 * t.val + y0.val := by
    blk_simp [idx10 t]; show 8192 + ((t.val - 32) * 256 + y0.val) = 256 * t.val + y0.val; omega
  have r1 : (((cfg0.win 10).blk t).view.emb (ix2 y0 y1) 1).val = y1.val := by
    blk_simp [idx10 t]
  refine (show _ = prod4 (xr m c t) (wr m c t) (ix2 y0 y1) from rfl).trans ((prod4_proj m c t y0 y1).trans ?_)
  unfold arrS
  exact congrArg₂ (projA (x0M m c) (x1M m c) (wM m c) 4) r0.symm (Fin.ext r1.symm)

theorem arr11 (c : Dev nD) : (dats m 0 c).arrAt 11 cfg0.N = arrA (x0M m c) (x1M m c) (wM m c) 4 := by
  refine (dats m 0 c).arrAt_eq_of_covers 11 _ (by decide +kernel) fun t hf y => ?_
  change S256x1024.Idx at y
  idx_vars y
  blk_simp
  rw [after0_11]
  have ht : t.val < 34 := t.isLt
  have r0 : (((cfg0.win 11).blk t).view.emb (ix2 y0 y1) 0).val = 256 * t.val + y0.val := by
    blk_simp [idx11 t]; show ((t.val) * 256 + y0.val) = 256 * t.val + y0.val; omega
  have r1 : (((cfg0.win 11).blk t).view.emb (ix2 y0 y1) 1).val = y1.val := by
    blk_simp [idx11 t]
  refine (show _ = prod4 (xr m c t) (wr m c t) (ix2 y0 y1) from rfl).trans ((prod4_proj m c t y0 y1).trans ?_)
  unfold arrA
  exact congrArg₂ (projA (x0M m c) (x1M m c) (wM m c) 4) r0.symm (Fin.ext r1.symm)

/-- The kernel ends with its nine results at the projection. -/
theorem run_proj :
    θ_run defs (onTc (τ := τ) (main (F := Ideal))) ⟨m, fun _ => 0, ρ⟩ (fun r => ∀ c : Dev nD,
      r.2.mem ((c.tc : Thread nD τ).loc main_v4_0) = arrA (x0M m c) (x1M m c) (wM m c) 0
      ∧ r.2.mem ((c.tc : Thread nD τ).loc main_v4_1) = arrA (x0M m c) (x1M m c) (wM m c) 1
      ∧ r.2.mem ((c.tc : Thread nD τ).loc main_v4_2) = arrA (x0M m c) (x1M m c) (wM m c) 2
      ∧ r.2.mem ((c.tc : Thread nD τ).loc main_v4_3) = arrP (x0M m c) (x1M m c) (wM m c) 3
      ∧ r.2.mem ((c.tc : Thread nD τ).loc main_v4_4) = arrS (x0M m c) (x1M m c) (wM m c) 3
      ∧ r.2.mem ((c.tc : Thread nD τ).loc main_v4_5) = arrA (x0M m c) (x1M m c) (wM m c) 3
      ∧ r.2.mem ((c.tc : Thread nD τ).loc main_v4_6) = arrP (x0M m c) (x1M m c) (wM m c) 4
      ∧ r.2.mem ((c.tc : Thread nD τ).loc main_v4_7) = arrS (x0M m c) (x1M m c) (wM m c) 4
      ∧ r.2.mem ((c.tc : Thread nD τ).loc main_v4_8) = arrA (x0M m c) (x1M m c) (wM m c) 4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (arr3 m c),
    ((h.1 c).1 4).trans (arr4 m c),
    ((h.1 c).1 5).trans (arr5 m c),
    ((h.1 c).1 6).trans (arr6 m c),
    ((h.1 c).1 7).trans (arr7 m c),
    ((h.1 c).1 8).trans (arr8 m c),
    ((h.1 c).1 9).trans (arr9 m c),
    ((h.1 c).1 10).trans (arr10 m c),
    ((h.1 c).1 11).trans (arr11 m c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩) (run_main m ρ)

end Cert.Proof.A
-- ==== Proof.A.Ref.lean ====
/-
  The reference's nine arrays are the projection of `Spec`.
-/
module

public import proofs.«01_k».proof.Proof.A.Spec
public import proofs.«01_k».proof.Proof.Gen.Reference2Ideal.Read
public import Idealize.ShloMosaic.Lib.Pipeline.Value

@[expose] public section

set_option maxRecDepth 65536

noncomputable section

namespace Cert.Proof.A

open Cert.Reference2Ideal Cert.Reference2Ideal.Gen Cert.Reference2Ideal.Read
open Idealize.ShloMosaic Idealize.ShloMosaic.TcCoe

section
variable (x0 : Vec Ideal S2x4096x2048 .f32) (x1 : Vec Ideal S32x16x2048 .f32) (w : Vec Ideal S1x2048x5120 .f32)

theorem weight_apply (i : S2048x5120.Idx) : val_main_v0 (F := Ideal) w i = w (ix3 (0 : Fin 1) (i 0) (i 1)) := by
  rw [val_main_v0_apply]
  refine congrArg w (funext fun a => Fin.ext ?_)
  have h0 : (i 0).val < 2048 := (i 0).isLt
  have h1 : (i 1).val < 5120 := (i 1).isLt
  fin_cases a
  · rfl
  · show ((i 0).val * 5120 + (i 1).val) / 5120 % 2048 = (i 0).val; omega
  · show ((i 0).val * 5120 + (i 1).val) % 5120 = (i 1).val; omega

/-- The prompt's product, at the place of row `y 0` and column `y 1` of group `g`. -/
theorem dotP (g : Fin 5) (y : S8192x1024.Idx) (i : S2x4096x5120.Idx) (h0 : (i 0).val = (y 0).val / 4096) (h1 : (i 1).val = (y 0).val % 4096)
    (h2 : (i 2).val = 1024 * g.val + (y 1).val) : val_main_v1 (F := Ideal) x0 w i = arrP x0 x1 w g y := by
  have hy : (y 0).val < 8192 := (y 0).isLt
  rw [val_main_v1_apply]
  show _ = ∑ k : Fin 2048, rowX x0 x1 (y 0).val k * (w (ix3 (0 : Fin 1) k (colG g (y 1))) : EReal)
  refine Finset.sum_congr rfl fun k _ => congrArg₂ (fun a b : EReal => a * b) ?_ ?_
  · unfold rowX; rw [if_pos hy]
    refine congrArg x0 (funext fun a => Fin.ext ?_)
    fin_cases a
    · show (i 0).val = (y 0).val / 4096 % 2; omega
    · exact h1
    · rfl
  · rw [weight_apply]
    refine congrArg w (funext fun a => Fin.ext ?_)
    fin_cases a
    · rfl
    · rfl
    · exact h2

/-- The samples' product, at the place of row `y 0` and column `y 1` of group `g`. -/
theorem dotS (g : Fin 5) (y : S512x1024.Idx) (i : S32x16x5120.Idx) (h0 : (i 0).val = (y 0).val / 16) (h1 : (i 1).val = (y 0).val % 16)
    (h2 : (i 2).val = 1024 * g.val + (y 1).val) : val_main_v8 (F := Ideal) x1 w i = arrS x0 x1 w g y := by
  have hy : (y 0).val < 512 := (y 0).isLt
  rw [val_main_v8_apply]
  show _ = ∑ k : Fin 2048, rowX x0 x1 (8192 + (y 0).val) k * (w (ix3 (0 : Fin 1) k (colG g (y 1))) : EReal)
  refine Finset.sum_congr rfl fun k _ => congrArg₂ (fun a b : EReal => a * b) ?_ ?_
  · unfold rowX; rw [if_neg (by omega : ¬ 8192 + (y 0).val < 8192)]
    refine congrArg x1 (funext fun a => Fin.ext ?_)
    fin_cases a
    · show (i 0).val = (8192 + (y 0).val - 8192) / 16 % 32; omega
    · show (i 1).val = (8192 + (y 0).val) % 16; omega
    · rfl
  · refine (weight_apply w _).trans ?_
    refine congrArg w (funext fun a => Fin.ext ?_)
    fin_cases a
    · rfl
    · rfl
    · exact h2

/-- The prompt's rows above the samples'. -/
theorem cat (g : Fin 5) (P : Vec Ideal S8192x1024 .f32) (S : Vec Ideal S512x1024 .f32) (h : Shape.Concatenates [S8192x1024, S512x1024] S8704x1024 0)
    (hP : P = arrP x0 x1 w g) (hS : S = arrS x0 x1 w g) : concatenate S8704x1024 0 [⟨S8192x1024, P⟩, ⟨S512x1024, S⟩] h = arrA x0 x1 w g := by
  subst hP hS
  funext y
  by_cases hy : (y 0).val < 8192
  · refine (concatenate_pair_apply_left (0 : Fin S8704x1024.rank) _ _ h y rfl (ix2 (⟨(y 0).val, hy⟩ : Fin 8192) (y 1) : S8192x1024.Idx) ?_).trans rfl
    intro b; fin_cases b <;> rfl
  · have h8 : (y 0).val < 8704 := (y 0).isLt
    refine (concatenate_pair_apply_right (0 : Fin S8704x1024.rank) _ _ h y rfl rfl (ix2 (⟨(y 0).val - 8192, by omega⟩ : Fin 512) (y 1) : S512x1024.Idx) ?_ ?_).trans ?_
    · intro b hb; fin_cases b
      · exact absurd rfl hb
      · rfl
    · show (y 0).val - 8192 + 8192 = (y 0).val; omega
    · show projA x0 x1 w g (8192 + ((y 0).val - 8192)) (y 1) = projA x0 x1 w g (y 0).val (y 1)
      rw [show 8192 + ((y 0).val - 8192) = (y 0).val by omega]

theorem v14_eq : val_main_v14 (F := Ideal) x0 w = arrP x0 x1 w 0 := funext fun y => by
  have h0 : (y 0).val < 8192 := (y 0).isLt
  have h1 : (y 1).val < 1024 := (y 1).isLt
  rw [val_main_v14_apply, val_main_v2_apply]
  exact dotP x0 x1 w 0 y _ (by show ((y 0).val * 1024 + (y 1).val) / 4194304 = _; omega) (by show ((y 0).val * 1024 + (y 1).val) / 1024 % 4096 = _; omega)
    (by show ((y 0).val * 1024 + (y 1).val) % 1024 = 1024 * 0 + (y 1).val; omega)
theorem v17_eq : val_main_v17 (F := Ideal) x0 w = arrP x0 x1 w 1 := funext fun y => by
  have h0 : (y 0).val < 8192 := (y 0).isLt
  have h1 : (y 1).val < 1024 := (y 1).isLt
  rw [val_main_v17_apply, val_main_v3_apply]
  exact dotP x0 x1 w 1 y _ (by show ((y 0).val * 1024 + (y 1).val) / 4194304 = _; omega) (by show ((y 0).val * 1024 + (y 1).val) / 1024 % 4096 = _; omega)
    (by show 1024 + ((y 0).val * 1024 + (y 1).val) % 1024 = 1024 * 1 + (y 1).val; omega)
theorem v20_eq : val_main_v20 (F := Ideal) x0 w = arrP x0 x1 w 2 := funext fun y => by
  have h0 : (y 0).val < 8192 := (y 0).isLt
  have h1 : (y 1).val < 1024 := (y 1).isLt
  rw [val_main_v20_apply, val_main_v4_apply]
  exact dotP x0 x1 w 2 y _ (by show ((y 0).val * 1024 + (y 1).val) / 4194304 = _; omega) (by show ((y 0).val * 1024 + (y 1).val) / 1024 % 4096 = _; omega)
    (by show 2048 + ((y 0).val * 1024 + (y 1).val) % 1024 = 1024 * 2 + (y 1).val; omega)
theorem v24_eq : val_main_v24 (F := Ideal) x0 w = arrP x0 x1 w 3 := funext fun y => by
  have h0 : (y 0).val < 8192 := (y 0).isLt
  have h1 : (y 1).val < 1024 := (y 1).isLt
  rw [val_main_v24_apply, val_main_v5_apply]
  exact dotP x0 x1 w 3 y _ (by show ((y 0).val * 1024 + (y 1).val) / 4194304 = _; omega) (by show ((y 0).val * 1024 + (y 1).val) / 1024 % 4096 = _; omega)
    (by show 3072 + ((y 0).val * 1024 + (y 1).val) % 1024 = 1024 * 3 + (y 1).val; omega)
theorem v30_eq : val_main_v30 (F := Ideal) x0 w = arrP x0 x1 w 4 := funext fun y => by
  have h0 : (y 0).val < 8192 := (y 0).isLt
  have h1 : (y 1).val < 1024 := (y 1).isLt
  rw [val_main_v30_apply, val_main_v6_apply]
  exact dotP x0 x1 w 4 y _ (by show ((y 0).val * 1024 + (y 1).val) / 4194304 = _; omega) (by show ((y 0).val * 1024 + (y 1).val) / 1024 % 4096 = _; omega)
    (by show 4096 + ((y 0).val * 1024 + (y 1).val) % 1024 = 1024 * 4 + (y 1).val; omega)
theorem v26_eq : val_main_v26 (F := Ideal) x0 w = arrP x0 x1 w 3 := funext fun y => by
  have h0 : (y 0).val < 8192 := (y 0).isLt
  have h1 : (y 1).val < 1024 := (y 1).isLt
  rw [val_main_v26_apply, val_main_v5_apply]
  exact dotP x0 x1 w 3 y _ (by show ((y 0).val * 1024 + (y 1).val) / 4194304 = _; omega) (by show ((y 0).val * 1024 + (y 1).val) / 1024 % 4096 = _; omega)
    (by show 3072 + ((y 0).val * 1024 + (y 1).val) % 1024 = 1024 * 3 + (y 1).val; omega)
theorem v32_eq : val_main_v32 (F := Ideal) x0 w = arrP x0 x1 w 4 := funext fun y => by
  have h0 : (y 0).val < 8192 := (y 0).isLt
  have h1 : (y 1).val < 1024 := (y 1).isLt
  rw [val_main_v32_apply, val_main_v6_apply]
  exact dotP x0 x1 w 4 y _ (by show ((y 0).val * 1024 + (y 1).val) / 4194304 = _; omega) (by show ((y 0).val * 1024 + (y 1).val) / 1024 % 4096 = _; omega)
    (by show 4096 + ((y 0).val * 1024 + (y 1).val) % 1024 = 1024 * 4 + (y 1).val; omega)
theorem v15_eq : val_main_v15 (F := Ideal) x1 w = arrS x0 x1 w 0 := funext fun y => by
  have h0 : (y 0).val < 512 := (y 0).isLt
  have h1 : (y 1).val < 1024 := (y 1).isLt
  rw [val_main_v15_apply, val_main_v9_apply]
  exact dotS x0 x1 w 0 y _ (by show ((y 0).val * 1024 + (y 1).val) / 16384 = _; omega) (by show ((y 0).val * 1024 + (y 1).val) / 1024 % 16 = _; omega)
    (by show ((y 0).val * 1024 + (y 1).val) % 1024 = 1024 * 0 + (y 1).val; omega)
theorem v18_eq : val_main_v18 (F := Ideal) x1 w = arrS x0 x1 w 1 := funext fun y => by
  have h0 : (y 0).val < 512 := (y 0).isLt
  have h1 : (y 1).val < 1024 := (y 1).isLt
  rw [val_main_v18_apply, val_main_v10_apply]
  exact dotS x0 x1 w 1 y _ (by show ((y 0).val * 1024 + (y 1).val) / 16384 = _; omega) (by show ((y 0).val * 1024 + (y 1).val) / 1024 % 16 = _; omega)
    (by show 1024 + ((y 0).val * 1024 + (y 1).val) % 1024 = 1024 * 1 + (y 1).val; omega)
theorem v21_eq : val_main_v21 (F := Ideal) x1 w = arrS x0 x1 w 2 := funext fun y => by
  have h0 : (y 0).val < 512 := (y 0).isLt
  have h1 : (y 1).val < 1024 := (y 1).isLt
  rw [val_main_v21_apply, val_main_v11_apply]
  exact dotS x0 x1 w 2 y _ (by show ((y 0).val * 1024 + (y 1).val) / 16384 = _; omega) (by show ((y 0).val * 1024 + (y 1).val) / 1024 % 16 = _; omega)
    (by show 2048 + ((y 0).val * 1024 + (y 1).val) % 1024 = 1024 * 2 + (y 1).val; omega)
theorem v25_eq : val_main_v25 (F := Ideal) x1 w = arrS x0 x1 w 3 := funext fun y => by
  have h0 : (y 0).val < 512 := (y 0).isLt
  have h1 : (y 1).val < 1024 := (y 1).isLt
  rw [val_main_v25_apply, val_main_v12_apply]
  exact dotS x0 x1 w 3 y _ (by show ((y 0).val * 1024 + (y 1).val) / 16384 = _; omega) (by show ((y 0).val * 1024 + (y 1).val) / 1024 % 16 = _; omega)
    (by show 3072 + ((y 0).val * 1024 + (y 1).val) % 1024 = 1024 * 3 + (y 1).val; omega)
theorem v31_eq : val_main_v31 (F := Ideal) x1 w = arrS x0 x1 w 4 := funext fun y => by
  have h0 : (y 0).val < 512 := (y 0).isLt
  have h1 : (y 1).val < 1024 := (y 1).isLt
  rw [val_main_v31_apply, val_main_v13_apply]
  exact dotS x0 x1 w 4 y _ (by show ((y 0).val * 1024 + (y 1).val) / 16384 = _; omega) (by show ((y 0).val * 1024 + (y 1).val) / 1024 % 16 = _; omega)
    (by show 4096 + ((y 0).val * 1024 + (y 1).val) % 1024 = 1024 * 4 + (y 1).val; omega)
theorem v27_eq : val_main_v27 (F := Ideal) x1 w = arrS x0 x1 w 3 := funext fun y => by
  have h0 : (y 0).val < 512 := (y 0).isLt
  have h1 : (y 1).val < 1024 := (y 1).isLt
  rw [val_main_v27_apply, val_main_v12_apply]
  exact dotS x0 x1 w 3 y _ (by show ((y 0).val * 1024 + (y 1).val) / 16384 = _; omega) (by show ((y 0).val * 1024 + (y 1).val) / 1024 % 16 = _; omega)
    (by show 3072 + ((y 0).val * 1024 + (y 1).val) % 1024 = 1024 * 3 + (y 1).val; omega)
theorem v33_eq : val_main_v33 (F := Ideal) x1 w = arrS x0 x1 w 4 := funext fun y => by
  have h0 : (y 0).val < 512 := (y 0).isLt
  have h1 : (y 1).val < 1024 := (y 1).isLt
  rw [val_main_v33_apply, val_main_v13_apply]
  exact dotS x0 x1 w 4 y _ (by show ((y 0).val * 1024 + (y 1).val) / 16384 = _; omega) (by show ((y 0).val * 1024 + (y 1).val) / 1024 % 16 = _; omega)
    (by show 4096 + ((y 0).val * 1024 + (y 1).val) % 1024 = 1024 * 4 + (y 1).val; omega)
theorem v16_eq : val_main_v16 (F := Ideal) x0 x1 w = arrA x0 x1 w 0 := cat x0 x1 w 0 _ _ _ (v14_eq x0 x1 w) (v15_eq x0 x1 w)
theorem v19_eq : val_main_v19 (F := Ideal) x0 x1 w = arrA x0 x1 w 1 := cat x0 x1 w 1 _ _ _ (v17_eq x0 x1 w) (v18_eq x0 x1 w)
theorem v22_eq : val_main_v22 (F := Ideal) x0 x1 w = arrA x0 x1 w 2 := cat x0 x1 w 2 _ _ _ (v20_eq x0 x1 w) (v21_eq x0 x1 w)
theorem v28_eq : val_main_v28 (F := Ideal) x0 x1 w = arrA x0 x1 w 3 := cat x0 x1 w 3 _ _ _ (v26_eq x0 x1 w) (v27_eq x0 x1 w)
theorem v34_eq : val_main_v34 (F := Ideal) x0 x1 w = arrA x0 x1 w 4 := cat x0 x1 w 4 _ _ _ (v32_eq x0 x1 w) (v33_eq x0 x1 w)
theorem v23_eq : val_main_v23 (F := Ideal) x0 x1 w = arrA x0 x1 w 2 := (funext fun y => val_main_v23_apply x0 x1 w y : val_main_v23 (F := Ideal) x0 x1 w = val_main_v22 (F := Ideal) x0 x1 w).trans (v22_eq x0 x1 w)
theorem v29_eq : val_main_v29 (F := Ideal) x0 x1 w = arrA x0 x1 w 3 := (funext fun y => val_main_v29_apply x0 x1 w y : val_main_v29 (F := Ideal) x0 x1 w = val_main_v28 (F := Ideal) x0 x1 w).trans (v28_eq x0 x1 w)
theorem v35_eq : val_main_v35 (F := Ideal) x0 x1 w = arrA x0 x1 w 4 := (funext fun y => val_main_v35_apply x0 x1 w y : val_main_v35 (F := Ideal) x0 x1 w = val_main_v34 (F := Ideal) x0 x1 w).trans (v34_eq x0 x1 w)
end

end Cert.Proof.A
-- ==== Proof.A.Value.lean ====
/-
  The projection's value claim, and the frames of its programs.
-/
module

public import proofs.«01_k».proof.Proof.A.Array
public import proofs.«01_k».proof.Proof.A.Ref
public import proofs.«01_k».proof.Proof.Gen.Reference2Ideal.Run
public import proofs.«01_k».proof.Proof.Gen.Kernel2
public import proofs.«01_k».proof.Defs
public import Idealize.ShloMosaic.Lib.Quiescent

@[expose] public section

set_option maxRecDepth 65536

noncomputable section

namespace Cert.Proof.A

open Idealize.ShloMosaic Idealize.SL.Sem

set_option smartUnfolding false in
set_option maxHeartbeats 1000000 in
/-- The two programs have one text, so the run over any floats gives the kernel's frame. -/
theorem frame_kernel : Cert.quiescent_Kernel2 := fun m g _ => frame (F := Bits) m g
theorem frame_ideal : Cert.quiescent_Kernel2Ideal := fun m g _ => frame m g

/-- The reference has no semaphores, so its run leaves every counter at zero. -/
theorem frame_ref : Cert.quiescent_Reference2Ideal := fun m g _ =>
  (θ_run _ _ _).mono (fun r h => ⟨fun c => (h c).2.2.2.2.2.2.2.2.2, sem_eq_zero_of_no_sems (by decide) r.2⟩) (Cert.Reference2Ideal.Value.run m g)

theorem algebraic : Cert.algebraic_Kernel2Ideal_Reference2Ideal := fun m g m' g' _ hm => by
  refine ⟨fun c => arrA (x0M m c) (x1M m c) (wM m c) 0, fun c => arrA (x0M m c) (x1M m c) (wM m c) 1, fun c => arrA (x0M m c) (x1M m c) (wM m c) 2,
    fun c => arrP (x0M m c) (x1M m c) (wM m c) 3, fun c => arrS (x0M m c) (x1M m c) (wM m c) 3, fun c => arrA (x0M m c) (x1M m c) (wM m c) 3,
    fun c => arrP (x0M m c) (x1M m c) (wM m c) 4, fun c => arrS (x0M m c) (x1M m c) (wM m c) 4, fun c => arrA (x0M m c) (x1M m c) (wM m c) 4, run_proj m g, ?_⟩
  refine (θ_run _ _ _).mono (fun r h c => ?_) (Cert.Reference2Ideal.Value.run m' g')
  obtain ⟨h0, h1, h2, h3, h4, h5, h6, h7, h8, hr⟩ := h c
  obtain ⟨e0, e1, e2⟩ := hm c
  refine ⟨h0.trans ((Cert.Reference2Ideal.Read.val_main_v16_eq _ _ _).trans ?_), h1.trans ((Cert.Reference2Ideal.Read.val_main_v19_eq _ _ _).trans ?_),
    h2.trans ((Cert.Reference2Ideal.Read.val_main_v23_eq _ _ _).trans ?_), h3.trans ((Cert.Reference2Ideal.Read.val_main_v24_eq _ _).trans ?_),
    h4.trans ((Cert.Reference2Ideal.Read.val_main_v25_eq _ _).trans ?_), h5.trans ((Cert.Reference2Ideal.Read.val_main_v29_eq _ _ _).trans ?_),
    h6.trans ((Cert.Reference2Ideal.Read.val_main_v30_eq _ _).trans ?_), h7.trans ((Cert.Reference2Ideal.Read.val_main_v31_eq _ _).trans ?_),
    h8.trans ((Cert.Reference2Ideal.Read.val_main_v35_eq _ _ _).trans ?_), hr⟩
  all_goals simp only [e0, e1, e2]
  · exact v16_eq (x0M m c) (x1M m c) (wM m c)
  · exact v19_eq (x0M m c) (x1M m c) (wM m c)
  · exact v23_eq (x0M m c) (x1M m c) (wM m c)
  · exact v24_eq (x0M m c) (x1M m c) (wM m c)
  · exact v25_eq (x0M m c) (x1M m c) (wM m c)
  · exact v29_eq (x0M m c) (x1M m c) (wM m c)
  · exact v30_eq (x0M m c) (x1M m c) (wM m c)
  · exact v31_eq (x0M m c) (x1M m c) (wM m c)
  · exact v35_eq (x0M m c) (x1M m c) (wM m c)

end Cert.Proof.A
-- ==== Proof.B.Spec.lean ====
/-
  The projection of layer 1 as a function of its rows and weights: column group `g` is 2048 columns of the weights.
-/
module

public import proofs.«01_k».proof.Kernel3Ideal
public import Idealize.ShloMosaic.Lib.Pointwise

@[expose] public section

noncomputable section

namespace Cert.Proof.B

open Cert.Kernel3Ideal
open Idealize.ShloMosaic Idealize.ShloMosaic.TcCoe

section
variable (x : Vec Ideal S8704x2048 .f32) (w : Vec Ideal S1x2048x6144 .f32)

/-- Column `j` of group `g`. -/
def colC (g : Fin 3) (j : Fin 2048) : Fin 6144 := ⟨2048 * g.val + j.val, by omega⟩

/-- The projection at row `r` and column `j` of group `g`. -/
def projC (g : Fin 3) (r : Fin 8704) (j : Fin 2048) : EReal := ∑ k : Fin 2048, (x (ix2 r k) : EReal) * (w (ix3 (0 : Fin 1) k (colC g j)) : EReal)

/-- All its rows, the prompt's and the samples'. -/
def arrA (g : Fin 3) : S8704x2048.Idx → EReal := fun y => projC x w g (y 0) (y 1)
def arrP (g : Fin 3) : S8192x2048.Idx → EReal := fun y => projC x w g ⟨(y 0).val, lt_trans (y 0).isLt (by decide)⟩ (y 1)
def arrS (g : Fin 3) : S512x2048.Idx → EReal := fun y => projC x w g ⟨8192 + (y 0).val, Nat.add_lt_add_left (y 0).isLt 8192⟩ (y 1)
end

end Cert.Proof.B
-- ==== Proof.B.Body.lean ====
/-
  The run of the body of the projection of queries and keys at a grid point: of a point of the prompt and of a point of the samples.
-/
module

public import proofs.«01_k».proof.Proof.Gen.Kernel3Ideal.Skeleton
public import proofs.«01_k».proof.Proof.Gen.Kernel3Ideal.Frame
public import Idealize.ShloMosaic.Lib.WholeRead
public import Idealize.ShloMosaic.Lib.Tactic
public import Idealize.ShloMosaic.Lib.Exec
public import Idealize.ShloMosaic.Lib.Pipeline.Kit

@[expose] public section

set_option maxRecDepth 65536

noncomputable section

namespace Cert.Proof.B

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No loop of the program needs a variant. -/
abbrev 𝒱₀ : Variants := Variants.none

local notation "𝕄" => MT nD τ sig Unit (Elt F) ℕ (UR sig nD τ) ℕ

theorem hz : (![0, 0] : Fin 2 → ℕ) = fun _ => 0 := by funext a; fin_cases a <;> rfl

/-- A load through a whole memref that holds `X` reads `X` through the load's rectangle. -/
theorem ld_unread {Val : EltTy → Type} {sp : Space} {s : Shape} {e : EltTy} {a : Memref sig .tc sp s e} (h : a.IsWhole) (X : s.Idx → Val e) (R : Rect s) :
    View.readAt Val a.view R.toLoadRect (h.unread X) = View.ld X R := funext fun x => h.readAt_unread X _ x

theorem ld0 (X : Vec F S256x2048 .f32) : View.ld X (Rect.unit (s := S256x2048) ![0, 0] ![256, 2048] inb_S256x2048_S256x2048_0_0) = X := View.ld_unit_zero hz _ X

set_option maxHeartbeats 0 in
/-- At a point of the prompt: the blocks of the results written there. -/
theorem runP (c : Dev nD) (i : grid0.Coords) (arg1 : Memref sig .tc .vmem S256x2048 .f32) (harg1 : arg1.IsWhole) (arg2 : Memref sig .tc .vmem S2048x4096 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole)
    (h1 : k0_cond1 i = 1#1) (h2 : ¬ k0_cond2 i = 1#1)
    (x1 : Vec F S256x2048 .f32) (x2 : Vec F S2048x4096 .bf16) (K : PUnit → sProp 𝕄) :
        iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare (k0_pay2 x1 (View.ld x2 (Rect.unit (s := S2048x4096) ![0, 0] S2048x2048.size inb_S2048x4096_S2048x2048_0_0))) ∗ owns (c : Thread nD τ) arg4 fullShare (k0_pay3 x1 (View.ld x2 (Rect.unit (s := S2048x4096) ![0, 2048] S2048x2048.size inb_S2048x4096_S2048x2048_0_2048))) ∗ owns (c : Thread nD τ) arg6 fullShare (k0_pay4 x1 (View.ld x2 (Rect.unit (s := S2048x4096) ![0, 2048] S2048x2048.size inb_S2048x4096_S2048x2048_0_2048)))) -∗ K ⟨⟩))
          ⊢ wp frame (wpE (defs₀ (F := F)) 𝒱₀ c none) Set.univ (cc0_proj_cqk i arg1 harg1 arg2 harg2 arg3 harg3 arg4 harg4 arg5 harg5 arg6 harg6) K := by
    unfold owns
    iintro ⟨⟨%f1, %hf1, H1⟩, ⟨%f2, %hf2, H2⟩, ⟨%d3, %f3, -, H3⟩, ⟨%d4, %f4, -, H4⟩, ⟨%d6, %f6, -, H6⟩, Hk⟩
    obtain rfl := harg1.eq_unread hf1; obtain rfl := harg2.eq_unread hf2
    sl_unfold [cc0_proj_cqk]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; swap; · iexact H3
      ipureintro; refine (View.read_writes_junk_eq_canon _ _).trans ((View.canon_unit_zero hz _ _).trans ?_); (try delta runP.sl.r_1); (try delta runP.sl.r); simp only [ld0, k0_pay1, k0_pay2, k0_pay3, k0_pay4, ld_unread, shapeCast_self]
    isplitl [H4]
    · iexists _; isplitr; swap; · iexact H4
      ipureintro; refine (View.read_writes_junk_eq_canon _ _).trans ((View.canon_unit_zero hz _ _).trans ?_); (try delta runP.sl.r_1); (try delta runP.sl.r); simp only [ld0, k0_pay1, k0_pay2, k0_pay3, k0_pay4, ld_unread, shapeCast_self]
    iexists _; isplitr; swap; · iexact H6
    ipureintro; refine (View.read_writes_junk_eq_canon _ _).trans ((View.canon_unit_zero hz _ _).trans ?_); (try delta runP.sl.r_1); (try delta runP.sl.r); simp only [ld0, k0_pay1, k0_pay2, k0_pay3, k0_pay4, ld_unread, shapeCast_self]

set_option maxHeartbeats 0 in
/-- At a point of the samples, the same of theirs. -/
theorem runS (c : Dev nD) (i : grid0.Coords) (arg1 : Memref sig .tc .vmem S256x2048 .f32) (harg1 : arg1.IsWhole) (arg2 : Memref sig .tc .vmem S2048x4096 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole)
    (h1 : ¬ k0_cond1 i = 1#1) (h2 : k0_cond2 i = 1#1)
    (x1 : Vec F S256x2048 .f32) (x2 : Vec F S2048x4096 .bf16) (K : PUnit → sProp 𝕄) :
        iprop(owns (c : Thread nD τ) arg1 fullShare x1 ∗ owns (c : Thread nD τ) arg2 fullShare x2 ∗ (∃ d, owns (c : Thread nD τ) arg3 fullShare d) ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare (k0_pay2 x1 (View.ld x2 (Rect.unit (s := S2048x4096) ![0, 0] S2048x2048.size inb_S2048x4096_S2048x2048_0_0))) ∗ owns (c : Thread nD τ) arg5 fullShare (k0_pay3 x1 (View.ld x2 (Rect.unit (s := S2048x4096) ![0, 2048] S2048x2048.size inb_S2048x4096_S2048x2048_0_2048))) ∗ owns (c : Thread nD τ) arg6 fullShare (k0_pay4 x1 (View.ld x2 (Rect.unit (s := S2048x4096) ![0, 2048] S2048x2048.size inb_S2048x4096_S2048x2048_0_2048)))) -∗ K ⟨⟩))
          ⊢ wp frame (wpE (defs₀ (F := F)) 𝒱₀ c none) Set.univ (cc0_proj_cqk i arg1 harg1 arg2 harg2 arg3 harg3 arg4 harg4 arg5 harg5 arg6 harg6) K := by
    unfold owns
    iintro ⟨⟨%f1, %hf1, H1⟩, ⟨%f2, %hf2, H2⟩, ⟨%d3, %f3, -, H3⟩, ⟨%d5, %f5, -, H5⟩, ⟨%d6, %f6, -, H6⟩, Hk⟩
    obtain rfl := harg1.eq_unread hf1; obtain rfl := harg2.eq_unread hf2
    sl_unfold [cc0_proj_cqk]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; swap; · iexact H3
      ipureintro; refine (View.read_writes_junk_eq_canon _ _).trans ((View.canon_unit_zero hz _ _).trans ?_); (try delta runS.sl.r_1); (try delta runS.sl.r); simp only [ld0, k0_pay1, k0_pay2, k0_pay3, k0_pay4, ld_unread, shapeCast_self]
    isplitl [H5]
    · iexists _; isplitr; swap; · iexact H5
      ipureintro; refine (View.read_writes_junk_eq_canon _ _).trans ((View.canon_unit_zero hz _ _).trans ?_); (try delta runS.sl.r_1); (try delta runS.sl.r); simp only [ld0, k0_pay1, k0_pay2, k0_pay3, k0_pay4, ld_unread, shapeCast_self]
    iexists _; isplitr; swap; · iexact H6
    ipureintro; refine (View.read_writes_junk_eq_canon _ _).trans ((View.canon_unit_zero hz _ _).trans ?_); (try delta runS.sl.r_1); (try delta runS.sl.r); simp only [ld0, k0_pay1, k0_pay2, k0_pay3, k0_pay4, ld_unread, shapeCast_self]

end Cert.Proof.B
-- ==== Proof.B.Run.lean ====
/-
  The run of the projection of queries and keys over its grid of 34 points: 32 of the prompt, then 2 of the samples. A window of the prompt's results keeps its last block through the samples' points, and is written back after the last; a window of the samples' results is written from point 32 on.
-/
module

public import proofs.«01_k».proof.Proof.B.Body
public import proofs.«01_k».proof.Proof.Gen.Kernel3Ideal.Points

@[expose] public section

set_option maxRecDepth 65536

noncomputable section

namespace Cert.Proof.B

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last of the prompt's points up to `t`. -/
def toP (t : Fin cfg0.N) : Fin cfg0.N := ⟨min t.val 31, lt_of_le_of_lt (min_le_left _ _) t.isLt⟩

theorem toP_of_lt (t : Fin cfg0.N) (h : t.val < 32) : toP t = t := Fin.ext (min_eq_left (by omega))
theorem toP_of_ge (t t' : Fin cfg0.N) (h : 31 ≤ t.val) (h' : 31 ≤ t'.val) : toP t = toP t' :=
  Fin.ext ((min_eq_right h).trans (min_eq_right h').symm)

/-! The blocks a point leaves in its results' buffers. -/

def out2 (c : Dev nD) (t : Fin cfg0.N) : FVec F S256x2048 .bf16 := k0_pay2 (iblk m c 0 t) (View.ld (X0_1 m c t) (Rect.unit (s := S2048x4096) ![0, 0] S2048x2048.size inb_S2048x4096_S2048x2048_0_0))
def out3 (c : Dev nD) (t : Fin cfg0.N) : FVec F S256x2048 .f32 := k0_pay3 (iblk m c 0 t) (View.ld (X0_1 m c t) (Rect.unit (s := S2048x4096) ![0, 2048] S2048x2048.size inb_S2048x4096_S2048x2048_0_2048))
def out4 (c : Dev nD) (t : Fin cfg0.N) : FVec F S256x2048 .f32 := k0_pay3 (iblk m c 0 t) (View.ld (X0_1 m c t) (Rect.unit (s := S2048x4096) ![0, 2048] S2048x2048.size inb_S2048x4096_S2048x2048_0_2048))
def out5 (c : Dev nD) (t : Fin cfg0.N) : FVec F S256x2048 .bf16 := k0_pay4 (iblk m c 0 t) (View.ld (X0_1 m c t) (Rect.unit (s := S2048x4096) ![0, 2048] S2048x2048.size inb_S2048x4096_S2048x2048_0_2048))

/-- The arrays as the region finds them; after the body each operand's buffer at its block and each result's at the
    body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => out2 m c t
    | ⟨3, _⟩ => out3 m c (toP t)
    | ⟨4, _⟩ => out4 m c t
    | ⟨5, _⟩ => out5 m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = out2 m c t := by dsimp only [dats]
theorem after0_3 (c : Dev nD) (t : Fin cfg0.N) : (dats m 0 c).after 3 t = out3 m c (toP t) := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d

/-! Which points are whose. -/

theorem cond1_eq : ∀ t : Fin cfg0.N, k0_cond1 (grid0.coords t) = 1#1 ↔ t.val < 32 := (by decide +kernel : ∀ t : Fin grid0.N, _)
theorem cond2_eq : ∀ t : Fin cfg0.N, k0_cond2 (grid0.coords t) = 1#1 ↔ ¬ t.val < 32 := (by decide +kernel : ∀ t : Fin grid0.N, _)

theorem idle_3 : ∀ t : Fin cfg0.N, idle0 3 (grid0.coords t) = (!decide (t.val < 32)) := (by decide +kernel : ∀ t : Fin grid0.N, idle0 3 (grid0.coords t) = _)
theorem idle_4 : ∀ t : Fin cfg0.N, idle0 4 (grid0.coords t) = (decide (t.val < 32)) := (by decide +kernel : ∀ t : Fin grid0.N, idle0 4 (grid0.coords t) = _)
theorem kept_3 : ∀ t : Fin cfg0.N, 31 ≤ t.val → t.val < 33 → (cfg0.win 3).flush t = false := (by decide +kernel : ∀ t : Fin grid0.N, 31 ≤ t.val → t.val < 33 → win0_3.flush t = false)
theorem idles_4 : ∀ t : Fin cfg0.N, t.val < 32 → (win0 4).flush t = false := (by decide +kernel : ∀ t : Fin grid0.N, t.val < 32 → win0_4.flush t = false)

/-- A window written at the prompt's points alone holds its last block through the samples' points. -/
theorem hold (c : Dev nD) (w : Fin cfg0.W) (hfe : ∀ t, (cfg0.win w).fetch t = false)
    (hfl : ∀ t : Fin cfg0.N, 31 ≤ t.val → t.val < 33 → (cfg0.win w).flush t = false)
    (hid : ∀ t : Fin cfg0.N, cfg0.idle w (cfg0.grid.coords t) = !decide (t.val < 32))
    (hclip : ∀ i a, (cfg0.win w).clip i a = none)
    (haf : ∀ t t' : Fin cfg0.N, 31 ≤ t.val → 31 ≤ t'.val → (dats m 0 c).after w t = (dats m 0 c).after w t') :
    ∀ (n : ℕ) (hn : n < cfg0.N), 32 ≤ n → ∀ d, (dats m 0 c).before w ⟨n, hn⟩ d = (dats m 0 c).after w ⟨n, hn⟩
  | 0, _, h, _ => absurd h (by omega)
  | n + 1, hn, h, d => by
    have hN : n + 1 < 34 := hn
    rw [(dats m 0 c).before_of_pos w ⟨n + 1, hn⟩ (Nat.succ_ne_zero n) (hfe _) d]
    have hp : (⟨n + 1 - 1, Nat.lt_of_le_of_lt (Nat.sub_le _ _) hn⟩ : Fin cfg0.N) = ⟨n, by omega⟩ := rfl
    rw [hp, hfl ⟨n, by omega⟩ (by show 31 ≤ n; omega) (by show n < 33; omega), if_neg Bool.false_ne_true]
    unfold Dat.left
    rw [hid ⟨n, by omega⟩]
    by_cases h32 : n < 32
    · rw [decide_eq_true h32]
      refine Eq.trans ?_ (haf ⟨n, by omega⟩ ⟨n + 1, hn⟩ (by show 31 ≤ n; omega) (by show 31 ≤ n + 1; omega))
      show (dats m 0 c).kept w ⟨n, by omega⟩ d = _
      unfold Dat.kept
      rw [Pipeline.fill_of_clip_none w _ (hclip _) d ((dats m 0 c).after w ⟨n, by omega⟩), Window.fill_cut]
    · rw [decide_eq_false h32]
      refine Eq.trans ?_ (haf ⟨n, by omega⟩ ⟨n + 1, hn⟩ (by show 31 ≤ n; omega) (by show 31 ≤ n + 1; omega))
      exact hold c w hfe hfl hid hclip haf n (by omega) (by omega) d

theorem before0_3 (c : Dev nD) (t : Fin cfg0.N) (h : ¬ t.val < 32) (d) : (dats m 0 c).before 3 t d = (dats m 0 c).after 3 t :=
  hold m c 3 (fun _ => rfl) kept_3 idle_3 (fun _ _ => rfl) (fun t t' h h' => by rw [after0_3, after0_3, toP_of_ge t t' h h']) t.val t.isLt (by omega) d

set_option maxHeartbeats 1000000 in
/-- At each grid point the body takes the operands' blocks to the results' blocks. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl]
  simp only [after0_0, after0_1, after0_2, after0_4, after0_5]
  by_cases h : t.val < 32
  · simp only [after0_3]
    have h3 := idle_3 t; have h4 := idle_4 t
    rw [decide_eq_true h] at h3 h4
    simp only [h3, h4, idles_4 t h, Bool.not_true, toP_of_lt t h]
    iintro ⟨HΦ, Ho, ⟨%d0, H0⟩, ⟨%d1, H1⟩, ⟨%d2, H2⟩, ⟨%d3, H3⟩, ⟨%d4, H4⟩, ⟨%d5, H5⟩⟩
    iapply (runP (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
      ((cond1_eq t).2 h) (fun e => (cond2_eq t).1 e h) (iblk m c 0 t) (X0_1 m c t) _)
    isplitl [H0]; · iexact H0
    isplitl [H1]; · iexact H1
    isplitl [H2]; · iexists _; iexact H2
    isplitl [H3]; · iexists _; iexact H3
    isplitl [H5]; · iexists _; iexact H5
    iintro ⟨H0, H1, H2, H3, H5⟩
    isplitl [HΦ]; · iexact HΦ
    isplitl [Ho]; · iexact Ho
    isplitl [H0]
    · iexact H0
    isplitl [H1]
    · iexact H1
    isplitl [H2]
    · iexact H2
    isplitl [H3]
    · iexact H3
    isplitl [H4]
    · iexists d4; iexact H4
    iexact H5
  · skip
    have h3 := idle_3 t; have h4 := idle_4 t
    rw [decide_eq_false h] at h3 h4
    simp only [h3, h4, before0_3 m c t h, Bool.not_false, after0_3]
    iintro ⟨HΦ, Ho, ⟨%d0, H0⟩, ⟨%d1, H1⟩, ⟨%d2, H2⟩, ⟨%d3, H3⟩, ⟨%d4, H4⟩, ⟨%d5, H5⟩⟩
    iapply (runS (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
      (fun e => h ((cond1_eq t).1 e)) ((cond2_eq t).2 h) (iblk m c 0 t) (X0_1 m c t) _)
    isplitl [H0]; · iexact H0
    isplitl [H1]; · iexact H1
    isplitl [H2]; · iexists _; iexact H2
    isplitl [H4]; · iexists _; iexact H4
    isplitl [H5]; · iexists _; iexact H5
    iintro ⟨H0, H1, H2, H4, H5⟩
    isplitl [HΦ]; · iexact HΦ
    isplitl [Ho]; · iexact Ho
    isplitl [H0]
    · iexact H0
    isplitl [H1]
    · iexact H1
    isplitl [H2]
    · iexact H2
    isplitl [H3]
    · cases (win0 3).flush t
      · iexists d3; iexact H3
      · iexact H3
    isplitl [H4]
    · iexact H4
    iexact H5

set_option backward.isDefEq.respectTransparency.types false in
/-- From any memory with zero counters the program runs to its end, with every array of the pipeline at what the proof
    data gives and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Proof.B
-- ==== Proof.B.Array.lean ====
/-
  The arrays the projection of queries and keys ends with.
-/
module

public import proofs.«01_k».proof.Proof.B.Spec
public import proofs.«01_k».proof.Proof.B.Run
public import Idealize.ShloMosaic.Lib.Pipeline.ValueKit
public import Idealize.ShloMosaic.Lib.Pipeline.Value

@[expose] public section

set_option maxRecDepth 65536

noncomputable section

namespace Cert.Proof.B

open Cert.Kernel3Ideal Cert.Kernel3Ideal.Gen
open Idealize.ShloMosaic Idealize.ShloMosaic.TcCoe
open Idealize.SL Idealize.SL.Sem

variable (m : (ℓ : Loc nD τ sig) → Buf (Elt Ideal) ℓ) (ρ : Dev nD → PrngReg)

/-- The arguments of a device. -/
abbrev xM (c : Dev nD) : Vec Ideal S8704x2048 .f32 := m ((c.tc : Thread nD τ).loc main_arg0)
abbrev wM (c : Dev nD) : Vec Ideal S1x2048x6144 .f32 := m ((c.tc : Thread nD τ).loc main_arg1)

theorem V_w (c : Dev nD) : V m c main_v1 = truncf (F := Ideal) .bf16 (shapeCast S2048x6144 (wM m c) shapeCasts_S1x2048x6144_S2048x6144) bitsLt_bf16_f32 := by
  unfold_abbrev_sides
  after_results
  rfl

theorem V_w_apply (c : Dev nD) (k : Fin 2048) (j : Fin 6144) : V m c main_v1 (ix2 k j) = wM m c (ix3 (0 : Fin 1) k j) := by
  rw [V_w]
  refine (shapeCast_apply (wM m c) _ _ (ix3 (0 : Fin 1) k j) ?_).trans rfl
  rw [Shape.rowMajor_val_three, Shape.rowMajor_val_two]
  show (0 * 2048 + k.val) * 6144 + j.val = k.val * 6144 + j.val
  omega

/-- Row `a` of point `t`. -/
def rowAt (t : Fin cfg0.N) (a : Fin 256) : Fin 8704 := ⟨256 * t.val + a.val, by have ht : t.val < 34 := t.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)

theorem xblk (c : Dev nD) (t : Fin cfg0.N) (a : Fin 256) (k : Fin 2048) : iblk m c 0 t (ix2 a k) = xM m c (ix2 (rowAt t a) k) := by
  have e : iblk m c 0 t (ix2 a k) = V m c main_arg0 (ix2 (rowAt t a) k) := by
    refine congrArg (V m c main_arg0) ?_
    blk_ext [idx0 t]
    show t.val * 256 + a.val = 256 * t.val + a.val
    omega
  rw [e, V_main_arg0]

theorem wblk (c : Dev nD) (t : Fin cfg0.N) (k : Fin 2048) (j : Fin 4096) :
    X0_1 m c t (ix2 k j) = wM m c (ix3 (0 : Fin 1) k (⟨j.val, by omega⟩ : Fin 6144)) := by
  unfold X0_1 Pipeline.Window.fill
  rw [dif_pos (moved0_1 t (ix2 k j))]
  refine Eq.trans ?_ (V_w_apply m c k (⟨j.val, by omega⟩ : Fin 6144))
  refine congrArg (V m c main_v1) (funext fun a => Fin.ext ?_)
  fin_cases a
  · blk_simp [idx1 t]; rfl
  · blk_simp [idx1 t]; rfl

theorem wcol0 (c : Dev nD) (t : Fin cfg0.N) (k j : Fin 2048) :
    View.ld (X0_1 m c t : Vec Ideal S2048x4096 .bf16) (Rect.unit (s := S2048x4096) ![0, 0] S2048x2048.size inb_S2048x4096_S2048x2048_0_0) (ix2 k j) = wM m c (ix3 (0 : Fin 1) k (B.colC 0 j)) := by
  have e : (Rect.unit (s := S2048x4096) ![0, 0] S2048x2048.size inb_S2048x4096_S2048x2048_0_0).emb (ix2 k j) = ix2 k (⟨0 + j.val, by omega⟩ : Fin 4096) := by
    funext b; refine Fin.ext ?_
    fin_cases b
    · show 0 + 1 * k.val = k.val; omega
    · show 0 + 1 * j.val = 0 + j.val; omega
  refine (congrArg (X0_1 m c t) e).trans ((wblk m c t k _).trans ?_)
  exact congrArg (fun q => wM m c (ix3 (0 : Fin 1) k q)) (Fin.ext (by show 0 + j.val = 2048 * 0 + j.val; omega))

theorem wcol1 (c : Dev nD) (t : Fin cfg0.N) (k j : Fin 2048) :
    View.ld (X0_1 m c t : Vec Ideal S2048x4096 .bf16) (Rect.unit (s := S2048x4096) ![0, 2048] S2048x2048.size inb_S2048x4096_S2048x2048_0_2048) (ix2 k j) = wM m c (ix3 (0 : Fin 1) k (B.colC 1 j)) := by
  have e : (Rect.unit (s := S2048x4096) ![0, 2048] S2048x2048.size inb_S2048x4096_S2048x2048_0_2048).emb (ix2 k j) = ix2 k (⟨2048 + j.val, by omega⟩ : Fin 4096) := by
    funext b; refine Fin.ext ?_
    fin_cases b
    · show 0 + 1 * k.val = k.val; omega
    · show 2048 + 1 * j.val = 2048 + j.val; omega
  refine (congrArg (X0_1 m c t) e).trans ((wblk m c t k _).trans ?_)
  exact congrArg (fun q => wM m c (ix3 (0 : Fin 1) k q)) (Fin.ext (by show 2048 + j.val = 2048 * 1 + j.val; omega))

theorem pay2_apply (x : Vec Ideal S256x2048 .f32) (w : Vec Ideal S2048x2048 .bf16) (a : Fin 256) (j : Fin 2048) :
    k0_pay2 x w (ix2 a j) = ∑ k : Fin 2048, (x (ix2 a k) : EReal) * (w (ix2 k j) : EReal) := by
  pointwise [k0_pay2, k0_pay1]

theorem out2_proj (c : Dev nD) (t : Fin cfg0.N) (a : Fin 256) (j : Fin 2048) : out2 m c t (ix2 a j) = B.projC (xM m c) (wM m c) 0 (rowAt t a) j := by
  refine (pay2_apply _ _ a j).trans ?_
  exact Finset.sum_congr rfl fun k _ => congrArg₂ (fun a b : EReal => a * b) (xblk m c t a k) (wcol0 m c t k j)

theorem out3_proj (c : Dev nD) (t : Fin cfg0.N) (a : Fin 256) (j : Fin 2048) : out3 m c t (ix2 a j) = B.projC (xM m c) (wM m c) 1 (rowAt t a) j := by
  refine (pay2_apply _ _ a j).trans ?_
  exact Finset.sum_congr rfl fun k _ => congrArg₂ (fun a b : EReal => a * b) (xblk m c t a k) (wcol1 m c t k j)

theorem out4_proj (c : Dev nD) (t : Fin cfg0.N) (a : Fin 256) (j : Fin 2048) : out4 m c t (ix2 a j) = B.projC (xM m c) (wM m c) 1 (rowAt t a) j := out3_proj m c t a j
theorem out5_proj (c : Dev nD) (t : Fin cfg0.N) (a : Fin 256) (j : Fin 2048) : out5 m c t (ix2 a j) = B.projC (xM m c) (wM m c) 1 (rowAt t a) j := out3_proj m c t a j

theorem idx2 : ∀ t : Fin cfg0.N, win0_2.index t = ![t.val, 0] := (by decide +kernel : ∀ t : Fin grid0.N, _)
theorem idx3 : ∀ t : Fin cfg0.N, win0_3.index t = ![min t.val 31, 0] := (by decide +kernel : ∀ t : Fin grid0.N, _)
theorem idx4 : ∀ t : Fin cfg0.N, win0_4.index t = ![t.val - 32, 0] := (by decide +kernel : ∀ t : Fin grid0.N, _)
theorem late4 : ∀ t : Fin cfg0.N, (cfg0.win 4).flush t = true → 32 ≤ t.val := (by decide +kernel : ∀ t : Fin grid0.N, win0_4.flush t = true → 32 ≤ t.val)
theorem idx5 : ∀ t : Fin cfg0.N, win0_5.index t = ![t.val, 0] := (by decide +kernel : ∀ t : Fin grid0.N, _)

theorem arr2 (c : Dev nD) : (dats m 0 c).arrAt 2 cfg0.N = B.arrA (xM m c) (wM m c) 0 := by
  refine (dats m 0 c).arrAt_eq_of_covers 2 _ (by decide +kernel) fun t hf y => ?_
  change S256x2048.Idx at y
  idx_vars y
  blk_simp
  rw [after0_2]
  have ht : t.val < 34 := t.isLt
  have r0 : (((cfg0.win 2).blk t).view.emb (ix2 y0 y1) 0).val = 256 * t.val + y0.val := by
    blk_simp [idx2 t]; show ((t.val) * 256 + y0.val) = 256 * t.val + y0.val; omega
  have r1 : (((cfg0.win 2).blk t).view.emb (ix2 y0 y1) 1).val = y1.val := by
    blk_simp [idx2 t]
  refine (show _ = out2 m c t (ix2 y0 y1) from rfl).trans ((out2_proj m c t y0 y1).trans ?_)
  unfold B.arrA
  exact congrArg₂ (B.projC (xM m c) (wM m c) 0) (Fin.ext r0.symm) (Fin.ext r1.symm)

theorem arr3 (c : Dev nD) : (dats m 0 c).arrAt 3 cfg0.N = B.arrP (xM m c) (wM m c) 1 := by
  refine (dats m 0 c).arrAt_eq_of_covers 3 _ (by decide +kernel) fun t hf y => ?_
  change S256x2048.Idx at y
  idx_vars y
  blk_simp
  rw [after0_3]
  have ht : t.val < 34 := t.isLt
  have r0 : (((cfg0.win 3).blk t).view.emb (ix2 y0 y1) 0).val = 256 * (toP t).val + y0.val := by
    blk_simp [idx3 t]; show ((min t.val 31) * 256 + y0.val) = 256 * (min t.val 31) + y0.val; omega
  have r1 : (((cfg0.win 3).blk t).view.emb (ix2 y0 y1) 1).val = y1.val := by
    blk_simp [idx3 t]
  refine (show _ = out3 m c (toP t) (ix2 y0 y1) from rfl).trans ((out3_proj m c (toP t) y0 y1).trans ?_)
  unfold B.arrP
  exact congrArg₂ (B.projC (xM m c) (wM m c) 1) (Fin.ext r0.symm) (Fin.ext r1.symm)

theorem arr4 (c : Dev nD) : (dats m 0 c).arrAt 4 cfg0.N = B.arrS (xM m c) (wM m c) 1 := by
  refine (dats m 0 c).arrAt_eq_of_covers 4 _ (by decide +kernel) fun t hf y => ?_
  change S256x2048.Idx at y
  idx_vars y
  blk_simp
  rw [after0_4]
  have ht : t.val < 34 := t.isLt
  have hl := late4 t hf
  have r0 : 8192 + (((cfg0.win 4).blk t).view.emb (ix2 y0 y1) 0).val = 256 * t.val + y0.val := by
    blk_simp [idx4 t]; show 8192 + ((t.val - 32) * 256 + y0.val) = 256 * t.val + y0.val; omega
  have r1 : (((cfg0.win 4).blk t).view.emb (ix2 y0 y1) 1).val = y1.val := by
    blk_simp [idx4 t]
  refine (show _ = out4 m c t (ix2 y0 y1) from rfl).trans ((out4_proj m c t y0 y1).trans ?_)
  unfold B.arrS
  exact congrArg₂ (B.projC (xM m c) (wM m c) 1) (Fin.ext r0.symm) (Fin.ext r1.symm)

theorem arr5 (c : Dev nD) : (dats m 0 c).arrAt 5 cfg0.N = B.arrA (xM m c) (wM m c) 1 := by
  refine (dats m 0 c).arrAt_eq_of_covers 5 _ (by decide +kernel) fun t hf y => ?_
  change S256x2048.Idx at y
  idx_vars y
  blk_simp
  rw [after0_5]
  have ht : t.val < 34 := t.isLt
  have r0 : (((cfg0.win 5).blk t).view.emb (ix2 y0 y1) 0).val = 256 * t.val + y0.val := by
    blk_simp [idx5 t]; show ((t.val) * 256 + y0.val) = 256 * t.val + y0.val; omega
  have r1 : (((cfg0.win 5).blk t).view.emb (ix2 y0 y1) 1).val = y1.val := by
    blk_simp [idx5 t]
  refine (show _ = out5 m c t (ix2 y0 y1) from rfl).trans ((out5_proj m c t y0 y1).trans ?_)
  unfold B.arrA
  exact congrArg₂ (B.projC (xM m c) (wM m c) 1) (Fin.ext r0.symm) (Fin.ext r1.symm)

/-- The kernel ends with its results at the spec's arrays. -/
theorem run_value :
    θ_run defs (onTc (τ := τ) (main (F := Ideal))) ⟨m, fun _ => 0, ρ⟩ (fun r => ∀ c : Dev nD,
      r.2.mem ((c.tc : Thread nD τ).loc main_v2_0) = B.arrA (xM m c) (wM m c) 0
      ∧ r.2.mem ((c.tc : Thread nD τ).loc main_v2_1) = B.arrP (xM m c) (wM m c) 1
      ∧ r.2.mem ((c.tc : Thread nD τ).loc main_v2_2) = B.arrS (xM m c) (wM m c) 1
      ∧ r.2.mem ((c.tc : Thread nD τ).loc main_v2_3) = B.arrA (xM m c) (wM m c) 1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (arr2 m c),
    ((h.1 c).1 3).trans (arr3 m c),
    ((h.1 c).1 4).trans (arr4 m c),
    ((h.1 c).1 5).trans (arr5 m c),
    ((h.1 c).1 0).trans (((dats m 0 c).arrAt_in 0 rfl _).trans (V_main_arg0 m c)),
    ((h.1 c).2 main_arg1 (Pipeline.mem_restRefs_of main_arg1 (by decide) (by decide))).trans (V_main_arg1 m c)⟩) (run_main m ρ)

end Cert.Proof.B
-- ==== Proof.B.Ref.lean ====
/-
  The reference's arrays are the projection of `Spec`.
-/
module

public import proofs.«01_k».proof.Proof.B.Spec
public import proofs.«01_k».proof.Proof.Gen.Reference3Ideal.Read
public import Idealize.ShloMosaic.Lib.Pipeline.Value
public import Idealize.ShloMosaic.Lib.IdealHost

@[expose] public section

set_option maxRecDepth 65536

noncomputable section

namespace Cert.Proof.B

open Cert.Reference3Ideal Cert.Reference3Ideal.Gen Cert.Reference3Ideal.Read
open Idealize.ShloMosaic Idealize.ShloMosaic.TcCoe

section
variable (x : Vec Ideal S8704x2048 .f32) (w : Vec Ideal S1x2048x6144 .f32)

theorem weight_apply (i : S2048x6144.Idx) : val_main_v0 (F := Ideal) w i = w (ix3 (0 : Fin 1) (i 0) (i 1)) := by
  rw [val_main_v0_apply]
  refine congrArg w (funext fun a => Fin.ext ?_)
  have h0 : (i 0).val < 2048 := (i 0).isLt
  have h1 : (i 1).val < 6144 := (i 1).isLt
  fin_cases a
  · rfl
  · show ((i 0).val * 6144 + (i 1).val) / 6144 % 2048 = (i 0).val; omega
  · show ((i 0).val * 6144 + (i 1).val) % 6144 = (i 1).val; omega

/-- The product at row `r` and column `j` of group `g`. -/
theorem dot_eq (g : Fin 3) (r : Fin 8704) (j : Fin 2048) (i : S8704x6144.Idx) (h0 : (i 0).val = r.val) (h1 : (i 1).val = 2048 * g.val + j.val) :
    val_main_v1 (F := Ideal) x w i = B.projC x w g r j := by
  rw [val_main_v1_apply]
  show _ = ∑ k : Fin 2048, (x (ix2 r k) : EReal) * (w (ix3 (0 : Fin 1) k (B.colC g j)) : EReal)
  refine Finset.sum_congr rfl fun k _ => congrArg₂ (fun a b : EReal => a * b) ?_ ?_
  · refine congrArg x (funext fun a => Fin.ext ?_)
    fin_cases a
    · exact h0
    · rfl
  · refine (weight_apply w _).trans ?_
    refine congrArg w (funext fun a => Fin.ext ?_)
    fin_cases a
    · rfl
    · rfl
    · exact h1

theorem v2_eq : val_main_v2 (F := Ideal) x w = B.arrA x w 0 := funext fun y => by
  rw [val_main_v2_apply]
  exact dot_eq x w 0 (y 0) (y 1) _ rfl (by show (y 1).val = 2048 * 0 + (y 1).val; omega)
theorem v3_eq : val_main_v3 (F := Ideal) x w = B.arrA x w 1 := funext fun y => by
  rw [val_main_v3_apply]
  exact dot_eq x w 1 (y 0) (y 1) _ rfl (by show 2048 + (y 1).val = 2048 * 1 + (y 1).val; omega)
theorem v6_eq : val_main_v6 (F := Ideal) x w = B.arrP x w 1 := funext fun y => by
  rw [val_main_v6_apply, v3_eq]
  exact congrArg₂ (B.projC x w 1) (Fin.ext rfl) (Fin.ext rfl)
theorem v7_eq : val_main_v7 (F := Ideal) x w = B.arrS x w 1 := funext fun y => by
  rw [val_main_v7_apply, v3_eq]
  exact congrArg₂ (B.projC x w 1) (Fin.ext rfl) (Fin.ext rfl)
theorem v5_eq : val_main_v5 (F := Ideal) x w = B.arrA x w 0 := (funext fun y => val_main_v5_apply x w y : val_main_v5 (F := Ideal) x w = val_main_v2 (F := Ideal) x w).trans (v2_eq x w)
theorem v8_eq : val_main_v8 (F := Ideal) x w = B.arrA x w 1 := (funext fun y => val_main_v8_apply x w y : val_main_v8 (F := Ideal) x w = val_main_v3 (F := Ideal) x w).trans (v3_eq x w)
end

end Cert.Proof.B
-- ==== Proof.B.Value.lean ====
/-
  The value claim of the projection of queries and keys, and the frames of its programs.
-/
module

public import proofs.«01_k».proof.Proof.B.Array
public import proofs.«01_k».proof.Proof.B.Ref
public import proofs.«01_k».proof.Proof.Gen.Reference3Ideal.Run
public import proofs.«01_k».proof.Proof.Gen.Kernel3
public import proofs.«01_k».proof.Defs
public import Idealize.ShloMosaic.Lib.Quiescent

@[expose] public section

set_option maxRecDepth 65536

noncomputable section

namespace Cert.Proof.B

open Idealize.ShloMosaic Idealize.SL.Sem

set_option smartUnfolding false in
set_option maxHeartbeats 1000000 in
/-- The two programs have one text, so the run over any floats gives the kernel's frame. -/
theorem frame_kernel : Cert.quiescent_Kernel3 := fun m g _ => frame (F := Bits) m g
theorem frame_ideal : Cert.quiescent_Kernel3Ideal := fun m g _ => frame m g

/-- The reference has no semaphores, so its run leaves every counter at zero. -/
theorem frame_ref : Cert.quiescent_Reference3Ideal := fun m g _ =>
  (θ_run _ _ _).mono (fun r h => ⟨fun c => (h c).2.2.2.2, sem_eq_zero_of_no_sems (by decide) r.2⟩) (Cert.Reference3Ideal.Value.run m g)

theorem algebraic : Cert.algebraic_Kernel3Ideal_Reference3Ideal := fun m g m' g' _ hm => by
  refine ⟨fun c => B.arrA (xM m c) (wM m c) 0, fun c => B.arrP (xM m c) (wM m c) 1, fun c => B.arrS (xM m c) (wM m c) 1, fun c => B.arrA (xM m c) (wM m c) 1, run_value m g, ?_⟩
  refine (θ_run _ _ _).mono (fun r h c => ?_) (Cert.Reference3Ideal.Value.run m' g')
  obtain ⟨h0, h1, h2, h3, hr⟩ := h c
  obtain ⟨e0, e1⟩ := hm c
  refine ⟨h0.trans ((Cert.Reference3Ideal.Read.val_main_v5_eq _ _).trans ?_), h1.trans ((Cert.Reference3Ideal.Read.val_main_v6_eq _ _).trans ?_), h2.trans ((Cert.Reference3Ideal.Read.val_main_v7_eq _ _).trans ?_), h3.trans ((Cert.Reference3Ideal.Read.val_main_v8_eq _ _).trans ?_), hr⟩
  all_goals simp only [e0, e1]
  · exact v5_eq (xM m c) (wM m c)
  · exact v6_eq (xM m c) (wM m c)
  · exact v7_eq (xM m c) (wM m c)
  · exact v8_eq (xM m c) (wM m c)

end Cert.Proof.B
-- ==== Proof.C.Body.lean ====
/-
  The run of the body of the projection of values at a grid point: of a point of the prompt and of a point of the samples.
-/
module

public import proofs.«01_k».proof.Proof.Gen.Kernel4Ideal.Skeleton
public import proofs.«01_k».proof.Proof.Gen.Kernel4Ideal.Frame
public import Idealize.ShloMosaic.Lib.WholeRead
public import Idealize.ShloMosaic.Lib.Tactic
public import Idealize.ShloMosaic.Lib.Exec
public import Idealize.ShloMosaic.Lib.Pipeline.Kit

@[expose] public section

set_option maxRecDepth 65536

noncomputable section

namespace Cert.Proof.C

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No loop of the program needs a variant. -/
abbrev 𝒱₀ : Variants := Variants.none

local notation "𝕄" => MT nD τ sig Unit (Elt F) ℕ (UR sig nD τ) ℕ

theorem hz : (![0, 0] : Fin 2 → ℕ) = fun _ => 0 := by funext a; fin_cases a <;> rfl

/-- A load through a whole memref that holds `X` reads `X` through the load's rectangle. -/
theorem ld_unread {Val : EltTy → Type} {sp : Space} {s : Shape} {e : EltTy} {a : Memref sig .tc sp s e} (h : a.IsWhole) (X : s.Idx → Val e) (R : Rect s) :
    View.readAt Val a.view R.toLoadRect (h.unread X) = View.ld X R := funext fun x => h.readAt_unread X _ x

theorem ld0 (X : Vec F S256x2048 .f32) : View.ld X (Rect.unit (s := S256x2048) ![0, 0] ![256, 2048] inb_S256x2048_S256x2048_0_0) = X := View.ld_unit_zero hz _ X
theorem ld1 (X : Vec F S2048x2048 .bf16) : View.ld X (Rect.unit (s := S2048x2048) ![0, 0] ![2048, 2048] inb_S2048x2048_S2048x2048_0_0) = X := View.ld_unit_zero hz _ X

set_option maxHeartbeats 0 in
/-- At a point of the prompt: the blocks of the results written there. -/
theorem runP (c : Dev nD) (i : grid0.Coords) (arg1 : Memref sig .tc .vmem S256x2048 .f32) (harg1 : arg1.IsWhole) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole)
    (h1 : k0_cond1 i = 1#1) (h2 : ¬ k0_cond2 i = 1#1)
    (x1 : Vec F S256x2048 .f32) (x2 : Vec F S2048x2048 .bf16) (K : PUnit → sProp 𝕄) :
        iprop(owns (c : Thread nD τ) arg1 fullShare x1 ∗ owns (c : Thread nD τ) arg2 fullShare x2 ∗ (∃ d, owns (c : Thread nD τ) arg3 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare (k0_pay1 x1 x2) ∗ owns (c : Thread nD τ) arg5 fullShare (k0_pay2 x1 x2)) -∗ K ⟨⟩))
          ⊢ wp frame (wpE (defs₀ (F := F)) 𝒱₀ c none) Set.univ (cc0_proj_cv i arg1 harg1 arg2 harg2 arg3 harg3 arg4 harg4 arg5 harg5) K := by
    unfold owns
    iintro ⟨⟨%f1, %hf1, H1⟩, ⟨%f2, %hf2, H2⟩, ⟨%d3, %f3, -, H3⟩, ⟨%d5, %f5, -, H5⟩, Hk⟩
    obtain rfl := harg1.eq_unread hf1; obtain rfl := harg2.eq_unread hf2
    sl_unfold [cc0_proj_cv]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; swap; · iexact H3
      ipureintro; refine (View.read_writes_junk_eq_canon _ _).trans ((View.canon_unit_zero hz _ _).trans ?_); (try delta runP.sl.r_1); (try delta runP.sl.r); simp only [ld0, ld1, k0_pay1, k0_pay2, ld_unread, shapeCast_self]
    iexists _; isplitr; swap; · iexact H5
    ipureintro; refine (View.read_writes_junk_eq_canon _ _).trans ((View.canon_unit_zero hz _ _).trans ?_); (try delta runP.sl.r_1); (try delta runP.sl.r); simp only [ld0, ld1, k0_pay1, k0_pay2, ld_unread, shapeCast_self]

set_option maxHeartbeats 0 in
/-- At a point of the samples, the same of theirs. -/
theorem runS (c : Dev nD) (i : grid0.Coords) (arg1 : Memref sig .tc .vmem S256x2048 .f32) (harg1 : arg1.IsWhole) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole)
    (h1 : ¬ k0_cond1 i = 1#1) (h2 : k0_cond2 i = 1#1)
    (x1 : Vec F S256x2048 .f32) (x2 : Vec F S2048x2048 .bf16) (K : PUnit → sProp 𝕄) :
        iprop(owns (c : Thread nD τ) arg1 fullShare x1 ∗ owns (c : Thread nD τ) arg2 fullShare x2 ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg4 fullShare (k0_pay1 x1 x2) ∗ owns (c : Thread nD τ) arg5 fullShare (k0_pay2 x1 x2)) -∗ K ⟨⟩))
          ⊢ wp frame (wpE (defs₀ (F := F)) 𝒱₀ c none) Set.univ (cc0_proj_cv i arg1 harg1 arg2 harg2 arg3 harg3 arg4 harg4 arg5 harg5) K := by
    unfold owns
    iintro ⟨⟨%f1, %hf1, H1⟩, ⟨%f2, %hf2, H2⟩, ⟨%d4, %f4, -, H4⟩, ⟨%d5, %f5, -, H5⟩, Hk⟩
    obtain rfl := harg1.eq_unread hf1; obtain rfl := harg2.eq_unread hf2
    sl_unfold [cc0_proj_cv]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; swap; · iexact H4
      ipureintro; refine (View.read_writes_junk_eq_canon _ _).trans ((View.canon_unit_zero hz _ _).trans ?_); (try delta runS.sl.r_1); (try delta runS.sl.r); simp only [ld0, ld1, k0_pay1, k0_pay2, ld_unread, shapeCast_self]
    iexists _; isplitr; swap; · iexact H5
    ipureintro; refine (View.read_writes_junk_eq_canon _ _).trans ((View.canon_unit_zero hz _ _).trans ?_); (try delta runS.sl.r_1); (try delta runS.sl.r); simp only [ld0, ld1, k0_pay1, k0_pay2, ld_unread, shapeCast_self]

end Cert.Proof.C
-- ==== Proof.C.Run.lean ====
/-
  The run of the projection of values over its grid of 34 points: 32 of the prompt, then 2 of the samples. A window of the prompt's results keeps its last block through the samples' points, and is written back after the last; a window of the samples' results is written from point 32 on.
-/
module

public import proofs.«01_k».proof.Proof.C.Body
public import proofs.«01_k».proof.Proof.Gen.Kernel4Ideal.Points

@[expose] public section

set_option maxRecDepth 65536

noncomputable section

namespace Cert.Proof.C

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last of the prompt's points up to `t`. -/
def toP (t : Fin cfg0.N) : Fin cfg0.N := ⟨min t.val 31, lt_of_le_of_lt (min_le_left _ _) t.isLt⟩

theorem toP_of_lt (t : Fin cfg0.N) (h : t.val < 32) : toP t = t := Fin.ext (min_eq_left (by omega))
theorem toP_of_ge (t t' : Fin cfg0.N) (h : 31 ≤ t.val) (h' : 31 ≤ t'.val) : toP t = toP t' :=
  Fin.ext ((min_eq_right h).trans (min_eq_right h').symm)

/-! The blocks a point leaves in its results' buffers. -/

def out2 (c : Dev nD) (t : Fin cfg0.N) : FVec F S256x2048 .f32 := k0_pay1 (iblk m c 0 t) (iblk m c 1 t)
def out3 (c : Dev nD) (t : Fin cfg0.N) : FVec F S256x2048 .f32 := k0_pay1 (iblk m c 0 t) (iblk m c 1 t)
def out4 (c : Dev nD) (t : Fin cfg0.N) : FVec F S256x2048 .bf16 := k0_pay2 (iblk m c 0 t) (iblk m c 1 t)

/-- The arrays as the region finds them; after the body each operand's buffer at its block and each result's at the
    body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 m c (toP t)
    | ⟨3, _⟩ => out3 m c t
    | ⟨4, _⟩ => out4 m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 m c (toP t) := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! Which points are whose. -/

theorem cond1_eq : ∀ t : Fin cfg0.N, k0_cond1 (grid0.coords t) = 1#1 ↔ t.val < 32 := (by decide +kernel : ∀ t : Fin grid0.N, _)
theorem cond2_eq : ∀ t : Fin cfg0.N, k0_cond2 (grid0.coords t) = 1#1 ↔ ¬ t.val < 32 := (by decide +kernel : ∀ t : Fin grid0.N, _)

theorem idle_2 : ∀ t : Fin cfg0.N, idle0 2 (grid0.coords t) = (!decide (t.val < 32)) := (by decide +kernel : ∀ t : Fin grid0.N, idle0 2 (grid0.coords t) = _)
theorem idle_3 : ∀ t : Fin cfg0.N, idle0 3 (grid0.coords t) = (decide (t.val < 32)) := (by decide +kernel : ∀ t : Fin grid0.N, idle0 3 (grid0.coords t) = _)
theorem kept_2 : ∀ t : Fin cfg0.N, 31 ≤ t.val → t.val < 33 → (cfg0.win 2).flush t = false := (by decide +kernel : ∀ t : Fin grid0.N, 31 ≤ t.val → t.val < 33 → win0_2.flush t = false)
theorem idles_3 : ∀ t : Fin cfg0.N, t.val < 32 → (win0 3).flush t = false := (by decide +kernel : ∀ t : Fin grid0.N, t.val < 32 → win0_3.flush t = false)

/-- A window written at the prompt's points alone holds its last block through the samples' points. -/
theorem hold (c : Dev nD) (w : Fin cfg0.W) (hfe : ∀ t, (cfg0.win w).fetch t = false)
    (hfl : ∀ t : Fin cfg0.N, 31 ≤ t.val → t.val < 33 → (cfg0.win w).flush t = false)
    (hid : ∀ t : Fin cfg0.N, cfg0.idle w (cfg0.grid.coords t) = !decide (t.val < 32))
    (hclip : ∀ i a, (cfg0.win w).clip i a = none)
    (haf : ∀ t t' : Fin cfg0.N, 31 ≤ t.val → 31 ≤ t'.val → (dats m 0 c).after w t = (dats m 0 c).after w t') :
    ∀ (n : ℕ) (hn : n < cfg0.N), 32 ≤ n → ∀ d, (dats m 0 c).before w ⟨n, hn⟩ d = (dats m 0 c).after w ⟨n, hn⟩
  | 0, _, h, _ => absurd h (by omega)
  | n + 1, hn, h, d => by
    have hN : n + 1 < 34 := hn
    rw [(dats m 0 c).before_of_pos w ⟨n + 1, hn⟩ (Nat.succ_ne_zero n) (hfe _) d]
    have hp : (⟨n + 1 - 1, Nat.lt_of_le_of_lt (Nat.sub_le _ _) hn⟩ : Fin cfg0.N) = ⟨n, by omega⟩ := rfl
    rw [hp, hfl ⟨n, by omega⟩ (by show 31 ≤ n; omega) (by show n < 33; omega), if_neg Bool.false_ne_true]
    unfold Dat.left
    rw [hid ⟨n, by omega⟩]
    by_cases h32 : n < 32
    · rw [decide_eq_true h32]
      refine Eq.trans ?_ (haf ⟨n, by omega⟩ ⟨n + 1, hn⟩ (by show 31 ≤ n; omega) (by show 31 ≤ n + 1; omega))
      show (dats m 0 c).kept w ⟨n, by omega⟩ d = _
      unfold Dat.kept
      rw [Pipeline.fill_of_clip_none w _ (hclip _) d ((dats m 0 c).after w ⟨n, by omega⟩), Window.fill_cut]
    · rw [decide_eq_false h32]
      refine Eq.trans ?_ (haf ⟨n, by omega⟩ ⟨n + 1, hn⟩ (by show 31 ≤ n; omega) (by show 31 ≤ n + 1; omega))
      exact hold c w hfe hfl hid hclip haf n (by omega) (by omega) d

theorem before0_2 (c : Dev nD) (t : Fin cfg0.N) (h : ¬ t.val < 32) (d) : (dats m 0 c).before 2 t d = (dats m 0 c).after 2 t :=
  hold m c 2 (fun _ => rfl) kept_2 idle_2 (fun _ _ => rfl) (fun t t' h h' => by rw [after0_2, after0_2, toP_of_ge t t' h h']) t.val t.isLt (by omega) d

set_option maxHeartbeats 1000000 in
/-- At each grid point the body takes the operands' blocks to the results' blocks. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl]
  simp only [after0_0, after0_1, after0_3, after0_4]
  by_cases h : t.val < 32
  · simp only [after0_2]
    have h2 := idle_2 t; have h3 := idle_3 t
    rw [decide_eq_true h] at h2 h3
    simp only [h2, h3, idles_3 t h, Bool.not_true, toP_of_lt t h]
    iintro ⟨HΦ, Ho, ⟨%d0, H0⟩, ⟨%d1, H1⟩, ⟨%d2, H2⟩, ⟨%d3, H3⟩, ⟨%d4, H4⟩⟩
    iapply (runP (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      ((cond1_eq t).2 h) (fun e => (cond2_eq t).1 e h) (iblk m c 0 t) (iblk m c 1 t) _)
    isplitl [H0]; · iexact H0
    isplitl [H1]; · iexact H1
    isplitl [H2]; · iexists _; iexact H2
    isplitl [H4]; · iexists _; iexact H4
    iintro ⟨H0, H1, H2, H4⟩
    isplitl [HΦ]; · iexact HΦ
    isplitl [Ho]; · iexact Ho
    isplitl [H0]
    · iexact H0
    isplitl [H1]
    · iexact H1
    isplitl [H2]
    · iexact H2
    isplitl [H3]
    · iexists d3; iexact H3
    iexact H4
  · skip
    have h2 := idle_2 t; have h3 := idle_3 t
    rw [decide_eq_false h] at h2 h3
    simp only [h2, h3, before0_2 m c t h, Bool.not_false, after0_2]
    iintro ⟨HΦ, Ho, ⟨%d0, H0⟩, ⟨%d1, H1⟩, ⟨%d2, H2⟩, ⟨%d3, H3⟩, ⟨%d4, H4⟩⟩
    iapply (runS (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      (fun e => h ((cond1_eq t).1 e)) ((cond2_eq t).2 h) (iblk m c 0 t) (iblk m c 1 t) _)
    isplitl [H0]; · iexact H0
    isplitl [H1]; · iexact H1
    isplitl [H3]; · iexists _; iexact H3
    isplitl [H4]; · iexists _; iexact H4
    iintro ⟨H0, H1, H3, H4⟩
    isplitl [HΦ]; · iexact HΦ
    isplitl [Ho]; · iexact Ho
    isplitl [H0]
    · iexact H0
    isplitl [H1]
    · iexact H1
    isplitl [H2]
    · cases (win0 2).flush t
      · iexists d2; iexact H2
      · iexact H2
    isplitl [H3]
    · iexact H3
    iexact H4

set_option backward.isDefEq.respectTransparency.types false in
/-- From any memory with zero counters the program runs to its end, with every array of the pipeline at what the proof
    data gives and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Proof.C
-- ==== Proof.C.Array.lean ====
/-
  The arrays the projection of values ends with.
-/
module

public import proofs.«01_k».proof.Proof.B.Spec
public import proofs.«01_k».proof.Proof.C.Run
public import Idealize.ShloMosaic.Lib.Pipeline.ValueKit
public import Idealize.ShloMosaic.Lib.Pipeline.Value

@[expose] public section

set_option maxRecDepth 65536

noncomputable section

namespace Cert.Proof.C

open Cert.Kernel4Ideal Cert.Kernel4Ideal.Gen
open Idealize.ShloMosaic Idealize.ShloMosaic.TcCoe
open Idealize.SL Idealize.SL.Sem

variable (m : (ℓ : Loc nD τ sig) → Buf (Elt Ideal) ℓ) (ρ : Dev nD → PrngReg)

/-- The arguments of a device. -/
abbrev xM (c : Dev nD) : Vec Ideal S8704x2048 .f32 := m ((c.tc : Thread nD τ).loc main_arg0)
abbrev wM (c : Dev nD) : Vec Ideal S1x2048x6144 .f32 := m ((c.tc : Thread nD τ).loc main_arg1)

theorem V_w (c : Dev nD) : V m c main_v1 = truncf (F := Ideal) .bf16 (shapeCast S2048x6144 (wM m c) shapeCasts_S1x2048x6144_S2048x6144) bitsLt_bf16_f32 := by
  unfold_abbrev_sides
  after_results
  rfl

theorem V_w_apply (c : Dev nD) (k : Fin 2048) (j : Fin 6144) : V m c main_v1 (ix2 k j) = wM m c (ix3 (0 : Fin 1) k j) := by
  rw [V_w]
  refine (shapeCast_apply (wM m c) _ _ (ix3 (0 : Fin 1) k j) ?_).trans rfl
  rw [Shape.rowMajor_val_three, Shape.rowMajor_val_two]
  show (0 * 2048 + k.val) * 6144 + j.val = k.val * 6144 + j.val
  omega

/-- Row `a` of point `t`. -/
def rowAt (t : Fin cfg0.N) (a : Fin 256) : Fin 8704 := ⟨256 * t.val + a.val, by have ht : t.val < 34 := t.isLt; omega⟩

theorem idx0 : ∀ t : Fin cfg0.N, win0_0.index t = ![t.val, 0] := (by decide +kernel : ∀ t : Fin grid0.N, _)
theorem idx1 : ∀ t : Fin cfg0.N, win0_1.index t = ![0, 2] := (by decide +kernel : ∀ t : Fin grid0.N, _)

theorem xblk (c : Dev nD) (t : Fin cfg0.N) (a : Fin 256) (k : Fin 2048) : iblk m c 0 t (ix2 a k) = xM m c (ix2 (rowAt t a) k) := by
  have e : iblk m c 0 t (ix2 a k) = V m c main_arg0 (ix2 (rowAt t a) k) := by
    refine congrArg (V m c main_arg0) ?_
    blk_ext [idx0 t]
    show t.val * 256 + a.val = 256 * t.val + a.val
    omega
  rw [e, V_main_arg0]

theorem wblk (c : Dev nD) (t : Fin cfg0.N) (k j : Fin 2048) : iblk m c 1 t (ix2 k j) = wM m c (ix3 (0 : Fin 1) k (B.colC 2 j)) := by
  refine Eq.trans ?_ (V_w_apply m c k (B.colC 2 j))
  refine congrArg (V m c main_v1) ?_
  blk_ext [idx1 t]
  show 2 * 2048 + j.val = 2048 * 2 + j.val
  omega

theorem pay_apply (x : Vec Ideal S256x2048 .f32) (w : Vec Ideal S2048x2048 .bf16) (a : Fin 256) (j : Fin 2048) :
    k0_pay1 x w (ix2 a j) = ∑ k : Fin 2048, (x (ix2 a k) : EReal) * (w (ix2 k j) : EReal) := by
  pointwise [k0_pay1]

theorem pay_proj (c : Dev nD) (t : Fin cfg0.N) (a : Fin 256) (j : Fin 2048) :
    k0_pay1 (iblk m c 0 t) (iblk m c 1 t) (ix2 a j) = B.projC (xM m c) (wM m c) 2 (rowAt t a) j := by
  refine (pay_apply (iblk m c 0 t) (iblk m c 1 t) a j).trans ?_
  exact Finset.sum_congr rfl fun k _ => congrArg₂ (fun a b : EReal => a * b) (xblk m c t a k) (wblk m c t k j)

theorem out2_proj (c : Dev nD) (t : Fin cfg0.N) (a : Fin 256) (j : Fin 2048) : out2 m c t (ix2 a j) = B.projC (xM m c) (wM m c) 2 (rowAt t a) j := pay_proj m c t a j
theorem out3_proj (c : Dev nD) (t : Fin cfg0.N) (a : Fin 256) (j : Fin 2048) : out3 m c t (ix2 a j) = B.projC (xM m c) (wM m c) 2 (rowAt t a) j := pay_proj m c t a j
theorem out4_proj (c : Dev nD) (t : Fin cfg0.N) (a : Fin 256) (j : Fin 2048) : out4 m c t (ix2 a j) = B.projC (xM m c) (wM m c) 2 (rowAt t a) j := pay_proj m c t a j

theorem idx2 : ∀ t : Fin cfg0.N, win0_2.index t = ![min t.val 31, 0] := (by decide +kernel : ∀ t : Fin grid0.N, _)
theorem idx3 : ∀ t : Fin cfg0.N, win0_3.index t = ![t.val - 32, 0] := (by decide +kernel : ∀ t : Fin grid0.N, _)
theorem late3 : ∀ t : Fin cfg0.N, (cfg0.win 3).flush t = true → 32 ≤ t.val := (by decide +kernel : ∀ t : Fin grid0.N, win0_3.flush t = true → 32 ≤ t.val)
theorem idx4 : ∀ t : Fin cfg0.N, win0_4.index t = ![t.val, 0] := (by decide +kernel : ∀ t : Fin grid0.N, _)

theorem arr2 (c : Dev nD) : (dats m 0 c).arrAt 2 cfg0.N = B.arrP (xM m c) (wM m c) 2 := by
  refine (dats m 0 c).arrAt_eq_of_covers 2 _ (by decide +kernel) fun t hf y => ?_
  change S256x2048.Idx at y
  idx_vars y
  blk_simp
  rw [after0_2]
  have ht : t.val < 34 := t.isLt
  have r0 : (((cfg0.win 2).blk t).view.emb (ix2 y0 y1) 0).val = 256 * (toP t).val + y0.val := by
    blk_simp [idx2 t]; show ((min t.val 31) * 256 + y0.val) = 256 * (min t.val 31) + y0.val; omega
  have r1 : (((cfg0.win 2).blk t).view.emb (ix2 y0 y1) 1).val = y1.val := by
    blk_simp [idx2 t]
  refine (show _ = out2 m c (toP t) (ix2 y0 y1) from rfl).trans ((out2_proj m c (toP t) y0 y1).trans ?_)
  unfold B.arrP
  exact congrArg₂ (B.projC (xM m c) (wM m c) 2) (Fin.ext r0.symm) (Fin.ext r1.symm)

theorem arr3 (c : Dev nD) : (dats m 0 c).arrAt 3 cfg0.N = B.arrS (xM m c) (wM m c) 2 := by
  refine (dats m 0 c).arrAt_eq_of_covers 3 _ (by decide +kernel) fun t hf y => ?_
  change S256x2048.Idx at y
  idx_vars y
  blk_simp
  rw [after0_3]
  have ht : t.val < 34 := t.isLt
  have hl := late3 t hf
  have r0 : 8192 + (((cfg0.win 3).blk t).view.emb (ix2 y0 y1) 0).val = 256 * t.val + y0.val := by
    blk_simp [idx3 t]; show 8192 + ((t.val - 32) * 256 + y0.val) = 256 * t.val + y0.val; omega
  have r1 : (((cfg0.win 3).blk t).view.emb (ix2 y0 y1) 1).val = y1.val := by
    blk_simp [idx3 t]
  refine (show _ = out3 m c t (ix2 y0 y1) from rfl).trans ((out3_proj m c t y0 y1).trans ?_)
  unfold B.arrS
  exact congrArg₂ (B.projC (xM m c) (wM m c) 2) (Fin.ext r0.symm) (Fin.ext r1.symm)

theorem arr4 (c : Dev nD) : (dats m 0 c).arrAt 4 cfg0.N = B.arrA (xM m c) (wM m c) 2 := by
  refine (dats m 0 c).arrAt_eq_of_covers 4 _ (by decide +kernel) fun t hf y => ?_
  change S256x2048.Idx at y
  idx_vars y
  blk_simp
  rw [after0_4]
  have ht : t.val < 34 := t.isLt
  have r0 : (((cfg0.win 4).blk t).view.emb (ix2 y0 y1) 0).val = 256 * t.val + y0.val := by
    blk_simp [idx4 t]; show ((t.val) * 256 + y0.val) = 256 * t.val + y0.val; omega
  have r1 : (((cfg0.win 4).blk t).view.emb (ix2 y0 y1) 1).val = y1.val := by
    blk_simp [idx4 t]
  refine (show _ = out4 m c t (ix2 y0 y1) from rfl).trans ((out4_proj m c t y0 y1).trans ?_)
  unfold B.arrA
  exact congrArg₂ (B.projC (xM m c) (wM m c) 2) (Fin.ext r0.symm) (Fin.ext r1.symm)

/-- The kernel ends with its results at the spec's arrays. -/
theorem run_value :
    θ_run defs (onTc (τ := τ) (main (F := Ideal))) ⟨m, fun _ => 0, ρ⟩ (fun r => ∀ c : Dev nD,
      r.2.mem ((c.tc : Thread nD τ).loc main_v2_0) = B.arrP (xM m c) (wM m c) 2
      ∧ r.2.mem ((c.tc : Thread nD τ).loc main_v2_1) = B.arrS (xM m c) (wM m c) 2
      ∧ r.2.mem ((c.tc : Thread nD τ).loc main_v2_2) = B.arrA (xM m c) (wM m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (arr2 m c),
    ((h.1 c).1 3).trans (arr3 m c),
    ((h.1 c).1 4).trans (arr4 m c),
    ((h.1 c).1 0).trans (((dats m 0 c).arrAt_in 0 rfl _).trans (V_main_arg0 m c)),
    ((h.1 c).2 main_arg1 (Pipeline.mem_restRefs_of main_arg1 (by decide) (by decide))).trans (V_main_arg1 m c)⟩) (run_main m ρ)

end Cert.Proof.C
-- ==== Proof.C.Ref.lean ====
/-
  The reference's arrays are the projection of `Spec`.
-/
module

public import proofs.«01_k».proof.Proof.B.Spec
public import proofs.«01_k».proof.Proof.Gen.Reference4Ideal.Read
public import Idealize.ShloMosaic.Lib.Pipeline.Value
public import Idealize.ShloMosaic.Lib.IdealHost

@[expose] public section

set_option maxRecDepth 65536

noncomputable section

namespace Cert.Proof.C

open Cert.Reference4Ideal Cert.Reference4Ideal.Gen Cert.Reference4Ideal.Read
open Idealize.ShloMosaic Idealize.ShloMosaic.TcCoe

section
variable (x : Vec Ideal S8704x2048 .f32) (w : Vec Ideal S1x2048x6144 .f32)

theorem weight_apply (i : S2048x6144.Idx) : val_main_v0 (F := Ideal) w i = w (ix3 (0 : Fin 1) (i 0) (i 1)) := by
  rw [val_main_v0_apply]
  refine congrArg w (funext fun a => Fin.ext ?_)
  have h0 : (i 0).val < 2048 := (i 0).isLt
  have h1 : (i 1).val < 6144 := (i 1).isLt
  fin_cases a
  · rfl
  · show ((i 0).val * 6144 + (i 1).val) / 6144 % 2048 = (i 0).val; omega
  · show ((i 0).val * 6144 + (i 1).val) % 6144 = (i 1).val; omega

/-- The product at row `r` and column `j` of group `g`. -/
theorem dot_eq (g : Fin 3) (r : Fin 8704) (j : Fin 2048) (i : S8704x6144.Idx) (h0 : (i 0).val = r.val) (h1 : (i 1).val = 2048 * g.val + j.val) :
    val_main_v1 (F := Ideal) x w i = B.projC x w g r j := by
  rw [val_main_v1_apply]
  show _ = ∑ k : Fin 2048, (x (ix2 r k) : EReal) * (w (ix3 (0 : Fin 1) k (B.colC g j)) : EReal)
  refine Finset.sum_congr rfl fun k _ => congrArg₂ (fun a b : EReal => a * b) ?_ ?_
  · refine congrArg x (funext fun a => Fin.ext ?_)
    fin_cases a
    · exact h0
    · rfl
  · refine (weight_apply w _).trans ?_
    refine congrArg w (funext fun a => Fin.ext ?_)
    fin_cases a
    · rfl
    · rfl
    · exact h1

theorem v4_eq : val_main_v4 (F := Ideal) x w = B.arrA x w 2 := funext fun y => by
  rw [val_main_v4_apply]
  exact dot_eq x w 2 (y 0) (y 1) _ rfl (by show 4096 + (y 1).val = 2048 * 2 + (y 1).val; omega)
theorem v5_eq : val_main_v5 (F := Ideal) x w = B.arrP x w 2 := funext fun y => by
  rw [val_main_v5_apply, v4_eq]
  exact congrArg₂ (B.projC x w 2) (Fin.ext rfl) (Fin.ext rfl)
theorem v6_eq : val_main_v6 (F := Ideal) x w = B.arrS x w 2 := funext fun y => by
  rw [val_main_v6_apply, v4_eq]
  exact congrArg₂ (B.projC x w 2) (Fin.ext rfl) (Fin.ext rfl)
theorem v7_eq : val_main_v7 (F := Ideal) x w = B.arrA x w 2 := (funext fun y => val_main_v7_apply x w y : val_main_v7 (F := Ideal) x w = val_main_v4 (F := Ideal) x w).trans (v4_eq x w)
end

end Cert.Proof.C
-- ==== Proof.C.Value.lean ====
/-
  The value claim of the projection of values, and the frames of its programs.
-/
module

public import proofs.«01_k».proof.Proof.C.Array
public import proofs.«01_k».proof.Proof.C.Ref
public import proofs.«01_k».proof.Proof.Gen.Reference4Ideal.Run
public import proofs.«01_k».proof.Proof.Gen.Kernel4
public import proofs.«01_k».proof.Defs
public import Idealize.ShloMosaic.Lib.Quiescent

@[expose] public section

set_option maxRecDepth 65536

noncomputable section

namespace Cert.Proof.C

open Idealize.ShloMosaic Idealize.SL.Sem

set_option smartUnfolding false in
set_option maxHeartbeats 1000000 in
/-- The two programs have one text, so the run over any floats gives the kernel's frame. -/
theorem frame_kernel : Cert.quiescent_Kernel4 := fun m g _ => frame (F := Bits) m g
theorem frame_ideal : Cert.quiescent_Kernel4Ideal := fun m g _ => frame m g

/-- The reference has no semaphores, so its run leaves every counter at zero. -/
theorem frame_ref : Cert.quiescent_Reference4Ideal := fun m g _ =>
  (θ_run _ _ _).mono (fun r h => ⟨fun c => (h c).2.2.2, sem_eq_zero_of_no_sems (by decide) r.2⟩) (Cert.Reference4Ideal.Value.run m g)

theorem algebraic : Cert.algebraic_Kernel4Ideal_Reference4Ideal := fun m g m' g' _ hm => by
  refine ⟨fun c => B.arrP (xM m c) (wM m c) 2, fun c => B.arrS (xM m c) (wM m c) 2, fun c => B.arrA (xM m c) (wM m c) 2, run_value m g, ?_⟩
  refine (θ_run _ _ _).mono (fun r h c => ?_) (Cert.Reference4Ideal.Value.run m' g')
  obtain ⟨h0, h1, h2, hr⟩ := h c
  obtain ⟨e0, e1⟩ := hm c
  refine ⟨h0.trans ((Cert.Reference4Ideal.Read.val_main_v5_eq _ _).trans ?_), h1.trans ((Cert.Reference4Ideal.Read.val_main_v6_eq _ _).trans ?_), h2.trans ((Cert.Reference4Ideal.Read.val_main_v7_eq _ _).trans ?_), hr⟩
  all_goals simp only [e0, e1]
  · exact v5_eq (xM m c) (wM m c)
  · exact v6_eq (xM m c) (wM m c)
  · exact v7_eq (xM m c) (wM m c)

end Cert.Proof.C
-- ==== Proof.D.Spec.lean ====
/-
  The gated embedding as a function of a layer's rows, the token's embedding rows and the two weights.
-/
module

public import proofs.«01_k».proof.Kernel5Ideal
public import proofs.«01_k».proof.Kernel6Ideal
public import Idealize.ShloMosaic.Lib.Pointwise

@[expose] public section

noncomputable section

namespace Cert.Proof.D

open Cert.Kernel6Ideal
open Idealize.ShloMosaic Idealize.ShloMosaic.TcCoe

section
variable (x : Vec Ideal S8704x2048 .f32) (pp : Vec Ideal S2x2x4096x256 .f32) (ps : Vec Ideal S2x32x16x256 .f32) (we : Vec Ideal S2x256x2048 .f32) (wg : Vec Ideal S2x2048x2048 .f32)

/-- Row `r` of layer `l`'s embeddings: the prompt's rows, then the samples'. -/
def rowE (l : Fin 2) (r : ℕ) (k : Fin 256) : EReal :=
  if r < 8192 then pp (ix4 l (⟨r / 4096 % 2, Nat.mod_lt _ (by omega)⟩ : Fin 2) (⟨r % 4096, Nat.mod_lt _ (by omega)⟩ : Fin 4096) k)
  else ps (ix4 l (⟨(r - 8192) / 16 % 32, Nat.mod_lt _ (by omega)⟩ : Fin 32) (⟨r % 16, Nat.mod_lt _ (by omega)⟩ : Fin 16) k)

/-- The embedding's product and the gate's, and the row with the gated embedding added. -/
def embE (l : Fin 2) (r : ℕ) (j : Fin 2048) : EReal := ∑ k : Fin 256, rowE pp ps l r k * (we (ix3 l k j) : EReal)
def gateE (l : Fin 2) (r : Fin 8704) (j : Fin 2048) : EReal := ∑ k : Fin 2048, (x (ix2 r k) : EReal) * (wg (ix3 l k j) : EReal)
def outE (l : Fin 2) (r : Fin 8704) (j : Fin 2048) : EReal := (x (ix2 r j) : EReal) + embE pp ps we l r.val j * Ideal.logistic (gateE x wg l r j)

/-- All rows, the prompt's and the samples'. -/
def arrA (l : Fin 2) : S8704x2048.Idx → EReal := fun y => outE x pp ps we wg l (y 0) (y 1)
def arrP (l : Fin 2) : S8192x2048.Idx → EReal := fun y => outE x pp ps we wg l ⟨(y 0).val, lt_trans (y 0).isLt (by decide)⟩ (y 1)
def arrS (l : Fin 2) : S512x2048.Idx → EReal := fun y => outE x pp ps we wg l ⟨8192 + (y 0).val, Nat.add_lt_add_left (y 0).isLt 8192⟩ (y 1)
end

end Cert.Proof.D
-- ==== Proof.D.Body.lean ====
/-
  The run of the body of the embedding of layer 0 at a grid point.
-/
module

public import proofs.«01_k».proof.Proof.Gen.Kernel5Ideal.Skeleton
public import proofs.«01_k».proof.Proof.Gen.Kernel5Ideal.Frame
public import Idealize.ShloMosaic.Lib.WholeRead
public import Idealize.ShloMosaic.Lib.Tactic
public import Idealize.ShloMosaic.Lib.Exec
public import Idealize.ShloMosaic.Lib.Pipeline.Kit

@[expose] public section

set_option maxRecDepth 65536

noncomputable section

namespace Cert.Proof.D

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No loop of the program needs a variant. -/
abbrev 𝒱₀ : Variants := Variants.none

local notation "𝕄" => MT nD τ sig Unit (Elt F) ℕ (UR sig nD τ) ℕ

theorem hz : (![0, 0] : Fin 2 → ℕ) = fun _ => 0 := by funext a; fin_cases a <;> rfl

/-- A load through a whole memref that holds `X` reads `X` through the load's rectangle. -/
theorem ld_unread {Val : EltTy → Type} {sp : Space} {s : Shape} {e : EltTy} {a : Memref sig .tc sp s e} (h : a.IsWhole) (X : s.Idx → Val e) (R : Rect s) :
    View.readAt Val a.view R.toLoadRect (h.unread X) = View.ld X R := funext fun x => h.readAt_unread X _ x

theorem ld0 (X : Vec F S256x2048 .f32) : View.ld X (Rect.unit (s := S256x2048) ![0, 0] ![256, 2048] inb_S256x2048_S256x2048_0_0) = X := View.ld_unit_zero hz _ X
theorem ld1 (X : Vec F S256x2048 .bf16) : View.ld X (Rect.unit (s := S256x2048) ![0, 0] ![256, 2048] inb_S256x2048_S256x2048_0_0) = X := View.ld_unit_zero hz _ X
theorem ld2 (X : Vec F S2048x2048 .bf16) : View.ld X (Rect.unit (s := S2048x2048) ![0, 0] ![2048, 2048] inb_S2048x2048_S2048x2048_0_0) = X := View.ld_unit_zero hz _ X
theorem ld3 (X : Vec F S256x256 .f32) : View.ld X (Rect.unit (s := S256x256) ![0, 0] ![256, 256] inb_S256x256_S256x256_0_0) = X := View.ld_unit_zero hz _ X

set_option maxHeartbeats 0 in
/-- At every point: the block of the result. -/
theorem runA (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S2048x2048 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x2048 .f32) (harg6 : arg6.IsWhole)

    (x1 : Vec F S256x2048 .f32) (x2 : Vec F S256x2048 .bf16) (x3 : Vec F S2048x2048 .bf16) (x4 : Vec F S256x256 .f32) (x5 : Vec F S256x256 .f32) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay1 i x1 x3 x4 x5 x2)) -∗ K ⟨⟩))
          ⊢ wp frame (wpE (defs₀ (F := F)) 𝒱₀ c none) Set.univ (cc0_ple i arg1 harg1 arg2 harg2 arg3 harg3 arg4 harg4 arg5 harg5 arg6 harg6) K := by
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf1; obtain rfl := harg2.eq_unread hf2; obtain rfl := harg3.eq_unread hf3; obtain rfl := harg4.eq_unread hf4; obtain rfl := harg5.eq_unread hf5
    sl_unfold [cc0_ple]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; isplitr; swap; · iexact H6
    ipureintro; refine (View.read_writes_junk_eq_canon _ _).trans ((View.canon_unit_zero hz _ _).trans ?_); (try delta runA.sl.r_1); (try delta runA.sl.r); simp only [ld0, ld1, ld2, ld3, k0_pay1, ld_unread, shapeCast_self]

end Cert.Proof.D
-- ==== Proof.D.Run.lean ====
/-
  The run of the embedding of layer 0 over its grid of 34 points: 32 of the prompt, then 2 of the samples.
-/
module

public import proofs.«01_k».proof.Proof.D.Body
public import proofs.«01_k».proof.Proof.Gen.Kernel5Ideal.Points

@[expose] public section

set_option maxRecDepth 65536

noncomputable section

namespace Cert.Proof.D

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The blocks a point leaves in its results' buffers. -/

def out5 (c : Dev nD) (t : Fin cfg0.N) : FVec F S256x2048 .f32 := k0_pay1 (grid0.coords t) (iblk m c 0 t) (iblk m c 2 t) (iblk m c 3 t) (iblk m c 4 t) (iblk m c 1 t)

/-- The arrays as the region finds them; after the body each operand's buffer at its block and each result's at the
    body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

set_option maxHeartbeats 1000000 in
/-- At each grid point the body takes the operands' blocks to the results' blocks. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
     (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexact H0
  isplitl [H1]
  · iexact H1
  isplitl [H2]
  · iexact H2
  isplitl [H3]
  · iexact H3
  isplitl [H4]
  · iexact H4
  iexact H5

set_option backward.isDefEq.respectTransparency.types false in
/-- From any memory with zero counters the program runs to its end, with every array of the pipeline at what the proof
    data gives and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Proof.D
-- ==== Proof.D.Array.lean ====
/-
  The arrays the embedding of layer 0 ends with.
-/
module

public import proofs.«01_k».proof.Proof.D.Spec
public import proofs.«01_k».proof.Proof.D.Run
public import Idealize.ShloMosaic.Lib.Pipeline.ValueKit
public import Idealize.ShloMosaic.Lib.Pipeline.Value

@[expose] public section

set_option maxRecDepth 65536

noncomputable section

namespace Cert.Proof.D

open Cert.Kernel5Ideal Cert.Kernel5Ideal.Gen
open Idealize.ShloMosaic Idealize.ShloMosaic.TcCoe
open Idealize.SL Idealize.SL.Sem

variable (m : (ℓ : Loc nD τ sig) → Buf (Elt Ideal) ℓ) (ρ : Dev nD → PrngReg)

/-- The arguments of a device. -/
abbrev xM (c : Dev nD) : Vec Ideal S8704x2048 .f32 := m ((c.tc : Thread nD τ).loc main_arg0)
abbrev ppM (c : Dev nD) : Vec Ideal S2x2x4096x256 .f32 := m ((c.tc : Thread nD τ).loc main_arg1)
abbrev psM (c : Dev nD) : Vec Ideal S2x32x16x256 .f32 := m ((c.tc : Thread nD τ).loc main_arg2)
abbrev weM (c : Dev nD) : Vec Ideal S2x256x2048 .f32 := m ((c.tc : Thread nD τ).loc main_arg3)
abbrev wgM (c : Dev nD) : Vec Ideal S2x2048x2048 .f32 := m ((c.tc : Thread nD τ).loc main_arg4)

theorem V_pp (c : Dev nD) : V m c main_v2 = shapeCast S8192x256 (shapeCast S2x4096x256 (extractStridedSlice S1x2x4096x256 ![0, 0, 0, 0] (ppM m c) slices_S2x2x4096x256_S1x2x4096x256_0_0_0_0) shapeCasts_S1x2x4096x256_S2x4096x256) shapeCasts_S2x4096x256_S8192x256 := by
  unfold_abbrev_sides
  after_results
  rfl

theorem V_ps (c : Dev nD) : V m c main_v5 = shapeCast S512x256 (shapeCast S32x16x256 (extractStridedSlice S1x32x16x256 ![0, 0, 0, 0] (psM m c) slices_S2x32x16x256_S1x32x16x256_0_0_0_0) shapeCasts_S1x32x16x256_S32x16x256) shapeCasts_S32x16x256_S512x256 := by
  unfold_abbrev_sides
  after_results
  rfl

theorem V_we (c : Dev nD) : V m c main_v8 = truncf (F := Ideal) .bf16 (shapeCast S256x2048 (extractStridedSlice S1x256x2048 ![0, 0, 0] (weM m c) slices_S2x256x2048_S1x256x2048_0_0_0) shapeCasts_S1x256x2048_S256x2048) bitsLt_bf16_f32 := by
  unfold_abbrev_sides
  after_results
  rfl

theorem V_wg (c : Dev nD) : V m c main_v11 = truncf (F := Ideal) .bf16 (shapeCast S2048x2048 (extractStridedSlice S1x2048x2048 ![0, 0, 0] (wgM m c) slices_S2x2048x2048_S1x2048x2048_0_0_0) shapeCasts_S1x2048x2048_S2048x2048) bitsLt_bf16_f32 := by
  unfold_abbrev_sides
  after_results
  rfl

/-- Row `a` of point `t`. -/
def rowAt (t : Fin cfg0.N) (a : Fin 256) : Fin 8704 := ⟨256 * t.val + a.val, by have ht : t.val < 34 := t.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![min t.val 31, 0] := (by decide +kernel : ∀ t : Fin grid0.N, _)
theorem idx4 : ∀ t : Fin cfg0.N, win0_4.index t = ![t.val - 32, 0] := (by decide +kernel : ∀ t : Fin grid0.N, _)

theorem xblk (c : Dev nD) (t : Fin cfg0.N) (a : Fin 256) (k : Fin 2048) : iblk m c 0 t (ix2 a k) = xM m c (ix2 (rowAt t a) k) := by
  have e : iblk m c 0 t (ix2 a k) = V m c main_arg0 (ix2 (rowAt t a) k) := by
    refine congrArg (V m c main_arg0) ?_
    blk_ext [idx0 t]
    show t.val * 256 + a.val = 256 * t.val + a.val
    omega
  rw [e, V_main_arg0]

theorem weblk (c : Dev nD) (t : Fin cfg0.N) (k : Fin 256) (j : Fin 2048) : iblk m c 1 t (ix2 k j) = weM m c (ix3 (0 : Fin 2) k j) := by
  have e : iblk m c 1 t (ix2 k j) = V m c main_v8 (ix2 k j) := by
    refine congrArg (V m c main_v8) ?_
    blk_ext [idx1 t]
  rw [e, V_we]
  show shapeCast S256x2048 (extractStridedSlice S1x256x2048 ![0, 0, 0] (weM m c) slices_S2x256x2048_S1x256x2048_0_0_0) shapeCasts_S1x256x2048_S256x2048 (ix2 k j) = _
  refine (shapeCast_apply _ shapeCasts_S1x256x2048_S256x2048 (ix2 k j) (ix3 (0 : Fin 1) k j) ?_).trans (extractStridedSlice_apply ![0, 0, 0] (weM m c) _ _ (ix3 (0 : Fin 2) k j) ?_)
  · rw [Shape.rowMajor_val_three, Shape.rowMajor_val_two]
    show (0 * 256 + k.val) * 2048 + j.val = k.val * 2048 + j.val
    omega
  · intro a; fin_cases a
    · rfl
    · show k.val = 0 + k.val; omega
    · show j.val = 0 + j.val; omega

theorem wgblk (c : Dev nD) (t : Fin cfg0.N) (k j : Fin 2048) : iblk m c 2 t (ix2 k j) = wgM m c (ix3 (0 : Fin 2) k j) := by
  have e : iblk m c 2 t (ix2 k j) = V m c main_v11 (ix2 k j) := by
    refine congrArg (V m c main_v11) ?_
    blk_ext [idx2 t]
  rw [e, V_wg]
  show shapeCast S2048x2048 (extractStridedSlice S1x2048x2048 ![0, 0, 0] (wgM m c) slices_S2x2048x2048_S1x2048x2048_0_0_0) shapeCasts_S1x2048x2048_S2048x2048 (ix2 k j) = _
  refine (shapeCast_apply _ shapeCasts_S1x2048x2048_S2048x2048 (ix2 k j) (ix3 (0 : Fin 1) k j) ?_).trans (extractStridedSlice_apply ![0, 0, 0] (wgM m c) _ _ (ix3 (0 : Fin 2) k j) ?_)
  · rw [Shape.rowMajor_val_three, Shape.rowMajor_val_two]
    show (0 * 2048 + k.val) * 2048 + j.val = k.val * 2048 + j.val
    omega
  · intro a; fin_cases a
    · rfl
    · show k.val = 0 + k.val; omega
    · show j.val = 0 + j.val; omega

theorem ppblk (c : Dev nD) (t : Fin cfg0.N) (h : t.val < 32) (a : Fin 256) (k : Fin 256) :
    iblk m c 3 t (ix2 a k) = D.rowE (ppM m c) (psM m c) 0 (256 * t.val + a.val) k := by
  have ht : t.val < 34 := t.isLt
  have e : iblk m c 3 t (ix2 a k) = V m c main_v2 (ix2 (⟨256 * t.val + a.val, by omega⟩ : Fin 8192) k) := by
    refine congrArg (V m c main_v2) ?_
    blk_ext [idx3 t]
  rw [e, V_pp]
  unfold D.rowE
  rw [if_pos (by omega)]
  refine (shapeCast_apply _ shapeCasts_S2x4096x256_S8192x256 _ (ix3 (⟨(256 * t.val + a.val) / 4096 % 2, Nat.mod_lt _ (by omega)⟩ : Fin 2) (⟨(256 * t.val + a.val) % 4096, Nat.mod_lt _ (by omega)⟩ : Fin 4096) k) ?_).trans
    ((shapeCast_apply _ shapeCasts_S1x2x4096x256_S2x4096x256 _ (ix4 (0 : Fin 1) (⟨(256 * t.val + a.val) / 4096 % 2, Nat.mod_lt _ (by omega)⟩ : Fin 2) (⟨(256 * t.val + a.val) % 4096, Nat.mod_lt _ (by omega)⟩ : Fin 4096) k) ?_).trans
      (extractStridedSlice_apply ![0, 0, 0, 0] (ppM m c) _ _ (ix4 (0 : Fin 2) (⟨(256 * t.val + a.val) / 4096 % 2, Nat.mod_lt _ (by omega)⟩ : Fin 2) (⟨(256 * t.val + a.val) % 4096, Nat.mod_lt _ (by omega)⟩ : Fin 4096) k) ?_))
  · rw [Shape.rowMajor_val_three, Shape.rowMajor_val_two]
    show ((256 * t.val + a.val) / 4096 % 2 * 4096 + (256 * t.val + a.val) % 4096) * 256 + k.val = (256 * t.val + a.val) * 256 + k.val
    omega
  · rw [Shape.rowMajor_val_four, Shape.rowMajor_val_three]
    show ((0 * 2 + (256 * t.val + a.val) / 4096 % 2) * 4096 + (256 * t.val + a.val) % 4096) * 256 + k.val = ((256 * t.val + a.val) / 4096 % 2 * 4096 + (256 * t.val + a.val) % 4096) * 256 + k.val
    omega
  · intro b; fin_cases b
    · rfl
    · exact (Nat.zero_add _).symm
    · exact (Nat.zero_add _).symm
    · exact (Nat.zero_add _).symm

theorem psblk (c : Dev nD) (t : Fin cfg0.N) (h : ¬ t.val < 32) (a : Fin 256) (k : Fin 256) :
    iblk m c 4 t (ix2 a k) = D.rowE (ppM m c) (psM m c) 0 (256 * t.val + a.val) k := by
  have ht : t.val < 34 := t.isLt
  have e : iblk m c 4 t (ix2 a k) = V m c main_v5 (ix2 (⟨256 * (t.val - 32) + a.val, by omega⟩ : Fin 512) k) := by
    refine congrArg (V m c main_v5) ?_
    blk_ext [idx4 t]
  rw [e, V_ps]
  unfold D.rowE
  rw [if_neg (by omega)]
  refine (shapeCast_apply _ shapeCasts_S32x16x256_S512x256 _ (ix3 (⟨(256 * t.val + a.val - 8192) / 16 % 32, Nat.mod_lt _ (by omega)⟩ : Fin 32) (⟨(256 * t.val + a.val) % 16, Nat.mod_lt _ (by omega)⟩ : Fin 16) k) ?_).trans
    ((shapeCast_apply _ shapeCasts_S1x32x16x256_S32x16x256 _ (ix4 (0 : Fin 1) (⟨(256 * t.val + a.val - 8192) / 16 % 32, Nat.mod_lt _ (by omega)⟩ : Fin 32) (⟨(256 * t.val + a.val) % 16, Nat.mod_lt _ (by omega)⟩ : Fin 16) k) ?_).trans
      (extractStridedSlice_apply ![0, 0, 0, 0] (psM m c) _ _ (ix4 (0 : Fin 2) (⟨(256 * t.val + a.val - 8192) / 16 % 32, Nat.mod_lt _ (by omega)⟩ : Fin 32) (⟨(256 * t.val + a.val) % 16, Nat.mod_lt _ (by omega)⟩ : Fin 16) k) ?_))
  · rw [Shape.rowMajor_val_three, Shape.rowMajor_val_two]
    show ((256 * t.val + a.val - 8192) / 16 % 32 * 16 + (256 * t.val + a.val) % 16) * 256 + k.val = (256 * (t.val - 32) + a.val) * 256 + k.val
    omega
  · rw [Shape.rowMajor_val_four, Shape.rowMajor_val_three]
    show ((0 * 32 + (256 * t.val + a.val - 8192) / 16 % 32) * 16 + (256 * t.val + a.val) % 16) * 256 + k.val = ((256 * t.val + a.val - 8192) / 16 % 32 * 16 + (256 * t.val + a.val) % 16) * 256 + k.val
    omega
  · intro b; fin_cases b
    · rfl
    · exact (Nat.zero_add _).symm
    · exact (Nat.zero_add _).symm
    · exact (Nat.zero_add _).symm

theorem pay_apply (i : grid0.Coords) (x : Vec Ideal S256x2048 .f32) (wg : Vec Ideal S2048x2048 .bf16) (pp ps : Vec Ideal S256x256 .f32) (we : Vec Ideal S256x2048 .bf16) (a : Fin 256) (j : Fin 2048) :
    k0_pay1 i x wg pp ps we (ix2 a j)
      = (x (ix2 a j) : EReal) + (∑ k : Fin 256, (Scalar.select (Scalar.cmpi .slt (BitVec.ofNat 32 (i 0).val) 32#32) pp ps (ix2 a k) : EReal) * (we (ix2 k j) : EReal))
        * Ideal.logistic (∑ k : Fin 2048, (x (ix2 a k) : EReal) * (wg (ix2 k j) : EReal)) := by
  pointwise [k0_pay1]

/-- The rows of a point. -/
theorem pblk (c : Dev nD) (t : Fin cfg0.N) (a : Fin 256) (k : Fin 256) :
    (Scalar.select (Scalar.cmpi .slt (BitVec.ofNat 32 ((grid0.coords t) 0).val) 32#32) (iblk m c 3 t) (iblk m c 4 t) : Vec Ideal S256x256 .f32) (ix2 a k)
      = D.rowE (ppM m c) (psM m c) 0 (256 * t.val + a.val) k := by
  by_cases h : t.val < 32
  · have hc : Scalar.cmpi .slt (BitVec.ofNat 32 ((grid0.coords t) 0).val) 32#32 = 1#1 :=
      (by decide +kernel : ∀ t : Fin grid0.N, t.val < 32 → Scalar.cmpi .slt (BitVec.ofNat 32 ((grid0.coords t) 0).val) 32#32 = 1#1) t h
    rw [← ppblk m c t h a k, hc]
    rfl
  · have hc : Scalar.cmpi .slt (BitVec.ofNat 32 ((grid0.coords t) 0).val) 32#32 = 0#1 :=
      (by decide +kernel : ∀ t : Fin grid0.N, ¬ t.val < 32 → Scalar.cmpi .slt (BitVec.ofNat 32 ((grid0.coords t) 0).val) 32#32 = 0#1) t h
    rw [← psblk m c t h a k, hc]
    rfl

theorem out5_val (c : Dev nD) (t : Fin cfg0.N) (a : Fin 256) (j : Fin 2048) :
    out5 m c t (ix2 a j) = D.outE (xM m c) (ppM m c) (psM m c) (weM m c) (wgM m c) 0 (rowAt t a) j := by
  refine (pay_apply (grid0.coords t) (iblk m c 0 t) (iblk m c 2 t) (iblk m c 3 t) (iblk m c 4 t) (iblk m c 1 t) a j).trans ?_
  refine congrArg₂ (fun a b : EReal => a + b) (xblk m c t a j) (congrArg₂ (fun a b : EReal => a * b) ?_ (congrArg Ideal.logistic ?_))
  · exact Finset.sum_congr rfl fun k _ => congrArg₂ (fun a b : EReal => a * b) (pblk m c t a k) (weblk m c t k j)
  · exact Finset.sum_congr rfl fun k _ => congrArg₂ (fun a b : EReal => a * b) (xblk m c t a k) (wgblk m c t k j)

theorem idx5 : ∀ t : Fin cfg0.N, win0_5.index t = ![t.val, 0] := (by decide +kernel : ∀ t : Fin grid0.N, _)

theorem arr5 (c : Dev nD) : (dats m 0 c).arrAt 5 cfg0.N = D.arrA (xM m c) (ppM m c) (psM m c) (weM m c) (wgM m c) 0 := by
  refine (dats m 0 c).arrAt_eq_of_covers 5 _ (by decide +kernel) fun t hf y => ?_
  change S256x2048.Idx at y
  idx_vars y
  blk_simp
  rw [after0_5]
  have ht : t.val < 34 := t.isLt
  have r0 : (((cfg0.win 5).blk t).view.emb (ix2 y0 y1) 0).val = 256 * t.val + y0.val := by
    blk_simp [idx5 t]; show ((t.val) * 256 + y0.val) = 256 * t.val + y0.val; omega
  have r1 : (((cfg0.win 5).blk t).view.emb (ix2 y0 y1) 1).val = y1.val := by
    blk_simp [idx5 t]
  refine (show _ = out5 m c t (ix2 y0 y1) from rfl).trans ((out5_val m c t y0 y1).trans ?_)
  unfold D.arrA
  exact congrArg₂ (D.outE (xM m c) (ppM m c) (psM m c) (weM m c) (wgM m c) 0) (Fin.ext r0.symm) (Fin.ext r1.symm)

/-- The kernel ends with its results at the spec's arrays. -/
theorem run_value :
    θ_run defs (onTc (τ := τ) (main (F := Ideal))) ⟨m, fun _ => 0, ρ⟩ (fun r => ∀ c : Dev nD,
      r.2.mem ((c.tc : Thread nD τ).loc main_v12) = D.arrA (xM m c) (ppM m c) (psM m c) (weM m c) (wgM m c) 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (arr5 m c),
    ((h.1 c).1 0).trans (((dats m 0 c).arrAt_in 0 rfl _).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (run_main m ρ)

end Cert.Proof.D
-- ==== Proof.D.Ref.lean ====
/-
  The reference's arrays are the gated embedding of `Spec`.
-/
module

public import proofs.«01_k».proof.Proof.D.Spec
public import proofs.«01_k».proof.Proof.Gen.Reference5Ideal.Read
public import Idealize.ShloMosaic.Lib.Pipeline.Value
public import Idealize.ShloMosaic.Lib.IdealHost

@[expose] public section

set_option maxRecDepth 65536

noncomputable section

namespace Cert.Proof.D

open Cert.Reference5Ideal Cert.Reference5Ideal.Gen Cert.Reference5Ideal.Read
open Idealize.ShloMosaic Idealize.ShloMosaic.TcCoe

section
variable (x0 : Vec Ideal S8704x2048 .f32) (x1 : Vec Ideal S2x2x4096x256 .f32) (x2 : Vec Ideal S2x32x16x256 .f32) (x3 : Vec Ideal S2x256x2048 .f32) (x4 : Vec Ideal S2x2048x2048 .f32)

theorem w8_apply (i : S256x2048.Idx) : val_main_v8 (F := Ideal) x3 i = x3 (ix3 (0 : Fin 2) (i 0) (i 1)) := by
  rw [val_main_v8_apply, val_main_v7_apply]
  refine congrArg x3 (funext fun a => Fin.ext ?_)
  have h0 : (i 0).val < 256 := (i 0).isLt
  have h1 : (i 1).val < 2048 := (i 1).isLt
  fin_cases a
  · rfl
  · show ((i 0).val * 2048 + (i 1).val) / 2048 % 256 = (i 0).val; omega
  · show ((i 0).val * 2048 + (i 1).val) % 2048 = (i 1).val; omega

theorem w11_apply (i : S2048x2048.Idx) : val_main_v11 (F := Ideal) x4 i = x4 (ix3 (0 : Fin 2) (i 0) (i 1)) := by
  rw [val_main_v11_apply, val_main_v10_apply]
  refine congrArg x4 (funext fun a => Fin.ext ?_)
  have h0 : (i 0).val < 2048 := (i 0).isLt
  have h1 : (i 1).val < 2048 := (i 1).isLt
  fin_cases a
  · rfl
  · show ((i 0).val * 2048 + (i 1).val) / 2048 % 2048 = (i 0).val; omega
  · show ((i 0).val * 2048 + (i 1).val) % 2048 = (i 1).val; omega

theorem e4_apply (i : S8192x256.Idx) : val_main_v4 (F := Ideal) x1 i = D.rowE x1 x2 0 ((i 0).val) (i 1) := by
  have h0 : (i 0).val < 8192 := (i 0).isLt
  have h1 : (i 1).val < 256 := (i 1).isLt
  unfold D.rowE
  rw [val_main_v4_apply, val_main_v1_apply, val_main_v0_apply, if_pos (by omega)]
  refine congrArg x1 (funext fun a => Fin.ext ?_)
  have a0 : ((i 0).val * 256 + (i 1).val) / 1048576 = (i 0).val / 4096 := by omega
  have a1 : ((i 0).val * 256 + (i 1).val) / 256 % 4096 = (i 0).val % 4096 := by omega
  have a2 : ((i 0).val * 256 + (i 1).val) % 256 = (i 1).val := by omega
  fin_cases a
  · rfl
  · show (((((i 0).val * 256 + (i 1).val) / 1048576) * 4096 + ((i 0).val * 256 + (i 1).val) / 256 % 4096) * 256 + ((i 0).val * 256 + (i 1).val) % 256) / 1048576 % 2 = (i 0).val / 4096 % 2
    omega
  · show (((((i 0).val * 256 + (i 1).val) / 1048576) * 4096 + ((i 0).val * 256 + (i 1).val) / 256 % 4096) * 256 + ((i 0).val * 256 + (i 1).val) % 256) / 256 % 4096 = ((i 0).val) % 4096
    omega
  · show (((((i 0).val * 256 + (i 1).val) / 1048576) * 4096 + ((i 0).val * 256 + (i 1).val) / 256 % 4096) * 256 + ((i 0).val * 256 + (i 1).val) % 256) % 256 = (i 1).val
    omega

theorem e5_apply (i : S512x256.Idx) : val_main_v5 (F := Ideal) x2 i = D.rowE x1 x2 0 (8192 + (i 0).val) (i 1) := by
  have h0 : (i 0).val < 512 := (i 0).isLt
  have h1 : (i 1).val < 256 := (i 1).isLt
  unfold D.rowE
  rw [val_main_v5_apply, val_main_v3_apply, val_main_v2_apply, if_neg (by omega)]
  refine congrArg x2 (funext fun a => Fin.ext ?_)
  have a0 : ((i 0).val * 256 + (i 1).val) / 4096 = (i 0).val / 16 := by omega
  have a1 : ((i 0).val * 256 + (i 1).val) / 256 % 16 = (i 0).val % 16 := by omega
  have a2 : ((i 0).val * 256 + (i 1).val) % 256 = (i 1).val := by omega
  fin_cases a
  · rfl
  · show (((((i 0).val * 256 + (i 1).val) / 4096) * 16 + ((i 0).val * 256 + (i 1).val) / 256 % 16) * 256 + ((i 0).val * 256 + (i 1).val) % 256) / 4096 % 32 = (8192 + (i 0).val - 8192) / 16 % 32
    omega
  · show (((((i 0).val * 256 + (i 1).val) / 4096) * 16 + ((i 0).val * 256 + (i 1).val) / 256 % 16) * 256 + ((i 0).val * 256 + (i 1).val) % 256) / 256 % 16 = (8192 + (i 0).val) % 16
    omega
  · show (((((i 0).val * 256 + (i 1).val) / 4096) * 16 + ((i 0).val * 256 + (i 1).val) / 256 % 16) * 256 + ((i 0).val * 256 + (i 1).val) % 256) % 256 = (i 1).val
    omega

/-- The prompt's rows above the samples'. -/
theorem cat_apply (r : Fin 8704) (k : Fin 256) : val_main_v6 (F := Ideal) x1 x2 (ix2 r k) = D.rowE x1 x2 0 r.val k := by
  unfold val_main_v6
  by_cases hy : r.val < 8192
  · refine (concatenate_pair_apply_left (0 : Fin S8704x256.rank) (val_main_v4 (F := Ideal) x1) (val_main_v5 (F := Ideal) x2) concatenates_S8192x256_S512x256_S8704x256_d0 (ix2 r k) rfl (ix2 (⟨r.val, hy⟩ : Fin 8192) k : S8192x256.Idx) ?_).trans ?_
    · intro b; fin_cases b <;> rfl
    · exact e4_apply x1 x2 (ix2 (⟨r.val, hy⟩ : Fin 8192) k : S8192x256.Idx)
  · refine (concatenate_pair_apply_right (0 : Fin S8704x256.rank) (val_main_v4 (F := Ideal) x1) (val_main_v5 (F := Ideal) x2) concatenates_S8192x256_S512x256_S8704x256_d0 (ix2 r k) rfl rfl (ix2 (⟨r.val - 8192, by omega⟩ : Fin 512) k : S512x256.Idx) ?_ ?_).trans ?_
    · intro b hb; fin_cases b
      · exact absurd rfl hb
      · rfl
    · show r.val - 8192 + 8192 = r.val; omega
    · refine (e5_apply x1 x2 (ix2 (⟨r.val - 8192, by omega⟩ : Fin 512) k : S512x256.Idx)).trans ?_
      show D.rowE x1 x2 0 (8192 + (r.val - 8192)) k = _
      rw [show 8192 + (r.val - 8192) = r.val by omega]

theorem emb_eq (y : S8704x2048.Idx) : val_main_v9 (F := Ideal) x1 x2 x3 y = D.embE x1 x2 x3 0 (y 0).val (y 1) := by
  rw [val_main_v9_apply]
  show _ = ∑ k : Fin 256, D.rowE x1 x2 0 (y 0).val k * (x3 (ix3 (0 : Fin 2) k (y 1)) : EReal)
  refine Finset.sum_congr rfl fun k _ => congrArg₂ (fun a b : EReal => a * b) ?_ (w8_apply x3 _)
  refine (congrArg (val_main_v6 (F := Ideal) x1 x2) (funext fun a => ?_)).trans (cat_apply x1 x2 (y 0) k)
  fin_cases a <;> rfl

theorem gate_eq (y : S8704x2048.Idx) : val_main_v12 (F := Ideal) x0 x4 y = D.gateE x0 x4 0 (y 0) (y 1) := by
  rw [val_main_v12_apply]
  show _ = ∑ k : Fin 2048, (x0 (ix2 (y 0) k) : EReal) * (x4 (ix3 (0 : Fin 2) k (y 1)) : EReal)
  refine Finset.sum_congr rfl fun k _ => congrArg₂ (fun a b : EReal => a * b) (congrArg x0 (funext fun a => ?_)) (w11_apply x4 _)
  fin_cases a <;> rfl

/-- One over one and the exponential of the negated gate is the logistic function of it. -/
theorem logistic_eq (y : S8704x2048.Idx) : val_main_v18 (F := Ideal) x0 x4 y = Ideal.logistic (D.gateE x0 x4 0 (y 0) (y 1)) := by
  rw [val_main_v18_apply, val_main_v17_apply, val_main_cst_0_apply, val_main_v16_apply, val_main_v15_apply, val_main_cst_apply, val_main_v14_apply, val_main_v13_apply, gate_eq]
  show Ideal.div (Ideal.ofBits .f32 0x3F800000#32) (Ideal.ofBits .f32 0x3F800000#32 + Ideal.exp (-(D.gateE x0 x4 0 (y 0) (y 1)))) = _
  rw [Ideal.ofBits_one_f32]
  rfl

theorem v20_eq : val_main_v20 (F := Ideal) x0 x1 x2 x3 x4 = D.arrA x0 x1 x2 x3 x4 0 := funext fun y => by
  rw [val_main_v20_apply, val_main_v19_apply, emb_eq, logistic_eq]
  show (x0 y : EReal) + _ = (x0 (ix2 (y 0) (y 1)) : EReal) + _
  refine congrArg₂ (fun a b : EReal => a + b) (congrArg x0 (funext fun a => ?_)) rfl
  fin_cases a <;> rfl
end

end Cert.Proof.D
-- ==== Proof.D.Value.lean ====
/-
  The value claim of layer 0's embedding, and the frames of its programs.
-/
module

public import proofs.«01_k».proof.Proof.D.Array
public import proofs.«01_k».proof.Proof.D.Ref
public import proofs.«01_k».proof.Proof.Gen.Reference5Ideal.Run
public import proofs.«01_k».proof.Proof.Gen.Kernel5
public import proofs.«01_k».proof.Defs
public import Idealize.ShloMosaic.Lib.Quiescent

@[expose] public section

set_option maxRecDepth 65536

noncomputable section

namespace Cert.Proof.D

open Idealize.ShloMosaic Idealize.SL.Sem

set_option smartUnfolding false in
set_option maxHeartbeats 1000000 in
/-- The two programs have one text, so the run over any floats gives the kernel's frame. -/
theorem frame_kernel : Cert.quiescent_Kernel5 := fun m g _ => frame (F := Bits) m g
theorem frame_ideal : Cert.quiescent_Kernel5Ideal := fun m g _ => frame m g

/-- The reference has no semaphores, so its run leaves every counter at zero. -/
theorem frame_ref : Cert.quiescent_Reference5Ideal := fun m g _ =>
  (θ_run _ _ _).mono (fun r h => ⟨fun c => (h c).2, sem_eq_zero_of_no_sems (by decide) r.2⟩) (Cert.Reference5Ideal.Value.run m g)

theorem algebraic : Cert.algebraic_Kernel5Ideal_Reference5Ideal := fun m g m' g' _ hm => by
  refine ⟨fun c => D.arrA (xM m c) (ppM m c) (psM m c) (weM m c) (wgM m c) 0, run_value m g, ?_⟩
  refine (θ_run _ _ _).mono (fun r h c => ?_) (Cert.Reference5Ideal.Value.run m' g')
  obtain ⟨h0, hr⟩ := h c
  obtain ⟨e0, e1, e2, e3, e4⟩ := hm c
  refine ⟨h0.trans ((Cert.Reference5Ideal.Read.val_main_v20_eq _ _ _ _ _).trans ?_), hr⟩
  all_goals simp only [e0, e1, e2, e3, e4]
  · exact v20_eq (xM m c) (ppM m c) (psM m c) (weM m c) (wgM m c)

end Cert.Proof.D
-- ==== Proof.E.Body.lean ====
/-
  The run of the body of the embedding of layer 1 at a grid point: of a point of the prompt and of a point of the samples.
-/
module

public import proofs.«01_k».proof.Proof.Gen.Kernel6Ideal.Skeleton
public import proofs.«01_k».proof.Proof.Gen.Kernel6Ideal.Frame
public import Idealize.ShloMosaic.Lib.WholeRead
public import Idealize.ShloMosaic.Lib.Tactic
public import Idealize.ShloMosaic.Lib.Exec
public import Idealize.ShloMosaic.Lib.Pipeline.Kit

@[expose] public section

set_option maxRecDepth 65536

noncomputable section

namespace Cert.Proof.E

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No loop of the program needs a variant. -/
abbrev 𝒱₀ : Variants := Variants.none

local notation "𝕄" => MT nD τ sig Unit (Elt F) ℕ (UR sig nD τ) ℕ

theorem hz : (![0, 0] : Fin 2 → ℕ) = fun _ => 0 := by funext a; fin_cases a <;> rfl

/-- A load through a whole memref that holds `X` reads `X` through the load's rectangle. -/
theorem ld_unread {Val : EltTy → Type} {sp : Space} {s : Shape} {e : EltTy} {a : Memref sig .tc sp s e} (h : a.IsWhole) (X : s.Idx → Val e) (R : Rect s) :
    View.readAt Val a.view R.toLoadRect (h.unread X) = View.ld X R := funext fun x => h.readAt_unread X _ x

theorem ld0 (X : Vec F S256x2048 .f32) : View.ld X (Rect.unit (s := S256x2048) ![0, 0] ![256, 2048] inb_S256x2048_S256x2048_0_0) = X := View.ld_unit_zero hz _ X
theorem ld1 (X : Vec F S256x2048 .bf16) : View.ld X (Rect.unit (s := S256x2048) ![0, 0] ![256, 2048] inb_S256x2048_S256x2048_0_0) = X := View.ld_unit_zero hz _ X
theorem ld2 (X : Vec F S2048x2048 .bf16) : View.ld X (Rect.unit (s := S2048x2048) ![0, 0] ![2048, 2048] inb_S2048x2048_S2048x2048_0_0) = X := View.ld_unit_zero hz _ X
theorem ld3 (X : Vec F S256x256 .f32) : View.ld X (Rect.unit (s := S256x256) ![0, 0] ![256, 256] inb_S256x256_S256x256_0_0) = X := View.ld_unit_zero hz _ X

set_option maxHeartbeats 0 in
/-- At a point of the prompt: the blocks of the results written there. -/
theorem runP (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S2048x2048 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x2048 .f32) (harg6 : arg6.IsWhole) (arg7 : Memref sig .tc .vmem S256x2048 .f32) (harg7 : arg7.IsWhole)
    (h1 : k0_cond1 i = 1#1) (h2 : ¬ k0_cond2 i = 1#1)
    (x1 : Vec F S256x2048 .f32) (x2 : Vec F S256x2048 .bf16) (x3 : Vec F S2048x2048 .bf16) (x4 : Vec F S256x256 .f32) (x5 : Vec F S256x256 .f32) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay1 i x1 x3 x4 x5 x2)) -∗ K ⟨⟩))
          ⊢ wp frame (wpE (defs₀ (F := F)) 𝒱₀ c none) Set.univ (cc0_ple i arg1 harg1 arg2 harg2 arg3 harg3 arg4 harg4 arg5 harg5 arg6 harg6 arg7 harg7) K := by
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf1; obtain rfl := harg2.eq_unread hf2; obtain rfl := harg3.eq_unread hf3; obtain rfl := harg4.eq_unread hf4; obtain rfl := harg5.eq_unread hf5
    sl_unfold [cc0_ple]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; isplitr; swap; · iexact H6
    ipureintro; refine (View.read_writes_junk_eq_canon _ _).trans ((View.canon_unit_zero hz _ _).trans ?_); (try delta runP.sl.r_1); (try delta runP.sl.r); simp only [ld0, ld1, ld2, ld3, k0_pay1, ld_unread, shapeCast_self]

set_option maxHeartbeats 0 in
/-- At a point of the samples, the same of theirs. -/
theorem runS (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S2048x2048 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x2048 .f32) (harg6 : arg6.IsWhole) (arg7 : Memref sig .tc .vmem S256x2048 .f32) (harg7 : arg7.IsWhole)
    (h1 : ¬ k0_cond1 i = 1#1) (h2 : k0_cond2 i = 1#1)
    (x1 : Vec F S256x2048 .f32) (x2 : Vec F S256x2048 .bf16) (x3 : Vec F S2048x2048 .bf16) (x4 : Vec F S256x256 .f32) (x5 : Vec F S256x256 .f32) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg7 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg7 fullShare (k0_pay1 i x1 x3 x4 x5 x2)) -∗ K ⟨⟩))
          ⊢ wp frame (wpE (defs₀ (F := F)) 𝒱₀ c none) Set.univ (cc0_ple i arg1 harg1 arg2 harg2 arg3 harg3 arg4 harg4 arg5 harg5 arg6 harg6 arg7 harg7) K := by
    unfold owns
    iintro ⟨⟨%f1, %hf1, H1⟩, ⟨%f2, %hf2, H2⟩, ⟨%f3, %hf3, H3⟩, ⟨%f4, %hf4, H4⟩, ⟨%f5, %hf5, H5⟩, ⟨%d7, %f7, -, H7⟩, Hk⟩
    obtain rfl := harg1.eq_unread hf1; obtain rfl := harg2.eq_unread hf2; obtain rfl := harg3.eq_unread hf3; obtain rfl := harg4.eq_unread hf4; obtain rfl := harg5.eq_unread hf5
    sl_unfold [cc0_ple]
    sl_exec_parts!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; isplitr; swap; · iexact H7
    ipureintro; refine (View.read_writes_junk_eq_canon _ _).trans ((View.canon_unit_zero hz _ _).trans ?_); (try delta runS.sl.r_1); (try delta runS.sl.r); simp only [ld0, ld1, ld2, ld3, k0_pay1, ld_unread, shapeCast_self]

end Cert.Proof.E
-- ==== Proof.E.Run.lean ====
/-
  The run of the embedding of layer 1 over its grid of 34 points: 32 of the prompt, then 2 of the samples. A window of the prompt's results keeps its last block through the samples' points, and is written back after the last; a window of the samples' results is written from point 32 on.
-/
module

public import proofs.«01_k».proof.Proof.E.Body
public import proofs.«01_k».proof.Proof.Gen.Kernel6Ideal.Points

@[expose] public section

set_option maxRecDepth 65536

noncomputable section

namespace Cert.Proof.E

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last of the prompt's points up to `t`. -/
def toP (t : Fin cfg0.N) : Fin cfg0.N := ⟨min t.val 31, lt_of_le_of_lt (min_le_left _ _) t.isLt⟩

theorem toP_of_lt (t : Fin cfg0.N) (h : t.val < 32) : toP t = t := Fin.ext (min_eq_left (by omega))
theorem toP_of_ge (t t' : Fin cfg0.N) (h : 31 ≤ t.val) (h' : 31 ≤ t'.val) : toP t = toP t' :=
  Fin.ext ((min_eq_right h).trans (min_eq_right h').symm)

/-! The blocks a point leaves in its results' buffers. -/

def out5 (c : Dev nD) (t : Fin cfg0.N) : FVec F S256x2048 .f32 := k0_pay1 (grid0.coords t) (iblk m c 0 t) (iblk m c 2 t) (iblk m c 3 t) (iblk m c 4 t) (iblk m c 1 t)
def out6 (c : Dev nD) (t : Fin cfg0.N) : FVec F S256x2048 .f32 := k0_pay1 (grid0.coords t) (iblk m c 0 t) (iblk m c 2 t) (iblk m c 3 t) (iblk m c 4 t) (iblk m c 1 t)

/-- The arrays as the region finds them; after the body each operand's buffer at its block and each result's at the
    body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c (toP t)
    | ⟨6, _⟩ => out6 m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c (toP t) := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! Which points are whose. -/

theorem cond1_eq : ∀ t : Fin cfg0.N, k0_cond1 (grid0.coords t) = 1#1 ↔ t.val < 32 := (by decide +kernel : ∀ t : Fin grid0.N, _)
theorem cond2_eq : ∀ t : Fin cfg0.N, k0_cond2 (grid0.coords t) = 1#1 ↔ ¬ t.val < 32 := (by decide +kernel : ∀ t : Fin grid0.N, _)

theorem idle_5 : ∀ t : Fin cfg0.N, idle0 5 (grid0.coords t) = (!decide (t.val < 32)) := (by decide +kernel : ∀ t : Fin grid0.N, idle0 5 (grid0.coords t) = _)
theorem idle_6 : ∀ t : Fin cfg0.N, idle0 6 (grid0.coords t) = (decide (t.val < 32)) := (by decide +kernel : ∀ t : Fin grid0.N, idle0 6 (grid0.coords t) = _)
theorem kept_5 : ∀ t : Fin cfg0.N, 31 ≤ t.val → t.val < 33 → (cfg0.win 5).flush t = false := (by decide +kernel : ∀ t : Fin grid0.N, 31 ≤ t.val → t.val < 33 → win0_5.flush t = false)
theorem idles_6 : ∀ t : Fin cfg0.N, t.val < 32 → (win0 6).flush t = false := (by decide +kernel : ∀ t : Fin grid0.N, t.val < 32 → win0_6.flush t = false)

/-- A window written at the prompt's points alone holds its last block through the samples' points. -/
theorem hold (c : Dev nD) (w : Fin cfg0.W) (hfe : ∀ t, (cfg0.win w).fetch t = false)
    (hfl : ∀ t : Fin cfg0.N, 31 ≤ t.val → t.val < 33 → (cfg0.win w).flush t = false)
    (hid : ∀ t : Fin cfg0.N, cfg0.idle w (cfg0.grid.coords t) = !decide (t.val < 32))
    (hclip : ∀ i a, (cfg0.win w).clip i a = none)
    (haf : ∀ t t' : Fin cfg0.N, 31 ≤ t.val → 31 ≤ t'.val → (dats m 0 c).after w t = (dats m 0 c).after w t') :
    ∀ (n : ℕ) (hn : n < cfg0.N), 32 ≤ n → ∀ d, (dats m 0 c).before w ⟨n, hn⟩ d = (dats m 0 c).after w ⟨n, hn⟩
  | 0, _, h, _ => absurd h (by omega)
  | n + 1, hn, h, d => by
    have hN : n + 1 < 34 := hn
    rw [(dats m 0 c).before_of_pos w ⟨n + 1, hn⟩ (Nat.succ_ne_zero n) (hfe _) d]
    have hp : (⟨n + 1 - 1, Nat.lt_of_le_of_lt (Nat.sub_le _ _) hn⟩ : Fin cfg0.N) = ⟨n, by omega⟩ := rfl
    rw [hp, hfl ⟨n, by omega⟩ (by show 31 ≤ n; omega) (by show n < 33; omega), if_neg Bool.false_ne_true]
    unfold Dat.left
    rw [hid ⟨n, by omega⟩]
    by_cases h32 : n < 32
    · rw [decide_eq_true h32]
      refine Eq.trans ?_ (haf ⟨n, by omega⟩ ⟨n + 1, hn⟩ (by show 31 ≤ n; omega) (by show 31 ≤ n + 1; omega))
      show (dats m 0 c).kept w ⟨n, by omega⟩ d = _
      unfold Dat.kept
      rw [Pipeline.fill_of_clip_none w _ (hclip _) d ((dats m 0 c).after w ⟨n, by omega⟩), Window.fill_cut]
    · rw [decide_eq_false h32]
      refine Eq.trans ?_ (haf ⟨n, by omega⟩ ⟨n + 1, hn⟩ (by show 31 ≤ n; omega) (by show 31 ≤ n + 1; omega))
      exact hold c w hfe hfl hid hclip haf n (by omega) (by omega) d

theorem before0_5 (c : Dev nD) (t : Fin cfg0.N) (h : ¬ t.val < 32) (d) : (dats m 0 c).before 5 t d = (dats m 0 c).after 5 t :=
  hold m c 5 (fun _ => rfl) kept_5 idle_5 (fun _ _ => rfl) (fun t t' h h' => by rw [after0_5, after0_5, toP_of_ge t t' h h']) t.val t.isLt (by omega) d

set_option maxHeartbeats 1000000 in
/-- At each grid point the body takes the operands' blocks to the results' blocks. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  simp only [after0_0, after0_1, after0_2, after0_3, after0_4, after0_6]
  by_cases h : t.val < 32
  · simp only [after0_5]
    have h5 := idle_5 t; have h6 := idle_6 t
    rw [decide_eq_true h] at h5 h6
    simp only [h5, h6, idles_6 t h, Bool.not_true, toP_of_lt t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runP (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
      ((cond1_eq t).2 h) (fun e => (cond2_eq t).1 e h) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    iexists d6; iexact H6
  · skip
    have h5 := idle_5 t; have h6 := idle_6 t
    rw [decide_eq_false h] at h5 h6
    simp only [h5, h6, before0_5 m c t h, Bool.not_false, after0_5]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runS (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
      (fun e => h ((cond1_eq t).1 e)) ((cond2_eq t).2 h) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H6]; · iexists _; iexact H6
    iintro ⟨H0, H1, H2, H3, H4, H6⟩
    isplitl [HΦ]; · iexact HΦ
    isplitl [Ho]; · iexact Ho
    isplitl [H0]
    · iexact H0
    isplitl [H1]
    · iexact H1
    isplitl [H2]
    · iexact H2
    isplitl [H3]
    · iexact H3
    isplitl [H4]
    · iexact H4
    isplitl [H5]
    · cases (win0 5).flush t
      · iexists d5; iexact H5
      · iexact H5
    iexact H6

set_option backward.isDefEq.respectTransparency.types false in
/-- From any memory with zero counters the program runs to its end, with every array of the pipeline at what the proof
    data gives and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Proof.E
-- ==== Proof.E.Array.lean ====
/-
  The arrays the embedding of layer 1 ends with.
-/
module

public import proofs.«01_k».proof.Proof.D.Spec
public import proofs.«01_k».proof.Proof.E.Run
public import Idealize.ShloMosaic.Lib.Pipeline.ValueKit
public import Idealize.ShloMosaic.Lib.Pipeline.Value

@[expose] public section

set_option maxRecDepth 65536

noncomputable section

namespace Cert.Proof.E

open Cert.Kernel6Ideal Cert.Kernel6Ideal.Gen
open Idealize.ShloMosaic Idealize.ShloMosaic.TcCoe
open Idealize.SL Idealize.SL.Sem

variable (m : (ℓ : Loc nD τ sig) → Buf (Elt Ideal) ℓ) (ρ : Dev nD → PrngReg)

/-- The arguments of a device. -/
abbrev xM (c : Dev nD) : Vec Ideal S8704x2048 .f32 := m ((c.tc : Thread nD τ).loc main_arg0)
abbrev ppM (c : Dev nD) : Vec Ideal S2x2x4096x256 .f32 := m ((c.tc : Thread nD τ).loc main_arg1)
abbrev psM (c : Dev nD) : Vec Ideal S2x32x16x256 .f32 := m ((c.tc : Thread nD τ).loc main_arg2)
abbrev weM (c : Dev nD) : Vec Ideal S2x256x2048 .f32 := m ((c.tc : Thread nD τ).loc main_arg3)
abbrev wgM (c : Dev nD) : Vec Ideal S2x2048x2048 .f32 := m ((c.tc : Thread nD τ).loc main_arg4)

theorem V_pp (c : Dev nD) : V m c main_v2 = shapeCast S8192x256 (shapeCast S2x4096x256 (extractStridedSlice S1x2x4096x256 ![1, 0, 0, 0] (ppM m c) slices_S2x2x4096x256_S1x2x4096x256_1_0_0_0) shapeCasts_S1x2x4096x256_S2x4096x256) shapeCasts_S2x4096x256_S8192x256 := by
  unfold_abbrev_sides
  after_results
  rfl

theorem V_ps (c : Dev nD) : V m c main_v5 = shapeCast S512x256 (shapeCast S32x16x256 (extractStridedSlice S1x32x16x256 ![1, 0, 0, 0] (psM m c) slices_S2x32x16x256_S1x32x16x256_1_0_0_0) shapeCasts_S1x32x16x256_S32x16x256) shapeCasts_S32x16x256_S512x256 := by
  unfold_abbrev_sides
  after_results
  rfl

theorem V_we (c : Dev nD) : V m c main_v8 = truncf (F := Ideal) .bf16 (shapeCast S256x2048 (extractStridedSlice S1x256x2048 ![1, 0, 0] (weM m c) slices_S2x256x2048_S1x256x2048_1_0_0) shapeCasts_S1x256x2048_S256x2048) bitsLt_bf16_f32 := by
  unfold_abbrev_sides
  after_results
  rfl

theorem V_wg (c : Dev nD) : V m c main_v11 = truncf (F := Ideal) .bf16 (shapeCast S2048x2048 (extractStridedSlice S1x2048x2048 ![1, 0, 0] (wgM m c) slices_S2x2048x2048_S1x2048x2048_1_0_0) shapeCasts_S1x2048x2048_S2048x2048) bitsLt_bf16_f32 := by
  unfold_abbrev_sides
  after_results
  rfl

/-- Row `a` of point `t`. -/
def rowAt (t : Fin cfg0.N) (a : Fin 256) : Fin 8704 := ⟨256 * t.val + a.val, by have ht : t.val < 34 := t.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![min t.val 31, 0] := (by decide +kernel : ∀ t : Fin grid0.N, _)
theorem idx4 : ∀ t : Fin cfg0.N, win0_4.index t = ![t.val - 32, 0] := (by decide +kernel : ∀ t : Fin grid0.N, _)

theorem xblk (c : Dev nD) (t : Fin cfg0.N) (a : Fin 256) (k : Fin 2048) : iblk m c 0 t (ix2 a k) = xM m c (ix2 (rowAt t a) k) := by
  have e : iblk m c 0 t (ix2 a k) = V m c main_arg0 (ix2 (rowAt t a) k) := by
    refine congrArg (V m c main_arg0) ?_
    blk_ext [idx0 t]
    show t.val * 256 + a.val = 256 * t.val + a.val
    omega
  rw [e, V_main_arg0]

theorem weblk (c : Dev nD) (t : Fin cfg0.N) (k : Fin 256) (j : Fin 2048) : iblk m c 1 t (ix2 k j) = weM m c (ix3 (1 : Fin 2) k j) := by
  have e : iblk m c 1 t (ix2 k j) = V m c main_v8 (ix2 k j) := by
    refine congrArg (V m c main_v8) ?_
    blk_ext [idx1 t]
  rw [e, V_we]
  show shapeCast S256x2048 (extractStridedSlice S1x256x2048 ![1, 0, 0] (weM m c) slices_S2x256x2048_S1x256x2048_1_0_0) shapeCasts_S1x256x2048_S256x2048 (ix2 k j) = _
  refine (shapeCast_apply _ shapeCasts_S1x256x2048_S256x2048 (ix2 k j) (ix3 (0 : Fin 1) k j) ?_).trans (extractStridedSlice_apply ![1, 0, 0] (weM m c) _ _ (ix3 (1 : Fin 2) k j) ?_)
  · rw [Shape.rowMajor_val_three, Shape.rowMajor_val_two]
    show (0 * 256 + k.val) * 2048 + j.val = k.val * 2048 + j.val
    omega
  · intro a; fin_cases a
    · rfl
    · show k.val = 0 + k.val; omega
    · show j.val = 0 + j.val; omega

theorem wgblk (c : Dev nD) (t : Fin cfg0.N) (k j : Fin 2048) : iblk m c 2 t (ix2 k j) = wgM m c (ix3 (1 : Fin 2) k j) := by
  have e : iblk m c 2 t (ix2 k j) = V m c main_v11 (ix2 k j) := by
    refine congrArg (V m c main_v11) ?_
    blk_ext [idx2 t]
  rw [e, V_wg]
  show shapeCast S2048x2048 (extractStridedSlice S1x2048x2048 ![1, 0, 0] (wgM m c) slices_S2x2048x2048_S1x2048x2048_1_0_0) shapeCasts_S1x2048x2048_S2048x2048 (ix2 k j) = _
  refine (shapeCast_apply _ shapeCasts_S1x2048x2048_S2048x2048 (ix2 k j) (ix3 (0 : Fin 1) k j) ?_).trans (extractStridedSlice_apply ![1, 0, 0] (wgM m c) _ _ (ix3 (1 : Fin 2) k j) ?_)
  · rw [Shape.rowMajor_val_three, Shape.rowMajor_val_two]
    show (0 * 2048 + k.val) * 2048 + j.val = k.val * 2048 + j.val
    omega
  · intro a; fin_cases a
    · rfl
    · show k.val = 0 + k.val; omega
    · show j.val = 0 + j.val; omega

theorem ppblk (c : Dev nD) (t : Fin cfg0.N) (h : t.val < 32) (a : Fin 256) (k : Fin 256) :
    iblk m c 3 t (ix2 a k) = D.rowE (ppM m c) (psM m c) 1 (256 * t.val + a.val) k := by
  have ht : t.val < 34 := t.isLt
  have e : iblk m c 3 t (ix2 a k) = V m c main_v2 (ix2 (⟨256 * t.val + a.val, by omega⟩ : Fin 8192) k) := by
    refine congrArg (V m c main_v2) ?_
    blk_ext [idx3 t]
  rw [e, V_pp]
  unfold D.rowE
  rw [if_pos (by omega)]
  refine (shapeCast_apply _ shapeCasts_S2x4096x256_S8192x256 _ (ix3 (⟨(256 * t.val + a.val) / 4096 % 2, Nat.mod_lt _ (by omega)⟩ : Fin 2) (⟨(256 * t.val + a.val) % 4096, Nat.mod_lt _ (by omega)⟩ : Fin 4096) k) ?_).trans
    ((shapeCast_apply _ shapeCasts_S1x2x4096x256_S2x4096x256 _ (ix4 (0 : Fin 1) (⟨(256 * t.val + a.val) / 4096 % 2, Nat.mod_lt _ (by omega)⟩ : Fin 2) (⟨(256 * t.val + a.val) % 4096, Nat.mod_lt _ (by omega)⟩ : Fin 4096) k) ?_).trans
      (extractStridedSlice_apply ![1, 0, 0, 0] (ppM m c) _ _ (ix4 (1 : Fin 2) (⟨(256 * t.val + a.val) / 4096 % 2, Nat.mod_lt _ (by omega)⟩ : Fin 2) (⟨(256 * t.val + a.val) % 4096, Nat.mod_lt _ (by omega)⟩ : Fin 4096) k) ?_))
  · rw [Shape.rowMajor_val_three, Shape.rowMajor_val_two]
    show ((256 * t.val + a.val) / 4096 % 2 * 4096 + (256 * t.val + a.val) % 4096) * 256 + k.val = (256 * t.val + a.val) * 256 + k.val
    omega
  · rw [Shape.rowMajor_val_four, Shape.rowMajor_val_three]
    show ((0 * 2 + (256 * t.val + a.val) / 4096 % 2) * 4096 + (256 * t.val + a.val) % 4096) * 256 + k.val = ((256 * t.val + a.val) / 4096 % 2 * 4096 + (256 * t.val + a.val) % 4096) * 256 + k.val
    omega
  · intro b; fin_cases b
    · rfl
    · exact (Nat.zero_add _).symm
    · exact (Nat.zero_add _).symm
    · exact (Nat.zero_add _).symm

theorem psblk (c : Dev nD) (t : Fin cfg0.N) (h : ¬ t.val < 32) (a : Fin 256) (k : Fin 256) :
    iblk m c 4 t (ix2 a k) = D.rowE (ppM m c) (psM m c) 1 (256 * t.val + a.val) k := by
  have ht : t.val < 34 := t.isLt
  have e : iblk m c 4 t (ix2 a k) = V m c main_v5 (ix2 (⟨256 * (t.val - 32) + a.val, by omega⟩ : Fin 512) k) := by
    refine congrArg (V m c main_v5) ?_
    blk_ext [idx4 t]
  rw [e, V_ps]
  unfold D.rowE
  rw [if_neg (by omega)]
  refine (shapeCast_apply _ shapeCasts_S32x16x256_S512x256 _ (ix3 (⟨(256 * t.val + a.val - 8192) / 16 % 32, Nat.mod_lt _ (by omega)⟩ : Fin 32) (⟨(256 * t.val + a.val) % 16, Nat.mod_lt _ (by omega)⟩ : Fin 16) k) ?_).trans
    ((shapeCast_apply _ shapeCasts_S1x32x16x256_S32x16x256 _ (ix4 (0 : Fin 1) (⟨(256 * t.val + a.val - 8192) / 16 % 32, Nat.mod_lt _ (by omega)⟩ : Fin 32) (⟨(256 * t.val + a.val) % 16, Nat.mod_lt _ (by omega)⟩ : Fin 16) k) ?_).trans
      (extractStridedSlice_apply ![1, 0, 0, 0] (psM m c) _ _ (ix4 (1 : Fin 2) (⟨(256 * t.val + a.val - 8192) / 16 % 32, Nat.mod_lt _ (by omega)⟩ : Fin 32) (⟨(256 * t.val + a.val) % 16, Nat.mod_lt _ (by omega)⟩ : Fin 16) k) ?_))
  · rw [Shape.rowMajor_val_three, Shape.rowMajor_val_two]
    show ((256 * t.val + a.val - 8192) / 16 % 32 * 16 + (256 * t.val + a.val) % 16) * 256 + k.val = (256 * (t.val - 32) + a.val) * 256 + k.val
    omega
  · rw [Shape.rowMajor_val_four, Shape.rowMajor_val_three]
    show ((0 * 32 + (256 * t.val + a.val - 8192) / 16 % 32) * 16 + (256 * t.val + a.val) % 16) * 256 + k.val = ((256 * t.val + a.val - 8192) / 16 % 32 * 16 + (256 * t.val + a.val) % 16) * 256 + k.val
    omega
  · intro b; fin_cases b
    · rfl
    · exact (Nat.zero_add _).symm
    · exact (Nat.zero_add _).symm
    · exact (Nat.zero_add _).symm

theorem pay_apply (i : grid0.Coords) (x : Vec Ideal S256x2048 .f32) (wg : Vec Ideal S2048x2048 .bf16) (pp ps : Vec Ideal S256x256 .f32) (we : Vec Ideal S256x2048 .bf16) (a : Fin 256) (j : Fin 2048) :
    k0_pay1 i x wg pp ps we (ix2 a j)
      = (x (ix2 a j) : EReal) + (∑ k : Fin 256, (Scalar.select (Scalar.cmpi .slt (BitVec.ofNat 32 (i 0).val) 32#32) pp ps (ix2 a k) : EReal) * (we (ix2 k j) : EReal))
        * Ideal.logistic (∑ k : Fin 2048, (x (ix2 a k) : EReal) * (wg (ix2 k j) : EReal)) := by
  pointwise [k0_pay1]

/-- The rows of a point. -/
theorem pblk (c : Dev nD) (t : Fin cfg0.N) (a : Fin 256) (k : Fin 256) :
    (Scalar.select (Scalar.cmpi .slt (BitVec.ofNat 32 ((grid0.coords t) 0).val) 32#32) (iblk m c 3 t) (iblk m c 4 t) : Vec Ideal S256x256 .f32) (ix2 a k)
      = D.rowE (ppM m c) (psM m c) 1 (256 * t.val + a.val) k := by
  by_cases h : t.val < 32
  · have hc : Scalar.cmpi .slt (BitVec.ofNat 32 ((grid0.coords t) 0).val) 32#32 = 1#1 :=
      (by decide +kernel : ∀ t : Fin grid0.N, t.val < 32 → Scalar.cmpi .slt (BitVec.ofNat 32 ((grid0.coords t) 0).val) 32#32 = 1#1) t h
    rw [← ppblk m c t h a k, hc]
    rfl
  · have hc : Scalar.cmpi .slt (BitVec.ofNat 32 ((grid0.coords t) 0).val) 32#32 = 0#1 :=
      (by decide +kernel : ∀ t : Fin grid0.N, ¬ t.val < 32 → Scalar.cmpi .slt (BitVec.ofNat 32 ((grid0.coords t) 0).val) 32#32 = 0#1) t h
    rw [← psblk m c t h a k, hc]
    rfl

theorem out5_val (c : Dev nD) (t : Fin cfg0.N) (a : Fin 256) (j : Fin 2048) :
    out5 m c t (ix2 a j) = D.outE (xM m c) (ppM m c) (psM m c) (weM m c) (wgM m c) 1 (rowAt t a) j := by
  refine (pay_apply (grid0.coords t) (iblk m c 0 t) (iblk m c 2 t) (iblk m c 3 t) (iblk m c 4 t) (iblk m c 1 t) a j).trans ?_
  refine congrArg₂ (fun a b : EReal => a + b) (xblk m c t a j) (congrArg₂ (fun a b : EReal => a * b) ?_ (congrArg Ideal.logistic ?_))
  · exact Finset.sum_congr rfl fun k _ => congrArg₂ (fun a b : EReal => a * b) (pblk m c t a k) (weblk m c t k j)
  · exact Finset.sum_congr rfl fun k _ => congrArg₂ (fun a b : EReal => a * b) (xblk m c t a k) (wgblk m c t k j)

theorem out6_val (c : Dev nD) (t : Fin cfg0.N) (a : Fin 256) (j : Fin 2048) :
    out6 m c t (ix2 a j) = D.outE (xM m c) (ppM m c) (psM m c) (weM m c) (wgM m c) 1 (rowAt t a) j := out5_val m c t a j

theorem idx5 : ∀ t : Fin cfg0.N, win0_5.index t = ![min t.val 31, 0] := (by decide +kernel : ∀ t : Fin grid0.N, _)
theorem idx6 : ∀ t : Fin cfg0.N, win0_6.index t = ![t.val - 32, 0] := (by decide +kernel : ∀ t : Fin grid0.N, _)
theorem late6 : ∀ t : Fin cfg0.N, (cfg0.win 6).flush t = true → 32 ≤ t.val := (by decide +kernel : ∀ t : Fin grid0.N, win0_6.flush t = true → 32 ≤ t.val)

theorem arr5 (c : Dev nD) : (dats m 0 c).arrAt 5 cfg0.N = D.arrP (xM m c) (ppM m c) (psM m c) (weM m c) (wgM m c) 1 := by
  refine (dats m 0 c).arrAt_eq_of_covers 5 _ (by decide +kernel) fun t hf y => ?_
  change S256x2048.Idx at y
  idx_vars y
  blk_simp
  rw [after0_5]
  have ht : t.val < 34 := t.isLt
  have r0 : (((cfg0.win 5).blk t).view.emb (ix2 y0 y1) 0).val = 256 * (toP t).val + y0.val := by
    blk_simp [idx5 t]; show ((min t.val 31) * 256 + y0.val) = 256 * (min t.val 31) + y0.val; omega
  have r1 : (((cfg0.win 5).blk t).view.emb (ix2 y0 y1) 1).val = y1.val := by
    blk_simp [idx5 t]
  refine (show _ = out5 m c (toP t) (ix2 y0 y1) from rfl).trans ((out5_val m c (toP t) y0 y1).trans ?_)
  unfold D.arrP
  exact congrArg₂ (D.outE (xM m c) (ppM m c) (psM m c) (weM m c) (wgM m c) 1) (Fin.ext r0.symm) (Fin.ext r1.symm)

theorem arr6 (c : Dev nD) : (dats m 0 c).arrAt 6 cfg0.N = D.arrS (xM m c) (ppM m c) (psM m c) (weM m c) (wgM m c) 1 := by
  refine (dats m 0 c).arrAt_eq_of_covers 6 _ (by decide +kernel) fun t hf y => ?_
  change S256x2048.Idx at y
  idx_vars y
  blk_simp
  rw [after0_6]
  have ht : t.val < 34 := t.isLt
  have hl := late6 t hf
  have r0 : 8192 + (((cfg0.win 6).blk t).view.emb (ix2 y0 y1) 0).val = 256 * t.val + y0.val := by
    blk_simp [idx6 t]; show 8192 + ((t.val - 32) * 256 + y0.val) = 256 * t.val + y0.val; omega
  have r1 : (((cfg0.win 6).blk t).view.emb (ix2 y0 y1) 1).val = y1.val := by
    blk_simp [idx6 t]
  refine (show _ = out6 m c t (ix2 y0 y1) from rfl).trans ((out6_val m c t y0 y1).trans ?_)
  unfold D.arrS
  exact congrArg₂ (D.outE (xM m c) (ppM m c) (psM m c) (weM m c) (wgM m c) 1) (Fin.ext r0.symm) (Fin.ext r1.symm)

/-- The kernel ends with its results at the spec's arrays. -/
theorem run_value :
    θ_run defs (onTc (τ := τ) (main (F := Ideal))) ⟨m, fun _ => 0, ρ⟩ (fun r => ∀ c : Dev nD,
      r.2.mem ((c.tc : Thread nD τ).loc main_v12_0) = D.arrP (xM m c) (ppM m c) (psM m c) (weM m c) (wgM m c) 1
      ∧ r.2.mem ((c.tc : Thread nD τ).loc main_v12_1) = D.arrS (xM m c) (ppM m c) (psM m c) (weM m c) (wgM m c) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (arr5 m c),
    ((h.1 c).1 6).trans (arr6 m c),
    ((h.1 c).1 0).trans (((dats m 0 c).arrAt_in 0 rfl _).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (run_main m ρ)

end Cert.Proof.E
-- ==== Proof.E.Ref.lean ====
/-
  The reference's arrays are the gated embedding of `Spec`.
-/
module

public import proofs.«01_k».proof.Proof.D.Spec
public import proofs.«01_k».proof.Proof.Gen.Reference6Ideal.Read
public import Idealize.ShloMosaic.Lib.Pipeline.Value
public import Idealize.ShloMosaic.Lib.IdealHost

@[expose] public section

set_option maxRecDepth 65536

noncomputable section

namespace Cert.Proof.E

open Cert.Reference6Ideal Cert.Reference6Ideal.Gen Cert.Reference6Ideal.Read
open Idealize.ShloMosaic Idealize.ShloMosaic.TcCoe

section
variable (x0 : Vec Ideal S8704x2048 .f32) (x1 : Vec Ideal S2x2x4096x256 .f32) (x2 : Vec Ideal S2x32x16x256 .f32) (x3 : Vec Ideal S2x256x2048 .f32) (x4 : Vec Ideal S2x2048x2048 .f32)

theorem w8_apply (i : S256x2048.Idx) : val_main_v8 (F := Ideal) x3 i = x3 (ix3 (1 : Fin 2) (i 0) (i 1)) := by
  rw [val_main_v8_apply, val_main_v7_apply]
  refine congrArg x3 (funext fun a => Fin.ext ?_)
  have h0 : (i 0).val < 256 := (i 0).isLt
  have h1 : (i 1).val < 2048 := (i 1).isLt
  fin_cases a
  · rfl
  · show ((i 0).val * 2048 + (i 1).val) / 2048 % 256 = (i 0).val; omega
  · show ((i 0).val * 2048 + (i 1).val) % 2048 = (i 1).val; omega

theorem w11_apply (i : S2048x2048.Idx) : val_main_v11 (F := Ideal) x4 i = x4 (ix3 (1 : Fin 2) (i 0) (i 1)) := by
  rw [val_main_v11_apply, val_main_v10_apply]
  refine congrArg x4 (funext fun a => Fin.ext ?_)
  have h0 : (i 0).val < 2048 := (i 0).isLt
  have h1 : (i 1).val < 2048 := (i 1).isLt
  fin_cases a
  · rfl
  · show ((i 0).val * 2048 + (i 1).val) / 2048 % 2048 = (i 0).val; omega
  · show ((i 0).val * 2048 + (i 1).val) % 2048 = (i 1).val; omega

theorem e4_apply (i : S8192x256.Idx) : val_main_v4 (F := Ideal) x1 i = D.rowE x1 x2 1 ((i 0).val) (i 1) := by
  have h0 : (i 0).val < 8192 := (i 0).isLt
  have h1 : (i 1).val < 256 := (i 1).isLt
  unfold D.rowE
  rw [val_main_v4_apply, val_main_v1_apply, val_main_v0_apply, if_pos (by omega)]
  refine congrArg x1 (funext fun a => Fin.ext ?_)
  have a0 : ((i 0).val * 256 + (i 1).val) / 1048576 = (i 0).val / 4096 := by omega
  have a1 : ((i 0).val * 256 + (i 1).val) / 256 % 4096 = (i 0).val % 4096 := by omega
  have a2 : ((i 0).val * 256 + (i 1).val) % 256 = (i 1).val := by omega
  fin_cases a
  · rfl
  · show (((((i 0).val * 256 + (i 1).val) / 1048576) * 4096 + ((i 0).val * 256 + (i 1).val) / 256 % 4096) * 256 + ((i 0).val * 256 + (i 1).val) % 256) / 1048576 % 2 = (i 0).val / 4096 % 2
    omega
  · show (((((i 0).val * 256 + (i 1).val) / 1048576) * 4096 + ((i 0).val * 256 + (i 1).val) / 256 % 4096) * 256 + ((i 0).val * 256 + (i 1).val) % 256) / 256 % 4096 = ((i 0).val) % 4096
    omega
  · show (((((i 0).val * 256 + (i 1).val) / 1048576) * 4096 + ((i 0).val * 256 + (i 1).val) / 256 % 4096) * 256 + ((i 0).val * 256 + (i 1).val) % 256) % 256 = (i 1).val
    omega

theorem e5_apply (i : S512x256.Idx) : val_main_v5 (F := Ideal) x2 i = D.rowE x1 x2 1 (8192 + (i 0).val) (i 1) := by
  have h0 : (i 0).val < 512 := (i 0).isLt
  have h1 : (i 1).val < 256 := (i 1).isLt
  unfold D.rowE
  rw [val_main_v5_apply, val_main_v3_apply, val_main_v2_apply, if_neg (by omega)]
  refine congrArg x2 (funext fun a => Fin.ext ?_)
  have a0 : ((i 0).val * 256 + (i 1).val) / 4096 = (i 0).val / 16 := by omega
  have a1 : ((i 0).val * 256 + (i 1).val) / 256 % 16 = (i 0).val % 16 := by omega
  have a2 : ((i 0).val * 256 + (i 1).val) % 256 = (i 1).val := by omega
  fin_cases a
  · rfl
  · show (((((i 0).val * 256 + (i 1).val) / 4096) * 16 + ((i 0).val * 256 + (i 1).val) / 256 % 16) * 256 + ((i 0).val * 256 + (i 1).val) % 256) / 4096 % 32 = (8192 + (i 0).val - 8192) / 16 % 32
    omega
  · show (((((i 0).val * 256 + (i 1).val) / 4096) * 16 + ((i 0).val * 256 + (i 1).val) / 256 % 16) * 256 + ((i 0).val * 256 + (i 1).val) % 256) / 256 % 16 = (8192 + (i 0).val) % 16
    omega
  · show (((((i 0).val * 256 + (i 1).val) / 4096) * 16 + ((i 0).val * 256 + (i 1).val) / 256 % 16) * 256 + ((i 0).val * 256 + (i 1).val) % 256) % 256 = (i 1).val
    omega

/-- The prompt's rows above the samples'. -/
theorem cat_apply (r : Fin 8704) (k : Fin 256) : val_main_v6 (F := Ideal) x1 x2 (ix2 r k) = D.rowE x1 x2 1 r.val k := by
  unfold val_main_v6
  by_cases hy : r.val < 8192
  · refine (concatenate_pair_apply_left (0 : Fin S8704x256.rank) (val_main_v4 (F := Ideal) x1) (val_main_v5 (F := Ideal) x2) concatenates_S8192x256_S512x256_S8704x256_d0 (ix2 r k) rfl (ix2 (⟨r.val, hy⟩ : Fin 8192) k : S8192x256.Idx) ?_).trans ?_
    · intro b; fin_cases b <;> rfl
    · exact e4_apply x1 x2 (ix2 (⟨r.val, hy⟩ : Fin 8192) k : S8192x256.Idx)
  · refine (concatenate_pair_apply_right (0 : Fin S8704x256.rank) (val_main_v4 (F := Ideal) x1) (val_main_v5 (F := Ideal) x2) concatenates_S8192x256_S512x256_S8704x256_d0 (ix2 r k) rfl rfl (ix2 (⟨r.val - 8192, by omega⟩ : Fin 512) k : S512x256.Idx) ?_ ?_).trans ?_
    · intro b hb; fin_cases b
      · exact absurd rfl hb
      · rfl
    · show r.val - 8192 + 8192 = r.val; omega
    · refine (e5_apply x1 x2 (ix2 (⟨r.val - 8192, by omega⟩ : Fin 512) k : S512x256.Idx)).trans ?_
      show D.rowE x1 x2 1 (8192 + (r.val - 8192)) k = _
      rw [show 8192 + (r.val - 8192) = r.val by omega]

theorem emb_eq (y : S8704x2048.Idx) : val_main_v9 (F := Ideal) x1 x2 x3 y = D.embE x1 x2 x3 1 (y 0).val (y 1) := by
  rw [val_main_v9_apply]
  show _ = ∑ k : Fin 256, D.rowE x1 x2 1 (y 0).val k * (x3 (ix3 (1 : Fin 2) k (y 1)) : EReal)
  refine Finset.sum_congr rfl fun k _ => congrArg₂ (fun a b : EReal => a * b) ?_ (w8_apply x3 _)
  refine (congrArg (val_main_v6 (F := Ideal) x1 x2) (funext fun a => ?_)).trans (cat_apply x1 x2 (y 0) k)
  fin_cases a <;> rfl

theorem gate_eq (y : S8704x2048.Idx) : val_main_v12 (F := Ideal) x0 x4 y = D.gateE x0 x4 1 (y 0) (y 1) := by
  rw [val_main_v12_apply]
  show _ = ∑ k : Fin 2048, (x0 (ix2 (y 0) k) : EReal) * (x4 (ix3 (1 : Fin 2) k (y 1)) : EReal)
  refine Finset.sum_congr rfl fun k _ => congrArg₂ (fun a b : EReal => a * b) (congrArg x0 (funext fun a => ?_)) (w11_apply x4 _)
  fin_cases a <;> rfl

/-- One over one and the exponential of the negated gate is the logistic function of it. -/
theorem logistic_eq (y : S8704x2048.Idx) : val_main_v18 (F := Ideal) x0 x4 y = Ideal.logistic (D.gateE x0 x4 1 (y 0) (y 1)) := by
  rw [val_main_v18_apply, val_main_v17_apply, val_main_cst_0_apply, val_main_v16_apply, val_main_v15_apply, val_main_cst_apply, val_main_v14_apply, val_main_v13_apply, gate_eq]
  show Ideal.div (Ideal.ofBits .f32 0x3F800000#32) (Ideal.ofBits .f32 0x3F800000#32 + Ideal.exp (-(D.gateE x0 x4 1 (y 0) (y 1)))) = _
  rw [Ideal.ofBits_one_f32]
  rfl

theorem v20_eq : val_main_v20 (F := Ideal) x0 x1 x2 x3 x4 = D.arrA x0 x1 x2 x3 x4 1 := funext fun y => by
  rw [val_main_v20_apply, val_main_v19_apply, emb_eq, logistic_eq]
  show (x0 y : EReal) + _ = (x0 (ix2 (y 0) (y 1)) : EReal) + _
  refine congrArg₂ (fun a b : EReal => a + b) (congrArg x0 (funext fun a => ?_)) rfl
  fin_cases a <;> rfl
theorem v21_eq : val_main_v21 (F := Ideal) x0 x1 x2 x3 x4 = D.arrP x0 x1 x2 x3 x4 1 := funext fun y => by
  rw [val_main_v21_apply, v20_eq]
  exact congrArg₂ (D.outE x0 x1 x2 x3 x4 1) (Fin.ext rfl) (Fin.ext rfl)
theorem v22_eq : val_main_v22 (F := Ideal) x0 x1 x2 x3 x4 = D.arrS x0 x1 x2 x3 x4 1 := funext fun y => by
  rw [val_main_v22_apply, v20_eq]
  exact congrArg₂ (D.outE x0 x1 x2 x3 x4 1) (Fin.ext rfl) (Fin.ext rfl)
end

end Cert.Proof.E
-- ==== Proof.E.Value.lean ====
/-
  The value claim of layer 1's embedding, and the frames of its programs.
-/
module

public import proofs.«01_k».proof.Proof.E.Array
public import proofs.«01_k».proof.Proof.E.Ref
public import proofs.«01_k».proof.Proof.Gen.Reference6Ideal.Run
public import proofs.«01_k».proof.Proof.Gen.Kernel6
public import proofs.«01_k».proof.Defs
public import Idealize.ShloMosaic.Lib.Quiescent

@[expose] public section

set_option maxRecDepth 65536

noncomputable section

namespace Cert.Proof.E

open Idealize.ShloMosaic Idealize.SL.Sem

set_option smartUnfolding false in
set_option maxHeartbeats 1000000 in
/-- The two programs have one text, so the run over any floats gives the kernel's frame. -/
theorem frame_kernel : Cert.quiescent_Kernel6 := fun m g _ => frame (F := Bits) m g
theorem frame_ideal : Cert.quiescent_Kernel6Ideal := fun m g _ => frame m g

/-- The reference has no semaphores, so its run leaves every counter at zero. -/
theorem frame_ref : Cert.quiescent_Reference6Ideal := fun m g _ =>
  (θ_run _ _ _).mono (fun r h => ⟨fun c => (h c).2.2, sem_eq_zero_of_no_sems (by decide) r.2⟩) (Cert.Reference6Ideal.Value.run m g)

theorem algebraic : Cert.algebraic_Kernel6Ideal_Reference6Ideal := fun m g m' g' _ hm => by
  refine ⟨fun c => D.arrP (xM m c) (ppM m c) (psM m c) (weM m c) (wgM m c) 1, fun c => D.arrS (xM m c) (ppM m c) (psM m c) (weM m c) (wgM m c) 1, run_value m g, ?_⟩
  refine (θ_run _ _ _).mono (fun r h c => ?_) (Cert.Reference6Ideal.Value.run m' g')
  obtain ⟨h0, h1, hr⟩ := h c
  obtain ⟨e0, e1, e2, e3, e4⟩ := hm c
  refine ⟨h0.trans ((Cert.Reference6Ideal.Read.val_main_v21_eq _ _ _ _ _).trans ?_), h1.trans ((Cert.Reference6Ideal.Read.val_main_v22_eq _ _ _ _ _).trans ?_), hr⟩
  all_goals simp only [e0, e1, e2, e3, e4]
  · exact v21_eq (xM m c) (ppM m c) (psM m c) (weM m c) (wgM m c)
  · exact v22_eq (xM m c) (ppM m c) (psM m c) (weM m c) (wgM m c)

end Cert.Proof.E
-- ==== Proof.G.Spec.lean ====
/-
  The gated unit of the samples as a function of the two hidden arrays and the unit's parameters.
-/
module

public import proofs.«01_k».proof.Kernel7Ideal
public import Idealize.ShloMosaic.Lib.Pointwise

@[expose] public section

noncomputable section

namespace Cert.Proof.G

open Cert.Kernel7Ideal
open Idealize.ShloMosaic Idealize.ShloMosaic.TcCoe

/-- The exact GELU. -/
def geluE (x : EReal) : EReal :=
  x * (Ideal.erf (x * Ideal.ofBits .f32 0x3F3504F3#32) + 1) * Ideal.ofBits .f32 0x3F000000#32

/-- The mean of a head's row and of its squared distances from the mean. -/
def meanE (z : Fin 128 → EReal) : EReal := Ideal.div (∑ k : Fin 128, z k) (Ideal.ofBits .f32 0x43000000#32)
def varE (z : Fin 128 → EReal) : EReal :=
  Ideal.div (∑ k : Fin 128, (z k - meanE z) * (z k - meanE z)) (Ideal.ofBits .f32 0x43000000#32)

/-- Layer norm of a head's row. -/
def normE (z : Fin 128 → EReal) (g b : EReal) (d : Fin 128) : EReal :=
  (z d - meanE z) * Ideal.rsqrt (varE z + Ideal.ofBits .f32 0x3727C5AC#32) * g + b

/-- Column `d` of head `h`. -/
def col (h : Fin 8) (d : Fin 128) : Fin 1024 := ⟨128 * h.val + d.val, by omega⟩

/-- Row `s` of sample `t`. -/
def row (t : Fin 32) (s : Fin 16) : Fin 8704 := ⟨8192 + (16 * t.val + s.val), by omega⟩

section
variable (hu hv : Vec Ideal S8704x1024 .f32) (w : Vec Ideal S1x8x128x128 .f32) (bs g b : Vec Ideal S1x8x128 .f32)

/-- The normalized gate rows of a sample. -/
def vE (t : Fin 32) (s : Fin 16) (h : Fin 8) (d : Fin 128) : EReal :=
  normE (fun k => geluE (hv (ix2 (row t s) (col h k)))) (g (ix3 (0 : Fin 1) h d)) (b (ix3 (0 : Fin 1) h d)) d

/-- They are mixed along the sample by a head's lower triangle. -/
def mixE (t : Fin 32) (r : Fin 16) (h : Fin 8) (d : Fin 128) : EReal :=
  (∑ s : Fin 16, (if s.val ≤ r.val then (w (ix4 (0 : Fin 1) h ⟨r.val, by omega⟩ ⟨s.val, by omega⟩) : EReal) else 0) * vE hv g b t s h d)
    + (bs (ix3 (0 : Fin 1) h ⟨r.val, by omega⟩) : EReal)

/-- The gated rows. -/
def aE (t : Fin 32) (r : Fin 16) (h : Fin 8) (d : Fin 128) : EReal :=
  geluE (hu (ix2 (row t r) (col h d))) * mixE hv w bs g b t r h d

/-- Sample, row in the sample, head and column in the head of an element of a result. -/
def smp (y : S512x1024.Idx) : Fin 32 := ⟨(y 0).val / 16, by have h : (y 0).val < 512 := (y 0).isLt; omega⟩
def pos (y : S512x1024.Idx) : Fin 16 := ⟨(y 0).val % 16, by omega⟩
def hd (y : S512x1024.Idx) : Fin 8 := ⟨(y 1).val / 128, by have h : (y 1).val < 1024 := (y 1).isLt; omega⟩
def lane (y : S512x1024.Idx) : Fin 128 := ⟨(y 1).val % 128, by omega⟩

def arrA : S512x1024.Idx → EReal := fun y => aE hu hv w bs g b (smp y) (pos y) (hd y) (lane y)
def arrV : S512x1024.Idx → EReal := fun y => vE hv g b (smp y) (pos y) (hd y) (lane y)
end

end Cert.Proof.G
-- ==== Proof.G.Head.lean ====
/-
  One head of a point: the rows normalized and the rows gated, at an element.
-/
module

public import proofs.«01_k».proof.Proof.G.Spec
public import proofs.«01_k».proof.Proof.Gen.Kernel7Ideal.Frame

@[expose] public section

set_option maxRecDepth 65536

noncomputable section

namespace Cert.Proof.G

open Cert.Kernel7Ideal Cert.Kernel7Ideal.Gen
open Idealize.ShloMosaic Idealize.ShloMosaic.TcCoe

/-- A head's normalized rows from its columns of the gate and its row of the two scales. -/
def headV (z : Vec Ideal S16x128 .f32) (g b : Vec Ideal S1x128 .f32) : FVec Ideal S16x128 .f32 :=
  k0_pay7 (k0_pay3 g) (k0_pay4 b) (k0_pay5 z) (k0_pay6 z)

/-- A head's gated rows. -/
def headA (u z : Vec Ideal S16x128 .f32) (g b : Vec Ideal S1x128 .f32) (w : Vec Ideal S1x16x16 .f32) (bs : Vec Ideal S16x1 .f32) : FVec Ideal S16x128 .bf16 :=
  k0_pay8 k0_pay1 (k0_pay2 u) (k0_pay3 g) (k0_pay4 b) (k0_pay5 z) (k0_pay6 z) w bs

theorem gelu_apply (u : Vec Ideal S16x128 .f32) (a : Fin 16) (d : Fin 128) : k0_pay2 u (ix2 a d) = geluE (u (ix2 a d)) := by
  pointwise [k0_pay2]
  rfl

theorem centred_apply (z : Vec Ideal S16x128 .f32) (a : Fin 16) (d : Fin 128) :
    k0_pay5 z (ix2 a d) = geluE (z (ix2 a d)) - meanE (fun k => geluE (z (ix2 a k))) := by
  pointwise [k0_pay5]
  rfl

theorem rs_apply (z : Vec Ideal S16x128 .f32) (a : Fin 16) (d : Fin 128) :
    k0_pay6 z (ix2 a d) = Ideal.rsqrt (varE (fun k => geluE (z (ix2 a k))) + Ideal.ofBits .f32 0x3727C5AC#32) := by
  unfold varE
  simp only [← centred_apply]
  pointwise [k0_pay6]

theorem headV_apply (z : Vec Ideal S16x128 .f32) (g b : Vec Ideal S1x128 .f32) (a : Fin 16) (d : Fin 128) :
    headV z g b (ix2 a d) = normE (fun k => geluE (z (ix2 a k))) (g (ix2 (0 : Fin 1) d)) (b (ix2 (0 : Fin 1) d)) d := by
  unfold normE
  simp only [← centred_apply, ← rs_apply z a d]
  pointwise [headV, k0_pay7, k0_pay3, k0_pay4]

/-- The lower triangle. -/
theorem mask_apply : ∀ a s : Fin 16, k0_pay1 (ix2 a s) = if s.val ≤ a.val then 1#1 else 0#1 := by decide +kernel

theorem headA_apply (u z : Vec Ideal S16x128 .f32) (g b : Vec Ideal S1x128 .f32) (w : Vec Ideal S1x16x16 .f32) (bs : Vec Ideal S16x1 .f32) (a : Fin 16) (d : Fin 128) :
    headA u z g b w bs (ix2 a d) = geluE (u (ix2 a d))
      * ((∑ s : Fin 16, (if s.val ≤ a.val then (w (ix3 (0 : Fin 1) a s) : EReal) else 0) * headV z g b (ix2 s d)) + (bs (ix2 a (0 : Fin 1)) : EReal)) := by
  rw [← gelu_apply]
  pointwise [headA, k0_pay8, headV]
  refine congrArg (fun q : EReal => k0_pay2 u (ix2 a d) * (q + (bs (ix2 a (0 : Fin 1)) : EReal))) (Finset.sum_congr rfl fun s _ => ?_)
  rw [mask_apply a s]
  by_cases h : s.val ≤ a.val
  · rw [if_pos h, if_pos h]; rfl
  · rw [if_neg h, if_neg h, zero_mul]; rfl

end Cert.Proof.G
-- ==== Proof.G.Block.lean ====
/-
  The two blocks a point ends with, at an element: every head stores its own columns.
-/
module

public import proofs.«01_k».proof.Proof.G.Head
public import Idealize.ShloMosaic.Lib.Pipeline.Value

@[expose] public section

set_option maxRecDepth 65536

noncomputable section

namespace Cert.Proof.G

open Cert.Kernel7Ideal Cert.Kernel7Ideal.Gen
open Idealize.ShloMosaic Idealize.ShloMosaic.TcCoe

/-- A head's columns, its row of a scale, its plane of the weights and its column of the bias. -/
abbrev rC (h : Fin 8) : Rect S16x1024 := Rect.unit (s := S16x1024) ![0, 128 * h.val] S16x128.size (by
  intro a; fin_cases a
  · exact Nat.le_refl 16
  · show 128 * h.val + 128 ≤ 1024; omega)
abbrev rG (h : Fin 8) : Rect S8x128 := Rect.unit (s := S8x128) ![h.val, 0] S1x128.size (by
  intro a; fin_cases a
  · show h.val + 1 ≤ 8; omega
  · exact Nat.le_refl 128)
abbrev rW (h : Fin 8) : Rect S8x16x16 := Rect.unit (s := S8x16x16) ![h.val, 0, 0] S1x16x16.size (by
  intro a; fin_cases a
  · show h.val + 1 ≤ 8; omega
  · exact Nat.le_refl 16
  · exact Nat.le_refl 16)
abbrev rB (h : Fin 8) : Rect S16x8 := Rect.unit (s := S16x8) ![0, h.val] S16x1.size (by
  intro a; fin_cases a
  · exact Nat.le_refl 16
  · show h.val + 1 ≤ 8; omega)

theorem emb_rC (h : Fin 8) (a : Fin 16) (d : Fin 128) : (rC h).idx (ix2 a d) = ix2 a (col h d) := by
  funext b; apply Fin.ext; fin_cases b <;> simp [rC, ix2, col]
theorem emb_rG (h : Fin 8) (a : Fin 1) (d : Fin 128) : (rG h).idx (ix2 a d) = ix2 h d := by
  funext b; apply Fin.ext; fin_cases b <;> simp [rG, ix2]
theorem emb_rW (h : Fin 8) (a : Fin 1) (r s : Fin 16) : (rW h).idx (ix3 a r s) = ix3 h r s := by
  funext b; apply Fin.ext; fin_cases b <;> simp [rW, ix3]
theorem emb_rB (h : Fin 8) (r : Fin 16) (a : Fin 1) : (rB h).idx (ix2 r a) = ix2 r h := by
  funext b; apply Fin.ext; fin_cases b <;> simp [rB, ix2]

/-- The heads in the order of their stores, the last first. -/
def heads : List (Fin 8) := [7, 6, 5, 4, 3, 2, 1, 0]
theorem mem_heads (h : Fin 8) : h ∈ heads := by revert h; decide

/-- Stores over all heads, each of its columns of one function. -/
theorem canon_heads {e : EltTy} (w : Fin 8 → S16x128.Idx → Elt Ideal e) (G : Fin 16 → Fin 8 → Fin 128 → Elt Ideal e)
    (hw : ∀ h a d, w h (ix2 a d) = G a h d) (a : Fin 16) (h : Fin 8) (d : Fin 128) :
    View.canon (Val := Elt Ideal) (heads.map fun h => (⟨rC h, w h⟩ : View.Piece (Elt Ideal) S16x1024 e)) (ix2 a (col h d)) = G a h d := by
  have hh : ∀ (h : Fin 8) (d : Fin 128), (⟨(col h d).val / 128, by have := (col h d).isLt; omega⟩ : Fin 8) = h ∧ (⟨(col h d).val % 128, by omega⟩ : Fin 128) = d :=
    fun h d => ⟨Fin.ext (show (128 * h.val + d.val) / 128 = h.val by omega), Fin.ext (show (128 * h.val + d.val) % 128 = d.val by omega)⟩
  refine (View.canon_apply_of_pieces (Val := Elt Ideal) (S := S16x1024) (e := e)
    (fun y => G (y 0) ⟨(y 1).val / 128, by have h : (y 1).val < 1024 := (y 1).isLt; omega⟩ ⟨(y 1).val % 128, by omega⟩) _ ?_ _
    ⟨⟨rC h, w h⟩, List.mem_map.mpr ⟨h, mem_heads h, rfl⟩, ?_⟩).trans ?_
  · intro P hP x
    obtain ⟨p, _, rfl⟩ := List.mem_map.mp hP
    change S16x128.Idx at x
    idx_vars x
    refine (hw p x0 x1).trans ?_
    show G x0 p x1 = _
    rw [show (rC p).emb (ix2 x0 x1) = ix2 x0 (col p x1) from emb_rC p x0 x1]
    exact (congrArg₂ (G x0) (hh p x1).1 (hh p x1).2).symm
  · rw [← emb_rC h a d]; exact (rC h).idx_mem _
  · exact congrArg₂ (G a) (hh h d).1 (hh h d).2

section
variable (x0 x1 : Vec Ideal S16x1024 .f32) (x2 : Vec Ideal S8x16x16 .f32) (x3 : Vec Ideal S16x8 .f32) (x4 x5 : Vec Ideal S8x128 .f32)

def pV (h : Fin 8) : S16x128.Idx → Elt Ideal .f32 := headV (View.ld x1 (rC h)) (View.ld x4 (rG h)) (View.ld x5 (rG h))
def pA (h : Fin 8) : S16x128.Idx → Elt Ideal .bf16 :=
  headA (View.ld x0 (rC h)) (View.ld x1 (rC h)) (View.ld x4 (rG h)) (View.ld x5 (rG h)) (View.ld x2 (rW h)) (View.ld x3 (rB h))

theorem out7_eq : out0_7 x0 x1 x2 x3 x4 x5 = View.canon (Val := Elt Ideal) (heads.map fun h => (⟨rC h, pV x1 x4 x5 h⟩ : View.Piece (Elt Ideal) S16x1024 .f32)) := by
  unfold_out out0_7
  rfl

theorem out6_eq : out0_6 x0 x1 x2 x3 x4 x5 = View.canon (Val := Elt Ideal) (heads.map fun h => (⟨rC h, pA x0 x1 x2 x3 x4 x5 h⟩ : View.Piece (Elt Ideal) S16x1024 .bf16)) := by
  unfold_out out0_6
  rfl

/-- The normalized rows of the block. -/
def blkV (a : Fin 16) (h : Fin 8) (d : Fin 128) : EReal :=
  normE (fun k => geluE (x1 (ix2 a (col h k)))) (x4 (ix2 h d)) (x5 (ix2 h d)) d

theorem pV_apply (h : Fin 8) (a : Fin 16) (d : Fin 128) : pV x1 x4 x5 h (ix2 a d) = blkV x1 x4 x5 a h d := by
  refine (headV_apply _ _ _ a d).trans ?_
  unfold blkV
  have e1 : (fun k => geluE (View.ld x1 (rC h) (ix2 a k))) = fun k => geluE (x1 (ix2 a (col h k))) :=
    funext fun k => congrArg geluE (congrArg x1 (emb_rC h a k))
  have e4 : View.ld x4 (rG h) (ix2 (0 : Fin 1) d) = x4 (ix2 h d) := congrArg x4 (emb_rG h 0 d)
  have e5 : View.ld x5 (rG h) (ix2 (0 : Fin 1) d) = x5 (ix2 h d) := congrArg x5 (emb_rG h 0 d)
  rw [e1, e4, e5]

theorem out7_apply (a : Fin 16) (h : Fin 8) (d : Fin 128) : out0_7 x0 x1 x2 x3 x4 x5 (ix2 a (col h d)) = blkV x1 x4 x5 a h d := by
  rw [out7_eq]
  exact canon_heads (e := .f32) _ (fun a h d => blkV x1 x4 x5 a h d) (fun h a d => pV_apply x1 x4 x5 h a d) a h d

theorem out6_apply (a : Fin 16) (h : Fin 8) (d : Fin 128) : out0_6 x0 x1 x2 x3 x4 x5 (ix2 a (col h d))
    = geluE (x0 (ix2 a (col h d)))
      * ((∑ s : Fin 16, (if s.val ≤ a.val then (x2 (ix3 h a s) : EReal) else 0) * blkV x1 x4 x5 s h d) + (x3 (ix2 a h) : EReal)) := by
  rw [out6_eq]
  refine canon_heads (e := .bf16) _ (fun a h d => (geluE (x0 (ix2 a (col h d)))
      * ((∑ s : Fin 16, (if s.val ≤ a.val then (x2 (ix3 h a s) : EReal) else 0) * blkV x1 x4 x5 s h d) + (x3 (ix2 a h) : EReal)) : EReal)) (fun h a d => ?_) a h d
  refine (headA_apply _ _ _ _ _ _ a d).trans ?_
  have e0 : View.ld x0 (rC h) (ix2 a d) = x0 (ix2 a (col h d)) := congrArg x0 (emb_rC h a d)
  have e3 : View.ld x3 (rB h) (ix2 a (0 : Fin 1)) = x3 (ix2 a h) := congrArg x3 (emb_rB h a 0)
  have e2 : ∀ s : Fin 16, View.ld x2 (rW h) (ix3 (0 : Fin 1) a s) = x2 (ix3 h a s) := fun s => congrArg x2 (emb_rW h 0 a s)
  rw [e0, e3]
  refine congrArg (fun q : EReal => geluE (x0 (ix2 a (col h d))) * (q + (x3 (ix2 a h) : EReal))) (Finset.sum_congr rfl fun s _ => ?_)
  rw [e2 s]
  exact congrArg (fun q : EReal => (if s.val ≤ a.val then (x2 (ix3 h a s) : EReal) else 0) * q) (pV_apply x1 x4 x5 h s d)
end

end Cert.Proof.G
-- ==== Proof.G.Array.lean ====
/-
  The arrays the gated unit ends with.
-/
module

public import proofs.«01_k».proof.Proof.G.Block
public import Idealize.ShloMosaic.Lib.Pipeline.ValueKit
public import Idealize.ShloMosaic.Lib.Pipeline.Value

@[expose] public section

set_option maxRecDepth 65536

noncomputable section

namespace Cert.Proof.G

open Cert.Kernel7Ideal Cert.Kernel7Ideal.Gen
open Idealize.ShloMosaic Idealize.ShloMosaic.TcCoe
open Idealize.SL Idealize.SL.Sem

variable (m : (ℓ : Loc nD τ sig) → Buf (Elt Ideal) ℓ) (ρ : Dev nD → PrngReg)

/-- The arguments of a device. -/
abbrev huM (c : Dev nD) : Vec Ideal S8704x1024 .f32 := m ((c.tc : Thread nD τ).loc main_arg0)
abbrev hvM (c : Dev nD) : Vec Ideal S8704x1024 .f32 := m ((c.tc : Thread nD τ).loc main_arg1)
abbrev wM (c : Dev nD) : Vec Ideal S1x8x128x128 .f32 := m ((c.tc : Thread nD τ).loc main_arg2)
abbrev bsM (c : Dev nD) : Vec Ideal S1x8x128 .f32 := m ((c.tc : Thread nD τ).loc main_arg3)
abbrev gM (c : Dev nD) : Vec Ideal S1x8x128 .f32 := m ((c.tc : Thread nD τ).loc main_arg4)
abbrev bM (c : Dev nD) : Vec Ideal S1x8x128 .f32 := m ((c.tc : Thread nD τ).loc main_arg5)

theorem V_w (c : Dev nD) : V m c main_v3 = extractStridedSlice S8x16x16 ![0, 0, 0] (shapeCast S8x128x128 (wM m c) shapeCasts_S1x8x128x128_S8x128x128) slices_S8x128x128_S8x16x16_0_0_0 := by
  unfold_abbrev_sides
  after_results
  rfl

theorem V_bs (c : Dev nD) : V m c main_v4 = extractStridedSlice S16x8 ![0, 0] (transpose S128x8 [1, 0] (shapeCast S8x128 (bsM m c) shapeCasts_S1x8x128_S8x128) transposes_S8x128_S128x8_1_0) slices_S128x8_S16x8_0_0 := by
  unfold_abbrev_sides
  after_results
  rfl

theorem V_g (c : Dev nD) : V m c main_v5 = shapeCast S8x128 (gM m c) shapeCasts_S1x8x128_S8x128 := by
  unfold_abbrev_sides
  after_results
  rfl

theorem V_b (c : Dev nD) : V m c main_v6 = shapeCast S8x128 (bM m c) shapeCasts_S1x8x128_S8x128 := by
  unfold_abbrev_sides
  after_results
  rfl

theorem idx0 : ∀ t : Fin cfg0.N, win0_0.index t = ![t.val + 512, 0] := (by decide +kernel : ∀ t : Fin grid0.N, _)
theorem idx1 : ∀ t : Fin cfg0.N, win0_1.index t = ![t.val + 512, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The sample of a point. -/
def smpAt (t : Fin cfg0.N) : Fin 32 := ⟨t.val, t.isLt⟩

theorem hublk (c : Dev nD) (t : Fin cfg0.N) (a : Fin 16) (j : Fin 1024) : iblk m c 0 t (ix2 a j) = huM m c (ix2 (row (smpAt t) a) j) := by
  have e : iblk m c 0 t (ix2 a j) = V m c main_arg0 (ix2 (row (smpAt t) a) j) := by
    refine congrArg (V m c main_arg0) ?_
    blk_ext [idx0 t]
    show (t.val + 512) * 16 + a.val = 8192 + (16 * t.val + a.val)
    omega
  rw [e, V_main_arg0]

theorem hvblk (c : Dev nD) (t : Fin cfg0.N) (a : Fin 16) (j : Fin 1024) : iblk m c 1 t (ix2 a j) = hvM m c (ix2 (row (smpAt t) a) j) := by
  have e : iblk m c 1 t (ix2 a j) = V m c main_arg1 (ix2 (row (smpAt t) a) j) := by
    refine congrArg (V m c main_arg1) ?_
    blk_ext [idx1 t]
    show (t.val + 512) * 16 + a.val = 8192 + (16 * t.val + a.val)
    omega
  rw [e, V_main_arg1]

theorem cast_apply (x : Vec Ideal S1x8x128 .f32) (h : Fin 8) (d : Fin 128) : shapeCast S8x128 x shapeCasts_S1x8x128_S8x128 (ix2 h d) = x (ix3 (0 : Fin 1) h d) := by
  refine shapeCast_apply x shapeCasts_S1x8x128_S8x128 (ix2 h d) (ix3 (0 : Fin 1) h d) ?_
  rw [Shape.rowMajor_val_three, Shape.rowMajor_val_two]
  show (0 * 8 + h.val) * 128 + d.val = h.val * 128 + d.val
  omega

theorem planes_apply (x : Vec Ideal S1x8x128x128 .f32) (h : Fin 8) (r s : Fin 16) :
    extractStridedSlice S8x16x16 ![0, 0, 0] (shapeCast S8x128x128 x shapeCasts_S1x8x128x128_S8x128x128) slices_S8x128x128_S8x16x16_0_0_0 (ix3 h r s)
      = x (ix4 (0 : Fin 1) h (⟨r.val, by omega⟩ : Fin 128) (⟨s.val, by omega⟩ : Fin 128)) := by
  refine (extractStridedSlice_apply (s := S8x128x128) (t := S8x16x16) ![0, 0, 0] (shapeCast S8x128x128 x shapeCasts_S1x8x128x128_S8x128x128) _ _ (ix3 h (⟨r.val, by omega⟩ : Fin 128) (⟨s.val, by omega⟩ : Fin 128)) ?_).trans
    (shapeCast_apply x shapeCasts_S1x8x128x128_S8x128x128 (ix3 h (⟨r.val, by omega⟩ : Fin 128) (⟨s.val, by omega⟩ : Fin 128)) (ix4 (0 : Fin 1) h (⟨r.val, by omega⟩ : Fin 128) (⟨s.val, by omega⟩ : Fin 128)) ?_)
  · intro b; fin_cases b
    · show h.val = 0 + h.val; omega
    · show r.val = 0 + r.val; omega
    · show s.val = 0 + s.val; omega
  · rw [Shape.rowMajor_val_four, Shape.rowMajor_val_three]
    show ((0 * 8 + h.val) * 128 + r.val) * 128 + s.val = (h.val * 128 + r.val) * 128 + s.val
    omega

theorem columns_apply (x : Vec Ideal S1x8x128 .f32) (r : Fin 16) (h : Fin 8) :
    extractStridedSlice S16x8 ![0, 0] (transpose S128x8 [1, 0] (shapeCast S8x128 x shapeCasts_S1x8x128_S8x128) transposes_S8x128_S128x8_1_0) slices_S128x8_S16x8_0_0 (ix2 r h)
      = x (ix3 (0 : Fin 1) h (⟨r.val, by omega⟩ : Fin 128)) := by
  refine (extractStridedSlice_apply (s := S128x8) (t := S16x8) ![0, 0] (transpose S128x8 [1, 0] (shapeCast S8x128 x shapeCasts_S1x8x128_S8x128) transposes_S8x128_S128x8_1_0) _ _ (ix2 (⟨r.val, by omega⟩ : Fin 128) h) ?_).trans ?_
  · intro b; fin_cases b
    · show r.val = 0 + r.val; omega
    · show h.val = 0 + h.val; omega
  · refine (transpose_apply (s := S8x128) (t := S128x8) [1, 0] (shapeCast S8x128 x shapeCasts_S1x8x128_S8x128) transposes_S8x128_S128x8_1_0 (ix2 (⟨r.val, by omega⟩ : Fin 128) h) (ix2 h (⟨r.val, by omega⟩ : Fin 128)) ?_).trans (cast_apply _ _ _)
    intro b; fin_cases b <;> rfl

theorem wblk (c : Dev nD) (t : Fin cfg0.N) (h : Fin 8) (r s : Fin 16) :
    iblk m c 2 t (ix3 h r s) = wM m c (ix4 (0 : Fin 1) h (⟨r.val, by omega⟩ : Fin 128) (⟨s.val, by omega⟩ : Fin 128)) := by
  have e : iblk m c 2 t (ix3 h r s) = V m c main_v3 (ix3 h r s) := by
    refine congrArg (V m c main_v3) ?_
    blk_ext [idx2 t]
  rw [e, V_w]
  exact planes_apply (wM m c) h r s

theorem bsblk (c : Dev nD) (t : Fin cfg0.N) (r : Fin 16) (h : Fin 8) :
    iblk m c 3 t (ix2 r h) = bsM m c (ix3 (0 : Fin 1) h (⟨r.val, by omega⟩ : Fin 128)) := by
  have e : iblk m c 3 t (ix2 r h) = V m c main_v4 (ix2 r h) := by
    refine congrArg (V m c main_v4) ?_
    blk_ext [idx3 t]
  rw [e, V_bs]
  exact columns_apply (bsM m c) r h

theorem gblk (c : Dev nD) (t : Fin cfg0.N) (h : Fin 8) (d : Fin 128) : iblk m c 4 t (ix2 h d) = gM m c (ix3 (0 : Fin 1) h d) := by
  have e : iblk m c 4 t (ix2 h d) = V m c main_v5 (ix2 h d) := by
    refine congrArg (V m c main_v5) ?_
    blk_ext [idx4 t]
  rw [e, V_g]
  exact cast_apply (gM m c) h d

theorem bblk (c : Dev nD) (t : Fin cfg0.N) (h : Fin 8) (d : Fin 128) : iblk m c 5 t (ix2 h d) = bM m c (ix3 (0 : Fin 1) h d) := by
  have e : iblk m c 5 t (ix2 h d) = V m c main_v6 (ix2 h d) := by
    refine congrArg (V m c main_v6) ?_
    blk_ext [idx5 t]
  rw [e, V_b]
  exact cast_apply (bM m c) h d

/-- The normalized rows of a point are its sample's. -/
theorem blkV_eq (c : Dev nD) (t : Fin cfg0.N) (a : Fin 16) (h : Fin 8) (d : Fin 128) :
    blkV (iblk m c 1 t) (iblk m c 4 t) (iblk m c 5 t) a h d = vE (hvM m c) (gM m c) (bM m c) (smpAt t) a h d := by
  unfold blkV vE
  rw [show (fun k => geluE (iblk m c 1 t (ix2 a (col h k)))) = fun k => geluE (hvM m c (ix2 (row (smpAt t) a) (col h k))) from
    funext fun k => congrArg geluE (hvblk m c t a (col h k)), gblk m c t h d, bblk m c t h d]

theorem out7_val (c : Dev nD) (t : Fin cfg0.N) (a : Fin 16) (h : Fin 8) (d : Fin 128) :
    out0_7 (iblk m c 0 t) (iblk m c 1 t) (iblk m c 2 t) (iblk m c 3 t) (iblk m c 4 t) (iblk m c 5 t) (ix2 a (col h d))
      = vE (hvM m c) (gM m c) (bM m c) (smpAt t) a h d :=
  (out7_apply _ _ _ _ _ _ a h d).trans (blkV_eq m c t a h d)

theorem out6_val (c : Dev nD) (t : Fin cfg0.N) (a : Fin 16) (h : Fin 8) (d : Fin 128) :
    out0_6 (iblk m c 0 t) (iblk m c 1 t) (iblk m c 2 t) (iblk m c 3 t) (iblk m c 4 t) (iblk m c 5 t) (ix2 a (col h d))
      = aE (huM m c) (hvM m c) (wM m c) (bsM m c) (gM m c) (bM m c) (smpAt t) a h d := by
  refine (out6_apply _ _ _ _ _ _ a h d).trans ?_
  unfold aE mixE
  refine congrArg₂ (fun p q : EReal => p * q) (congrArg geluE (hublk m c t a (col h d))) (congrArg₂ (fun p q : EReal => p + q)
    (Finset.sum_congr rfl fun s _ => congrArg₂ (fun p q : EReal => p * q) ?_ (blkV_eq m c t s h d)) (bsblk m c t a h))
  rw [wblk m c t h a s]

/-- A column is its head's. -/
theorem col_split (j : Fin 1024) : j = col ⟨j.val / 128, by omega⟩ ⟨j.val % 128, by omega⟩ :=
  Fin.ext (show j.val = 128 * (j.val / 128) + j.val % 128 by omega)

theorem arr7 (c : Dev nD) : (dats m 0 c).arrAt 7 cfg0.N = arrV (hvM m c) (gM m c) (bM m c) := by
  refine (dats m 0 c).arrAt_eq_of_covers 7 _ (by decide +kernel) fun t hf y => ?_
  change S16x1024.Idx at y
  idx_vars y
  blk_simp
  rw [after0_7]
  have ht : t.val < 32 := t.isLt
  have r0 : (((cfg0.win 7).blk t).view.emb (ix2 y0 y1) 0).val = 16 * t.val + y0.val := by
    blk_simp [idx7 t]; show ((t.val) * 16 + y0.val) = 16 * t.val + y0.val; omega
  have r1 : (((cfg0.win 7).blk t).view.emb (ix2 y0 y1) 1).val = y1.val := by
    blk_simp [idx7 t]
  refine (congrArg (fun j => out0_7 (iblk m c 0 t) (iblk m c 1 t) (iblk m c 2 t) (iblk m c 3 t) (iblk m c 4 t) (iblk m c 5 t) (ix2 y0 j)) (col_split y1)).trans ((out7_val m c t y0 _ _).trans ?_)
  unfold arrV
  congr 1
  · exact Fin.ext (show t.val = _ / 16 by rw [r0]; omega)
  · exact Fin.ext (show y0.val = _ % 16 by rw [r0]; omega)
  · exact Fin.ext (show y1.val / 128 = _ / 128 by rw [r1])
  · exact Fin.ext (show y1.val % 128 = _ % 128 by rw [r1])

theorem arr6 (c : Dev nD) : (dats m 0 c).arrAt 6 cfg0.N = arrA (huM m c) (hvM m c) (wM m c) (bsM m c) (gM m c) (bM m c) := by
  refine (dats m 0 c).arrAt_eq_of_covers 6 _ (by decide +kernel) fun t hf y => ?_
  change S16x1024.Idx at y
  idx_vars y
  blk_simp
  rw [after0_6]
  have ht : t.val < 32 := t.isLt
  have r0 : (((cfg0.win 6).blk t).view.emb (ix2 y0 y1) 0).val = 16 * t.val + y0.val := by
    blk_simp [idx6 t]; show ((t.val) * 16 + y0.val) = 16 * t.val + y0.val; omega
  have r1 : (((cfg0.win 6).blk t).view.emb (ix2 y0 y1) 1).val = y1.val := by
    blk_simp [idx6 t]
  refine (congrArg (fun j => out0_6 (iblk m c 0 t) (iblk m c 1 t) (iblk m c 2 t) (iblk m c 3 t) (iblk m c 4 t) (iblk m c 5 t) (ix2 y0 j)) (col_split y1)).trans ((out6_val m c t y0 _ _).trans ?_)
  unfold arrA
  congr 1
  · exact Fin.ext (show t.val = _ / 16 by rw [r0]; omega)
  · exact Fin.ext (show y0.val = _ % 16 by rw [r0]; omega)
  · exact Fin.ext (show y1.val / 128 = _ / 128 by rw [r1])
  · exact Fin.ext (show y1.val % 128 = _ % 128 by rw [r1])

/-- The kernel ends with its results at the spec's arrays. -/
theorem run_value :
    θ_run defs (onTc (τ := τ) (main (F := Ideal))) ⟨m, fun _ => 0, ρ⟩ (fun r => ∀ c : Dev nD,
      r.2.mem ((c.tc : Thread nD τ).loc main_v7_0) = arrA (huM m c) (hvM m c) (wM m c) (bsM m c) (gM m c) (bM m c)
      ∧ r.2.mem ((c.tc : Thread nD τ).loc main_v7_1) = arrV (hvM m c) (gM m c) (bM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 6).trans (arr6 m c), ((h c).1 7).trans (arr7 m c),
    ((h c).1 0).trans (((dats m 0 c).arrAt_in 0 rfl _).trans (V_main_arg0 m c)),
    ((h c).1 1).trans (((dats m 0 c).arrAt_in 1 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Proof.G
-- ==== Proof.G.Ref.lean ====
/-
  The reference's arrays are those of `Spec`.
-/
module

public import proofs.«01_k».proof.Proof.G.Spec
public import proofs.«01_k».proof.Proof.Gen.Reference7Ideal.Read
public import Idealize.ShloMosaic.Lib.Pipeline.Value
public import Idealize.ShloMosaic.Lib.IdealHost

@[expose] public section

set_option maxRecDepth 65536

noncomputable section

namespace Cert.Proof.G.Ref

open Cert.Reference7Ideal Cert.Reference7Ideal.Gen Cert.Reference7Ideal.Read
open Idealize.ShloMosaic Idealize.ShloMosaic.TcCoe

/-- The GELU by the complementary error function. -/
theorem gelu_eq (x : EReal) :
    Ideal.ofBits .f32 0x3F000000#32 * x * Ideal.erfc (-x * Ideal.ofBits .f32 0x3F3504F3#32) = geluE x := by
  unfold geluE
  rw [neg_mul, Ideal.erfc_neg, mul_comm (Ideal.ofBits .f32 0x3F000000#32) x, mul_right_comm, add_comm (1 : EReal)]

section
variable (x0 x1 : Vec Ideal S8704x1024 .f32) (x2 : Vec Ideal S1x8x128x128 .f32) (x3 x4 x5 : Vec Ideal S1x8x128 .f32)

/-- Rows of the samples. -/
theorem idx_row (t : Fin 32) (s : Fin 16) (j : Fin 1024) (y : S512x1024.Idx) (h0 : (y 0).val = 16 * t.val + s.val) (h1 : (y 1).val = j.val)
    (z : S8704x1024.Idx) (k0 : (z 0).val = 8192 + (y 0).val) (k1 : (z 1).val = (y 1).val) : z = ix2 (row t s) j := by
  funext a; apply Fin.ext; fin_cases a
  · show (z 0).val = 8192 + (16 * t.val + s.val); omega
  · show (z 1).val = j.val; omega

theorem u_apply (t : Fin 32) (s : Fin 16) (j : Fin 1024) : val_main_v10 (F := Ideal) x0 (ix3 t s j) = geluE (x0 (ix2 (row t s) j)) := by
  have e : val_main_v1 (F := Ideal) x0 (ix3 t s j) = x0 (ix2 (row t s) j) := by
    rw [val_main_v1_apply, val_main_v0_apply]
    refine congrArg x0 (idx_row t s j (idx_main_v1 (ix3 t s j)) ?_ ?_ _ rfl rfl)
    · show ((t.val * 16 + s.val) * 1024 + j.val) / 1024 = _; omega
    · show ((t.val * 16 + s.val) * 1024 + j.val) % 1024 = _; omega
  rw [val_main_v10_apply, val_main_v5_apply, val_main_v9_apply, val_main_v8_apply, val_main_v6_apply, val_main_v4_apply, val_main_v7_apply, val_main_cst_apply, val_main_cst_0_apply, e]
  exact gelu_eq _

theorem z_apply (t : Fin 32) (s : Fin 16) (h : Fin 8) (d : Fin 128) : val_main_v18 (F := Ideal) x1 (ix4 t s h d) = geluE (x1 (ix2 (row t s) (col h d))) := by
  have e : val_main_v3 (F := Ideal) x1 (idx_main_v18 (ix4 t s h d)) = x1 (ix2 (row t s) (col h d)) := by
    have a0 : (((t.val * 16 + s.val) * 8 + h.val) * 128 + d.val) / 16384 = t.val := by omega
    have a1 : (((t.val * 16 + s.val) * 8 + h.val) * 128 + d.val) / 1024 % 16 = s.val := by omega
    have a2 : (((t.val * 16 + s.val) * 8 + h.val) * 128 + d.val) % 1024 = 128 * h.val + d.val := by omega
    rw [val_main_v3_apply, val_main_v2_apply]
    refine congrArg x1 (idx_row t s (col h d) (idx_main_v3 (idx_main_v18 (ix4 t s h d))) ?_ ?_ _ rfl rfl)
    · show (((((t.val * 16 + s.val) * 8 + h.val) * 128 + d.val) / 16384 * 16 + (((t.val * 16 + s.val) * 8 + h.val) * 128 + d.val) / 1024 % 16) * 1024 + (((t.val * 16 + s.val) * 8 + h.val) * 128 + d.val) % 1024) / 1024 = _
      rw [a0, a1, a2]; omega
    · show (((((t.val * 16 + s.val) * 8 + h.val) * 128 + d.val) / 16384 * 16 + (((t.val * 16 + s.val) * 8 + h.val) * 128 + d.val) / 1024 % 16) * 1024 + (((t.val * 16 + s.val) * 8 + h.val) * 128 + d.val) % 1024) % 1024 = 128 * h.val + d.val
      rw [a0, a1, a2]; omega
  rw [val_main_v18_apply, val_main_v17_apply, val_main_v12_apply, val_main_v16_apply, val_main_v15_apply, val_main_v13_apply, val_main_v11_apply, val_main_v14_apply, val_main_cst_1_apply, val_main_cst_2_apply, e]
  exact gelu_eq _

/-- A head's row of the gate. -/
abbrev zR (t : Fin 32) (s : Fin 16) (h : Fin 8) : Fin 128 → EReal := fun k => geluE (x1 (ix2 (row t s) (col h k)))

theorem mean_apply (t : Fin 32) (s : Fin 16) (h : Fin 8) (e : Fin 1) : val_main_v24 (F := Ideal) x1 (ix4 t s h e) = meanE (zR x1 t s h) := by
  rw [val_main_v24_apply, val_main_v22_apply, val_main_v21_apply, val_main_v23_apply, val_main_cst_4_apply, val_main_cst_3_apply]
  have hs : ∀ k : Fin 128, val_main_v18 (F := Ideal) x1 (idx_main_v21 (idx_main_v22 (ix4 t s h e)) k) = zR x1 t s h k := fun k =>
    (congrArg (val_main_v18 (F := Ideal) x1) (funext fun a => by fin_cases a <;> rfl)).trans (z_apply x1 t s h k)
  rw [Finset.sum_congr rfl fun k _ => hs k]
  show Ideal.div (Ideal.ofBits .f32 0x00000000#32 + _) _ = _
  rw [Ideal.ofBits_zero_f32, zero_add]
  rfl

theorem centred_apply (t : Fin 32) (s : Fin 16) (h : Fin 8) (d : Fin 128) : val_main_v26 (F := Ideal) x1 (ix4 t s h d) = zR x1 t s h d - meanE (zR x1 t s h) := by
  rw [val_main_v26_apply, val_main_v25_apply, z_apply]
  exact congrArg (fun q : EReal => zR x1 t s h d - q) ((congrArg (val_main_v24 (F := Ideal) x1) (funext fun a => by fin_cases a <;> rfl)).trans (mean_apply x1 t s h 0))

theorem var_apply (t : Fin 32) (s : Fin 16) (h : Fin 8) (e : Fin 1) : val_main_v31 (F := Ideal) x1 (ix4 t s h e) = varE (zR x1 t s h) := by
  rw [val_main_v31_apply, val_main_v29_apply, val_main_v28_apply, val_main_v30_apply, val_main_cst_6_apply, val_main_cst_5_apply]
  have hs : ∀ k : Fin 128, val_main_v27 (F := Ideal) x1 (idx_main_v28 (idx_main_v29 (ix4 t s h e)) k) = (zR x1 t s h k - meanE (zR x1 t s h)) * (zR x1 t s h k - meanE (zR x1 t s h)) := fun k => by
    refine (congrArg (val_main_v27 (F := Ideal) x1) (show _ = ix4 t s h k from funext fun a => by fin_cases a <;> rfl)).trans ?_
    rw [val_main_v27_apply, centred_apply]
    rfl
  rw [Finset.sum_congr rfl fun k _ => hs k]
  show Ideal.div (Ideal.ofBits .f32 0x00000000#32 + _) _ = _
  rw [Ideal.ofBits_zero_f32, zero_add]
  rfl

theorem scale_apply (i : S8x128.Idx) : val_main_v19 (F := Ideal) x4 i = x4 (ix3 (0 : Fin 1) (i 0) (i 1)) := by
  rw [val_main_v19_apply]
  refine congrArg x4 (funext fun a => Fin.ext ?_)
  have h0 : (i 0).val < 8 := (i 0).isLt
  have h1 : (i 1).val < 128 := (i 1).isLt
  fin_cases a
  · rfl
  · show ((i 0).val * 128 + (i 1).val) / 128 % 8 = (i 0).val; omega
  · show ((i 0).val * 128 + (i 1).val) % 128 = (i 1).val; omega

theorem shift_apply (i : S8x128.Idx) : val_main_v20 (F := Ideal) x5 i = x5 (ix3 (0 : Fin 1) (i 0) (i 1)) := scale_apply x5 i
theorem bias_apply (i : S8x128.Idx) : val_main_v48 (F := Ideal) x3 i = x3 (ix3 (0 : Fin 1) (i 0) (i 1)) := scale_apply x3 i

theorem v_apply (t : Fin 32) (s : Fin 16) (h : Fin 8) (d : Fin 128) : val_main_v42 (F := Ideal) x1 x4 x5 (ix4 t s h d) = vE x1 x4 x5 t s h d := by
  rw [val_main_v42_apply, val_main_v39_apply, val_main_v36_apply, centred_apply, val_main_v35_apply, val_main_v34_apply, val_main_v33_apply, val_main_v32_apply, val_main_cst_7_apply,
    val_main_v38_apply, val_main_v37_apply, val_main_v41_apply, val_main_v40_apply, scale_apply, shift_apply]
  rw [show idx_main_v35 (ix4 t s h d) = ix4 t s h (0 : Fin 1) from funext fun a => by fin_cases a <;> rfl, var_apply]
  rfl

/-- The lower triangle of a head's weights. -/
theorem tril_apply (h : Fin 8) (r s : Fin 16) :
    val_main_v45 (F := Ideal) x2 (ix3 h r s) = (if s.val ≤ r.val then (x2 (ix4 (0 : Fin 1) h (⟨r.val, by omega⟩ : Fin 128) (⟨s.val, by omega⟩ : Fin 128)) : EReal) else 0) := by
  have hm : val_main_call0_v5 (F := Ideal) (ix3 h r s) = if s.val ≤ r.val then 1#1 else 0#1 := by
    rw [val_main_call0_v5_apply, val_main_call0_v4_apply, val_main_call0_v2_apply, val_main_call0_v0_apply, val_main_call0_v1_apply, val_main_call0_c_apply, val_main_call0_v3_apply]
    exact (by decide +kernel : ∀ r s : Fin 16, IntOp.cmpi .sge (IntOp.addi (BitVec.ofNat 32 r.val) 0#32) (BitVec.ofNat 32 s.val) = if s.val ≤ r.val then 1#1 else 0#1) r s
  have hw : val_main_v44 (F := Ideal) x2 (ix3 h r s) = x2 (ix4 (0 : Fin 1) h (⟨r.val, by omega⟩ : Fin 128) (⟨s.val, by omega⟩ : Fin 128)) := by
    rw [val_main_v44_apply, val_main_v43_apply]
    refine congrArg x2 (funext fun a => Fin.ext ?_)
    fin_cases a
    · rfl
    · show ((h.val * 128 + r.val) * 128 + s.val) / 16384 % 8 = h.val; omega
    · show ((h.val * 128 + r.val) * 128 + s.val) / 128 % 128 = r.val; omega
    · show ((h.val * 128 + r.val) * 128 + s.val) % 128 = s.val; omega
  rw [val_main_v45_apply, hm, hw, val_main_call0_v6_apply, val_main_call0_cst_apply]
  by_cases hle : s.val ≤ r.val
  · rw [if_pos hle, if_pos hle]; rfl
  · rw [if_neg hle, if_neg hle]; exact Ideal.ofBits_zero_f32

theorem mix_apply (t : Fin 32) (r : Fin 16) (h : Fin 8) (d : Fin 128) : val_main_v54 (F := Ideal) x1 x2 x3 x4 x5 (ix4 t r h d) = mixE x1 x2 x3 x4 x5 t r h d := by
  rw [val_main_v54_apply, val_main_v47_apply, val_main_v46_apply, val_main_v53_apply, val_main_v52_apply, val_main_v51_apply, val_main_v50_apply, val_main_v49_apply, bias_apply]
  unfold mixE
  refine congrArg₂ (fun p q : EReal => p + q) (Finset.sum_congr rfl fun s _ => ?_) rfl
  rw [mul_comm]
  refine congrArg₂ (fun p q : EReal => p * q) ?_ ?_
  · exact (congrArg (val_main_v45 (F := Ideal) x2) (show _ = ix3 h r s from funext fun a => by fin_cases a <;> rfl)).trans (tril_apply x2 h r s)
  · exact (congrArg (val_main_v42 (F := Ideal) x1 x4 x5) (show _ = ix4 t s h d from funext fun a => by fin_cases a <;> rfl)).trans (v_apply x1 x4 x5 t s h d)

theorem v59_eq : val_main_v59 (F := Ideal) x1 x4 x5 = arrV x1 x4 x5 := funext fun y => by
  have h0 : (y 0).val < 512 := (y 0).isLt
  have h1 : (y 1).val < 1024 := (y 1).isLt
  rw [val_main_v59_apply]
  refine (congrArg (val_main_v42 (F := Ideal) x1 x4 x5) (show _ = ix4 (smp y) (pos y) (hd y) (lane y) from funext fun a => Fin.ext ?_)).trans (v_apply x1 x4 x5 _ _ _ _)
  fin_cases a
  · show ((y 0).val * 1024 + (y 1).val) / 16384 = (y 0).val / 16; omega
  · show ((y 0).val * 1024 + (y 1).val) / 1024 % 16 = (y 0).val % 16; omega
  · show ((y 0).val * 1024 + (y 1).val) / 128 % 8 = (y 1).val / 128; omega
  · show ((y 0).val * 1024 + (y 1).val) % 128 = (y 1).val % 128; omega

theorem v58_eq : val_main_v58 (F := Ideal) x0 x1 x2 x3 x4 x5 = arrA x0 x1 x2 x3 x4 x5 := funext fun y => by
  have h0 : (y 0).val < 512 := (y 0).isLt
  have h1 : (y 1).val < 1024 := (y 1).isLt
  rw [val_main_v58_apply, val_main_v57_apply]
  have e : idx_main_v57 y = ix3 (smp y) (pos y) (col (hd y) (lane y)) := funext fun a => Fin.ext (by
    fin_cases a
    · show ((y 0).val * 1024 + (y 1).val) / 16384 = (y 0).val / 16; omega
    · show ((y 0).val * 1024 + (y 1).val) / 1024 % 16 = (y 0).val % 16; omega
    · show ((y 0).val * 1024 + (y 1).val) % 1024 = 128 * ((y 1).val / 128) + (y 1).val % 128; omega)
  rw [e, val_main_v56_apply, u_apply, val_main_v55_apply]
  refine congrArg (fun q : EReal => geluE (x0 (ix2 (row (smp y) (pos y)) (col (hd y) (lane y)))) * q) ?_
  refine (congrArg (val_main_v54 (F := Ideal) x1 x2 x3 x4 x5) (show _ = ix4 (smp y) (pos y) (hd y) (lane y) from funext fun a => Fin.ext ?_)).trans (mix_apply x1 x2 x3 x4 x5 _ _ _ _)
  generalize smp y = t; generalize pos y = s; generalize hd y = h; generalize lane y = d
  fin_cases a
  · show ((t.val * 16 + s.val) * 1024 + (128 * h.val + d.val)) / 16384 = t.val; omega
  · show ((t.val * 16 + s.val) * 1024 + (128 * h.val + d.val)) / 1024 % 16 = s.val; omega
  · show ((t.val * 16 + s.val) * 1024 + (128 * h.val + d.val)) / 128 % 8 = h.val; omega
  · show ((t.val * 16 + s.val) * 1024 + (128 * h.val + d.val)) % 128 = d.val; omega
end

end Cert.Proof.G.Ref
-- ==== Proof.G.Value.lean ====
/-
  The value claim of the samples' gated unit, and the frames of its programs.
-/
module

public import proofs.«01_k».proof.Proof.G.Array
public import proofs.«01_k».proof.Proof.G.Ref
public import proofs.«01_k».proof.Proof.Gen.Kernel7.Frame
public import proofs.«01_k».proof.Proof.Gen.Reference7Ideal.Run
public import proofs.«01_k».proof.Defs
public import Idealize.ShloMosaic.Lib.Quiescent

@[expose] public section

set_option maxRecDepth 65536

noncomputable section

namespace Cert.Proof.G

open Idealize.ShloMosaic Idealize.SL.Sem

theorem frame_kernel : Cert.quiescent_Kernel7 := fun m g _ => Cert.Kernel7.Gen.frame m g
theorem frame_ideal : Cert.quiescent_Kernel7Ideal := fun m g _ => Cert.Kernel7Ideal.Gen.frame m g

/-- The reference has no semaphores, so its run leaves every counter at zero. -/
theorem frame_ref : Cert.quiescent_Reference7Ideal := fun m g _ =>
  (θ_run _ _ _).mono (fun r h => ⟨fun c => (h c).2.2, sem_eq_zero_of_no_sems (by decide) r.2⟩) (Cert.Reference7Ideal.Value.run m g)

theorem algebraic : Cert.algebraic_Kernel7Ideal_Reference7Ideal := fun m g m' g' _ hm => by
  refine ⟨fun c => arrA (huM m c) (hvM m c) (wM m c) (bsM m c) (gM m c) (bM m c), fun c => arrV (hvM m c) (gM m c) (bM m c), run_value m g, ?_⟩
  refine (θ_run _ _ _).mono (fun r h c => ?_) (Cert.Reference7Ideal.Value.run m' g')
  obtain ⟨h0, h1, hr⟩ := h c
  obtain ⟨e0, e1, e2, e3, e4, e5⟩ := hm c
  refine ⟨h0.trans ((Cert.Reference7Ideal.Read.val_main_v58_eq _ _).trans ?_), h1.trans ((Cert.Reference7Ideal.Read.val_main_v59_eq _ _).trans ?_), hr⟩
  all_goals simp only [e0, e1, e2, e3, e4, e5]
  · exact Ref.v58_eq (huM m c) (hvM m c) (wM m c) (bsM m c) (gM m c) (bM m c)
  · exact Ref.v59_eq (hvM m c) (gM m c) (bM m c)

end Cert.Proof.G
-- ==== Proof.H.Copies.lean ====
/-
  The three transfers that bring one expert's weights into a slot of the routed experts' scratch: what they deliver, their
  start on the slot's semaphore, and the three waits that end them.
-/
module

public import proofs.«01_k».proof.Proof.Gen.Kernel8Ideal.Skeleton
public import proofs.«01_k».proof.Proof.Gen.Kernel8Ideal.Launch
public import Idealize.ShloMosaic.Lib.WholeRead
public import Idealize.ShloMosaic.Lib.Tactic
public import Idealize.ShloMosaic.Lib.Exec
public import Idealize.ShloMosaic.Lib.Batch
public import Idealize.ShloMosaic.Lib.Pipeline.Kit

@[expose] public section

set_option maxRecDepth 65536

noncomputable section

namespace Cert.Proof.H

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No loop of the program needs a variant. -/
abbrev 𝒱₀ : Variants := Variants.none

local notation "𝕄" => MT nD τ sig Unit (Elt F) ℕ (Pipeline.UD sig nD τ) ℕ

local notation "EC" => countersEmb (U := Pipeline.UD sig nD τ)

/-- A slot's offsets in the scratch, by its word. -/
abbrev oS (s : BitVec 32) : Fin 3 → ℕ := ![s.toNat, 0, 0]
/-- An expert's offsets in the weights, by its word. -/
abbrev oE (e : BitVec 32) : Fin 4 → ℕ := ![0, e.toNat, 0, 0]

theorem oS_inb {s : BitVec 32} (hs : s.toNat < 2) : ∀ a, oS s a + S1x2048x512.size a ≤ S2x2048x512.size a := by
  intro a; fin_cases a <;> simp [oS, S1x2048x512, S2x2048x512] <;> omega
theorem oS_inb' {s : BitVec 32} (hs : s.toNat < 2) : ∀ a, oS s a + S1x512x2048.size a ≤ S2x512x2048.size a := by
  intro a; fin_cases a <;> simp [oS, S1x512x2048, S2x512x2048] <;> omega
theorem oE_inb {e : BitVec 32} (he : e.toNat < 64) : ∀ a, oE e a + S1x1x2048x512.size a ≤ S2x64x2048x512.size a := by
  intro a; fin_cases a <;> simp [oE, S1x1x2048x512, S2x64x2048x512] <;> omega
theorem oE_inb' {e : BitVec 32} (he : e.toNat < 64) : ∀ a, oE e a + S1x1x512x2048.size a ≤ S2x64x512x2048.size a := by
  intro a; fin_cases a <;> simp [oE, S1x1x512x2048, S2x64x512x2048] <;> omega
theorem oM_inb {s : BitVec 32} (hs : s.toNat < 2) : ∀ a, (![s.toNat] : Fin 1 → ℕ) a + S1.size a ≤ S2.size a := by
  intro a; fin_cases a; simp [S1, S2]; omega

section
variable (s e : BitVec 32) (hs : s.toNat < 2) (he : e.toNat < 64)

/-- The slot's block of each of the three scratch arrays. -/
abbrev d0 : Memref sig .tc .vmem S2048x512 .f32 := ((Memref.whole cc0_scratch0).slice (Rect.unit (s := S2x2048x512) (oS s) S1x2048x512.size (oS_inb hs)) (fun _ => rfl)).squeeze S2048x512 squeezes_S1x2048x512_S2048x512
abbrev d1 : Memref sig .tc .vmem S2048x512 .f32 := ((Memref.whole cc0_scratch1).slice (Rect.unit (s := S2x2048x512) (oS s) S1x2048x512.size (oS_inb hs)) (fun _ => rfl)).squeeze S2048x512 squeezes_S1x2048x512_S2048x512
abbrev d2 : Memref sig .tc .vmem S512x2048 .f32 := ((Memref.whole cc0_scratch2).slice (Rect.unit (s := S2x512x2048) (oS s) S1x512x2048.size (oS_inb' hs)) (fun _ => rfl)).squeeze S512x2048 squeezes_S1x512x2048_S512x2048
/-- The expert's block of each of the three weights. -/
abbrev w0 : Memref sig .tc .hbm S2048x512 .f32 := ((Memref.whole main_arg5).slice (Rect.unit (s := S2x64x2048x512) (oE e) S1x1x2048x512.size (oE_inb he)) (fun _ => rfl)).squeeze S2048x512 squeezes_S1x1x2048x512_S2048x512
abbrev w1 : Memref sig .tc .hbm S2048x512 .f32 := ((Memref.whole main_arg6).slice (Rect.unit (s := S2x64x2048x512) (oE e) S1x1x2048x512.size (oE_inb he)) (fun _ => rfl)).squeeze S2048x512 squeezes_S1x1x2048x512_S2048x512
abbrev w2 : Memref sig .tc .hbm S512x2048 .f32 := ((Memref.whole main_arg7).slice (Rect.unit (s := S2x64x512x2048) (oE e) S1x1x512x2048.size (oE_inb' he)) (fun _ => rfl)).squeeze S512x2048 squeezes_S1x1x512x2048_S512x2048
/-- The slot's semaphore. -/
abbrev sm : DmaSem sig := ((cc0_scratch6.slice (Rect.unit (s := S2) ![s.toNat] S1.size (oM_inb hs))).squeeze S_ squeezes_S1_S_).sem
end

/-- A transfer's units. -/
abbrev NU : ℕ := 131072

variable (c : Dev nD) (g5 : Buf (Elt F) ((c : Thread nD τ).loc main_arg5)) (g6 : Buf (Elt F) ((c : Thread nD τ).loc main_arg6)) (g7 : Buf (Elt F) ((c : Thread nD τ).loc main_arg7))

/-- What the transfers of expert `e`'s weights into slot `s` deliver: each scratch with the slot's block overwritten by the
    expert's, and the expert's block of the weights back. -/
def deliv (s e : BitVec 32) (hs : s.toNat < 2) (he : e.toNat < 64)
    (f0 : Buf (Elt F) ((c : Thread nD τ).loc cc0_scratch0)) (f1 : Buf (Elt F) ((c : Thread nD τ).loc cc0_scratch1)) (f2 : Buf (Elt F) ((c : Thread nD τ).loc cc0_scratch2)) : Fin 3 → sProp 𝕄
  | 0 => iprop((((c : Thread nD τ).loc cc0_scratch0) ↦{fullShare} ((d0 s hs).view.write (Elt F) f0 ((ReadAs.same).apply ((w0 e he).view.read (Elt F) g5)) Finset.univ)) ∗ (((c : Thread nD τ).loc main_arg5) ↦[(w0 e he).view.set]{fullShare} g5))
  | 1 => iprop((((c : Thread nD τ).loc cc0_scratch1) ↦{fullShare} ((d1 s hs).view.write (Elt F) f1 ((ReadAs.same).apply ((w1 e he).view.read (Elt F) g6)) Finset.univ)) ∗ (((c : Thread nD τ).loc main_arg6) ↦[(w1 e he).view.set]{fullShare} g6))
  | 2 => iprop((((c : Thread nD τ).loc cc0_scratch2) ↦{fullShare} ((d2 s hs).view.write (Elt F) f2 ((ReadAs.same).apply ((w2 e he).view.read (Elt F) g7)) Finset.univ)) ∗ (((c : Thread nD τ).loc main_arg7) ↦[(w2 e he).view.set]{fullShare} g7))

instance (s e : BitVec 32) (hs : s.toNat < 2) (he : e.toNat < 64)
    (f0 : Buf (Elt F) ((c : Thread nD τ).loc cc0_scratch0)) (f1 : Buf (Elt F) ((c : Thread nD τ).loc cc0_scratch1)) (f2 : Buf (Elt F) ((c : Thread nD τ).loc cc0_scratch2)) (t : Fin 3) :
    Storable (upEmb : UEmb _ 𝕄) (deliv c g5 g6 g7 s e hs he f0 f1 f2 t) := by
  fin_cases t <;> simp only [deliv] <;> infer_instance

/-- The transfers of expert `e` into slot `s`, the first `k` started and `u` units waited for. -/
abbrev flight (s e : BitVec 32) (hs : s.toNat < 2) (he : e.toNat < 64)
    (f0 : Buf (Elt F) ((c : Thread nD τ).loc cc0_scratch0)) (f1 : Buf (Elt F) ((c : Thread nD τ).loc cc0_scratch1)) (f2 : Buf (Elt F) ((c : Thread nD τ).loc cc0_scratch2)) (k u : ℕ) : sProp 𝕄 :=
  Transfers.Batch EC (c : Thread nD τ) (.dma (sm s hs)) () NU (deliv c g5 g6 g7 s e hs he f0 f1 f2) k u

theorem credit_d0 (s : BitVec 32) (hs : s.toNat < 2) : (d0 s hs).view.dmaCredit = NU := (by decide : RefSig.tileCredit S2048x512 .f32 = NU)
theorem credit_d1 (s : BitVec 32) (hs : s.toNat < 2) : (d1 s hs).view.dmaCredit = NU := (by decide : RefSig.tileCredit S2048x512 .f32 = NU)
theorem credit_d2 (s : BitVec 32) (hs : s.toNat < 2) : (d2 s hs).view.dmaCredit = NU := (by decide : RefSig.tileCredit S512x2048 .f32 = NU)

/-- The part of the weights outside expert `e`'s block. -/
abbrev rest5 (e : BitVec 32) (he : e.toNat < 64) : sProp 𝕄 := iprop(((c : Thread nD τ).loc main_arg5) ↦[Finset.univ \ (w0 e he).view.set]{fullShare} g5)
abbrev rest6 (e : BitVec 32) (he : e.toNat < 64) : sProp 𝕄 := iprop(((c : Thread nD τ).loc main_arg6) ↦[Finset.univ \ (w1 e he).view.set]{fullShare} g6)
abbrev rest7 (e : BitVec 32) (he : e.toNat < 64) : sProp 𝕄 := iprop(((c : Thread nD τ).loc main_arg7) ↦[Finset.univ \ (w2 e he).view.set]{fullShare} g7)

/-- Whole weights are expert `e`'s block and the rest. -/
theorem split5 (e : BitVec 32) (he : e.toNat < 64) : (((c : Thread nD τ).loc main_arg5) ↦{fullShare} g5 : sProp 𝕄)
    ⊣⊢ iprop((((c : Thread nD τ).loc main_arg5) ↦[(w0 e he).view.set]{fullShare} g5) ∗ rest5 c g5 e he) := pointsTo_split_subset (Finset.subset_univ _)
theorem split6 (e : BitVec 32) (he : e.toNat < 64) : (((c : Thread nD τ).loc main_arg6) ↦{fullShare} g6 : sProp 𝕄)
    ⊣⊢ iprop((((c : Thread nD τ).loc main_arg6) ↦[(w1 e he).view.set]{fullShare} g6) ∗ rest6 c g6 e he) := pointsTo_split_subset (Finset.subset_univ _)
theorem split7 (e : BitVec 32) (he : e.toNat < 64) : (((c : Thread nD τ).loc main_arg7) ↦{fullShare} g7 : sProp 𝕄)
    ⊣⊢ iprop((((c : Thread nD τ).loc main_arg7) ↦[(w2 e he).view.set]{fullShare} g7) ∗ rest7 c g7 e he) := pointsTo_split_subset (Finset.subset_univ _)

/-- Nothing in flight: the scratch at some contents, the weights whole, both semaphores at zero. -/
def Idle : sProp 𝕄 := iprop((∃ f0, ((c : Thread nD τ).loc cc0_scratch0) ↦{fullShare} f0) ∗ (∃ f1, ((c : Thread nD τ).loc cc0_scratch1) ↦{fullShare} f1) ∗ (∃ f2, ((c : Thread nD τ).loc cc0_scratch2) ↦{fullShare} f2)
  ∗ (((c : Thread nD τ).loc main_arg5) ↦{fullShare} g5) ∗ (((c : Thread nD τ).loc main_arg6) ↦{fullShare} g6) ∗ (((c : Thread nD τ).loc main_arg7) ↦{fullShare} g7)
  ∗ semVal ((c : Thread nD τ), SemLoc.dma 4) 0 ∗ semVal ((c : Thread nD τ), SemLoc.dma 5) 0)

/-- The semaphore of the slot that `s` is not. -/
def otherSem (s : BitVec 32) : sProp 𝕄 := if s.toNat = 0 then semVal ((c : Thread nD τ), SemLoc.dma 5) 0 else semVal ((c : Thread nD τ), SemLoc.dma 4) 0

/-- Both semaphores at zero are the slot's and the other one. -/
theorem sems_split (s : BitVec 32) (hs : s.toNat < 2) :
    iprop(semVal ((c : Thread nD τ), SemLoc.dma 4) 0 ∗ semVal ((c : Thread nD τ), SemLoc.dma 5) 0)
      ⊣⊢ (iprop(semVal ((c : Thread nD τ), SemLoc.dma (sm s hs)) 0 ∗ otherSem (F := F) c s) : sProp 𝕄) := by
  obtain h | h : s.toNat = 0 ∨ s.toNat = 1 := by omega
  · obtain rfl : s = 0#32 := BitVec.eq_of_toNat_eq h
    rw [show sm 0#32 hs = (4 : DmaSem sig) from (by decide : sm 0#32 (by decide) = 4)]
    exact .rfl
  · obtain rfl : s = 1#32 := BitVec.eq_of_toNat_eq h
    rw [show sm 1#32 hs = (5 : DmaSem sig) from (by decide : sm 1#32 (by decide) = 5)]
    rw [show otherSem (F := F) c 1#32 = semVal ((c : Thread nD τ), SemLoc.dma 4) 0 from rfl]
    exact ⟨by iintro ⟨H1, H2⟩; isplitl [H2] <;> iassumption, by iintro ⟨H1, H2⟩; isplitl [H2] <;> iassumption⟩

/-- Expert `e`'s weights in flight to slot `s`. -/
def Pend (s e : BitVec 32) (hs : s.toNat < 2) (he : e.toNat < 64) : sProp 𝕄 :=
  iprop((∃ f0 f1 f2, flight c g5 g6 g7 s e hs he f0 f1 f2 3 0) ∗ rest5 c g5 e he ∗ rest6 c g6 e he ∗ rest7 c g7 e he ∗ otherSem (F := F) c s)

set_option maxHeartbeats 400000 in
/-- The three transfers' start. -/
theorem issue3 (s e : BitVec 32) (hs : s.toNat < 2) (he : e.toNat < 64) {hsrc0 hdst0 hsem0 hsrc1 hdst1 hsem1 hsrc2 hdst2 hsem2}
    (k : PUnit → Prog (TpuEff nD τ sig (Elt F) Λ₀ .tc) PUnit) (K : PUnit → sProp 𝕄) :
    Idle c g5 g6 g7 ⊢ iprop((Pend c g5 g6 g7 s e hs he -∗ wp frame (wpE (defs₀ (F := F)) 𝒱₀ c none) Set.univ (k ⟨⟩) K)
      -∗ wp frame (wpE (defs₀ (F := F)) 𝒱₀ c none) Set.univ
        (.op (.enqueueDma (w0 e he) (.here (d0 s hs)) (.dma (sm s hs)) hsrc0 hdst0 hsem0) fun _ =>
         .op (.enqueueDma (w1 e he) (.here (d1 s hs)) (.dma (sm s hs)) hsrc1 hdst1 hsem1) fun _ =>
         .op (.enqueueDma (w2 e he) (.here (d2 s hs)) (.dma (sm s hs)) hsrc2 hdst2 hsem2) k) K) := by
  unfold Idle Pend
  iintro ⟨⟨%f0, S0⟩, ⟨%f1, S1⟩, ⟨%f2, S2⟩, W5, W6, W7, X4, X5⟩ Hk
  ihave X := (sems_split (F := F) c s hs).1 $$ [X4 X5]
  · isplitl [X4] <;> iassumption
  icases X with ⟨X, Xo⟩
  ihave W5 := (split5 c g5 e he).1 $$ W5
  icases W5 with ⟨W5, R5⟩
  ihave W6 := (split6 c g6 e he).1 $$ W6
  icases W6 with ⟨W6, R6⟩
  ihave W7 := (split7 c g7 e he).1 $$ W7
  icases W7 with ⟨W7, R7⟩
  imod (Transfers.batch_alloc' (Lvl := ℕ) EC (c : Thread nD τ) () NU (deliv c g5 g6 g7 s e hs he f0 f1 f2) (sm := .dma (sm s hs)) (E := Set.univ)) $$ X with HB
  iapply (Transfers.wp_dmaBatch EC 𝒱₀ (c : Thread nD τ) none (sm := .dma (sm s hs)) (src := w0 e he) (dst := d0 s hs) () NU (credit_d0 s hs) (Finset.subset_univ _)
    (D := deliv c g5 g6 g7 s e hs he f0 f1 f2) (j := 0) (u := 0) (by decide) (Nat.zero_le _) (by unfold deliv; exact .rfl)) $$ [W5 S0 HB]
  · isplitl [W5]; · iexact W5
    isplitl [S0]; · iexact S0
    iexact HB
  iintro HB
  iapply (Transfers.wp_dmaBatch EC 𝒱₀ (c : Thread nD τ) none (sm := .dma (sm s hs)) (src := w1 e he) (dst := d1 s hs) () NU (credit_d1 s hs) (Finset.subset_univ _)
    (D := deliv c g5 g6 g7 s e hs he f0 f1 f2) (j := 1) (u := 0) (by decide) (Nat.zero_le _) (by unfold deliv; exact .rfl)) $$ [W6 S1 HB]
  · isplitl [W6]; · iexact W6
    isplitl [S1]; · iexact S1
    iexact HB
  iintro HB
  iapply (Transfers.wp_dmaBatch EC 𝒱₀ (c : Thread nD τ) none (sm := .dma (sm s hs)) (src := w2 e he) (dst := d2 s hs) () NU (credit_d2 s hs) (Finset.subset_univ _)
    (D := deliv c g5 g6 g7 s e hs he f0 f1 f2) (j := 2) (u := 0) (by decide) (Nat.zero_le _) (by unfold deliv; exact .rfl)) $$ [W7 S2 HB]
  · isplitl [W7]; · iexact W7
    isplitl [S2]; · iexact S2
    iexact HB
  iintro HB
  iapply Hk
  isplitl [HB]; · iexists f0, f1, f2; iexact HB
  isplitl [R5]; · iexact R5
  isplitl [R6]; · iexact R6
  isplitl [R7]; · iexact R7
  iexact Xo

/-- A finished program's bind is its continuation. -/
theorem retBind {α β : Type} (a : α) (f : α → Prog (TpuEff nD τ sig (Elt F) Λ₀ .tc) β) : (Prog.ret a).bind f = f a := rfl

/-- A whole buffer at contents that satisfy `P`, as the memref over it owns them. -/
theorem landed_owns (b : Ref sig .tc) {P : (Memref.whole b).view.ty.Contents (Elt F) → Prop} (f : Buf (Elt F) ((c : Thread nD τ).loc b)) (hP : P f) :
    ((((c : Thread nD τ).loc b) ↦{fullShare} f) : sProp 𝕄) ⊢ iprop(∃ X, ⌜P ((Memref.isWhole_whole b).unread X)⌝ ∗ owns (c : Thread nD τ) (Memref.whole b) fullShare X) := by
  unfold owns
  iintro H
  iexists (Memref.whole b).view.read (Elt F) f
  isplitr
  · ipureintro
    rw [← (Memref.isWhole_whole b).eq_unread (f := f) rfl]; exact hP
  iexists f
  isplitr; · ipureintro; rfl
  rw [(Memref.isWhole_whole b).set_eq_univ]
  iexact H

/-- What the three transfers leave: the scratch, whose slot `s` reads expert `e`'s weights, the weights whole, the semaphores
    at zero. -/
def Landed (s e : BitVec 32) (hs : s.toNat < 2) (he : e.toNat < 64) : sProp 𝕄 :=
  iprop((∃ X0 : Vec F S2x2048x512 .f32, ⌜(d0 s hs).view.read (Elt F) ((Memref.isWhole_whole cc0_scratch0).unread X0) = (w0 e he).view.read (Elt F) g5⌝ ∗ owns (c : Thread nD τ) (Memref.whole cc0_scratch0) fullShare X0)
    ∗ (∃ X1 : Vec F S2x2048x512 .f32, ⌜(d1 s hs).view.read (Elt F) ((Memref.isWhole_whole cc0_scratch1).unread X1) = (w1 e he).view.read (Elt F) g6⌝ ∗ owns (c : Thread nD τ) (Memref.whole cc0_scratch1) fullShare X1)
    ∗ (∃ X2 : Vec F S2x512x2048 .f32, ⌜(d2 s hs).view.read (Elt F) ((Memref.isWhole_whole cc0_scratch2).unread X2) = (w2 e he).view.read (Elt F) g7⌝ ∗ owns (c : Thread nD τ) (Memref.whole cc0_scratch2) fullShare X2)
    ∗ (((c : Thread nD τ).loc main_arg5) ↦{fullShare} g5) ∗ (((c : Thread nD τ).loc main_arg6) ↦{fullShare} g6) ∗ (((c : Thread nD τ).loc main_arg7) ↦{fullShare} g7)
    ∗ semVal ((c : Thread nD τ), SemLoc.dma 4) 0 ∗ semVal ((c : Thread nD τ), SemLoc.dma 5) 0)

set_option maxHeartbeats 400000 in
/-- The three waits. -/
theorem wait3 (s e : BitVec 32) (hs : s.toNat < 2) (he : e.toNat < 64) {α : Type} {x0 x1 y0 y1 z0 z1} (W : Waits sig Unit)
    (k : PUnit → Prog (TpuEff nD τ sig (Elt F) Λ₀ .tc) α) (K : α → sProp 𝕄) :
    iprop(Pend c g5 g6 g7 s e hs he ∗ owes (c : Thread nD τ) 0 W) ⊢ iprop((iprop(Landed c g5 g6 g7 s e hs he ∗ ∃ W, owes (c : Thread nD τ) 0 W) -∗ wp frame (wpE (defs₀ (F := F)) 𝒱₀ c none) Set.univ (k ⟨⟩) K)
      -∗ wp frame (wpE (defs₀ (F := F)) 𝒱₀ c none) Set.univ
        (.op (.waitDma2 (sm s hs) (w0 e he) (d0 s hs) x0 x1) fun _ =>
         .op (.waitDma2 (sm s hs) (w1 e he) (d1 s hs) y0 y1) fun _ =>
         .op (.waitDma2 (sm s hs) (w2 e he) (d2 s hs) z0 z1) k) K) := by
  unfold Landed Pend
  iintro ⟨⟨⟨%f0, %f1, %f2, HB⟩, R5, R6, R7, Xo⟩, HO⟩ Hk
  iapply (Transfers.wp_waitBatch EC 𝒱₀ (c : Thread nD τ) none (sem := sm s hs) (srcw := w0 e he) (dstw := d0 s hs) () (credit_d0 s hs) (D := deliv c g5 g6 g7 s e hs he f0 f1 f2) (u := 0) (by decide)) $$ [HB HO]
  · isplitl [HB] <;> iassumption
  iintro ⟨HB, HO⟩
  iapply (Transfers.wp_waitBatch EC 𝒱₀ (c : Thread nD τ) none (sem := sm s hs) (srcw := w1 e he) (dstw := d1 s hs) () (credit_d1 s hs) (D := deliv c g5 g6 g7 s e hs he f0 f1 f2) (u := 0 + NU) (by decide)) $$ [HB HO]
  · isplitl [HB] <;> iassumption
  iintro ⟨HB, HO⟩
  iapply (Transfers.wp_waitBatchLast EC 𝒱₀ (c : Thread nD τ) none (sem := sm s hs) (srcw := w2 e he) (dstw := d2 s hs) () (credit_d2 s hs) (by decide) (D := deliv c g5 g6 g7 s e hs he f0 f1 f2) (u := 0 + NU + NU) (by decide)) $$ [HB HO]
  · isplitl [HB] <;> iassumption
  iintro ⟨HD, X, HO⟩
  ihave HD := (show bigSep Finset.univ (deliv c g5 g6 g7 s e hs he f0 f1 f2) ⊢ iprop(deliv c g5 g6 g7 s e hs he f0 f1 f2 0 ∗ deliv c g5 g6 g7 s e hs he f0 f1 f2 1 ∗ deliv c g5 g6 g7 s e hs he f0 f1 f2 2) from by
    rw [bigSep_univ_eq_bigSepL [(0 : Fin 3), (1 : Fin 3), (2 : Fin 3)] (by decide) (by decide) (deliv c g5 g6 g7 s e hs he f0 f1 f2)]; exact .rfl) $$ HD
  unfold deliv
  icases HD with ⟨⟨S0, W5⟩, ⟨S1, W6⟩, S2, W7⟩
  ihave W5 := (split5 c g5 e he).2 $$ [W5 R5]
  · isplitl [W5] <;> iassumption
  ihave W6 := (split6 c g6 e he).2 $$ [W6 R6]
  · isplitl [W6] <;> iassumption
  ihave W7 := (split7 c g7 e he).2 $$ [W7 R7]
  · isplitl [W7] <;> iassumption
  ihave X := (sems_split (F := F) c s hs).2 $$ [X Xo]
  · isplitl [X] <;> iassumption
  icases X with ⟨X4, X5⟩
  iapply Hk
  isplitr [HO]; swap; · iexists _; iexact HO
  isplitl [S0]
  · iapply (landed_owns c cc0_scratch0 (P := fun f => (d0 s hs).view.read (Elt F) f = (w0 e he).view.read (Elt F) g5) _ (View.read_write_univ _ _)) $$ S0
  isplitl [S1]
  · iapply (landed_owns c cc0_scratch1 (P := fun f => (d1 s hs).view.read (Elt F) f = (w1 e he).view.read (Elt F) g6) _ (View.read_write_univ _ _)) $$ S1
  isplitl [S2]
  · iapply (landed_owns c cc0_scratch2 (P := fun f => (d2 s hs).view.read (Elt F) f = (w2 e he).view.read (Elt F) g7) _ (View.read_write_univ _ _)) $$ S2
  isplitl [W5]; · iexact W5
  isplitl [W6]; · iexact W6
  isplitl [W7]; · iexact W7
  isplitl [X4] <;> iassumption

end Cert.Proof.H

end
-- ==== Proof.H.Body.lean ====
/-
  The run of the routed experts' body at a grid point, by cases: a point past the number of blocks in use; one that goes on
  with the expert of the point before; the first point of an expert, whose weights are in flight; the first point of all.
-/
module

public import proofs.«01_k».proof.Proof.Gen.Kernel8Ideal.Skeleton
public import proofs.«01_k».proof.Proof.Gen.Kernel8Ideal.Launch
public import proofs.«01_k».proof.Proof.H.Copies
public import Idealize.ShloMosaic.Lib.VecWindow
public import Idealize.ShloMosaic.Lib.WholeRead
public import Idealize.ShloMosaic.Lib.Tactic
public import Idealize.ShloMosaic.Lib.Exec
public import Idealize.ShloMosaic.Lib.Batch
public import Idealize.ShloMosaic.Lib.Pipeline.Kit

@[expose] public section

set_option maxRecDepth 65536

noncomputable section

namespace Cert.Proof.H

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

local notation "EC" => countersEmb (U := Pipeline.UD sig nD τ)

section
variable (c : Dev nD)

/-- The word that a load of one of a table's words at offset `o` reads. -/
abbrev wd (m : Memref sig .tc .smem S200 .i32) (t : Buf (Elt F) (m.view.loc (c : Thread nD τ))) (o : Fin 1 → ℕ) (h : ∀ a, o a + S1.size a ≤ S200.size a) : BitVec 32 :=
  View.readAt (Elt F) m.view (Rect.unit (s := S200) o S1.size h).toLoadRect t (Shape.Idx.first (show 0 < S1.numel from by decide))
/-- The number of blocks in use, as the body loads it. -/
abbrev wn (t : Buf (Elt F) ((Memref.whole main_arg1).view.loc (c : Thread nD τ))) : BitVec 32 :=
  View.readAt (Elt F) (Memref.whole main_arg1).view (Rect.unit (s := S1) ![0] S1.size inb_S1_S1_0).toLoadRect t (Shape.Idx.first (show 0 < S1.numel from by decide))

variable (t0 : Buf (Elt F) ((Memref.whole main_arg0).view.loc (c : Thread nD τ))) (t1 : Buf (Elt F) ((Memref.whole main_arg1).view.loc (c : Thread nD τ))) (t2 : Buf (Elt F) ((Memref.whole main_arg2).view.loc (c : Thread nD τ))) (t3 : Buf (Elt F) ((Memref.whole main_arg3).view.loc (c : Thread nD τ)))

/-- The four tables, as the body holds them. -/
def Tabs : sProp 𝕄 := iprop((((Memref.whole main_arg0).view.loc (c : Thread nD τ)) ↦{fullShare.right} t0) ∗ (((Memref.whole main_arg1).view.loc (c : Thread nD τ)) ↦{fullShare.right} t1) ∗ (((Memref.whole main_arg2).view.loc (c : Thread nD τ)) ↦{fullShare.right} t2) ∗ (((Memref.whole main_arg3).view.loc (c : Thread nD τ)) ↦{fullShare.right} t3))

/-- The rounded weights that the points of an expert multiply by. -/
def Cast (w1 w2 : Vec F S2048x512 .bf16) (w3 : Vec F S512x2048 .bf16) : sProp 𝕄 :=
  iprop(owns (c : Thread nD τ) (Memref.whole cc0_scratch3) fullShare w1 ∗ owns (c : Thread nD τ) (Memref.whole cc0_scratch4) fullShare w2 ∗ owns (c : Thread nD τ) (Memref.whole cc0_scratch5) fullShare w3)

theorem hz : (![0, 0] : Fin 2 → ℕ) = fun _ => 0 := by funext a; fin_cases a <;> rfl

/-- A load through a whole memref that holds `X` reads `X` through the load's rectangle. -/
theorem ld_unread {Val : EltTy → Type} {sp : Space} {s : Shape} {e : EltTy} {a : Memref sig .tc sp s e} (h : a.IsWhole) (X : s.Idx → Val e) (R : Rect s) :
    View.readAt Val a.view R.toLoadRect (h.unread X) = View.ld X R := funext fun x => h.readAt_unread X _ x

theorem ldx (X : Vec F S512x2048 .bf16) : View.ld X (Rect.unit (s := S512x2048) ![0, 0] ![512, 2048] inb_S512x2048_S512x2048_0_0) = X :=
  View.ld_unit_zero hz _ X
theorem ldw (X : Vec F S2048x512 .bf16) : View.ld X (Rect.unit (s := S2048x512) ![0, 0] ![2048, 512] inb_S2048x512_S2048x512_0_0) = X :=
  View.ld_unit_zero hz _ X

theorem ldS3 (y : Vec F S2048x512 .bf16) : View.readAt (Elt F) (View.whole cc0_scratch3) (Rect.unit (s := S2048x512) ![0, 0] ![2048, 512] inb_S2048x512_S2048x512_0_0).toLoadRect ((Memref.isWhole_whole cc0_scratch3).unread y) = y :=
  (ld_unread (Memref.isWhole_whole cc0_scratch3) y _).trans (ldw y)
theorem ldS4 (y : Vec F S2048x512 .bf16) : View.readAt (Elt F) (View.whole cc0_scratch4) (Rect.unit (s := S2048x512) ![0, 0] ![2048, 512] inb_S2048x512_S2048x512_0_0).toLoadRect ((Memref.isWhole_whole cc0_scratch4).unread y) = y :=
  (ld_unread (Memref.isWhole_whole cc0_scratch4) y _).trans (ldw y)
theorem ldS5 (y : Vec F S512x2048 .bf16) : View.readAt (Elt F) (View.whole cc0_scratch5) (Rect.unit (s := S512x2048) ![0, 0] ![512, 2048] inb_S512x2048_S512x2048_0_0).toLoadRect ((Memref.isWhole_whole cc0_scratch5).unread y) = y :=
  (ld_unread (Memref.isWhole_whole cc0_scratch5) y _).trans (ldx y)

variable (i : grid0.Coords) (arg5 : Memref sig .tc .vmem S512x2048 .bf16) (harg5 : arg5.IsWhole) (arg9 : Memref sig .tc .vmem S512x2048 .bf16) (harg9 : arg9.IsWhole)

section
variable (g5 : Buf (Elt F) ((c : Thread nD τ).loc main_arg5)) (g6 : Buf (Elt F) ((c : Thread nD τ).loc main_arg6)) (g7 : Buf (Elt F) ((c : Thread nD τ).loc main_arg7))
/-- An expert's weights, rounded to bf16. -/
def W1 (e : BitVec 32) (he : e.toNat < 64) : FVec F S2048x512 .bf16 := truncf .bf16 (show FVec F S2048x512 .f32 from (w0 e he).view.read (Elt F) g5) bitsLt_bf16_f32
def W2 (e : BitVec 32) (he : e.toNat < 64) : FVec F S2048x512 .bf16 := truncf .bf16 (show FVec F S2048x512 .f32 from (w1 e he).view.read (Elt F) g6) bitsLt_bf16_f32
def W3 (e : BitVec 32) (he : e.toNat < 64) : FVec F S512x2048 .bf16 := truncf .bf16 (show FVec F S512x2048 .f32 from (w2 e he).view.read (Elt F) g7) bitsLt_bf16_f32

/-- A landed slot, loaded and rounded, is the expert's rounded weights. -/
theorem pay_W1 (s e : BitVec 32) (hs : s.toNat < 2) (he : e.toNat < 64) (f0 : Buf (Elt F) ((c : Thread nD τ).loc cc0_scratch0)) (o : Fin 3 → ℕ) (ho : o = oS s) (h)
    (hf : (d0 s hs).view.read (Elt F) f0 = (w0 e he).view.read (Elt F) g5) :
    k0_pay5 (View.readAt (Elt F) (Memref.whole cc0_scratch0).view (Rect.unit (s := S2x2048x512) o S1x2048x512.size h).toLoadRect f0) = W1 c g5 e he := by
  subst ho
  unfold W1; rw [← hf]; simp only [k0_pay5, shapeCast_self]; rfl
theorem pay_W2 (s e : BitVec 32) (hs : s.toNat < 2) (he : e.toNat < 64) (f0 : Buf (Elt F) ((c : Thread nD τ).loc cc0_scratch1)) (o : Fin 3 → ℕ) (ho : o = oS s) (h)
    (hf : (d1 s hs).view.read (Elt F) f0 = (w1 e he).view.read (Elt F) g6) :
    k0_pay1 (k0_pay6 (View.readAt (Elt F) (Memref.whole cc0_scratch1).view (Rect.unit (s := S2x2048x512) o S1x2048x512.size h).toLoadRect f0)) = W2 c g6 e he := by
  subst ho
  unfold W2; rw [← hf]; simp only [k0_pay1, k0_pay6, shapeCast_self]; rfl
theorem pay_W3 (s e : BitVec 32) (hs : s.toNat < 2) (he : e.toNat < 64) (f0 : Buf (Elt F) ((c : Thread nD τ).loc cc0_scratch2)) (o : Fin 3 → ℕ) (ho : o = oS s) (h)
    (hf : (d2 s hs).view.read (Elt F) f0 = (w2 e he).view.read (Elt F) g7) :
    k0_pay2 (View.readAt (Elt F) (Memref.whole cc0_scratch2).view (Rect.unit (s := S2x512x2048) o S1x512x2048.size h).toLoadRect f0) = W3 c g7 e he := by
  subst ho
  unfold W3; rw [← hf]; simp only [k0_pay2, shapeCast_self]; rfl

end

set_option maxHeartbeats 400000 in
/-- At a point past the blocks in use: a block of zeros. -/
theorem runZ (h1 : ¬ k0_cond1 i (wn c t1) = 1#1) (h2 : ¬ k0_cond2 i (wn c t1) (wd c (Memref.whole main_arg0) t0 (k0_off1 i) (k0_off1_inb i)) (wd c (Memref.whole main_arg0) t0 (k0_off2 i) (k0_off2_inb i)) = 1#1)
    (h4 : ¬ k0_cond4 i (wn c t1) = 1#1) (h5 : k0_cond5 i (wn c t1) = 1#1)
    (x : Vec F S512x2048 .bf16) (K : PUnit → sProp 𝕄) :
    iprop(Tabs c t0 t1 t2 t3 ∗ owns (c : Thread nD τ) arg5 fullShare x ∗ (∃ d, owns (c : Thread nD τ) arg9 fullShare d)
      ∗ (iprop(Tabs c t0 t1 t2 t3 ∗ owns (c : Thread nD τ) arg5 fullShare x ∗ owns (c : Thread nD τ) arg9 fullShare (k0_pay4 (F := F))) -∗ K ⟨⟩))
       ⊢ wp frame (wpE (defs₀ (F := F)) 𝒱₀ c none) Set.univ (cc0_experts i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_arg5) (Memref.isWhole_whole _) (Memref.whole main_arg6) (Memref.isWhole_whole _) (Memref.whole main_arg7) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  unfold Tabs owns
  iintro ⟨⟨T0, T1, T2, T3⟩, ⟨%f5, %hf5, H5⟩, ⟨%d9, %f9, -, H9⟩, Hk⟩
  obtain rfl := harg5.eq_unread hf5
  sl_unfold [cc0_experts]
  sl_exec (disch := first | (with_reducible refine (?_ : ¬ k0_cond1 _ _ = 1#1); exact h1) | (with_reducible refine (?_ : ¬ k0_cond2 _ _ _ _ = 1#1); exact h2) | (with_reducible refine (?_ : ¬ k0_cond4 _ _ = 1#1); exact h4) | (with_reducible refine (?_ : k0_cond5 _ _ = 1#1); exact h5) | (with_reducible refine (?_ : k0_cond4 _ _ = 1#1); exact h4) | (with_reducible refine (?_ : ¬ k0_cond5 _ _ = 1#1); exact h5))
  sl_step
  iapply Hk
  isplitl [T0 T1 T2 T3]
  · isplitl [T0]; · iexact T0
    isplitl [T1]; · iexact T1
    isplitl [T2]; · iexact T2
    iexact T3
  isplitl [H5]
  · iexists _; isplitr; · ipureintro; exact hf5
    iexact H5
  iexists _; isplitr; swap; · iexact H9
  ipureintro; exact View.read_writes_full _ _ _ _ _

set_option maxHeartbeats 400000 in
/-- At a point that goes on with the expert before: the block's result at the rounded weights held. -/
theorem runC (h1 : ¬ k0_cond1 i (wn c t1) = 1#1) (h2 : ¬ k0_cond2 i (wn c t1) (wd c (Memref.whole main_arg0) t0 (k0_off1 i) (k0_off1_inb i)) (wd c (Memref.whole main_arg0) t0 (k0_off2 i) (k0_off2_inb i)) = 1#1)
    (h4 : k0_cond4 i (wn c t1) = 1#1) (h5 : ¬ k0_cond5 i (wn c t1) = 1#1)
    (x : Vec F S512x2048 .bf16) (y1 y2 : Vec F S2048x512 .bf16) (y3 : Vec F S512x2048 .bf16) (K : PUnit → sProp 𝕄) :
    iprop(Tabs c t0 t1 t2 t3 ∗ Cast c y1 y2 y3 ∗ owns (c : Thread nD τ) arg5 fullShare x ∗ (∃ d, owns (c : Thread nD τ) arg9 fullShare d)
      ∗ (iprop(Tabs c t0 t1 t2 t3 ∗ Cast c y1 y2 y3 ∗ owns (c : Thread nD τ) arg5 fullShare x ∗ owns (c : Thread nD τ) arg9 fullShare (k0_pay3 x y1 y2 y3)) -∗ K ⟨⟩))
       ⊢ wp frame (wpE (defs₀ (F := F)) 𝒱₀ c none) Set.univ (cc0_experts i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_arg5) (Memref.isWhole_whole _) (Memref.whole main_arg6) (Memref.isWhole_whole _) (Memref.whole main_arg7) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  unfold Tabs Cast owns
  iintro ⟨⟨T0, T1, T2, T3⟩, ⟨⟨%e3, %he3, S3⟩, ⟨%e4, %he4, S4⟩, %e5, %he5, S5⟩, ⟨%f5, %hf5, H5⟩, ⟨%d9, %f9, -, H9⟩, Hk⟩
  obtain rfl := harg5.eq_unread hf5
  obtain rfl := (Memref.isWhole_whole cc0_scratch3).eq_unread he3
  obtain rfl := (Memref.isWhole_whole cc0_scratch4).eq_unread he4
  obtain rfl := (Memref.isWhole_whole cc0_scratch5).eq_unread he5
  sl_unfold [cc0_experts]
  sl_exec (disch := first | (with_reducible refine (?_ : ¬ k0_cond1 _ _ = 1#1); exact h1) | (with_reducible refine (?_ : ¬ k0_cond2 _ _ _ _ = 1#1); exact h2) | (with_reducible refine (?_ : ¬ k0_cond4 _ _ = 1#1); exact h4) | (with_reducible refine (?_ : k0_cond5 _ _ = 1#1); exact h5) | (with_reducible refine (?_ : k0_cond4 _ _ = 1#1); exact h4) | (with_reducible refine (?_ : ¬ k0_cond5 _ _ = 1#1); exact h5))
  sl_step
  iapply Hk
  isplitl [T0 T1 T2 T3]
  · isplitl [T0]; · iexact T0
    isplitl [T1]; · iexact T1
    isplitl [T2]; · iexact T2
    iexact T3
  isplitl [S3 S4 S5]
  · isplitl [S3]
    · iexists _; isplitr; · ipureintro; exact he3
      iexact S3
    isplitl [S4]
    · iexists _; isplitr; · ipureintro; exact he4
      iexact S4
    iexists _; isplitr; · ipureintro; exact he5
    iexact S5
  isplitl [H5]
  · iexists _; isplitr; · ipureintro; exact hf5
    iexact H5
  iexists _; isplitr; swap; · iexact H9
  ipureintro; refine (View.read_writes_full _ _ _ _ _).trans ?_
  simp only [ldx, ldw, ldS3, ldS4, ldS5, ld_unread]

/-- The transfers in flight, under equal words. -/
theorem Pend_congr (g5 : Buf (Elt F) ((c : Thread nD τ).loc main_arg5)) (g6 : Buf (Elt F) ((c : Thread nD τ).loc main_arg6)) (g7 : Buf (Elt F) ((c : Thread nD τ).loc main_arg7)) {s e s' e' : BitVec 32} (h : s = s') (h' : e = e') (hs : s.toNat < 2) (he : e.toNat < 64) (hs' : s'.toNat < 2) (he' : e'.toNat < 64) :
    Pend c g5 g6 g7 s e hs he ⊢ Pend c g5 g6 g7 s' e' hs' he' := by subst h; subst h'; exact .rfl

/-- A load of what one store left reads what was stored. -/
theorem cov2 (b : Memref sig .tc .vmem S2048x512 .bf16) (y : Vec F S2048x512 .bf16) : b.view.readCov [⟨Rect.unit (s := S2048x512) ![0, 0] S2048x512.size inb_S2048x512_S2048x512_0_0, y⟩]
    (Rect.unit (s := S2048x512) ![0, 0] S2048x512.size inb_S2048x512_S2048x512_0_0).toLoadRect = y := View.readCov_unit_zero _ hz _ y
theorem cov5 (b : Memref sig .tc .vmem S512x2048 .bf16) (y : Vec F S512x2048 .bf16) : b.view.readCov [⟨Rect.unit (s := S512x2048) ![0, 0] S512x2048.size inb_S512x2048_S512x2048_0_0, y⟩]
    (Rect.unit (s := S512x2048) ![0, 0] S512x2048.size inb_S512x2048_S512x2048_0_0).toLoadRect = y := View.readCov_unit_zero _ hz _ y
omit [FloatOps F] in
theorem ldA (x : Vec F S512x2048 .bf16) {arg5 : Memref sig .tc .vmem S512x2048 .bf16} (harg5 : arg5.IsWhole) : View.readAt (Elt F) arg5.view (Rect.unit (s := S512x2048) ![0, 0] S512x2048.size inb_S512x2048_S512x2048_0_0).toLoadRect (harg5.unread x) = x :=
  (ld_unread harg5 x _).trans (View.ld_unit_zero hz _ x)

set_option maxHeartbeats 400000 in
/-- At an expert's first point, the next expert's weights started. -/
theorem runF (g5 : Buf (Elt F) ((c : Thread nD τ).loc main_arg5)) (g6 : Buf (Elt F) ((c : Thread nD τ).loc main_arg6)) (g7 : Buf (Elt F) ((c : Thread nD τ).loc main_arg7)) (h1 : ¬ k0_cond1 i (wn c t1) = 1#1) (h2 : k0_cond2 i (wn c t1) (wd c (Memref.whole main_arg0) t0 (k0_off1 i) (k0_off1_inb i)) (wd c (Memref.whole main_arg0) t0 (k0_off2 i) (k0_off2_inb i)) = 1#1)
    (hs : (wd c (Memref.whole main_arg2) t2 (k0_off10 i) (k0_off10_inb i)).toNat < 2) (he : (wd c (Memref.whole main_arg0) t0 (k0_off10 i) (k0_off10_inb i)).toNat < 64) (hs' : (1#32 - (wd c (Memref.whole main_arg2) t2 (k0_off10 i) (k0_off10_inb i))).toNat < 2) (hn : (wd c (Memref.whole main_arg3) t3 (k0_off21 i) (k0_off21_inb i)).toNat < 64)
    (hw3 : k0_chk3 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i))) (hw4 : k0_chk4 i (wn c t1) (wd c (Memref.whole main_arg0) t0 (k0_off1 i) (k0_off1_inb i)) (wd c (Memref.whole main_arg0) t0 (k0_off2 i) (k0_off2_inb i)) (wd c (Memref.whole main_arg0) t0 (k0_off10 i) (k0_off10_inb i))) (hw5 : k0_chk5 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i)) (wd c (Memref.whole main_arg3) t3 (k0_off20 i) (k0_off20_inb i))) (h3 : k0_cond3 (wd c (Memref.whole main_arg3) t3 (k0_off20 i) (k0_off20_inb i)) = 1#1) (hw6 : k0_chk6 i (wn c t1) (wd c (Memref.whole main_arg0) t0 (k0_off1 i) (k0_off1_inb i)) (wd c (Memref.whole main_arg0) t0 (k0_off2 i) (k0_off2_inb i)) (wd c (Memref.whole main_arg3) t3 (k0_off20 i) (k0_off20_inb i)) (wd c (Memref.whole main_arg3) t3 (k0_off21 i) (k0_off21_inb i)))
    (h4 : k0_cond4 i (wn c t1) = 1#1) (h5 : ¬ k0_cond5 i (wn c t1) = 1#1)
    (x : Vec F S512x2048 .bf16) (W : Waits sig Unit) (K : PUnit → sProp 𝕄) :
    iprop(Tabs c t0 t1 t2 t3 ∗ Pend c g5 g6 g7 (wd c (Memref.whole main_arg2) t2 (k0_off10 i) (k0_off10_inb i)) (wd c (Memref.whole main_arg0) t0 (k0_off10 i) (k0_off10_inb i)) hs he ∗ (∃ y1 y2 y3, Cast c y1 y2 y3) ∗ owes (c : Thread nD τ) 0 W ∗ owns (c : Thread nD τ) arg5 fullShare x ∗ (∃ d, owns (c : Thread nD τ) arg9 fullShare d)
      ∗ (iprop(Tabs c t0 t1 t2 t3 ∗ Pend c g5 g6 g7 (1#32 - (wd c (Memref.whole main_arg2) t2 (k0_off10 i) (k0_off10_inb i))) (wd c (Memref.whole main_arg3) t3 (k0_off21 i) (k0_off21_inb i)) hs' hn ∗ Cast c (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he) ∗ (∃ W, owes (c : Thread nD τ) 0 W) ∗ owns (c : Thread nD τ) arg5 fullShare x
          ∗ owns (c : Thread nD τ) arg9 fullShare (k0_pay3 x (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he))) -∗ K ⟨⟩))
       ⊢ wp frame (wpE (defs₀ (F := F)) 𝒱₀ c none) Set.univ (cc0_experts i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_arg5) (Memref.isWhole_whole _) (Memref.whole main_arg6) (Memref.isWhole_whole _) (Memref.whole main_arg7) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  unfold Tabs Cast owns
  iintro ⟨⟨T0, T1, T2, T3⟩, HP, ⟨%y1, %y2, %y3, ⟨%e3, -, S3⟩, ⟨%e4, -, S4⟩, %e5, -, S5⟩, Ho, ⟨%f5, %hf5, H5⟩, ⟨%d9, %f9, -, H9⟩, Hk⟩
  obtain rfl := harg5.eq_unread hf5
  sl_unfold [cc0_experts, k0_part1]
  sl_exec (disch := first | (with_reducible refine (?_ : ¬ k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : k0_cond3 _ = 1#1); exact h3) | (with_reducible refine (?_ : k0_chk6 _ _ _ _ _ _); exact hw6) | (with_reducible refine (?_ : k0_cond4 _ _ = 1#1); exact h4) | (with_reducible refine (?_ : ¬ k0_cond5 _ _ = 1#1); exact h5))
  iapply (wait3 c g5 g6 g7 _ _ hs he W) $$ [HP Ho]
  · isplitl [HP] <;> iassumption
  iintro ⟨HL, Ho⟩
  unfold Landed owns
  icases HL with ⟨⟨%X0, %r0, %f0, %q0, S0⟩, ⟨%X1, %r1, %f1, %q1, S1⟩, ⟨%X2, %r2, %f2, %q2, S2⟩, W5, W6, W7, X4, X5⟩
  obtain rfl := (Memref.isWhole_whole cc0_scratch0).eq_unread q0
  obtain rfl := (Memref.isWhole_whole cc0_scratch1).eq_unread q1
  obtain rfl := (Memref.isWhole_whole cc0_scratch2).eq_unread q2
  rw [retBind]
  sl_exec (disch := first | (with_reducible refine (?_ : ¬ k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : k0_cond3 _ = 1#1); exact h3) | (with_reducible refine (?_ : k0_chk6 _ _ _ _ _ _); exact hw6) | (with_reducible refine (?_ : k0_cond4 _ _ = 1#1); exact h4) | (with_reducible refine (?_ : ¬ k0_cond5 _ _ = 1#1); exact h5))
  ihave HI := (show iprop((((Memref.whole cc0_scratch0).view.loc (c : Thread nD τ)) ↦[(Memref.whole cc0_scratch0).view.set]{fullShare} (Memref.isWhole_whole cc0_scratch0).unread X0) ∗ (((Memref.whole cc0_scratch1).view.loc (c : Thread nD τ)) ↦[(Memref.whole cc0_scratch1).view.set]{fullShare} (Memref.isWhole_whole cc0_scratch1).unread X1) ∗ (((Memref.whole cc0_scratch2).view.loc (c : Thread nD τ)) ↦[(Memref.whole cc0_scratch2).view.set]{fullShare} (Memref.isWhole_whole cc0_scratch2).unread X2)
      ∗ (((c : Thread nD τ).loc main_arg5) ↦{fullShare} g5) ∗ (((c : Thread nD τ).loc main_arg6) ↦{fullShare} g6) ∗ (((c : Thread nD τ).loc main_arg7) ↦{fullShare} g7)
      ∗ semVal ((c : Thread nD τ), SemLoc.dma 4) 0 ∗ semVal ((c : Thread nD τ), SemLoc.dma 5) 0) ⊢ (Idle c g5 g6 g7 : sProp 𝕄) from by
    unfold Idle
    rw [(Memref.isWhole_whole cc0_scratch0).set_eq_univ, (Memref.isWhole_whole cc0_scratch1).set_eq_univ, (Memref.isWhole_whole cc0_scratch2).set_eq_univ]
    iintro ⟨S0, S1, S2, H⟩
    isplitl [S0]; · iexists _; iexact S0
    isplitl [S1]; · iexists _; iexact S1
    isplitl [S2]; · iexists _; iexact S2
    iexact H) $$ [S0 S1 S2 W5 W6 W7 X4 X5]
  · isplitl [S0]; · iexact S0
    isplitl [S1]; · iexact S1
    isplitl [S2]; · iexact S2
    isplitl [W5]; · iexact W5
    isplitl [W6]; · iexact W6
    isplitl [W7]; · iexact W7
    isplitl [X4] <;> iassumption
  iapply (issue3 c g5 g6 g7 _ _ hs' hn) $$ HI
  iintro HP
  rw [retBind]
  sl_exec (disch := first | (with_reducible refine (?_ : ¬ k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : k0_cond3 _ = 1#1); exact h3) | (with_reducible refine (?_ : k0_chk6 _ _ _ _ _ _); exact hw6) | (with_reducible refine (?_ : k0_cond4 _ _ = 1#1); exact h4) | (with_reducible refine (?_ : ¬ k0_cond5 _ _ = 1#1); exact h5))
  sl_step
  iapply Hk
  isplitl [T0 T1 T2 T3]
  · isplitl [T0]; · iexact T0
    isplitl [T1]; · iexact T1
    isplitl [T2]; · iexact T2
    iexact T3
  isplitl [HP]; · iexact HP
  isplitl [S3 S4 S5]
  · isplitl [S3]
    · iexists _; isplitr; swap; · iexact S3
      ipureintro; exact (View.read_writes_full _ _ _ _ _).trans (pay_W1 c g5 _ _ hs he _ _ rfl _ r0)
    isplitl [S4]
    · iexists _; isplitr; swap; · iexact S4
      ipureintro; exact (View.read_writes_full _ _ _ _ _).trans (pay_W2 c g6 _ _ hs he _ _ rfl _ r1)
    iexists _; isplitr; swap; · iexact S5
    ipureintro; exact (View.read_writes_full _ _ _ _ _).trans (pay_W3 c g7 _ _ hs he _ _ rfl _ r2)
  isplitl [Ho]; · iexact Ho
  isplitl [H5]
  · iexists _; isplitr; · ipureintro; exact hf5
    iexact H5
  iexists _; isplitr; swap; · iexact H9
  ipureintro
  refine (View.read_writes_full _ _ _ _ _).trans ?_
  exact congr (congr (congr (congrArg k0_pay3 (ldA x harg5)) ((cov2 _ _).trans (pay_W1 c g5 _ _ hs he _ _ rfl _ r0))) ((cov2 _ _).trans (pay_W2 c g6 _ _ hs he _ _ rfl _ r1))) ((cov5 _ _).trans (pay_W3 c g7 _ _ hs he _ _ rfl _ r2))

end

end Cert.Proof.H

end
-- ==== Proof.H.Words.lean ====
/-
  The tables' words at the grid's points: what the body's conditions say of them, the bounds that its transfers need, and
  what the precondition gives.
-/
module

public import proofs.«01_k».proof.Proof.H.Body
public import Idealize.ShloMosaic.Lib.WordCmp

@[expose] public section

set_option maxRecDepth 65536

noncomputable section

namespace Cert.Proof.H

open Cert.Kernel8Ideal Cert.Kernel8Ideal.Gen
open Idealize.ShloMosaic Idealize.ShloMosaic.TcCoe Idealize.ShloMosaic.Tactic

theorem bit_ne (b : BitVec 1) : Scalar.cmpi .ne (Scalar.extui b : BitVec 32) 0#32 = 1#1 ↔ b = 1#1 := by revert b; decide
theorem bit_and (a b : BitVec 1) : Scalar.andi a b = 1#1 ↔ a = 1#1 ∧ b = 1#1 := by revert a b; decide
theorem bit_or (a b : BitVec 1) : Scalar.ori a b = 1#1 ↔ a = 1#1 ∨ b = 1#1 := by revert a b; decide
theorem bit_not (a : BitVec 1) : Scalar.xori a 1#1 = 1#1 ↔ ¬ a = 1#1 := by revert a; decide
theorem cmp_eq (x y : BitVec 32) : Scalar.cmpi .eq x y = 1#1 ↔ x = y := by
  show IntOp.cmpi .eq x y = 1#1 ↔ _
  rw [WordCmp.cmpi_eq_eq, WordCmp.ofBool_decide_eq_one_iff]
theorem cmp_ne (x y : BitVec 32) : Scalar.cmpi .ne x y = 1#1 ↔ x ≠ y := by
  show IntOp.cmpi .ne x y = 1#1 ↔ _
  rw [WordCmp.cmpi_ne_eq, WordCmp.ofBool_decide_eq_one_iff]

theorem coord_val : ∀ t : Fin grid0.N, (grid0.coords t 0).val = t.val := by decide +kernel
theorem coord_lt (i : grid0.Coords) : (i 0).val < 200 := (i 0).isLt

theorem cmp_lt (i : grid0.Coords) (n : BitVec 32) (hn : n.toNat ≤ 200) : Scalar.cmpi .slt (BitVec.ofNat 32 (i 0).val) n = 1#1 ↔ (i 0).val < n.toNat := by
  have h := coord_lt i
  have e : (BitVec.ofNat 32 (i 0).val).toNat = (i 0).val := by rw [BitVec.toNat_ofNat]; omega
  show IntOp.cmpi .slt (BitVec.ofNat 32 (i 0).val) n = 1#1 ↔ _
  rw [WordCmp.cmpi_slt_eq, WordCmp.ofBool_decide_eq_one_iff, WordCmp.toInt_eq_toNat_of_lt_half (by rw [e]; omega), WordCmp.toInt_eq_toNat_of_lt_half (by omega), e]
  omega

theorem word_zero (i : grid0.Coords) : BitVec.ofNat 32 (i 0).val = 0#32 ↔ (i 0).val = 0 := by
  have h := coord_lt i
  constructor
  · intro e; have := congrArg BitVec.toNat e; rw [BitVec.toNat_ofNat] at this; simp at this; omega
  · intro e; rw [e]

theorem cond1_iff (i : grid0.Coords) (n : BitVec 32) (hn : n.toNat ≤ 200) : k0_cond1 i n = 1#1 ↔ (i 0).val < n.toNat ∧ (i 0).val = 0 := by
  unfold k0_cond1
  dsimp only
  rw [bit_ne, bit_and, cmp_lt i n hn, cmp_eq, word_zero]
theorem cond2_iff (i : grid0.Coords) (n v w : BitVec 32) (hn : n.toNat ≤ 200) : k0_cond2 i n v w = 1#1 ↔ (i 0).val < n.toNat ∧ ((i 0).val = 0 ∨ v ≠ w) := by
  unfold k0_cond2
  dsimp only
  rw [bit_ne, bit_and, bit_or, cmp_lt i n hn, cmp_eq, cmp_ne, word_zero]
theorem cond4_iff (i : grid0.Coords) (n : BitVec 32) (hn : n.toNat ≤ 200) : k0_cond4 i n = 1#1 ↔ (i 0).val < n.toNat := by
  unfold k0_cond4
  dsimp only
  rw [bit_ne, cmp_lt i n hn]
theorem cond5_iff (i : grid0.Coords) (n : BitVec 32) (hn : n.toNat ≤ 200) : k0_cond5 i n = 1#1 ↔ ¬ (i 0).val < n.toNat := by
  unfold k0_cond5
  dsimp only
  rw [bit_ne, bit_not, cmp_lt i n hn]
theorem cond45 (i : grid0.Coords) (n : BitVec 32) : (!(k0_cond4 i n == 1#1) && !(k0_cond5 i n == 1#1)) = false := by
  have h : ∀ a : BitVec 1, (!(Scalar.cmpi .ne (Scalar.extui a : BitVec 32) 0#32 == 1#1) && !(Scalar.cmpi .ne (Scalar.extui (Scalar.xori a 1#1) : BitVec 32) 0#32 == 1#1)) = false := by decide
  exact h _

theorem chk1 (i : grid0.Coords) (n s : BitVec 32) (hs : s.toNat < 2) : k0_chk1 i n s :=
  ⟨fun _ => oM_inb hs, fun _ => oS_inb hs, fun _ => oM_inb hs, fun _ => oS_inb hs, fun _ => oS_inb' hs⟩
theorem chk2 (i : grid0.Coords) (n e : BitVec 32) (he : e.toNat < 64) : k0_chk2 i n e := ⟨fun _ => oE_inb he, fun _ => oE_inb' he⟩
theorem chk3 (i : grid0.Coords) (n v w s : BitVec 32) (hs : s.toNat < 2) : k0_chk3 i n v w s :=
  ⟨fun _ => oM_inb hs, fun _ => oS_inb hs, fun _ => oM_inb hs, fun _ => oS_inb hs, fun _ => oS_inb' hs, fun _ => oS_inb hs, fun _ => oS_inb' hs⟩
theorem chk4 (i : grid0.Coords) (n v w e : BitVec 32) (he : e.toNat < 64) : k0_chk4 i n v w e := ⟨fun _ => oE_inb he, fun _ => oE_inb' he⟩
theorem chk5 (i : grid0.Coords) (n v w s x : BitVec 32) (hs : (1#32 - s).toNat < 2) : k0_chk5 i n v w s x :=
  ⟨fun _ _ => oM_inb hs, fun _ _ => oS_inb hs, fun _ _ => oM_inb hs, fun _ _ => oS_inb hs, fun _ _ => oS_inb' hs⟩
theorem chk6 (i : grid0.Coords) (n v w x e : BitVec 32) (he : e.toNat < 64) : k0_chk6 i n v w x e := ⟨fun _ _ => oE_inb he, fun _ _ => oE_inb' he⟩

/-- What the precondition gives of the tables' words: `b` is a block's expert, `s` its expert's slot, `x` the expert after its
    own, and `n` the number of blocks in use. -/
structure Good (b s x : Fin grid0.N → BitVec 32) (n : BitVec 32) : Prop where
  hb : ∀ j, (b j).toNat < 64
  n1 : 1 ≤ n.toNat
  n2 : n.toNat ≤ 200
  hs : ∀ j, (s j).toNat < 2
  same : ∀ j k : Fin grid0.N, j.val + 1 = k.val → k.val < n.toNat → b k = b j → s k = s j ∧ x k = x j
  next : ∀ j k : Fin grid0.N, j.val + 1 = k.val → k.val < n.toNat → b k ≠ b j → s k = 1#32 - s j ∧ x j = b k
  last : ∀ j : Fin grid0.N, j.val + 1 = n.toNat → ¬ k0_cond3 (x j) = 1#1

theorem slot_not {s : BitVec 32} (h : s.toNat < 2) : (1#32 - s).toNat < 2 := by
  rw [BitVec.toNat_sub]; simp; omega

theorem not_neg {x : BitVec 32} (h : x.toNat < 64) : k0_cond3 x = 1#1 := by
  unfold k0_cond3
  dsimp only
  rw [bit_ne]
  show IntOp.cmpi .sge x 0#32 = 1#1
  rw [WordCmp.cmpi_sge_eq, WordCmp.ofBool_decide_eq_one_iff, WordCmp.toInt_eq_toNat_of_lt_half (x := x) (by omega)]
  simp

variable {b s x : Fin grid0.N → BitVec 32} {n : BitVec 32}

/-- The expert after a block's own is an expert, where there is one. -/
theorem Good.hx (H : Good b s x n) : ∀ (d : ℕ) (j : Fin grid0.N), j.val + 1 + d = n.toNat → k0_cond3 (x j) = 1#1 → (x j).toNat < 64
  | 0, j, h, h3 => absurd h3 (H.last j h)
  | d + 1, j, h, h3 => by
    have hn := H.n2
    have hk : j.val + 1 < grid0.N := lt_of_lt_of_eq (show j.val + 1 < 200 by omega) N_0.symm
    by_cases e : b ⟨j.val + 1, hk⟩ = b j
    · have hx := (H.same j ⟨j.val + 1, hk⟩ rfl (by show j.val + 1 < _; omega) e).2
      rw [← hx] at h3 ⊢
      exact H.hx d ⟨j.val + 1, hk⟩ (by show j.val + 1 + 1 + d = _; omega) h3
    · rw [(H.next j ⟨j.val + 1, hk⟩ rfl (by show j.val + 1 < _; omega) e).2]
      exact H.hb _
theorem Good.hx' (H : Good b s x n) (j : Fin grid0.N) (h : j.val < n.toNat) (h3 : k0_cond3 (x j) = 1#1) : (x j).toNat < 64 :=
  H.hx (n.toNat - (j.val + 1)) j (by omega) h3

end Cert.Proof.H

end
-- ==== Proof.H.BodyLast.lean ====
/-
  The body's run at the first point of the last expert: nothing is started.
-/
module

public import proofs.«01_k».proof.Proof.Gen.Kernel8Ideal.Skeleton
public import proofs.«01_k».proof.Proof.Gen.Kernel8Ideal.Launch
public import proofs.«01_k».proof.Proof.H.Body
public import Idealize.ShloMosaic.Lib.VecWindow
public import Idealize.ShloMosaic.Lib.WholeRead
public import Idealize.ShloMosaic.Lib.Tactic
public import Idealize.ShloMosaic.Lib.Exec
public import Idealize.ShloMosaic.Lib.Batch
public import Idealize.ShloMosaic.Lib.Pipeline.Kit

@[expose] public section

set_option maxRecDepth 65536

noncomputable section

namespace Cert.Proof.H

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

local notation "EC" => countersEmb (U := Pipeline.UD sig nD τ)

section
variable (c : Dev nD)
variable (t0 : Buf (Elt F) ((Memref.whole main_arg0).view.loc (c : Thread nD τ))) (t1 : Buf (Elt F) ((Memref.whole main_arg1).view.loc (c : Thread nD τ))) (t2 : Buf (Elt F) ((Memref.whole main_arg2).view.loc (c : Thread nD τ))) (t3 : Buf (Elt F) ((Memref.whole main_arg3).view.loc (c : Thread nD τ)))
variable (i : grid0.Coords) (arg5 : Memref sig .tc .vmem S512x2048 .bf16) (harg5 : arg5.IsWhole) (arg9 : Memref sig .tc .vmem S512x2048 .bf16) (harg9 : arg9.IsWhole)

set_option maxHeartbeats 400000 in
/-- At the last expert's first point. -/
theorem runE (g5 : Buf (Elt F) ((c : Thread nD τ).loc main_arg5)) (g6 : Buf (Elt F) ((c : Thread nD τ).loc main_arg6)) (g7 : Buf (Elt F) ((c : Thread nD τ).loc main_arg7)) (h1 : ¬ k0_cond1 i (wn c t1) = 1#1) (h2 : k0_cond2 i (wn c t1) (wd c (Memref.whole main_arg0) t0 (k0_off1 i) (k0_off1_inb i)) (wd c (Memref.whole main_arg0) t0 (k0_off2 i) (k0_off2_inb i)) = 1#1)
    (hs : (wd c (Memref.whole main_arg2) t2 (k0_off10 i) (k0_off10_inb i)).toNat < 2) (he : (wd c (Memref.whole main_arg0) t0 (k0_off10 i) (k0_off10_inb i)).toNat < 64)
    (hw3 : k0_chk3 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i))) (hw4 : k0_chk4 i (wn c t1) (wd c (Memref.whole main_arg0) t0 (k0_off1 i) (k0_off1_inb i)) (wd c (Memref.whole main_arg0) t0 (k0_off2 i) (k0_off2_inb i)) (wd c (Memref.whole main_arg0) t0 (k0_off10 i) (k0_off10_inb i))) (hw5 : k0_chk5 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i)) (wd c (Memref.whole main_arg3) t3 (k0_off20 i) (k0_off20_inb i))) (h3 : ¬ k0_cond3 (wd c (Memref.whole main_arg3) t3 (k0_off20 i) (k0_off20_inb i)) = 1#1)
    (h4 : k0_cond4 i (wn c t1) = 1#1) (h5 : ¬ k0_cond5 i (wn c t1) = 1#1)
    (x : Vec F S512x2048 .bf16) (W : Waits sig Unit) (K : PUnit → sProp 𝕄) :
    iprop(Tabs c t0 t1 t2 t3 ∗ Pend c g5 g6 g7 (wd c (Memref.whole main_arg2) t2 (k0_off10 i) (k0_off10_inb i)) (wd c (Memref.whole main_arg0) t0 (k0_off10 i) (k0_off10_inb i)) hs he ∗ (∃ y1 y2 y3, Cast c y1 y2 y3) ∗ owes (c : Thread nD τ) 0 W ∗ owns (c : Thread nD τ) arg5 fullShare x ∗ (∃ d, owns (c : Thread nD τ) arg9 fullShare d)
      ∗ (iprop(Tabs c t0 t1 t2 t3 ∗ Idle c g5 g6 g7 ∗ Cast c (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he) ∗ (∃ W, owes (c : Thread nD τ) 0 W) ∗ owns (c : Thread nD τ) arg5 fullShare x
          ∗ owns (c : Thread nD τ) arg9 fullShare (k0_pay3 x (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he))) -∗ K ⟨⟩))
       ⊢ wp frame (wpE (defs₀ (F := F)) 𝒱₀ c none) Set.univ (cc0_experts i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_arg5) (Memref.isWhole_whole _) (Memref.whole main_arg6) (Memref.isWhole_whole _) (Memref.whole main_arg7) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  unfold Tabs Cast owns
  iintro ⟨⟨T0, T1, T2, T3⟩, HP, ⟨%y1, %y2, %y3, ⟨%e3, -, S3⟩, ⟨%e4, -, S4⟩, %e5, -, S5⟩, Ho, ⟨%f5, %hf5, H5⟩, ⟨%d9, %f9, -, H9⟩, Hk⟩
  obtain rfl := harg5.eq_unread hf5
  sl_unfold [cc0_experts, k0_part1]
  sl_exec (disch := first | (with_reducible refine (?_ : ¬ k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : ¬ k0_cond3 _ = 1#1); exact h3) | (with_reducible refine (?_ : k0_cond4 _ _ = 1#1); exact h4) | (with_reducible refine (?_ : ¬ k0_cond5 _ _ = 1#1); exact h5))
  iapply (wait3 c g5 g6 g7 _ _ hs he W) $$ [HP Ho]
  · isplitl [HP] <;> iassumption
  iintro ⟨HL, Ho⟩
  unfold Landed owns
  icases HL with ⟨⟨%X0, %r0, %f0, %q0, S0⟩, ⟨%X1, %r1, %f1, %q1, S1⟩, ⟨%X2, %r2, %f2, %q2, S2⟩, W5, W6, W7, X4, X5⟩
  obtain rfl := (Memref.isWhole_whole cc0_scratch0).eq_unread q0
  obtain rfl := (Memref.isWhole_whole cc0_scratch1).eq_unread q1
  obtain rfl := (Memref.isWhole_whole cc0_scratch2).eq_unread q2
  rw [retBind]
  sl_exec (disch := first | (with_reducible refine (?_ : ¬ k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : ¬ k0_cond3 _ = 1#1); exact h3) | (with_reducible refine (?_ : k0_cond4 _ _ = 1#1); exact h4) | (with_reducible refine (?_ : ¬ k0_cond5 _ _ = 1#1); exact h5))
  ihave HI := (show iprop((((Memref.whole cc0_scratch0).view.loc (c : Thread nD τ)) ↦[(Memref.whole cc0_scratch0).view.set]{fullShare} (Memref.isWhole_whole cc0_scratch0).unread X0) ∗ (((Memref.whole cc0_scratch1).view.loc (c : Thread nD τ)) ↦[(Memref.whole cc0_scratch1).view.set]{fullShare} (Memref.isWhole_whole cc0_scratch1).unread X1) ∗ (((Memref.whole cc0_scratch2).view.loc (c : Thread nD τ)) ↦[(Memref.whole cc0_scratch2).view.set]{fullShare} (Memref.isWhole_whole cc0_scratch2).unread X2)
      ∗ (((c : Thread nD τ).loc main_arg5) ↦{fullShare} g5) ∗ (((c : Thread nD τ).loc main_arg6) ↦{fullShare} g6) ∗ (((c : Thread nD τ).loc main_arg7) ↦{fullShare} g7)
      ∗ semVal ((c : Thread nD τ), SemLoc.dma 4) 0 ∗ semVal ((c : Thread nD τ), SemLoc.dma 5) 0) ⊢ (Idle c g5 g6 g7 : sProp 𝕄) from by
    unfold Idle
    rw [(Memref.isWhole_whole cc0_scratch0).set_eq_univ, (Memref.isWhole_whole cc0_scratch1).set_eq_univ, (Memref.isWhole_whole cc0_scratch2).set_eq_univ]
    iintro ⟨S0, S1, S2, H⟩
    isplitl [S0]; · iexists _; iexact S0
    isplitl [S1]; · iexists _; iexact S1
    isplitl [S2]; · iexists _; iexact S2
    iexact H) $$ [S0 S1 S2 W5 W6 W7 X4 X5]
  · isplitl [S0]; · iexact S0
    isplitl [S1]; · iexact S1
    isplitl [S2]; · iexact S2
    isplitl [W5]; · iexact W5
    isplitl [W6]; · iexact W6
    isplitl [W7]; · iexact W7
    isplitl [X4] <;> iassumption
  sl_step
  iapply Hk
  isplitl [T0 T1 T2 T3]
  · isplitl [T0]; · iexact T0
    isplitl [T1]; · iexact T1
    isplitl [T2]; · iexact T2
    iexact T3
  isplitl [HI]; · iexact HI
  isplitl [S3 S4 S5]
  · isplitl [S3]
    · iexists _; isplitr; swap; · iexact S3
      ipureintro; exact (View.read_writes_full _ _ _ _ _).trans (pay_W1 c g5 _ _ hs he _ _ rfl _ r0)
    isplitl [S4]
    · iexists _; isplitr; swap; · iexact S4
      ipureintro; exact (View.read_writes_full _ _ _ _ _).trans (pay_W2 c g6 _ _ hs he _ _ rfl _ r1)
    iexists _; isplitr; swap; · iexact S5
    ipureintro; exact (View.read_writes_full _ _ _ _ _).trans (pay_W3 c g7 _ _ hs he _ _ rfl _ r2)
  isplitl [Ho]; · iexact Ho
  isplitl [H5]
  · iexists _; isplitr; · ipureintro; exact hf5
    iexact H5
  iexists _; isplitr; swap; · iexact H9
  ipureintro
  refine (View.read_writes_full _ _ _ _ _).trans ?_
  exact congr (congr (congr (congrArg k0_pay3 (ldA x harg5)) ((cov2 _ _).trans (pay_W1 c g5 _ _ hs he _ _ rfl _ r0))) ((cov2 _ _).trans (pay_W2 c g6 _ _ hs he _ _ rfl _ r1))) ((cov5 _ _).trans (pay_W3 c g7 _ _ hs he _ _ rfl _ r2))

end

end Cert.Proof.H

end
-- ==== Proof.H.BodyFirst.lean ====
/-
  The body's run at the first point of all, where another expert follows.
-/
module

public import proofs.«01_k».proof.Proof.Gen.Kernel8Ideal.Skeleton
public import proofs.«01_k».proof.Proof.Gen.Kernel8Ideal.Launch
public import proofs.«01_k».proof.Proof.H.Body
public import Idealize.ShloMosaic.Lib.VecWindow
public import Idealize.ShloMosaic.Lib.WholeRead
public import Idealize.ShloMosaic.Lib.Tactic
public import Idealize.ShloMosaic.Lib.Exec
public import Idealize.ShloMosaic.Lib.Batch
public import Idealize.ShloMosaic.Lib.Pipeline.Kit

@[expose] public section

set_option maxRecDepth 65536

noncomputable section

namespace Cert.Proof.H

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

local notation "EC" => countersEmb (U := Pipeline.UD sig nD τ)

section
variable (c : Dev nD)
variable (t0 : Buf (Elt F) ((Memref.whole main_arg0).view.loc (c : Thread nD τ))) (t1 : Buf (Elt F) ((Memref.whole main_arg1).view.loc (c : Thread nD τ))) (t2 : Buf (Elt F) ((Memref.whole main_arg2).view.loc (c : Thread nD τ))) (t3 : Buf (Elt F) ((Memref.whole main_arg3).view.loc (c : Thread nD τ)))
variable (i : grid0.Coords) (arg5 : Memref sig .tc .vmem S512x2048 .bf16) (harg5 : arg5.IsWhole) (arg9 : Memref sig .tc .vmem S512x2048 .bf16) (harg9 : arg9.IsWhole)

set_option maxHeartbeats 400000 in
/-- At the first point of all, the next expert's weights started. -/
theorem run0F (g5 : Buf (Elt F) ((c : Thread nD τ).loc main_arg5)) (g6 : Buf (Elt F) ((c : Thread nD τ).loc main_arg6)) (g7 : Buf (Elt F) ((c : Thread nD τ).loc main_arg7)) (h1 : k0_cond1 i (wn c t1) = 1#1) (eS : (wd c (Memref.whole main_arg2) t2 ![0] inb_S200_S1_0) = (wd c (Memref.whole main_arg2) t2 (k0_off10 i) (k0_off10_inb i))) (eE : (wd c (Memref.whole main_arg0) t0 ![0] inb_S200_S1_0) = (wd c (Memref.whole main_arg0) t0 (k0_off10 i) (k0_off10_inb i))) (hw1 : k0_chk1 i (wn c t1) (wd c (Memref.whole main_arg2) t2 ![0] inb_S200_S1_0)) (hw2 : k0_chk2 i (wn c t1) (wd c (Memref.whole main_arg0) t0 ![0] inb_S200_S1_0)) (h2 : k0_cond2 i (wn c t1) (wd c (Memref.whole main_arg0) t0 (k0_off1 i) (k0_off1_inb i)) (wd c (Memref.whole main_arg0) t0 (k0_off2 i) (k0_off2_inb i)) = 1#1)
    (hs : (wd c (Memref.whole main_arg2) t2 (k0_off10 i) (k0_off10_inb i)).toNat < 2) (he : (wd c (Memref.whole main_arg0) t0 (k0_off10 i) (k0_off10_inb i)).toNat < 64) (hs' : (1#32 - (wd c (Memref.whole main_arg2) t2 (k0_off10 i) (k0_off10_inb i))).toNat < 2) (hn : (wd c (Memref.whole main_arg3) t3 (k0_off21 i) (k0_off21_inb i)).toNat < 64)
    (hw3 : k0_chk3 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i))) (hw4 : k0_chk4 i (wn c t1) (wd c (Memref.whole main_arg0) t0 (k0_off1 i) (k0_off1_inb i)) (wd c (Memref.whole main_arg0) t0 (k0_off2 i) (k0_off2_inb i)) (wd c (Memref.whole main_arg0) t0 (k0_off10 i) (k0_off10_inb i))) (hw5 : k0_chk5 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i)) (wd c (Memref.whole main_arg3) t3 (k0_off20 i) (k0_off20_inb i))) (h3 : k0_cond3 (wd c (Memref.whole main_arg3) t3 (k0_off20 i) (k0_off20_inb i)) = 1#1) (hw6 : k0_chk6 i (wn c t1) (wd c (Memref.whole main_arg0) t0 (k0_off1 i) (k0_off1_inb i)) (wd c (Memref.whole main_arg0) t0 (k0_off2 i) (k0_off2_inb i)) (wd c (Memref.whole main_arg3) t3 (k0_off20 i) (k0_off20_inb i)) (wd c (Memref.whole main_arg3) t3 (k0_off21 i) (k0_off21_inb i)))
    (h4 : k0_cond4 i (wn c t1) = 1#1) (h5 : ¬ k0_cond5 i (wn c t1) = 1#1)
    (x : Vec F S512x2048 .bf16) (W : Waits sig Unit) (K : PUnit → sProp 𝕄) :
    iprop(Tabs c t0 t1 t2 t3 ∗ Idle c g5 g6 g7 ∗ (∃ y1 y2 y3, Cast c y1 y2 y3) ∗ owes (c : Thread nD τ) 0 W ∗ owns (c : Thread nD τ) arg5 fullShare x ∗ (∃ d, owns (c : Thread nD τ) arg9 fullShare d)
      ∗ (iprop(Tabs c t0 t1 t2 t3 ∗ Pend c g5 g6 g7 (1#32 - (wd c (Memref.whole main_arg2) t2 (k0_off10 i) (k0_off10_inb i))) (wd c (Memref.whole main_arg3) t3 (k0_off21 i) (k0_off21_inb i)) hs' hn ∗ Cast c (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he) ∗ (∃ W, owes (c : Thread nD τ) 0 W) ∗ owns (c : Thread nD τ) arg5 fullShare x
          ∗ owns (c : Thread nD τ) arg9 fullShare (k0_pay3 x (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he))) -∗ K ⟨⟩))
       ⊢ wp frame (wpE (defs₀ (F := F)) 𝒱₀ c none) Set.univ (cc0_experts i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_arg5) (Memref.isWhole_whole _) (Memref.whole main_arg6) (Memref.isWhole_whole _) (Memref.whole main_arg7) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  unfold Tabs Cast owns
  iintro ⟨⟨T0, T1, T2, T3⟩, HP, ⟨%y1, %y2, %y3, ⟨%e3, -, S3⟩, ⟨%e4, -, S4⟩, %e5, -, S5⟩, Ho, ⟨%f5, %hf5, H5⟩, ⟨%d9, %f9, -, H9⟩, Hk⟩
  obtain rfl := harg5.eq_unread hf5
  sl_unfold [cc0_experts, k0_part1]
  sl_exec (disch := first | (with_reducible refine (?_ : k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : k0_cond3 _ = 1#1); exact h3) | (with_reducible refine (?_ : k0_chk6 _ _ _ _ _ _); exact hw6) | (with_reducible refine (?_ : k0_chk1 _ _ _); exact hw1) | (with_reducible refine (?_ : k0_chk2 _ _ _); exact hw2) | (with_reducible refine (?_ : k0_cond4 _ _ = 1#1); exact h4) | (with_reducible refine (?_ : ¬ k0_cond5 _ _ = 1#1); exact h5))
  iapply (issue3 c g5 g6 g7 (wd c (Memref.whole main_arg2) t2 ![0] inb_S200_S1_0) (wd c (Memref.whole main_arg0) t0 ![0] inb_S200_S1_0) (eS ▸ hs) (eE ▸ he)) $$ HP
  iintro HP
  rw [retBind]
  sl_exec (disch := first | (with_reducible refine (?_ : k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : k0_cond3 _ = 1#1); exact h3) | (with_reducible refine (?_ : k0_chk6 _ _ _ _ _ _); exact hw6) | (with_reducible refine (?_ : k0_chk1 _ _ _); exact hw1) | (with_reducible refine (?_ : k0_chk2 _ _ _); exact hw2) | (with_reducible refine (?_ : k0_cond4 _ _ = 1#1); exact h4) | (with_reducible refine (?_ : ¬ k0_cond5 _ _ = 1#1); exact h5))
  ihave HP := (Pend_congr c g5 g6 g7 eS eE (eS ▸ hs) (eE ▸ he) hs he) $$ HP
  iapply (wait3 c g5 g6 g7 _ _ hs he W) $$ [HP Ho]
  · isplitl [HP] <;> iassumption
  iintro ⟨HL, Ho⟩
  unfold Landed owns
  icases HL with ⟨⟨%X0, %r0, %f0, %q0, S0⟩, ⟨%X1, %r1, %f1, %q1, S1⟩, ⟨%X2, %r2, %f2, %q2, S2⟩, W5, W6, W7, X4, X5⟩
  obtain rfl := (Memref.isWhole_whole cc0_scratch0).eq_unread q0
  obtain rfl := (Memref.isWhole_whole cc0_scratch1).eq_unread q1
  obtain rfl := (Memref.isWhole_whole cc0_scratch2).eq_unread q2
  rw [retBind]
  sl_exec (disch := first | (with_reducible refine (?_ : k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : k0_cond3 _ = 1#1); exact h3) | (with_reducible refine (?_ : k0_chk6 _ _ _ _ _ _); exact hw6) | (with_reducible refine (?_ : k0_chk1 _ _ _); exact hw1) | (with_reducible refine (?_ : k0_chk2 _ _ _); exact hw2) | (with_reducible refine (?_ : k0_cond4 _ _ = 1#1); exact h4) | (with_reducible refine (?_ : ¬ k0_cond5 _ _ = 1#1); exact h5))
  ihave HI := (show iprop((((Memref.whole cc0_scratch0).view.loc (c : Thread nD τ)) ↦[(Memref.whole cc0_scratch0).view.set]{fullShare} (Memref.isWhole_whole cc0_scratch0).unread X0) ∗ (((Memref.whole cc0_scratch1).view.loc (c : Thread nD τ)) ↦[(Memref.whole cc0_scratch1).view.set]{fullShare} (Memref.isWhole_whole cc0_scratch1).unread X1) ∗ (((Memref.whole cc0_scratch2).view.loc (c : Thread nD τ)) ↦[(Memref.whole cc0_scratch2).view.set]{fullShare} (Memref.isWhole_whole cc0_scratch2).unread X2)
      ∗ (((c : Thread nD τ).loc main_arg5) ↦{fullShare} g5) ∗ (((c : Thread nD τ).loc main_arg6) ↦{fullShare} g6) ∗ (((c : Thread nD τ).loc main_arg7) ↦{fullShare} g7)
      ∗ semVal ((c : Thread nD τ), SemLoc.dma 4) 0 ∗ semVal ((c : Thread nD τ), SemLoc.dma 5) 0) ⊢ (Idle c g5 g6 g7 : sProp 𝕄) from by
    unfold Idle
    rw [(Memref.isWhole_whole cc0_scratch0).set_eq_univ, (Memref.isWhole_whole cc0_scratch1).set_eq_univ, (Memref.isWhole_whole cc0_scratch2).set_eq_univ]
    iintro ⟨S0, S1, S2, H⟩
    isplitl [S0]; · iexists _; iexact S0
    isplitl [S1]; · iexists _; iexact S1
    isplitl [S2]; · iexists _; iexact S2
    iexact H) $$ [S0 S1 S2 W5 W6 W7 X4 X5]
  · isplitl [S0]; · iexact S0
    isplitl [S1]; · iexact S1
    isplitl [S2]; · iexact S2
    isplitl [W5]; · iexact W5
    isplitl [W6]; · iexact W6
    isplitl [W7]; · iexact W7
    isplitl [X4] <;> iassumption
  iapply (issue3 c g5 g6 g7 _ _ hs' hn) $$ HI
  iintro HP
  rw [retBind]
  sl_exec (disch := first | (with_reducible refine (?_ : k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : k0_cond3 _ = 1#1); exact h3) | (with_reducible refine (?_ : k0_chk6 _ _ _ _ _ _); exact hw6) | (with_reducible refine (?_ : k0_chk1 _ _ _); exact hw1) | (with_reducible refine (?_ : k0_chk2 _ _ _); exact hw2) | (with_reducible refine (?_ : k0_cond4 _ _ = 1#1); exact h4) | (with_reducible refine (?_ : ¬ k0_cond5 _ _ = 1#1); exact h5))
  sl_step
  iapply Hk
  isplitl [T0 T1 T2 T3]
  · isplitl [T0]; · iexact T0
    isplitl [T1]; · iexact T1
    isplitl [T2]; · iexact T2
    iexact T3
  isplitl [HP]; · iexact HP
  isplitl [S3 S4 S5]
  · isplitl [S3]
    · iexists _; isplitr; swap; · iexact S3
      ipureintro; exact (View.read_writes_full _ _ _ _ _).trans (pay_W1 c g5 _ _ hs he _ _ rfl _ r0)
    isplitl [S4]
    · iexists _; isplitr; swap; · iexact S4
      ipureintro; exact (View.read_writes_full _ _ _ _ _).trans (pay_W2 c g6 _ _ hs he _ _ rfl _ r1)
    iexists _; isplitr; swap; · iexact S5
    ipureintro; exact (View.read_writes_full _ _ _ _ _).trans (pay_W3 c g7 _ _ hs he _ _ rfl _ r2)
  isplitl [Ho]; · iexact Ho
  isplitl [H5]
  · iexists _; isplitr; · ipureintro; exact hf5
    iexact H5
  iexists _; isplitr; swap; · iexact H9
  ipureintro
  refine (View.read_writes_full _ _ _ _ _).trans ?_
  exact congr (congr (congr (congrArg k0_pay3 (ldA x harg5)) ((cov2 _ _).trans (pay_W1 c g5 _ _ hs he _ _ rfl _ r0))) ((cov2 _ _).trans (pay_W2 c g6 _ _ hs he _ _ rfl _ r1))) ((cov5 _ _).trans (pay_W3 c g7 _ _ hs he _ _ rfl _ r2))

end

end Cert.Proof.H

end
-- ==== Proof.H.BodyOnly.lean ====
/-
  The body's run at the first point of all, where one expert alone is used.
-/
module

public import proofs.«01_k».proof.Proof.Gen.Kernel8Ideal.Skeleton
public import proofs.«01_k».proof.Proof.Gen.Kernel8Ideal.Launch
public import proofs.«01_k».proof.Proof.H.Body
public import Idealize.ShloMosaic.Lib.VecWindow
public import Idealize.ShloMosaic.Lib.WholeRead
public import Idealize.ShloMosaic.Lib.Tactic
public import Idealize.ShloMosaic.Lib.Exec
public import Idealize.ShloMosaic.Lib.Batch
public import Idealize.ShloMosaic.Lib.Pipeline.Kit

@[expose] public section

set_option maxRecDepth 65536

noncomputable section

namespace Cert.Proof.H

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

local notation "EC" => countersEmb (U := Pipeline.UD sig nD τ)

section
variable (c : Dev nD)
variable (t0 : Buf (Elt F) ((Memref.whole main_arg0).view.loc (c : Thread nD τ))) (t1 : Buf (Elt F) ((Memref.whole main_arg1).view.loc (c : Thread nD τ))) (t2 : Buf (Elt F) ((Memref.whole main_arg2).view.loc (c : Thread nD τ))) (t3 : Buf (Elt F) ((Memref.whole main_arg3).view.loc (c : Thread nD τ)))
variable (i : grid0.Coords) (arg5 : Memref sig .tc .vmem S512x2048 .bf16) (harg5 : arg5.IsWhole) (arg9 : Memref sig .tc .vmem S512x2048 .bf16) (harg9 : arg9.IsWhole)

set_option maxHeartbeats 400000 in
/-- At the first point of all, where one expert alone is used. -/
theorem run0E (g5 : Buf (Elt F) ((c : Thread nD τ).loc main_arg5)) (g6 : Buf (Elt F) ((c : Thread nD τ).loc main_arg6)) (g7 : Buf (Elt F) ((c : Thread nD τ).loc main_arg7)) (h1 : k0_cond1 i (wn c t1) = 1#1) (eS : (wd c (Memref.whole main_arg2) t2 ![0] inb_S200_S1_0) = (wd c (Memref.whole main_arg2) t2 (k0_off10 i) (k0_off10_inb i))) (eE : (wd c (Memref.whole main_arg0) t0 ![0] inb_S200_S1_0) = (wd c (Memref.whole main_arg0) t0 (k0_off10 i) (k0_off10_inb i))) (hw1 : k0_chk1 i (wn c t1) (wd c (Memref.whole main_arg2) t2 ![0] inb_S200_S1_0)) (hw2 : k0_chk2 i (wn c t1) (wd c (Memref.whole main_arg0) t0 ![0] inb_S200_S1_0)) (h2 : k0_cond2 i (wn c t1) (wd c (Memref.whole main_arg0) t0 (k0_off1 i) (k0_off1_inb i)) (wd c (Memref.whole main_arg0) t0 (k0_off2 i) (k0_off2_inb i)) = 1#1)
    (hs : (wd c (Memref.whole main_arg2) t2 (k0_off10 i) (k0_off10_inb i)).toNat < 2) (he : (wd c (Memref.whole main_arg0) t0 (k0_off10 i) (k0_off10_inb i)).toNat < 64)
    (hw3 : k0_chk3 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i))) (hw4 : k0_chk4 i (wn c t1) (wd c (Memref.whole main_arg0) t0 (k0_off1 i) (k0_off1_inb i)) (wd c (Memref.whole main_arg0) t0 (k0_off2 i) (k0_off2_inb i)) (wd c (Memref.whole main_arg0) t0 (k0_off10 i) (k0_off10_inb i))) (hw5 : k0_chk5 i (wn c t1) (wd c (Memref.whole main_arg0) t0 (k0_off1 i) (k0_off1_inb i)) (wd c (Memref.whole main_arg0) t0 (k0_off2 i) (k0_off2_inb i)) (wd c (Memref.whole main_arg2) t2 (k0_off10 i) (k0_off10_inb i)) (wd c (Memref.whole main_arg3) t3 (k0_off20 i) (k0_off20_inb i))) (h3 : ¬ k0_cond3 (wd c (Memref.whole main_arg3) t3 (k0_off20 i) (k0_off20_inb i)) = 1#1)
    (h4 : k0_cond4 i (wn c t1) = 1#1) (h5 : ¬ k0_cond5 i (wn c t1) = 1#1)
    (x : Vec F S512x2048 .bf16) (W : Waits sig Unit) (K : PUnit → sProp 𝕄) :
    iprop(Tabs c t0 t1 t2 t3 ∗ Idle c g5 g6 g7 ∗ (∃ y1 y2 y3, Cast c y1 y2 y3) ∗ owes (c : Thread nD τ) 0 W ∗ owns (c : Thread nD τ) arg5 fullShare x ∗ (∃ d, owns (c : Thread nD τ) arg9 fullShare d)
      ∗ (iprop(Tabs c t0 t1 t2 t3 ∗ Idle c g5 g6 g7 ∗ Cast c (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he) ∗ (∃ W, owes (c : Thread nD τ) 0 W) ∗ owns (c : Thread nD τ) arg5 fullShare x
          ∗ owns (c : Thread nD τ) arg9 fullShare (k0_pay3 x (W1 c g5 (wd c (Memref.whole main_arg0) t0 (k0_off10 i) (k0_off10_inb i)) he) (W2 c g6 (wd c (Memref.whole main_arg0) t0 (k0_off10 i) (k0_off10_inb i)) he) (W3 c g7 (wd c (Memref.whole main_arg0) t0 (k0_off10 i) (k0_off10_inb i)) he))) -∗ K ⟨⟩))
       ⊢ wp frame (wpE (defs₀ (F := F)) 𝒱₀ c none) Set.univ (cc0_experts i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_arg5) (Memref.isWhole_whole _) (Memref.whole main_arg6) (Memref.isWhole_whole _) (Memref.whole main_arg7) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  unfold Tabs Cast owns
  iintro ⟨⟨T0, T1, T2, T3⟩, HP, ⟨%y1, %y2, %y3, ⟨%e3, -, S3⟩, ⟨%e4, -, S4⟩, %e5, -, S5⟩, Ho, ⟨%f5, %hf5, H5⟩, ⟨%d9, %f9, -, H9⟩, Hk⟩
  obtain rfl := harg5.eq_unread hf5
  sl_unfold [cc0_experts, k0_part1]
  sl_exec (disch := first | (with_reducible refine (?_ : k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : ¬ k0_cond3 _ = 1#1); exact h3) | (with_reducible refine (?_ : k0_chk1 _ _ _); exact hw1) | (with_reducible refine (?_ : k0_chk2 _ _ _); exact hw2) | (with_reducible refine (?_ : k0_cond4 _ _ = 1#1); exact h4) | (with_reducible refine (?_ : ¬ k0_cond5 _ _ = 1#1); exact h5))
  iapply (issue3 c g5 g6 g7 (wd c (Memref.whole main_arg2) t2 ![0] inb_S200_S1_0) (wd c (Memref.whole main_arg0) t0 ![0] inb_S200_S1_0) (eS ▸ hs) (eE ▸ he)) $$ HP
  iintro HP
  rw [retBind]
  sl_exec (disch := first | (with_reducible refine (?_ : k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : ¬ k0_cond3 _ = 1#1); exact h3) | (with_reducible refine (?_ : k0_chk1 _ _ _); exact hw1) | (with_reducible refine (?_ : k0_chk2 _ _ _); exact hw2) | (with_reducible refine (?_ : k0_cond4 _ _ = 1#1); exact h4) | (with_reducible refine (?_ : ¬ k0_cond5 _ _ = 1#1); exact h5))
  ihave HP := (Pend_congr c g5 g6 g7 eS eE (eS ▸ hs) (eE ▸ he) hs he) $$ HP
  iapply (wait3 c g5 g6 g7 _ _ hs he W) $$ [HP Ho]
  · isplitl [HP] <;> iassumption
  iintro ⟨HL, Ho⟩
  unfold Landed owns
  icases HL with ⟨⟨%X0, %r0, %f0, %q0, S0⟩, ⟨%X1, %r1, %f1, %q1, S1⟩, ⟨%X2, %r2, %f2, %q2, S2⟩, W5, W6, W7, X4, X5⟩
  obtain rfl := (Memref.isWhole_whole cc0_scratch0).eq_unread q0
  obtain rfl := (Memref.isWhole_whole cc0_scratch1).eq_unread q1
  obtain rfl := (Memref.isWhole_whole cc0_scratch2).eq_unread q2
  rw [retBind]
  sl_exec (disch := first | (with_reducible refine (?_ : k0_cond1 _ _ = 1#1); exact h1) | (with_reducible refine (?_ : k0_cond2 _ _ _ _ = 1#1); exact h2) | (with_reducible refine (?_ : k0_chk3 _ _ _ _ _); exact hw3) | (with_reducible refine (?_ : k0_chk4 _ _ _ _ _); exact hw4) | (with_reducible refine (?_ : k0_chk5 _ _ _ _ _ _); exact hw5) | (with_reducible refine (?_ : ¬ k0_cond3 _ = 1#1); exact h3) | (with_reducible refine (?_ : k0_chk1 _ _ _); exact hw1) | (with_reducible refine (?_ : k0_chk2 _ _ _); exact hw2) | (with_reducible refine (?_ : k0_cond4 _ _ = 1#1); exact h4) | (with_reducible refine (?_ : ¬ k0_cond5 _ _ = 1#1); exact h5))
  ihave HI := (show iprop((((Memref.whole cc0_scratch0).view.loc (c : Thread nD τ)) ↦[(Memref.whole cc0_scratch0).view.set]{fullShare} (Memref.isWhole_whole cc0_scratch0).unread X0) ∗ (((Memref.whole cc0_scratch1).view.loc (c : Thread nD τ)) ↦[(Memref.whole cc0_scratch1).view.set]{fullShare} (Memref.isWhole_whole cc0_scratch1).unread X1) ∗ (((Memref.whole cc0_scratch2).view.loc (c : Thread nD τ)) ↦[(Memref.whole cc0_scratch2).view.set]{fullShare} (Memref.isWhole_whole cc0_scratch2).unread X2)
      ∗ (((c : Thread nD τ).loc main_arg5) ↦{fullShare} g5) ∗ (((c : Thread nD τ).loc main_arg6) ↦{fullShare} g6) ∗ (((c : Thread nD τ).loc main_arg7) ↦{fullShare} g7)
      ∗ semVal ((c : Thread nD τ), SemLoc.dma 4) 0 ∗ semVal ((c : Thread nD τ), SemLoc.dma 5) 0) ⊢ (Idle c g5 g6 g7 : sProp 𝕄) from by
    unfold Idle
    rw [(Memref.isWhole_whole cc0_scratch0).set_eq_univ, (Memref.isWhole_whole cc0_scratch1).set_eq_univ, (Memref.isWhole_whole cc0_scratch2).set_eq_univ]
    iintro ⟨S0, S1, S2, H⟩
    isplitl [S0]; · iexists _; iexact S0
    isplitl [S1]; · iexists _; iexact S1
    isplitl [S2]; · iexists _; iexact S2
    iexact H) $$ [S0 S1 S2 W5 W6 W7 X4 X5]
  · isplitl [S0]; · iexact S0
    isplitl [S1]; · iexact S1
    isplitl [S2]; · iexact S2
    isplitl [W5]; · iexact W5
    isplitl [W6]; · iexact W6
    isplitl [W7]; · iexact W7
    isplitl [X4] <;> iassumption
  sl_step
  iapply Hk
  isplitl [T0 T1 T2 T3]
  · isplitl [T0]; · iexact T0
    isplitl [T1]; · iexact T1
    isplitl [T2]; · iexact T2
    iexact T3
  isplitl [HI]; · iexact HI
  isplitl [S3 S4 S5]
  · isplitl [S3]
    · iexists _; isplitr; swap; · iexact S3
      ipureintro; exact (View.read_writes_full _ _ _ _ _).trans (pay_W1 c g5 _ _ hs he _ _ rfl _ r0)
    isplitl [S4]
    · iexists _; isplitr; swap; · iexact S4
      ipureintro; exact (View.read_writes_full _ _ _ _ _).trans (pay_W2 c g6 _ _ hs he _ _ rfl _ r1)
    iexists _; isplitr; swap; · iexact S5
    ipureintro; exact (View.read_writes_full _ _ _ _ _).trans (pay_W3 c g7 _ _ hs he _ _ rfl _ r2)
  isplitl [Ho]; · iexact Ho
  isplitl [H5]
  · iexists _; isplitr; · ipureintro; exact hf5
    iexact H5
  iexists _; isplitr; swap; · iexact H9
  ipureintro
  refine (View.read_writes_full _ _ _ _ _).trans ?_
  exact congr (congr (congr (congrArg k0_pay3 (ldA x harg5)) ((cov2 _ _).trans (pay_W1 c g5 _ _ hs he _ _ rfl _ r0))) ((cov2 _ _).trans (pay_W2 c g6 _ _ hs he _ _ rfl _ r1))) ((cov5 _ _).trans (pay_W3 c g7 _ _ hs he _ _ rfl _ r2))

end

end Cert.Proof.H

end
-- ==== Proof.H.Step.lean ====
/-
  One grid point of the routed experts, whatever the point: the state of the transfers and of the rounded weights before it
  and after it, and the block that it writes.
-/
module

public import proofs.«01_k».proof.Proof.H.Words
public import proofs.«01_k».proof.Proof.H.BodyLast
public import proofs.«01_k».proof.Proof.H.BodyFirst
public import proofs.«01_k».proof.Proof.H.BodyOnly

@[expose] public section

set_option maxRecDepth 65536

noncomputable section

namespace Cert.Proof.H

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- A block's expert, its slot, the expert after it, and the number of blocks in use, as the memory's tables hold them. -/
abbrev bw (c : Dev nD) (t : Fin grid0.N) : BitVec 32 := wd (F := F) c (Memref.whole main_arg0) (m ((c : Thread nD τ).loc main_arg0)) (k0_off10 (grid0.coords t)) (k0_off10_inb (grid0.coords t))
abbrev sw (c : Dev nD) (t : Fin grid0.N) : BitVec 32 := wd (F := F) c (Memref.whole main_arg2) (m ((c : Thread nD τ).loc main_arg2)) (k0_off10 (grid0.coords t)) (k0_off10_inb (grid0.coords t))
abbrev xw (c : Dev nD) (t : Fin grid0.N) : BitVec 32 := wd (F := F) c (Memref.whole main_arg3) (m ((c : Thread nD τ).loc main_arg3)) (k0_off20 (grid0.coords t)) (k0_off20_inb (grid0.coords t))
abbrev nw (c : Dev nD) : BitVec 32 := wn (F := F) c (m ((c : Thread nD τ).loc main_arg1))

/-- The precondition, of a memory. -/
abbrev GoodM : Prop := ∀ c, Good (bw m c) (sw m c) (xw m c) (nw m c)

abbrev TabsM (c : Dev nD) : sProp 𝕄 := Tabs c (m ((c : Thread nD τ).loc main_arg0)) (m ((c : Thread nD τ).loc main_arg1)) (m ((c : Thread nD τ).loc main_arg2)) (m ((c : Thread nD τ).loc main_arg3))
abbrev IdleM (c : Dev nD) : sProp 𝕄 := Idle c (m ((c : Thread nD τ).loc main_arg5)) (m ((c : Thread nD τ).loc main_arg6)) (m ((c : Thread nD τ).loc main_arg7))
abbrev PendM (c : Dev nD) (s e : BitVec 32) (hs : s.toNat < 2) (he : e.toNat < 64) : sProp 𝕄 := Pend c (m ((c : Thread nD τ).loc main_arg5)) (m ((c : Thread nD τ).loc main_arg6)) (m ((c : Thread nD τ).loc main_arg7)) s e hs he
abbrev CastM (c : Dev nD) (e : BitVec 32) (he : e.toNat < 64) : sProp 𝕄 := Cast c (W1 c (m ((c : Thread nD τ).loc main_arg5)) e he) (W2 c (m ((c : Thread nD τ).loc main_arg6)) e he) (W3 c (m ((c : Thread nD τ).loc main_arg7)) e he)

variable (H : GoodM m)

/-- The rounded weights after `k` points. -/
def CastT (c : Dev nD) : ℕ → sProp 𝕄
  | 0 => iprop(∃ y1 y2 y3, Cast c y1 y2 y3)
  | k + 1 => if h : ∃ hk : k < grid0.N, k < (nw m c).toNat then CastM m c (bw m c ⟨k, h.fst⟩) ((H c).hb _) else iprop(∃ y1 y2 y3, Cast c y1 y2 y3)
/-- The transfers after `k` points: the next expert's weights in flight to the other slot, where there is a next expert. -/
def FlightT (c : Dev nD) : ℕ → sProp 𝕄
  | 0 => IdleM m c
  | k + 1 => if h : ∃ hk : k < grid0.N, k < (nw m c).toNat ∧ k0_cond3 (xw m c ⟨k, hk⟩) = 1#1 then
      PendM m c (1#32 - sw m c ⟨k, h.fst⟩) (xw m c ⟨k, h.fst⟩) (slot_not ((H c).hs _)) ((H c).hx' _ h.snd.1 h.snd.2)
    else IdleM m c
/-- The block that a point writes. -/
def outV (c : Dev nD) (t : Fin grid0.N) (x : Vec F S512x2048 .bf16) : Vec F S512x2048 .bf16 :=
  if t.val < (nw m c).toNat then
    k0_pay3 x (W1 c (m ((c : Thread nD τ).loc main_arg5)) (bw m c t) ((H c).hb t)) (W2 c (m ((c : Thread nD τ).loc main_arg6)) (bw m c t) ((H c).hb t)) (W3 c (m ((c : Thread nD τ).loc main_arg7)) (bw m c t) ((H c).hb t))
  else k0_pay4 (F := F)

theorem castT_succ (c : Dev nD) (k : ℕ) : CastT m H c (k + 1) = if h : ∃ hk : k < grid0.N, k < (nw m c).toNat then CastM m c (bw m c ⟨k, h.fst⟩) ((H c).hb _) else iprop(∃ y1 y2 y3, Cast c y1 y2 y3) := rfl
theorem flightT_succ (c : Dev nD) (k : ℕ) : FlightT m H c (k + 1) = if h : ∃ hk : k < grid0.N, k < (nw m c).toNat ∧ k0_cond3 (xw m c ⟨k, hk⟩) = 1#1 then
      PendM m c (1#32 - sw m c ⟨k, h.fst⟩) (xw m c ⟨k, h.fst⟩) (slot_not ((H c).hs _)) ((H c).hx' _ h.snd.1 h.snd.2)
    else IdleM m c := rfl

theorem flightT_zero (c : Dev nD) : FlightT m H c 0 ⊢ IdleM m c := .rfl

theorem castM_any (c : Dev nD) (e : BitVec 32) (he : e.toNat < 64) : CastM m c e he ⊢ iprop(∃ y1 y2 y3, Cast c y1 y2 y3) := by
  iintro HC; iexists _; iexists _; iexists _; iexact HC
theorem castT_any (c : Dev nD) : ∀ k, CastT m H c k ⊢ iprop(∃ y1 y2 y3, Cast c y1 y2 y3)
  | 0 => .rfl
  | k + 1 => by
    rw [castT_succ]
    split
    · exact castM_any m c _ _
    · exact .rfl
theorem castT_intro (c : Dev nD) (t : Fin grid0.N) (ha : t.val < (nw m c).toNat) : CastM m c (bw m c t) ((H c).hb t) ⊢ CastT m H c (t.val + 1) := by
  rw [castT_succ]
  rw [dif_pos ⟨t.isLt, ha⟩]
theorem castT_elim (c : Dev nD) (t : Fin grid0.N) (ha : t.val < (nw m c).toNat) : CastT m H c (t.val + 1) ⊢ CastM m c (bw m c t) ((H c).hb t) := by
  rw [castT_succ]
  rw [dif_pos ⟨t.isLt, ha⟩]
theorem castT_past (c : Dev nD) (t : Fin grid0.N) (ha : ¬ t.val < (nw m c).toNat) : iprop(∃ y1 y2 y3, Cast c y1 y2 y3) ⊢ CastT m H c (t.val + 1) := by
  rw [castT_succ]
  rw [dif_neg fun h => ha h.snd]
theorem castM_congr (c : Dev nD) {e e' : BitVec 32} (h : e = e') (he : e.toNat < 64) (he' : e'.toNat < 64) : CastM m c e he ⊢ CastM m c e' he' := by
  subst h; exact .rfl

theorem flightT_pos (c : Dev nD) (t : Fin grid0.N) (ha : t.val < (nw m c).toNat) (h3 : k0_cond3 (xw m c t) = 1#1) :
    PendM m c (1#32 - sw m c t) (xw m c t) (slot_not ((H c).hs t)) ((H c).hx' t ha h3) ⊢ FlightT m H c (t.val + 1) := by
  rw [flightT_succ]
  rw [dif_pos ⟨t.isLt, ha, h3⟩]
theorem flightT_pos' (c : Dev nD) (t : Fin grid0.N) (ha : t.val < (nw m c).toNat) (h3 : k0_cond3 (xw m c t) = 1#1) :
    FlightT m H c (t.val + 1) ⊢ PendM m c (1#32 - sw m c t) (xw m c t) (slot_not ((H c).hs t)) ((H c).hx' t ha h3) := by
  rw [flightT_succ]
  rw [dif_pos ⟨t.isLt, ha, h3⟩]
theorem flightT_neg (c : Dev nD) (t : Fin grid0.N) (h3 : ¬ k0_cond3 (xw m c t) = 1#1) : IdleM m c ⊢ FlightT m H c (t.val + 1) := by
  rw [flightT_succ]
  rw [dif_neg fun h => h3 h.snd.2]
theorem flightT_neg' (c : Dev nD) (t : Fin grid0.N) (h3 : ¬ k0_cond3 (xw m c t) = 1#1) : FlightT m H c (t.val + 1) ⊢ IdleM m c := by
  rw [flightT_succ]
  rw [dif_neg fun h => h3 h.snd.2]
theorem flightT_past (c : Dev nD) (t : Fin grid0.N) (ha : ¬ t.val < (nw m c).toNat) : IdleM m c ⊢ FlightT m H c (t.val + 1) := by
  rw [flightT_succ]
  rw [dif_neg fun h => ha h.snd.1]
/-- After the last block in use no transfer is in flight. -/
theorem flightT_idle (c : Dev nD) : ∀ k, (nw m c).toNat ≤ k → FlightT m H c k ⊢ IdleM m c
  | 0, _ => .rfl
  | k + 1, hk => by
    rw [flightT_succ]
    split
    · next h => exact absurd h.snd.2 ((H c).last ⟨k, h.fst⟩ (by show k + 1 = _; have := h.snd.1; omega))
    · exact .rfl

theorem wd_congr (c : Dev nD) (M : Memref sig .tc .smem S200 .i32) (f : Buf (Elt F) (M.view.loc (c : Thread nD τ))) {o o' : Fin 1 → ℕ} (e : o = o') (h) (h') : wd c M f o h = wd c M f o' h' := by
  subst e; rfl
theorem off2_eq : ∀ t : Fin grid0.N, ∀ a, k0_off2 (grid0.coords t) a = t.val - 1 := by decide +kernel
theorem off10_eq : ∀ t : Fin grid0.N, ∀ a, k0_off10 (grid0.coords t) a = t.val := by decide +kernel

set_option maxHeartbeats 1000000 in
theorem step (c : Dev nD) (t : Fin grid0.N) (arg5 : Memref sig .tc .vmem S512x2048 .bf16) (harg5 : arg5.IsWhole) (arg9 : Memref sig .tc .vmem S512x2048 .bf16) (harg9 : arg9.IsWhole)
    (x : Vec F S512x2048 .bf16) (W : Waits sig Unit) (K : PUnit → sProp 𝕄) :
    iprop(TabsM m c ∗ FlightT m H c t.val ∗ CastT m H c t.val ∗ owes (c : Thread nD τ) 0 W ∗ owns (c : Thread nD τ) arg5 fullShare x ∗ (∃ d, owns (c : Thread nD τ) arg9 fullShare d)
      ∗ (iprop(TabsM m c ∗ FlightT m H c (t.val + 1) ∗ CastT m H c (t.val + 1) ∗ (∃ W, owes (c : Thread nD τ) 0 W) ∗ owns (c : Thread nD τ) arg5 fullShare x
          ∗ owns (c : Thread nD τ) arg9 fullShare (outV m H c t x)) -∗ K ⟨⟩))
       ⊢ wp frame (wpE (defs₀ (F := F)) 𝒱₀ c none) Set.univ (cc0_experts (grid0.coords t) (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_arg5) (Memref.isWhole_whole _) (Memref.whole main_arg6) (Memref.isWhole_whole _) (Memref.whole main_arg7) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  have hn := (H c).n2
  have hn1 := (H c).n1
  have hv := coord_val t
  have c1 := cond1_iff (grid0.coords t) (nw m c) hn
  have c2 := fun v w => cond2_iff (grid0.coords t) (nw m c) v w hn
  have c4 := cond4_iff (grid0.coords t) (nw m c) hn
  have c5 := cond5_iff (grid0.coords t) (nw m c) hn
  rw [hv] at c1 c4 c5
  simp only [hv] at c2
  iintro ⟨HT, HF, HC, Ho, H5, H9, HK⟩
  by_cases ha : t.val < (nw m c).toNat
  · have h4 := c4.2 ha
    have h5 : ¬ k0_cond5 (grid0.coords t) (nw m c) = 1#1 := fun e => c5.1 e ha
    rw [show outV m H c t x = _ from if_pos ha]
    rcases t with ⟨_ | k, ht⟩
    · have h1 := c1.2 ⟨ha, rfl⟩
      have h2 := fun v w => (c2 v w).2 ⟨ha, Or.inl rfl⟩
      have eo : (![0] : Fin 1 → ℕ) = k0_off10 (grid0.coords ⟨0, ht⟩) := by funext a; rw [off10_eq]; fin_cases a; rfl
      have eS := wd_congr c (Memref.whole main_arg2) (m ((c : Thread nD τ).loc main_arg2)) eo inb_S200_S1_0 (k0_off10_inb (grid0.coords ⟨0, ht⟩))
      have eE := wd_congr c (Memref.whole main_arg0) (m ((c : Thread nD τ).loc main_arg0)) eo inb_S200_S1_0 (k0_off10_inb (grid0.coords ⟨0, ht⟩))
      by_cases h3 : k0_cond3 (xw m c ⟨0, ht⟩) = 1#1
      · iapply (run0F c _ _ _ _ (grid0.coords ⟨0, ht⟩) arg5 harg5 arg9 harg9 _ _ _ h1 eS eE (chk1 _ _ _ (by rw [eS]; exact (H c).hs ⟨0, ht⟩)) (chk2 _ _ _ (by rw [eE]; exact (H c).hb ⟨0, ht⟩)) (h2 _ _) ((H c).hs ⟨0, ht⟩) ((H c).hb ⟨0, ht⟩) (slot_not ((H c).hs ⟨0, ht⟩)) ((H c).hx' ⟨0, ht⟩ ha h3) (chk3 _ _ _ _ _ ((H c).hs ⟨0, ht⟩)) (chk4 _ _ _ _ _ ((H c).hb ⟨0, ht⟩)) (chk5 _ _ _ _ _ _ (slot_not ((H c).hs ⟨0, ht⟩))) h3 (chk6 _ _ _ _ _ _ ((H c).hx' ⟨0, ht⟩ ha h3)) h4 h5 x W K)
        isplitl [HT]; · iexact HT
        isplitl [HF]; · iapply (flightT_zero m H c); iexact HF
        isplitl [HC]; · iapply (castT_any m H c 0); iexact HC
        isplitl [Ho]; · iexact Ho
        isplitl [H5]; · iexact H5
        isplitl [H9]; · iexact H9
        iintro ⟨HT, HF, HC, Ho, H5, H9⟩
        iapply HK
        isplitl [HT]; · iexact HT
        isplitl [HF]; · iapply (flightT_pos m H c ⟨0, ht⟩ ha h3); iexact HF
        isplitl [HC]; · iapply (castT_intro m H c ⟨0, ht⟩ ha); iexact HC
        isplitl [Ho]; · iexact Ho
        isplitl [H5]; · iexact H5
        iexact H9
      · iapply (run0E c _ _ _ _ (grid0.coords ⟨0, ht⟩) arg5 harg5 arg9 harg9 _ _ _ h1 eS eE (chk1 _ _ _ (by rw [eS]; exact (H c).hs ⟨0, ht⟩)) (chk2 _ _ _ (by rw [eE]; exact (H c).hb ⟨0, ht⟩)) (h2 _ _) ((H c).hs ⟨0, ht⟩) ((H c).hb ⟨0, ht⟩) (chk3 _ _ _ _ _ ((H c).hs ⟨0, ht⟩)) (chk4 _ _ _ _ _ ((H c).hb ⟨0, ht⟩)) (chk5 _ _ _ _ _ _ (slot_not ((H c).hs ⟨0, ht⟩))) h3 h4 h5 x W K)
        isplitl [HT]; · iexact HT
        isplitl [HF]; · iapply (flightT_zero m H c); iexact HF
        isplitl [HC]; · iapply (castT_any m H c 0); iexact HC
        isplitl [Ho]; · iexact Ho
        isplitl [H5]; · iexact H5
        isplitl [H9]; · iexact H9
        iintro ⟨HT, HF, HC, Ho, H5, H9⟩
        iapply HK
        isplitl [HT]; · iexact HT
        isplitl [HF]; · iapply (flightT_neg m H c ⟨0, ht⟩ h3); iexact HF
        isplitl [HC]; · iapply (castT_intro m H c ⟨0, ht⟩ ha); iexact HC
        isplitl [Ho]; · iexact Ho
        isplitl [H5]; · iexact H5
        iexact H9
    · have hk : k < grid0.N := Nat.lt_of_succ_lt ht
      have h1 : ¬ k0_cond1 (grid0.coords ⟨k + 1, ht⟩) (nw m c) = 1#1 := fun e => Nat.succ_ne_zero k (c1.1 e).2
      have e2 : wd c (Memref.whole main_arg0) (m ((c : Thread nD τ).loc main_arg0)) (k0_off2 (grid0.coords ⟨k + 1, ht⟩)) (k0_off2_inb _) = bw m c ⟨k, hk⟩ :=
        wd_congr c (Memref.whole main_arg0) _ (funext fun a => (off2_eq ⟨k + 1, ht⟩ a).trans (off10_eq ⟨k, hk⟩ a).symm) _ _
      have hak : k < (nw m c).toNat := Nat.lt_of_succ_lt ha
      by_cases hb : bw m c ⟨k + 1, ht⟩ = bw m c ⟨k, hk⟩
      · have h2 : ¬ k0_cond2 (grid0.coords ⟨k + 1, ht⟩) (nw m c) (bw m c ⟨k + 1, ht⟩) (wd c (Memref.whole main_arg0) (m ((c : Thread nD τ).loc main_arg0)) (k0_off2 (grid0.coords ⟨k + 1, ht⟩)) (k0_off2_inb _)) = 1#1 := fun e => by
          rcases ((c2 _ _).1 e).2 with h | h
          · exact Nat.succ_ne_zero k h
          · exact h (hb.trans e2.symm)
        obtain ⟨es, ex⟩ := (H c).same ⟨k, hk⟩ ⟨k + 1, ht⟩ rfl ha hb
        iapply (runC c _ _ _ _ (grid0.coords ⟨k + 1, ht⟩) arg5 harg5 arg9 harg9 h1 h2 h4 h5 x _ _ _ K)
        isplitl [HT]; · iexact HT
        isplitl [HC]; · iapply ((castT_elim m H c ⟨k, hk⟩ hak).trans (castM_congr m c hb.symm _ ((H c).hb ⟨k + 1, ht⟩))); iexact HC
        isplitl [H5]; · iexact H5
        isplitl [H9]; · iexact H9
        iintro ⟨HT, HC, H5, H9⟩
        iapply HK
        isplitl [HT]; · iexact HT
        isplitl [HF]
        · by_cases h3 : k0_cond3 (xw m c ⟨k + 1, ht⟩) = 1#1
          · have h3' : k0_cond3 (xw m c ⟨k, hk⟩) = 1#1 := ex ▸ h3
            iapply (((flightT_pos' m H c ⟨k, hk⟩ hak h3').trans (Pend_congr c _ _ _ (congrArg (1#32 - ·) es.symm) ex.symm _ _ (slot_not ((H c).hs ⟨k + 1, ht⟩)) ((H c).hx' ⟨k + 1, ht⟩ ha h3))).trans (flightT_pos m H c ⟨k + 1, ht⟩ ha h3))
            iexact HF
          · have h3' : ¬ k0_cond3 (xw m c ⟨k, hk⟩) = 1#1 := ex ▸ h3
            iapply ((flightT_neg' m H c ⟨k, hk⟩ h3').trans (flightT_neg m H c ⟨k + 1, ht⟩ h3))
            iexact HF
        isplitl [HC]; · iapply (castT_intro m H c ⟨k + 1, ht⟩ ha); iexact HC
        isplitl [Ho]; · iexists W; iexact Ho
        isplitl [H5]; · iexact H5
        iexact H9
      · have h2 : k0_cond2 (grid0.coords ⟨k + 1, ht⟩) (nw m c) (bw m c ⟨k + 1, ht⟩) (wd c (Memref.whole main_arg0) (m ((c : Thread nD τ).loc main_arg0)) (k0_off2 (grid0.coords ⟨k + 1, ht⟩)) (k0_off2_inb _)) = 1#1 :=
          (c2 _ _).2 ⟨ha, Or.inr fun e => hb (e.trans e2)⟩
        obtain ⟨es, ex⟩ := (H c).next ⟨k, hk⟩ ⟨k + 1, ht⟩ rfl ha hb
        have hp : k0_cond3 (xw m c ⟨k, hk⟩) = 1#1 := by rw [ex]; exact not_neg ((H c).hb _)
        have hf : FlightT m H c (k + 1) ⊢ PendM m c (sw m c ⟨k + 1, ht⟩) (bw m c ⟨k + 1, ht⟩) ((H c).hs _) ((H c).hb _) :=
          (flightT_pos' m H c ⟨k, hk⟩ hak hp).trans (Pend_congr c _ _ _ es.symm ex _ _ _ _)
        by_cases h3 : k0_cond3 (xw m c ⟨k + 1, ht⟩) = 1#1
        · iapply (runF c _ _ _ _ (grid0.coords ⟨k + 1, ht⟩) arg5 harg5 arg9 harg9 _ _ _ h1 h2 ((H c).hs ⟨k + 1, ht⟩) ((H c).hb ⟨k + 1, ht⟩) (slot_not ((H c).hs ⟨k + 1, ht⟩)) ((H c).hx' ⟨k + 1, ht⟩ ha h3) (chk3 _ _ _ _ _ ((H c).hs ⟨k + 1, ht⟩)) (chk4 _ _ _ _ _ ((H c).hb ⟨k + 1, ht⟩)) (chk5 _ _ _ _ _ _ (slot_not ((H c).hs ⟨k + 1, ht⟩))) h3 (chk6 _ _ _ _ _ _ ((H c).hx' ⟨k + 1, ht⟩ ha h3)) h4 h5 x W K)
          isplitl [HT]; · iexact HT
          isplitl [HF]; · iapply hf; iexact HF
          isplitl [HC]; · iapply (castT_any m H c (k + 1)); iexact HC
          isplitl [Ho]; · iexact Ho
          isplitl [H5]; · iexact H5
          isplitl [H9]; · iexact H9
          iintro ⟨HT, HF, HC, Ho, H5, H9⟩
          iapply HK
          isplitl [HT]; · iexact HT
          isplitl [HF]; · iapply (flightT_pos m H c ⟨k + 1, ht⟩ ha h3); iexact HF
          isplitl [HC]; · iapply (castT_intro m H c ⟨k + 1, ht⟩ ha); iexact HC
          isplitl [Ho]; · iexact Ho
          isplitl [H5]; · iexact H5
          iexact H9
        · iapply (runE c _ _ _ _ (grid0.coords ⟨k + 1, ht⟩) arg5 harg5 arg9 harg9 _ _ _ h1 h2 ((H c).hs ⟨k + 1, ht⟩) ((H c).hb ⟨k + 1, ht⟩) (chk3 _ _ _ _ _ ((H c).hs ⟨k + 1, ht⟩)) (chk4 _ _ _ _ _ ((H c).hb ⟨k + 1, ht⟩)) (chk5 _ _ _ _ _ _ (slot_not ((H c).hs ⟨k + 1, ht⟩))) h3 h4 h5 x W K)
          isplitl [HT]; · iexact HT
          isplitl [HF]; · iapply hf; iexact HF
          isplitl [HC]; · iapply (castT_any m H c (k + 1)); iexact HC
          isplitl [Ho]; · iexact Ho
          isplitl [H5]; · iexact H5
          isplitl [H9]; · iexact H9
          iintro ⟨HT, HF, HC, Ho, H5, H9⟩
          iapply HK
          isplitl [HT]; · iexact HT
          isplitl [HF]; · iapply (flightT_neg m H c ⟨k + 1, ht⟩ h3); iexact HF
          isplitl [HC]; · iapply (castT_intro m H c ⟨k + 1, ht⟩ ha); iexact HC
          isplitl [Ho]; · iexact Ho
          isplitl [H5]; · iexact H5
          iexact H9
  · have h1 : ¬ k0_cond1 (grid0.coords t) (nw m c) = 1#1 := fun e => ha (c1.1 e).1
    have h2 := fun v w e => ha ((c2 v w).1 e).1
    have h4 : ¬ k0_cond4 (grid0.coords t) (nw m c) = 1#1 := fun e => ha (c4.1 e)
    have h5 := c5.2 ha
    rw [show outV m H c t x = _ from if_neg ha]
    iapply (runZ c _ _ _ _ (grid0.coords t) arg5 harg5 arg9 harg9 h1 (h2 _ _) h4 h5 x K)
    isplitl [HT]; · iexact HT
    isplitl [H5]; · iexact H5
    isplitl [H9]; · iexact H9
    iintro ⟨HT, H5, H9⟩
    iapply HK
    isplitl [HT]; · iexact HT
    isplitl [HF]; · iapply ((flightT_idle m H c t.val (by omega)).trans (flightT_past m H c t ha)); iexact HF
    isplitl [HC]; · iapply ((castT_any m H c t.val).trans (castT_past m H c t ha)); iexact HC
    isplitl [Ho]; · iexists W; iexact Ho
    isplitl [H5]; · iexact H5
    iexact H9

end Cert.Proof.H

end
-- ==== Proof.H.Run.lean ====
/-
  The run of the routed experts over the grid's 200 points, and the frame. The block of the input at a point is the table's;
  between two points the core holds the tables, the rounded weights and the transfers in flight.
-/
module

public import proofs.«01_k».proof.Proof.H.Step
public import Idealize.ShloMosaic.Lib.Pipeline.Frame
public import Idealize.ShloMosaic.Lib.Pipeline.FrameBody
public import Idealize.ShloMosaic.Lib.WordArith
public import Idealize.ShloMosaic.Lib.Affine

@[expose] public section

set_option maxRecDepth 65536

noncomputable section

namespace Cert.Proof.H

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The launch contents of a buffer. -/
abbrev V (c : Dev nD) (b : Ref sig .tc) : Buf (Elt F) ((c : Thread nD τ).loc b) := m ((c : Thread nD τ).loc b)

/-- The tables' contents. -/
def pf : pre0.Contents (Elt F) := fun k => m (((0 : Dev nD) : Thread nD τ).loc (pre0.ref k))

theorem pf_n (h1 : S1.numel = 1) : (pf m).at 1 (Rect.unit (s := S1) ![0] S1.size inb_S1_S1_0) h1 = nw m 0 := rfl

variable (H : GoodM m)

theorem ix_eq (H : GoodM m) (i : grid0.Coords) : cc0_transform_0 inb_S1_S1_0 numel1_S1 (pf m) i = ![min (i 0).val ((nw m 0).toNat - 1), 0] := by
  have h1 := (H 0).n1
  have h2 := (H 0).n2
  have hi := coord_lt i
  have e : (BitVec.ofNat 32 (i 0).val).toNat = (i 0).val := by rw [BitVec.toNat_ofNat]; omega
  have es : (Scalar.subi (nw m 0) 1#32).toNat = (nw m 0).toNat - 1 := by
    show (nw m 0 - 1#32).toNat = _
    rw [BitVec.toNat_sub]; simp; omega
  have em : (Scalar.minsi (BitVec.ofNat 32 (i 0).val) (Scalar.subi (nw m 0) 1#32)).toNat = min (i 0).val ((nw m 0).toNat - 1) := by
    refine (WordArith.toNat_minsi_of_lt _ _ (by rw [e]; omega) (by rw [es]; omega)).trans ?_
    rw [e, es]
  unfold cc0_transform_0
  dsimp only
  rw [pf_n m numel1_S1, em]
  rfl

theorem okM (H : GoodM m) : ok0 (pf m) := by
  have h1 := (H 0).n1
  have h2 := (H 0).n2
  intro i
  have hi := coord_lt i
  refine ⟨fun a => ?_, .inr (Affine.block_words_dvd (of_decide_eq_true rfl) (by decide))⟩
  rw [ix_eq m H i]
  fin_cases a
  · show (min (i 0).val ((nw m 0).toNat - 1) + 1) * 512 ≤ 102400
    omega
  · show (0 + 1) * 2048 ≤ 2048
    omega

/-- The tables at which the pipeline runs. -/
abbrev adm (H : GoodM m) : (p : Fin 1) → (pcfgs (F := F) p).Adm := fun _ => ⟨pf m, okM m H⟩

/-- The input's block at a point. -/
def iblk (c : Dev nD) (t : Fin (cfg0 (adm m H 0)).N) : Vec F S512x2048 .bf16 :=
  (((cfg0 (adm m H 0)).win 0).blk t).view.read (Elt F) (V m c main_arg4)

/-- What the core holds between two points. -/
def PhiT (c : Dev nD) (k : ℕ) : sProp 𝕄 := iprop(TabsM m c ∗ (∃ r, prngReg c r) ∗ FlightT m H c k ∗ CastT m H c k)

def dats (p : Fin 1) (c : Dev nD) : Dat τ (Elt F) Unit ℕ (Pipeline.UD sig nD τ) ℕ (Pipeline.pin (pcfgs (F := F)) (adm m H) p) c where
  A w := V m c (Pipeline.arrRef spec0 w)
  after w t := match w with
    | ⟨0, _⟩ => iblk m H c t
    | ⟨1, _⟩ => outV m H c t (iblk m H c t)
  Φ t := PhiT m H c t.val
  q _ := fullShare
  owed _ := 0

theorem after0_0 (c : Dev nD) (t : Fin (cfg0 (adm m H 0)).N) : (dats m H 0 c).after 0 t = iblk m H c t := rfl
theorem after0_1 (c : Dev nD) (t : Fin (cfg0 (adm m H 0)).N) : (dats m H 0 c).after 1 t = outV m H c t (iblk m H c t) := rfl
theorem before0_0 (c : Dev nD) (t : Fin (cfg0 (adm m H 0)).N) (d) : (dats m H 0 c).before 0 t d = iblk m H c t :=
  ((dats m H 0 c).before_in_eq_fetched 0 rfl (fun _ => rfl) (fun _ _ _ => rfl) (fun t => by rw [after0_0]; rfl) t d).trans rfl

set_option maxHeartbeats 1000000 in
theorem body_obligation (c : Dev nD) : BodyObligation (dats (F := F) m H 0 c) (defs₀ (F := F)) 𝒱₀ () Set.univ := fun t => by
  rw [bigSep_W0, bigSep_W0]
  sl_whnfR [defs₀, Defs.onTc]
  simp only [before0_0, after0_0, after0_1]
  rw [show (dats m H 0 c).Φ t.succ = PhiT m H c (t.val + 1) from rfl, show (dats m H 0 c).Φ t.castSucc = PhiT m H c t.val from rfl,
    show (dats m H 0 c).owesAt () t.succ = (dats m H 0 c).owesAt () t.castSucc from rfl]
  have hid : idle0 (pf m) 1 (grid0.coords t) = false := cond45 _ _
  simp only [hid]
  unfold PhiT Dat.owesAt Pipeline.owesWithin
  rw [show (dats m H 0 c).owed t.castSucc = 0 from rfl]
  iintro ⟨⟨HT, Hr, HF, HC⟩, ⟨%W, -, Ho⟩, ⟨%d0, H0⟩, ⟨%d1, H1⟩⟩
  iapply (step m H c t ((win0 (adm m H 0) 0).stage ((cfg0 (adm m H 0)).slots t 0)) (hstage0_0 (((cfg0 (adm m H 0)).slots t 0).cast nbuf0_0)) ((win0 (adm m H 0) 1).stage ((cfg0 (adm m H 0)).slots t 1)) (hstage0_1 (((cfg0 (adm m H 0)).slots t 1).cast nbuf0_1)) (iblk m H c t) W _)
  isplitl [HT]; · iexact HT
  isplitl [HF]; · iexact HF
  isplitl [HC]; · iexact HC
  isplitl [Ho]; · iexact Ho
  isplitl [H0]
  · iapply (show owns (c : Thread nD τ) ((win0 (adm m H 0) 0).stage ((cfg0 (adm m H 0)).slots t 0)) fullShare ((dats m H 0 c).before 0 t d0) ⊢ owns (c : Thread nD τ) ((win0 (adm m H 0) 0).stage ((cfg0 (adm m H 0)).slots t 0)) fullShare (iblk m H c t) from by rw [before0_0 m H c t d0]); iexact H0
  isplitl [H1]; · iexists _; iexact H1
  iintro ⟨HT, HF, HC, ⟨%W', Ho⟩, H0, H1⟩
  isplitl [HT Hr HF HC]
  · isplitl [HT]; · iexact HT
    isplitl [Hr]; · iexact Hr
    isplitl [HF]; · iexact HF
    iexact HC
  isplitl [Ho]
  · iexists W'; isplitr; · ipureintro; exact fun _ _ => Or.inl trivial
    iexact Ho
  isplitl [H0]; · iexact H0
  iexact H1

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The weights, which the body's transfers read. -/
def H0 : Finset (Ref sig .tc) := {main_arg5, main_arg6, main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((((c : Thread nD τ).loc main_arg5) ↦{fullShare} V m c main_arg5) ∗ (((c : Thread nD τ).loc main_arg6) ↦{fullShare} V m c main_arg6) ∗ (((c : Thread nD τ).loc main_arg7) ↦{fullShare} V m c main_arg7)) := by
  rw [BI.bigSep_eq_bigSepL_of_eq [main_arg5, main_arg6, main_arg7] (by decide) (by decide)]; rfl
theorem prefHeld_eq (c : Dev nD) : (Pipeline.prefHeld pre0 c (fun _ => fullShare.right) (pf m) : sProp 𝕄) = TabsM m c := by
  obtain rfl : c = 0 := Subsingleton.elim c 0
  unfold Pipeline.prefHeld
  exact bigSep_univ_eq_bigSepL [(0 : Fin 4), (1 : Fin 4), (2 : Fin 4), (3 : Fin 4)] (by decide) (by decide) _

theorem any_owns (c : Dev nD) {b : Ref sig .tc} (f : Buf (Elt F) ((c : Thread nD τ).loc b)) :
    (((c : Thread nD τ).loc b) ↦{fullShare} f : sProp 𝕄) = owns (c : Thread nD τ) (Memref.whole b) fullShare f := (owns_whole _ _ _ _).symm

theorem hin (c : Dev nD) : iprop(Pipeline.ΦD osem0 spec0 H0 (V m) c ∗ Pipeline.ΦT pre0 (pf m) c) ⊢ PhiT m H c 0 := by
  unfold PhiT Pipeline.ΦT
  rw [Pipeline.ΦD_eq, scopedRest0_eq, ownSems00_eq, hbmPts0_eq, prefHeld_eq]
  iintro ⟨⟨⟨H0, H1, H2, ⟨%f3, H3⟩, ⟨%f4, H4⟩, ⟨%f5, H5⟩⟩, Hr, ⟨Hs, Hs'⟩, ⟨H5', H6', H7'⟩⟩, HT⟩
  isplitl [HT]; · iexact HT
  isplitl [Hr]; · iexact Hr
  isplitl [H0 H1 H2 Hs Hs' H5' H6' H7']
  · iapply (show Idle c (m ((c : Thread nD τ).loc main_arg5)) (m ((c : Thread nD τ).loc main_arg6)) (m ((c : Thread nD τ).loc main_arg7)) ⊢ FlightT m H c 0 from .rfl)
    unfold Idle
    isplitl [H0]; · iexact H0
    isplitl [H1]; · iexact H1
    isplitl [H2]; · iexact H2
    isplitl [H5']; · iexact H5'
    isplitl [H6']; · iexact H6'
    isplitl [H7']; · iexact H7'
    isplitl [Hs]; · iexact Hs
    iexact Hs'
  iapply (show iprop(∃ y1 y2 y3, Cast c y1 y2 y3) ⊢ CastT m H c 0 from .rfl)
  iexists f3; iexists f4; iexists f5
  unfold Cast
  rw [owns_whole, owns_whole, owns_whole]
  isplitl [H3]; · iexact H3
  isplitl [H4]; · iexact H4
  iexact H5

theorem hout (c : Dev nD) : PhiT m H c 200 ⊢ Pipeline.ΦD osem0 spec0 H0 (V m) c := by
  unfold PhiT
  rw [Pipeline.ΦD_eq, scopedRest0_eq, ownSems00_eq, hbmPts0_eq]
  iintro ⟨-, Hr, HF, HC⟩
  ihave HF := flightT_idle m H c 200 (H c).n2 $$ HF
  ihave HC := castT_any m H c 200 $$ HC
  unfold IdleM Idle Cast
  simp only [owns_whole]
  icases HC with ⟨%y1, %y2, %y3, H3, H4, H5⟩
  icases HF with ⟨H0, H1, H2, H5', H6', H7', Hs, Hs'⟩
  isplitl [H0 H1 H2 H3 H4 H5]
  · isplitl [H0]; · iexact H0
    isplitl [H1]; · iexact H1
    isplitl [H2]; · iexact H2
    isplitl [H3]; · iexists y1; iexact H3
    isplitl [H4]; · iexists y2; iexact H4
    iexists y3; iexact H5
  isplitl [Hr]; · iexact Hr
  isplitl [Hs Hs']
  · isplitl [Hs]; · iexact Hs
    iexact Hs'
  isplitl [H5']; · iexact H5'
  isplitl [H6']; · iexact H6'
  iexact H7'

theorem rest_mem (b : Ref sig .tc) (h : b ∈ Pipeline.restRefs sig spec0) : b ∈ Pipeline.restRefs sig (Pipeline.pin (pcfgs (F := F)) (adm m H) 0).spec := h

set_option backward.isDefEq.respectTransparency.types false in
/-- From a memory whose tables meet the precondition, with zero counters, the program runs to its end, with every array of
    the pipeline at what the proof data gives and every counter at zero. -/
theorem run_main : θ_run defs (onTc (τ := τ) (main (F := F))) (s₀ m ρ)
    (fun r => Pipeline.FramePost (Pipeline.pin (pcfgs (F := F)) (adm m H)) (dats m H) 0 (V m) r ∧ r.2.sem = fun _ => 0) :=
  Pipeline.θ_run_frameP_dma (Q' := _) (pcfgs (F := F)) (adm m H) (dats m H) (0 : Fin 1) launch0 osem0 defs₀ 𝒱₀ ownSemFacts0 H0 H0_sub m ρ main
    (hbody := fun c => (body_obligation m H c).loose) (hshare := fun c => (dats m H 0 c).share_full fun _ => rfl)
    (howed := fun _ _ => rfl) (V := V m) (hmain := Pipeline.hmainP_region _ _ _ _ m main (fun c => rfl)) (hA := fun _ _ => rfl)
    (hpf := fun c k => by obtain rfl : c = 0 := Subsingleton.elim c 0; rfl)
    (hin := hin m H) (hout := hout m H)

include H in
/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    have k := h.1 c
    ⟨k.2 main_arg0 (rest_mem m H main_arg0 (by decide)), k.2 main_arg1 (rest_mem m H main_arg1 (by decide)),
      k.2 main_arg2 (rest_mem m H main_arg2 (by decide)), k.2 main_arg3 (rest_mem m H main_arg3 (by decide)),
      (k.1 0).trans ((dats m H 0 c).arrAt_in 0 rfl _),
      k.2 main_arg5 (rest_mem m H main_arg5 (by decide)), k.2 main_arg6 (rest_mem m H main_arg6 (by decide)),
      k.2 main_arg7 (rest_mem m H main_arg7 (by decide))⟩, h.2⟩) (run_main m ρ H)

end Cert.Proof.H

end
-- ==== Proof.H.Pre.lean ====
/-
  The precondition on the routed experts' tables, decoded: what each of its parts says of the tables' words.
-/
module

public import proofs.«01_k».proof.Proof.H.Step
public import proofs.«01_k».proof.Proof.Gen.Pre_tables
public import Idealize.ShloMosaic.Lib.ReduceAll
public import Idealize.ShloMosaic.Lib.WordCmp
public import Idealize.ShloMosaic.Lib.Pipeline.Value
public import Idealize.ShloMosaic.Lib.Pointwise

@[expose] public section

set_option maxRecDepth 65536

noncomputable section

namespace Cert.Proof.H

open Cert.Kernel8Ideal Cert.Kernel8Ideal.Gen
open Idealize.ShloMosaic Idealize.ShloMosaic.TcCoe

variable {F : FTy → Type} [FloatOps F]

instance subPre : Subsingleton Cert.Pre_tables.S_.Idx := ⟨fun a b => funext fun i => i.elim0⟩

theorem bitw_and (a b : BitVec 1) : IntOp.andi a b = 1#1 ↔ a = 1#1 ∧ b = 1#1 := bit_and a b
theorem bitw_or (a b : BitVec 1) : IntOp.ori a b = 1#1 ↔ a = 1#1 ∨ b = 1#1 := bit_or a b
theorem cmpw_eq (x y : BitVec 32) : IntOp.cmpi .eq x y = 1#1 ↔ x = y := cmp_eq x y
theorem cmpw_slt (x y : BitVec 32) : IntOp.cmpi .slt x y = 1#1 ↔ x.toInt < y.toInt := by
  rw [WordCmp.cmpi_slt_eq, WordCmp.ofBool_decide_eq_one_iff]
theorem cmpw_sle (x y : BitVec 32) : IntOp.cmpi .sle x y = 1#1 ↔ x.toInt ≤ y.toInt := by
  rw [WordCmp.cmpi_sle_eq, WordCmp.ofBool_decide_eq_one_iff]
theorem cmpw_sge (x y : BitVec 32) : IntOp.cmpi .sge x y = 1#1 ↔ y.toInt ≤ x.toInt := by
  rw [WordCmp.cmpi_sge_eq, WordCmp.ofBool_decide_eq_one_iff]
theorem sel_bit (a b c : BitVec 1) : Scalar.select a b c = if a = 1#1 then b else c := by revert a b c; decide

/-- A word that is at least 0 and below a small bound. -/
theorem nat_of_int {x : BitVec 32} (h : 0 ≤ x.toInt) : x.toInt = x.toNat ∧ x.toNat < 2 ^ 31 := by
  have := x.isLt
  rw [BitVec.toInt_eq_toNat_cond] at h ⊢
  split_ifs at h ⊢ <;> omega

theorem int_small (k : ℕ) (h : k < 1000) : (BitVec.ofNat 32 k).toInt = k := by
  rw [BitVec.toInt_eq_toNat_cond, BitVec.toNat_ofNat, Nat.mod_eq_of_lt (by omega)]
  split_ifs <;> omega

theorem scal (nu : IVec S1 32) (k : Cert.Pre_tables.S_.Idx) (h : Cert.Pre_tables.S1.ShapeCasts Cert.Pre_tables.S_) :
    shapeCast Cert.Pre_tables.S_ nu h k = nu (ix1 (0 : Fin 1)) :=
  congrArg nu (funext fun a => by fin_cases a; exact Fin.ext (by show _ = 0; exact Nat.lt_one_iff.1 (Fin.isLt _)))

theorem scal199 (nu : IVec S1 32) (k : Cert.Pre_tables.S199.Idx) :
    broadcastInDim Cert.Pre_tables.S199 ![] Cert.Pre_tables.Gen.bcast_S_S199 (shapeCast Cert.Pre_tables.S_ nu Cert.Pre_tables.Gen.shapeCasts_S1_S_) k = nu (ix1 (0 : Fin 1)) :=
  scal nu _ _
theorem scal200 (nu : IVec S1 32) (k : Cert.Pre_tables.S200.Idx) :
    broadcastInDim Cert.Pre_tables.S200 ![] Cert.Pre_tables.Gen.bcast_S_S200 (subi (shapeCast Cert.Pre_tables.S_ nu Cert.Pre_tables.Gen.shapeCasts_S1_S_) (constantI Cert.Pre_tables.S_ 32 1#32)) k = nu (ix1 (0 : Fin 1)) - 1#32 :=
  congrArg (fun w : BitVec 32 => w - 1#32) (scal nu _ _)

theorem tail1 (x : IVec S200 32) (k : Fin 199) (h) :
    extractStridedSlice (s := Cert.Pre_tables.S200) Cert.Pre_tables.S199 ![1] x h (ix1 k) = x (ix1 (⟨k.val + 1, by omega⟩ : Fin 200)) :=
  extractStridedSlice_apply (s := Cert.Pre_tables.S200) (t := Cert.Pre_tables.S199) ![1] x h (ix1 k) (ix1 (⟨k.val + 1, by omega⟩ : Fin 200))
    (fun b => by fin_cases b; exact Nat.add_comm _ _)
theorem init1 (x : IVec S200 32) (k : Fin 199) (h) :
    extractStridedSlice (s := Cert.Pre_tables.S200) Cert.Pre_tables.S199 ![0] x h (ix1 k) = x (ix1 (⟨k.val, by omega⟩ : Fin 200)) :=
  extractStridedSlice_apply (s := Cert.Pre_tables.S200) (t := Cert.Pre_tables.S199) ![0] x h (ix1 k) (ix1 (⟨k.val, by omega⟩ : Fin 200))
    (fun b => by fin_cases b; exact (Nat.zero_add _).symm)

section
variable (be : IVec S200 32) (nu : IVec S1 32) (sl nx : IVec S200 32) (x : FVec F S102400x2048 .bf16) (w5 w6 : FVec F S2x64x2048x512 .f32) (w7 : FVec F S2x64x512x2048 .f32)

/-- What the precondition says, table word by table word. -/
theorem pre_words (h : Cert.Pre_tables.fn (F := F) be nu sl nx x w5 w6 w7 = fun _ => 1#1) :
    (∀ t : Fin 200, 0 ≤ (be (ix1 t)).toInt ∧ (be (ix1 t)).toInt < 64)
    ∧ (1 ≤ (nu (ix1 (0 : Fin 1))).toInt ∧ (nu (ix1 (0 : Fin 1))).toInt ≤ 200)
    ∧ (∀ t : Fin 200, sl (ix1 t) = 0#32 ∨ sl (ix1 t) = 1#32)
    ∧ (∀ k : Fin 199, (BitVec.ofNat 32 (k.val + 1)).toInt < (nu (ix1 (0 : Fin 1))).toInt →
        if be (ix1 (⟨k.val + 1, by omega⟩ : Fin 200)) = be (ix1 (⟨k.val, by omega⟩ : Fin 200))
        then sl (ix1 (⟨k.val + 1, by omega⟩ : Fin 200)) = sl (ix1 (⟨k.val, by omega⟩ : Fin 200)) ∧ nx (ix1 (⟨k.val + 1, by omega⟩ : Fin 200)) = nx (ix1 (⟨k.val, by omega⟩ : Fin 200))
        else sl (ix1 (⟨k.val + 1, by omega⟩ : Fin 200)) = 1#32 - sl (ix1 (⟨k.val, by omega⟩ : Fin 200)) ∧ nx (ix1 (⟨k.val, by omega⟩ : Fin 200)) = be (ix1 (⟨k.val + 1, by omega⟩ : Fin 200)))
    ∧ (∀ t : Fin 200, BitVec.ofNat 32 t.val = nu (ix1 (0 : Fin 1)) - 1#32 → (nx (ix1 t)).toInt < 0) := by
  have j : Cert.Pre_tables.S_.Idx := fun i => i.elim0
  have e := congrFun h j
  unfold Cert.Pre_tables.fn Cert.Pre_tables.fn_part1 Cert.Pre_tables.fn_part2 Cert.Pre_tables.fn_where Cert.Pre_tables.fn_where_0 Cert.Pre_tables.fn_where_1 at e
  dsimp only at e
  obtain ⟨e, e5⟩ := (bitw_and _ _).1 e
  obtain ⟨e, e4⟩ := (bitw_and _ _).1 e
  obtain ⟨e, e3⟩ := (bitw_and _ _).1 e
  obtain ⟨e, e2⟩ := (bitw_and _ _).1 e
  obtain ⟨e0, e1⟩ := (bitw_and _ _).1 e
  have a0 := Host.reduce_andi_all _ _ _ _ j e0
  have a3 := Host.reduce_andi_all _ _ _ _ j e3
  have a4 := Host.reduce_andi_all _ _ _ _ j e4
  have a5 := Host.reduce_andi_all _ _ _ _ j e5
  refine ⟨fun t => ?_, ⟨?_, ?_⟩, fun t => ?_, fun k hk => ?_, fun t ht => ?_⟩
  · obtain ⟨p, q⟩ := (bitw_and _ _).1 (a0 (ix1 t))
    exact ⟨(cmpw_sge _ _).1 p, (cmpw_slt _ _).1 q⟩
  · have p := (cmpw_sge _ _).1 e1
    rw [scal] at p
    exact p
  · have p := (cmpw_sle _ _).1 e2
    rw [scal] at p
    exact p
  · exact ((bitw_or _ _).1 (a3 (ix1 t))).imp (fun p => (cmpw_eq _ _).1 p) (fun p => (cmpw_eq _ _).1 p)
  · have p := (sel_bit _ _ _).symm.trans (a4 (ix1 k))
    rw [← tail1 be k Cert.Pre_tables.Gen.slices_S200_S199_1, ← init1 be k Cert.Pre_tables.Gen.slices_S200_S199_0, ← tail1 sl k Cert.Pre_tables.Gen.slices_S200_S199_1, ← init1 sl k Cert.Pre_tables.Gen.slices_S200_S199_0, ← tail1 nx k Cert.Pre_tables.Gen.slices_S200_S199_1, ← init1 nx k Cert.Pre_tables.Gen.slices_S200_S199_0]
    split_ifs at p with hc
    · have p := (sel_bit _ _ _).symm.trans p
      split_ifs at p with hd
      · rw [if_pos ((cmpw_eq _ _).1 hd)]
        obtain ⟨p, q⟩ := (bitw_and _ _).1 p
        exact ⟨(cmpw_eq _ _).1 p, (cmpw_eq _ _).1 q⟩
      · rw [if_neg (fun q => hd ((cmpw_eq _ _).2 q))]
        obtain ⟨p, q⟩ := (bitw_and _ _).1 p
        exact ⟨(cmpw_eq _ _).1 p, (cmpw_eq _ _).1 q⟩
    · refine absurd (show IntOp.cmpi .slt (1#32 + BitVec.ofNat 32 k.val) (broadcastInDim Cert.Pre_tables.S199 ![] Cert.Pre_tables.Gen.bcast_S_S199 (shapeCast Cert.Pre_tables.S_ nu Cert.Pre_tables.Gen.shapeCasts_S1_S_) (ix1 k)) = 1#1 from (cmpw_slt _ _).2 ?_) hc
      rw [scal199, show 1#32 + BitVec.ofNat 32 k.val = BitVec.ofNat 32 (k.val + 1) by rw [BitVec.add_comm, ← BitVec.ofNat_add]]
      exact hk
  · have p := (sel_bit _ _ _).symm.trans (a5 (ix1 t))
    split_ifs at p with hc
    · exact (cmpw_slt _ _).1 p
    · refine absurd (show IntOp.cmpi .eq (BitVec.ofNat 32 t.val) (broadcastInDim Cert.Pre_tables.S200 ![] Cert.Pre_tables.Gen.bcast_S_S200 (subi (shapeCast Cert.Pre_tables.S_ nu Cert.Pre_tables.Gen.shapeCasts_S1_S_) (constantI Cert.Pre_tables.S_ 32 1#32)) (ix1 t)) = 1#1 from (cmpw_eq _ _).2 ?_) hc
      rw [scal200]
      exact ht
end

variable (m : (ℓ : Loc nD τ sig) → Buf (Elt F) ℓ)

/-- The words that the body loads are the tables'. -/
theorem bw_eq (c : Dev nD) (t : Fin grid0.N) : bw m c t = (m ((c : Thread nD τ).loc main_arg0) : IVec S200 32) (ix1 (⟨t.val, t.isLt⟩ : Fin 200)) := by
  refine congrArg (m ((c : Thread nD τ).loc main_arg0)) (funext fun a => Fin.ext ?_)
  fin_cases a
  exact (Nat.add_zero _).trans (off10_eq t 0)
theorem sw_eq (c : Dev nD) (t : Fin grid0.N) : sw m c t = (m ((c : Thread nD τ).loc main_arg2) : IVec S200 32) (ix1 (⟨t.val, t.isLt⟩ : Fin 200)) := by
  refine congrArg (m ((c : Thread nD τ).loc main_arg2)) (funext fun a => Fin.ext ?_)
  fin_cases a
  exact (Nat.add_zero _).trans (off10_eq t 0)
theorem xw_eq (c : Dev nD) (t : Fin grid0.N) : xw m c t = (m ((c : Thread nD τ).loc main_arg3) : IVec S200 32) (ix1 (⟨t.val, t.isLt⟩ : Fin 200)) := by
  refine congrArg (m ((c : Thread nD τ).loc main_arg3)) (funext fun a => Fin.ext ?_)
  fin_cases a
  exact (Nat.add_zero _).trans (off10_eq t 0)
theorem nw_eq (c : Dev nD) : nw m c = (m ((c : Thread nD τ).loc main_arg1) : IVec S1 32) (ix1 (0 : Fin 1)) := by
  refine congrArg (m ((c : Thread nD τ).loc main_arg1)) (funext fun a => Fin.ext ?_)
  fin_cases a
  rfl

/-- A memory whose tables meet the precondition. -/
theorem good_of_pre (h : ∀ c : Dev nD, Cert.Pre_tables.fn (F := F) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) = fun _ => 1#1) : GoodM m := fun c => by
  obtain ⟨p0, ⟨p1, p2⟩, p3, p4, p5⟩ := pre_words (F := F) _ _ _ _ _ _ _ _ (h c)
  rw [← nw_eq m c] at p1 p2 p4 p5
  obtain ⟨n1, n2⟩ := nat_of_int (x := nw m c) (by omega)
  have hN : ∀ t : Fin grid0.N, t.val < 200 := fun t => t.isLt
  refine ⟨fun t => ?_, by omega, by omega, fun t => ?_, fun t u e hu hb => ?_, fun t u e hu hb => ?_, fun t e => ?_⟩
  · rw [bw_eq]
    obtain ⟨q1, q2⟩ := p0 (⟨t.val, t.isLt⟩ : Fin 200)
    have := nat_of_int q1
    omega
  · rw [sw_eq]
    rcases p3 (⟨t.val, t.isLt⟩ : Fin 200) with q | q <;> rw [q] <;> decide
  · have hu' := hN u
    have q := p4 (⟨t.val, by omega⟩ : Fin 199) (by rw [int_small _ (by show t.val + 1 < 1000; omega)]; show ((t.val + 1 : ℕ) : ℤ) < _; omega)
    obtain ⟨u, hu0⟩ := u
    obtain ⟨t, ht0⟩ := t
    dsimp only at e
    subst e
    rw [bw_eq, bw_eq] at hb
    rw [if_pos hb] at q
    rw [sw_eq, sw_eq, xw_eq, xw_eq]
    exact q
  · have hu' := hN u
    have q := p4 (⟨t.val, by omega⟩ : Fin 199) (by rw [int_small _ (by show t.val + 1 < 1000; omega)]; show ((t.val + 1 : ℕ) : ℤ) < _; omega)
    obtain ⟨u, hu0⟩ := u
    obtain ⟨t, ht0⟩ := t
    dsimp only at e
    subst e
    rw [bw_eq, bw_eq] at hb
    rw [if_neg hb] at q
    rw [sw_eq, sw_eq, xw_eq, bw_eq]
    exact q
  · have q := p5 (⟨t.val, t.isLt⟩ : Fin 200) (BitVec.eq_of_toNat_eq (by rw [BitVec.toNat_ofNat, BitVec.toNat_sub]; have := hN t; simp; omega))
    rw [xw_eq]
    unfold k0_cond3
    dsimp only
    rw [bit_ne]
    intro e'
    have q' := (cmpw_sge _ _).1 e'
    have : (0#32).toInt = 0 := rfl
    omega

end Cert.Proof.H
-- ==== Proof.H.Spec.lean ====
/-
  The routed experts' rows as a function of the tables, the sorted rows and the three weights.
-/
module

public import proofs.«01_k».proof.Kernel8Ideal
public import Idealize.ShloMosaic.Lib.Pointwise

@[expose] public section

noncomputable section

namespace Cert.Proof.H

open Cert.Kernel8Ideal
open Idealize.ShloMosaic Idealize.ShloMosaic.TcCoe

section
variable (be : IVec S200 32) (nu : IVec S1 32) (x : Vec Ideal S102400x2048 .bf16) (w5 w6 : Vec Ideal S2x64x2048x512 .f32) (w7 : Vec Ideal S2x64x512x2048 .f32)

/-- The expert of block `b`. -/
def expE (b : Fin 200) : Fin 64 := ⟨(be (ix1 b)).toNat % 64, Nat.mod_lt _ (by decide)⟩

/-- Row `a` of block `b`. -/
def rowE (b : Fin 200) (a : Fin 512) : Fin 102400 := ⟨512 * b.val + a.val, by have := b.isLt; have := a.isLt; omega⟩

/-- A row's product with its expert's columns, the gated product, and the row that goes down again. -/
def upE (w : Vec Ideal S2x64x2048x512 .f32) (b : Fin 200) (a f : Fin 512) : EReal := ∑ k : Fin 2048, (x (ix2 (rowE b a) k) : EReal) * (w (ix4 (0 : Fin 2) (expE be b) k f) : EReal)
def hidE (b : Fin 200) (a f : Fin 512) : EReal := (upE be x w5 b a f * Ideal.logistic (upE be x w5 b a f)) * upE be x w6 b a f
def downE (b : Fin 200) (a : Fin 512) (j : Fin 2048) : EReal := ∑ f : Fin 512, hidE be x w5 w6 b a f * (w7 (ix4 (0 : Fin 2) (expE be b) f j) : EReal)

/-- A block in use holds its expert's rows, a block past those zeros. -/
def outE (b : Fin 200) (a : Fin 512) (j : Fin 2048) : EReal := if b.val < (nu (ix1 (0 : Fin 1))).toNat then downE be x w5 w6 w7 b a j else 0

/-- All rows. -/
def arrE : S102400x2048.Idx → EReal := fun y =>
  outE be nu x w5 w6 w7 ⟨(y 0).val / 512, by have : (y 0).val < 102400 := (y 0).isLt; omega⟩ ⟨(y 0).val % 512, Nat.mod_lt _ (by decide)⟩ (y 1)
end

end Cert.Proof.H
-- ==== Proof.H.Array.lean ====
/-
  The array that the routed experts' program ends with.
-/
module

public import proofs.«01_k».proof.Proof.H.Run
public import proofs.«01_k».proof.Proof.H.Pre
public import proofs.«01_k».proof.Proof.H.Spec
public import Idealize.ShloMosaic.Lib.Pipeline.ValueKit
public import Idealize.ShloMosaic.Lib.Pipeline.Value
public import Idealize.ShloMosaic.Lib.IdealHost

@[expose] public section

set_option maxRecDepth 65536

noncomputable section

namespace Cert.Proof.H

open Cert.Kernel8Ideal Cert.Kernel8Ideal.Gen
open Idealize.ShloMosaic Idealize.ShloMosaic.TcCoe
open Idealize.SL Idealize.SL.Sem

variable (m : (ℓ : Loc nD τ sig) → Buf (Elt Ideal) ℓ) (ρ : Dev nD → PrngReg) (H : GoodM m)

/-- The arguments of a device. -/
abbrev beM (c : Dev nD) : IVec S200 32 := m ((c.tc : Thread nD τ).loc main_arg0)
abbrev nuM (c : Dev nD) : IVec S1 32 := m ((c.tc : Thread nD τ).loc main_arg1)
abbrev xM (c : Dev nD) : Vec Ideal S102400x2048 .bf16 := m ((c.tc : Thread nD τ).loc main_arg4)
abbrev w5M (c : Dev nD) : Vec Ideal S2x64x2048x512 .f32 := m ((c.tc : Thread nD τ).loc main_arg5)
abbrev w6M (c : Dev nD) : Vec Ideal S2x64x2048x512 .f32 := m ((c.tc : Thread nD τ).loc main_arg6)
abbrev w7M (c : Dev nD) : Vec Ideal S2x64x512x2048 .f32 := m ((c.tc : Thread nD τ).loc main_arg7)

theorem pay3_apply (x : Vec Ideal S512x2048 .bf16) (u v : Vec Ideal S2048x512 .bf16) (w : Vec Ideal S512x2048 .bf16) (a : Fin 512) (j : Fin 2048) :
    k0_pay3 x u v w (ix2 a j)
      = ∑ f : Fin 512, (((∑ k : Fin 2048, (x (ix2 a k) : EReal) * (u (ix2 k f) : EReal)) * Ideal.logistic (∑ k : Fin 2048, (x (ix2 a k) : EReal) * (u (ix2 k f) : EReal)))
          * (∑ k : Fin 2048, (x (ix2 a k) : EReal) * (v (ix2 k f) : EReal))) * (w (ix2 f j) : EReal) := by
  pointwise [k0_pay3]

theorem pay4_apply (a : Fin 512) (j : Fin 2048) : k0_pay4 (F := Ideal) (ix2 a j) = (0 : EReal) := by
  show Ideal.ofBits .bf16 0x0000#16 = 0
  exact Ideal.ofBits_zero_bf16

/-- An expert's rounded weights, element by element. -/
theorem W1_apply (c : Dev nD) (e : BitVec 32) (he : e.toNat < 64) (k : Fin 2048) (f : Fin 512) :
    W1 c (w5M m c) e he (ix2 k f) = w5M m c (ix4 (0 : Fin 2) (⟨e.toNat, he⟩ : Fin 64) k f) := by
  unfold W1
  refine congrArg (w5M m c) (funext fun a => Fin.ext ?_)
  have hr : Shape.reshapeEquiv (squeezes_S1x1x2048x512_S2048x512).numel_eq (ix2 k f) = (ix4 (0 : Fin 1) (0 : Fin 1) k f : S1x1x2048x512.Idx) := by
    refine S1x1x2048x512.rowMajor.injective (Fin.ext ?_)
    rw [Shape.rowMajor_reshapeEquiv, Shape.rowMajor_val_four, Shape.rowMajor_val_two]
    show k.val * 512 + f.val = ((0 * 1 + 0) * 2048 + k.val) * 512 + f.val
    omega
  show (Rect.emb _ (Shape.reshapeEquiv _ (ix2 k f)) a).val = _
  rw [hr]
  fin_cases a
  · rfl
  · rfl
  · show 0 + 1 * k.val = k.val; omega
  · show 0 + 1 * f.val = f.val; omega

theorem W2_apply (c : Dev nD) (e : BitVec 32) (he : e.toNat < 64) (k : Fin 2048) (f : Fin 512) :
    W2 c (w6M m c) e he (ix2 k f) = w6M m c (ix4 (0 : Fin 2) (⟨e.toNat, he⟩ : Fin 64) k f) := by
  unfold W2
  refine congrArg (w6M m c) (funext fun a => Fin.ext ?_)
  have hr : Shape.reshapeEquiv (squeezes_S1x1x2048x512_S2048x512).numel_eq (ix2 k f) = (ix4 (0 : Fin 1) (0 : Fin 1) k f : S1x1x2048x512.Idx) := by
    refine S1x1x2048x512.rowMajor.injective (Fin.ext ?_)
    rw [Shape.rowMajor_reshapeEquiv, Shape.rowMajor_val_four, Shape.rowMajor_val_two]
    show k.val * 512 + f.val = ((0 * 1 + 0) * 2048 + k.val) * 512 + f.val
    omega
  show (Rect.emb _ (Shape.reshapeEquiv _ (ix2 k f)) a).val = _
  rw [hr]
  fin_cases a
  · rfl
  · rfl
  · show 0 + 1 * k.val = k.val; omega
  · show 0 + 1 * f.val = f.val; omega

theorem W3_apply (c : Dev nD) (e : BitVec 32) (he : e.toNat < 64) (k : Fin 512) (f : Fin 2048) :
    W3 c (w7M m c) e he (ix2 k f) = w7M m c (ix4 (0 : Fin 2) (⟨e.toNat, he⟩ : Fin 64) k f) := by
  unfold W3
  refine congrArg (w7M m c) (funext fun a => Fin.ext ?_)
  have hr : Shape.reshapeEquiv (squeezes_S1x1x512x2048_S512x2048).numel_eq (ix2 k f) = (ix4 (0 : Fin 1) (0 : Fin 1) k f : S1x1x512x2048.Idx) := by
    refine S1x1x512x2048.rowMajor.injective (Fin.ext ?_)
    rw [Shape.rowMajor_reshapeEquiv, Shape.rowMajor_val_four, Shape.rowMajor_val_two]
    show k.val * 2048 + f.val = ((0 * 1 + 0) * 512 + k.val) * 2048 + f.val
    omega
  show (Rect.emb _ (Shape.reshapeEquiv _ (ix2 k f)) a).val = _
  rw [hr]
  fin_cases a
  · rfl
  · rfl
  · show 0 + 1 * k.val = k.val; omega
  · show 0 + 1 * f.val = f.val; omega

theorem coords_val : ∀ t : Fin grid0.N, ((grid0.coords t) 0).val = t.val := by decide +kernel

/-- A step's input block, at an element, where the step is in use. -/
theorem iblk_apply (c : Dev nD) (t : Fin (cfg0 (F := Ideal) (adm m H 0)).N) (b : Fin 200) (hb : b.val = t.val) (ht : t.val < (nw m c).toNat) (a : Fin 512) (k : Fin 2048) :
    iblk m H c t (ix2 a k) = xM m c (ix2 (rowE b a) k) := by
  obtain rfl : c = 0 := Subsingleton.elim c 0
  have hc : ((grid0.coords t) 0).val = t.val := coords_val t
  have e0 := congrFun (ix_eq m H (grid0.coords t)) 0
  have e1 := congrFun (ix_eq m H (grid0.coords t)) 1
  refine congrArg (V m 0 main_arg4) (funext fun b' => Fin.ext ?_)
  fin_cases b'
  · show cc0_transform_0 inb_S1_S1_0 numel1_S1 (pf m) (grid0.coords t) 0 * 512 + 1 * a.val = 512 * b.val + a.val
    rw [e0]
    show min ((grid0.coords t) 0).val ((nw m 0).toNat - 1) * 512 + 1 * a.val = _
    rw [hc]
    omega
  · show cc0_transform_0 inb_S1_S1_0 numel1_S1 (pf m) (grid0.coords t) 1 * 2048 + 1 * k.val = k.val
    rw [e1]
    show 0 * 2048 + 1 * k.val = _
    omega

/-- What a step writes back, at an element, from an input block that holds the step's rows. -/
theorem outV_apply (c : Dev nD) (t : Fin grid0.N) (x : Vec Ideal S512x2048 .bf16) (b : Fin 200) (hb : b.val = t.val)
    (hx : t.val < (nw m c).toNat → ∀ (a : Fin 512) (k : Fin 2048), x (ix2 a k) = xM m c (ix2 (rowE b a) k)) (a : Fin 512) (j : Fin 2048) :
    outV m H c t x (ix2 a j) = outE (beM m c) (nuM m c) (xM m c) (w5M m c) (w6M m c) (w7M m c) b a j := by
  have hlt := (H c).hb t
  have hw : bw m c t = beM m c (ix1 b) := (bw_eq m c t).trans (congrArg (beM m c) (congrArg (fun z : Fin 200 => (ix1 z : S200.Idx)) (Fin.ext hb.symm)))
  have he : (⟨(bw m c t).toNat, hlt⟩ : Fin 64) = expE (beM m c) b := Fin.ext (by
    show (bw m c t).toNat = ((beM m c) (ix1 b)).toNat % 64
    rw [← hw]
    exact (Nat.mod_eq_of_lt hlt).symm)
  have hn : (nuM m c (ix1 (0 : Fin 1))).toNat = (nw m c).toNat := congrArg BitVec.toNat (nw_eq m c).symm
  have q1 : ∀ (k : Fin 2048) (f : Fin 512), W1 c (m ((c : Thread nD τ).loc main_arg5)) (bw m c t) hlt (ix2 k f) = w5M m c (ix4 (0 : Fin 2) (expE (beM m c) b) k f) := fun k f => (W1_apply m c _ hlt k f).trans (by rw [he])
  have q2 : ∀ (k : Fin 2048) (f : Fin 512), W2 c (m ((c : Thread nD τ).loc main_arg6)) (bw m c t) hlt (ix2 k f) = w6M m c (ix4 (0 : Fin 2) (expE (beM m c) b) k f) := fun k f => (W2_apply m c _ hlt k f).trans (by rw [he])
  have q3 : ∀ (f : Fin 512) (j : Fin 2048), W3 c (m ((c : Thread nD τ).loc main_arg7)) (bw m c t) hlt (ix2 f j) = w7M m c (ix4 (0 : Fin 2) (expE (beM m c) b) f j) := fun k f => (W3_apply m c _ hlt k f).trans (by rw [he])
  unfold outV outE
  rw [hn, hb]
  by_cases h : t.val < (nw m c).toNat
  · rw [if_pos h, if_pos h]
    refine (pay3_apply x _ _ _ a j).trans ?_
    unfold downE hidE upE
    refine Finset.sum_congr rfl fun f _ => ?_
    have s1 : (∑ k : Fin 2048, (x (ix2 a k) : EReal) * (W1 c (m ((c : Thread nD τ).loc main_arg5)) (bw m c t) hlt (ix2 k f) : EReal)) = ∑ k : Fin 2048, (xM m c (ix2 (rowE b a) k) : EReal) * (w5M m c (ix4 (0 : Fin 2) (expE (beM m c) b) k f) : EReal) :=
      Finset.sum_congr rfl fun k _ => by rw [hx h a k, q1 k f]
    have s2 : (∑ k : Fin 2048, (x (ix2 a k) : EReal) * (W2 c (m ((c : Thread nD τ).loc main_arg6)) (bw m c t) hlt (ix2 k f) : EReal)) = ∑ k : Fin 2048, (xM m c (ix2 (rowE b a) k) : EReal) * (w6M m c (ix4 (0 : Fin 2) (expE (beM m c) b) k f) : EReal) :=
      Finset.sum_congr rfl fun k _ => by rw [hx h a k, q2 k f]
    rw [s1, s2, q3 f j]
  · rw [if_neg h, if_neg h]
    exact pay4_apply a j

/-- The element of the result that a step's block holds at `(y0, y1)`. -/
abbrev posE (t : Fin (cfg0 (F := Ideal) (adm m H 0)).N) (y0 : Fin 512) (y1 : Fin 2048) : S102400x2048.Idx := (((cfg0 (F := Ideal) (adm m H 0)).win 1).blk t).view.emb (ix2 y0 y1)

theorem posE_0 (t : Fin (cfg0 (F := Ideal) (adm m H 0)).N) (y0 : Fin 512) (y1 : Fin 2048) : (posE m H t y0 y1 0).val = 512 * t.val + y0.val := by
  have hc : ((grid0.coords t) 0).val = t.val := coords_val t
  show (BitVec.ofNat 32 ((grid0.coords t) 0).val).toNat * 512 + 1 * y0.val = _
  have : t.val < 200 := t.isLt
  rw [hc, BitVec.toNat_ofNat]; omega
theorem posE_1 (t : Fin (cfg0 (F := Ideal) (adm m H 0)).N) (y0 : Fin 512) (y1 : Fin 2048) : (posE m H t y0 y1 1).val = y1.val := by
  show 0 * 2048 + 1 * y1.val = _
  omega

theorem arrE_pos (be : IVec S200 32) (nu : IVec S1 32) (x : Vec Ideal S102400x2048 .bf16) (w5 w6 : Vec Ideal S2x64x2048x512 .f32) (w7 : Vec Ideal S2x64x512x2048 .f32)
    (b : Fin 200) (a : Fin 512) (j : Fin 2048) (y : S102400x2048.Idx) (h0 : (y 0).val = 512 * b.val + a.val) (h1 : (y 1).val = j.val) :
    arrE be nu x w5 w6 w7 y = outE be nu x w5 w6 w7 b a j := by
  have := a.isLt
  unfold arrE
  exact congr (congrArg₂ (outE be nu x w5 w6 w7) (Fin.ext (by show (y 0).val / 512 = b.val; omega)) (Fin.ext (by show (y 0).val % 512 = a.val; omega))) (Fin.ext h1)

theorem flush1 : ∀ t : Fin grid0.N, Pipeline.Window.flushOf grid0 true cc0_transform_4 t = true ∧ cc0_transform_4 (grid0.coords t) 0 = t.val ∧ cc0_transform_4 (grid0.coords t) 1 = 0 := by decide +kernel

/-- Every block of the result is written back. -/
theorem covers1 : ((cfg0 (F := Ideal) (adm m H 0)).win 1).Covers := by
  refine ⟨fun a => ?_, fun β => ?_⟩
  · fin_cases a
    · exact (by decide : 0 < 512)
    · exact (by decide : 0 < 2048)
  · have h0 : (β (0 : Fin 2)).val < (102400 + 512 - 1) / 512 := (β (0 : Fin 2)).isLt
    have h1 : (β (1 : Fin 2)).val < (2048 + 2048 - 1) / 2048 := (β (1 : Fin 2)).isLt
    have hb : (β (0 : Fin 2)).val < grid0.N := by show (β (0 : Fin 2)).val < 200; omega
    obtain ⟨f, i0, i1⟩ := flush1 ⟨(β (0 : Fin 2)).val, hb⟩
    refine ⟨⟨(β (0 : Fin 2)).val, hb⟩, f, fun a => ?_⟩
    fin_cases a
    · exact ⟨i0, .inl rfl⟩
    · exact ⟨i1.trans (by show 0 = (β (1 : Fin 2)).val; omega), .inl rfl⟩

set_option maxHeartbeats 1000000 in
theorem arr1 (c : Dev nD) : (dats m H 0 c).arrAt 1 (cfg0 (F := Ideal) (adm m H 0)).N = arrE (beM m c) (nuM m c) (xM m c) (w5M m c) (w6M m c) (w7M m c) := by
  refine (dats m H 0 c).arrAt_eq_of_covers 1 _ ?_ fun t hf y => ?_
  · exact covers1 m H
  change S512x2048.Idx at y
  idx_vars y
  have hN : t.val < 200 := t.isLt
  refine (show _ = outV m H c t (iblk m H c t) (ix2 y0 y1) from rfl).trans ((outV_apply m H c t _ (⟨t.val, hN⟩ : Fin 200) rfl (fun h a k => iblk_apply m H c t ⟨t.val, hN⟩ rfl h a k) y0 y1).trans ?_)
  exact (arrE_pos _ _ _ _ _ _ (⟨t.val, hN⟩ : Fin 200) y0 y1 (posE m H t y0 y1) (posE_0 m H t y0 y1) (posE_1 m H t y0 y1)).symm

include H in
/-- The kernel ends with its result at the spec's array. -/
theorem run_value :
    θ_run defs (onTc (τ := τ) (main (F := Ideal))) ⟨m, fun _ => 0, ρ⟩ (fun r => ∀ c : Dev nD,
      r.2.mem ((c.tc : Thread nD τ).loc main_v0) = arrE (beM m c) (nuM m c) (xM m c) (w5M m c) (w6M m c) (w7M m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have k := h.1 c
    ⟨(k.1 1).trans (arr1 m H c),
      k.2 main_arg0 (rest_mem m H main_arg0 (by decide)), k.2 main_arg1 (rest_mem m H main_arg1 (by decide)),
      k.2 main_arg2 (rest_mem m H main_arg2 (by decide)), k.2 main_arg3 (rest_mem m H main_arg3 (by decide)),
      (k.1 0).trans ((dats m H 0 c).arrAt_in 0 rfl _),
      k.2 main_arg5 (rest_mem m H main_arg5 (by decide)), k.2 main_arg6 (rest_mem m H main_arg6 (by decide)),
      k.2 main_arg7 (rest_mem m H main_arg7 (by decide))⟩) (run_main m ρ H)

end Cert.Proof.H
-- ==== Proof.H.Ref.lean ====
/-
  The reference's array is the routed experts' of `Spec`, where every block's expert is one of the 64 and the number of blocks in use is at most 200.
-/
module

public import proofs.«01_k».proof.Proof.H.Spec
public import proofs.«01_k».proof.Proof.Gen.Reference8Ideal.Read
public import Idealize.ShloMosaic.Lib.Pipeline.Value
public import Idealize.ShloMosaic.Lib.IdealHost
public import Idealize.ShloMosaic.Lib.WordCmp

@[expose] public section

set_option maxRecDepth 65536

noncomputable section

namespace Cert.Proof.H

open Cert.Reference8Ideal Cert.Reference8Ideal.Gen Cert.Reference8Ideal.Read
open Idealize.ShloMosaic Idealize.ShloMosaic.TcCoe

/-- The gather reads, at a block's place, the slab whose number the block's start index is, kept within the slabs. -/
theorem gatherUp (x : S64x2048x512.Idx → EReal) (idx : IVec S200x1 32) (b : Fin 200) (k : Fin 2048) (f : Fin 512) :
    Host.gather gather_S64x2048x512_S200x1_S200x2048x512_12_0_n_n_0_1_12048512 x idx (ix3 b k f)
      = x (ix3 (⟨min (idx (ix2 b (0 : Fin 1))).toInt.toNat 63, by omega⟩ : Fin 64) k f) := by
  unfold Host.gather
  refine congrArg x (funext fun a => Fin.ext ?_)
  show gather_S64x2048x512_S200x1_S200x2048x512_12_0_n_n_0_1_12048512.start (ix3 b k f) idx a + gather_S64x2048x512_S200x1_S200x2048x512_12_0_n_n_0_1_12048512.batchCoord (ix3 b k f) a + gather_S64x2048x512_S200x1_S200x2048x512_12_0_n_n_0_1_12048512.offCoord (ix3 b k f) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (by exact List.mem_singleton.mpr rfl)]
    refine congrArg (fun z : S200x1.Idx => min (idx z).toInt.toNat 63) (funext fun b' => Fin.ext ?_)
    match b' with
    | ⟨0, _⟩ => rfl
    | ⟨1, _⟩ => rfl
  | ⟨1, _⟩ =>
    unfold GatherDims.start
    split_ifs with hh
    · exact absurd hh (show (1 : Fin 3) ∉ [(0 : Fin 3)] by decide)
    rw [Nat.zero_add]
    rfl
  | ⟨2, _⟩ =>
    unfold GatherDims.start
    split_ifs with hh
    · exact absurd hh (show (2 : Fin 3) ∉ [(0 : Fin 3)] by decide)
    rw [Nat.zero_add]
    rfl

theorem gatherDown (x : S64x512x2048.Idx → EReal) (idx : IVec S200x1 32) (b : Fin 200) (f : Fin 512) (k : Fin 2048) :
    Host.gather gather_S64x512x2048_S200x1_S200x512x2048_12_0_n_n_0_1_15122048 x idx (ix3 b f k)
      = x (ix3 (⟨min (idx (ix2 b (0 : Fin 1))).toInt.toNat 63, by omega⟩ : Fin 64) f k) := by
  unfold Host.gather
  refine congrArg x (funext fun a => Fin.ext ?_)
  show gather_S64x512x2048_S200x1_S200x512x2048_12_0_n_n_0_1_15122048.start (ix3 b f k) idx a + gather_S64x512x2048_S200x1_S200x512x2048_12_0_n_n_0_1_15122048.batchCoord (ix3 b f k) a + gather_S64x512x2048_S200x1_S200x512x2048_12_0_n_n_0_1_15122048.offCoord (ix3 b f k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (by exact List.mem_singleton.mpr rfl)]
    refine congrArg (fun z : S200x1.Idx => min (idx z).toInt.toNat 63) (funext fun b' => Fin.ext ?_)
    match b' with
    | ⟨0, _⟩ => rfl
    | ⟨1, _⟩ => rfl
  | ⟨1, _⟩ =>
    unfold GatherDims.start
    split_ifs with hh
    · exact absurd hh (show (1 : Fin 3) ∉ [(0 : Fin 3)] by decide)
    rw [Nat.zero_add]
    rfl
  | ⟨2, _⟩ =>
    unfold GatherDims.start
    split_ifs with hh
    · exact absurd hh (show (2 : Fin 3) ∉ [(0 : Fin 3)] by decide)
    rw [Nat.zero_add]
    rfl

section
variable (x0 : Vec Ideal S200 .i32) (x1 : Vec Ideal S1 .i32) (x4 : Vec Ideal S102400x2048 .bf16) (x5 x6 : Vec Ideal S2x64x2048x512 .f32) (x7 : Vec Ideal S2x64x512x2048 .f32)
variable (hb : ∀ t : Fin 200, ((x0 : IVec S200 32) (ix1 t)).toNat < 64) (hn : ((x1 : IVec S1 32) (ix1 (0 : Fin 1))).toNat ≤ 200)

/-- An index that is not negative is not wrapped. -/
theorem wrap_eq (w : BitVec 32) (h : w.toNat < 64) : Scalar.select (IntOp.cmpi .slt w 0#32) (IntOp.addi w 64#32) w = w := by
  rw [WordCmp.cmpi_slt_eq, WordCmp.toInt_eq_toNat_of_lt_half (x := w) (by omega)]
  rw [show decide ((w.toNat : ℤ) < (0#32 : BitVec 32).toInt) = false from decide_eq_false (by show ¬ (w.toNat : ℤ) < 0; omega)]
  rfl

theorem clamp_eq (w : BitVec 32) (h : w.toNat < 64) : min w.toInt.toNat 63 = w.toNat % 64 := by
  rw [WordCmp.toInt_eq_toNat_of_lt_half (x := w) (by omega)]
  omega

include hb in
theorem idx9 (b : Fin 200) : val_main_v9 (F := Ideal) x0 (ix2 b (0 : Fin 1)) = x0 (ix1 b) := by
  rw [val_main_v9_apply, show idx_main_v9 (ix2 b (0 : Fin 1)) = ix1 b from funext fun a => by fin_cases a; rfl, val_main_v8_apply, val_main_v7_apply, val_main_v5_apply, val_main_v4_apply, val_main_v6_apply, val_main_c_apply, val_main_c_0_apply]
  exact wrap_eq _ (hb b)
include hb in
theorem idx18 (b : Fin 200) : val_main_v18 (F := Ideal) x0 (ix2 b (0 : Fin 1)) = x0 (ix1 b) := by
  rw [val_main_v18_apply, show idx_main_v18 (ix2 b (0 : Fin 1)) = ix1 b from funext fun a => by fin_cases a; rfl, val_main_v17_apply, val_main_v16_apply, val_main_v14_apply, val_main_v13_apply, val_main_v15_apply, val_main_c_1_apply, val_main_c_2_apply]
  exact wrap_eq _ (hb b)
include hb in
theorem idx27 (b : Fin 200) : val_main_v27 (F := Ideal) x0 (ix2 b (0 : Fin 1)) = x0 (ix1 b) := by
  rw [val_main_v27_apply, show idx_main_v27 (ix2 b (0 : Fin 1)) = ix1 b from funext fun a => by fin_cases a; rfl, val_main_v26_apply, val_main_v25_apply, val_main_v23_apply, val_main_v22_apply, val_main_v24_apply, val_main_c_3_apply, val_main_c_4_apply]
  exact wrap_eq _ (hb b)

theorem w3_apply (e : Fin 64) (k : Fin 2048) (f : Fin 512) : val_main_v3 (F := Ideal) x5 (ix3 e k f) = x5 (ix4 (0 : Fin 2) e k f) := by
  rw [val_main_v3_apply, val_main_v2_apply]
  refine congrArg x5 (funext fun a => Fin.ext ?_)
  have h0 := e.isLt
  have h1 := k.isLt
  have h2 := f.isLt
  fin_cases a
  · rfl
  · show ((e.val * 2048 + k.val) * 512 + f.val) / 1048576 % 64 = e.val; omega
  · show ((e.val * 2048 + k.val) * 512 + f.val) / 512 % 2048 = k.val; omega
  · show ((e.val * 2048 + k.val) * 512 + f.val) % 512 = f.val; omega
theorem w12_apply (e : Fin 64) (k : Fin 2048) (f : Fin 512) : val_main_v12 (F := Ideal) x6 (ix3 e k f) = x6 (ix4 (0 : Fin 2) e k f) := by
  rw [val_main_v12_apply, val_main_v11_apply]
  refine congrArg x6 (funext fun a => Fin.ext ?_)
  have h0 := e.isLt
  have h1 := k.isLt
  have h2 := f.isLt
  fin_cases a
  · rfl
  · show ((e.val * 2048 + k.val) * 512 + f.val) / 1048576 % 64 = e.val; omega
  · show ((e.val * 2048 + k.val) * 512 + f.val) / 512 % 2048 = k.val; omega
  · show ((e.val * 2048 + k.val) * 512 + f.val) % 512 = f.val; omega
theorem w21_apply (e : Fin 64) (f : Fin 512) (k : Fin 2048) : val_main_v21 (F := Ideal) x7 (ix3 e f k) = x7 (ix4 (0 : Fin 2) e f k) := by
  rw [val_main_v21_apply, val_main_v20_apply]
  refine congrArg x7 (funext fun a => Fin.ext ?_)
  have h0 := e.isLt
  have h1 := k.isLt
  have h2 := f.isLt
  fin_cases a
  · rfl
  · show ((e.val * 512 + f.val) * 2048 + k.val) / 1048576 % 64 = e.val; omega
  · show ((e.val * 512 + f.val) * 2048 + k.val) / 2048 % 512 = f.val; omega
  · show ((e.val * 512 + f.val) * 2048 + k.val) % 2048 = k.val; omega

include hb in
theorem w10_apply (b : Fin 200) (k : Fin 2048) (f : Fin 512) : val_main_v10 (F := Ideal) x0 x5 (ix3 b k f) = x5 (ix4 (0 : Fin 2) (expE x0 b) k f) := by
  unfold val_main_v10
  refine (gatherUp _ _ b k f).trans ((w3_apply x5 _ k f).trans ?_)
  refine congrArg (fun e : Fin 64 => x5 (ix4 (0 : Fin 2) e k f)) (Fin.ext ?_)
  show min (val_main_v9 (F := Ideal) x0 (ix2 b (0 : Fin 1))).toInt.toNat 63 = _
  rw [idx9 x0 hb b]
  exact clamp_eq _ (hb b)
include hb in
theorem w19_apply (b : Fin 200) (k : Fin 2048) (f : Fin 512) : val_main_v19 (F := Ideal) x0 x6 (ix3 b k f) = x6 (ix4 (0 : Fin 2) (expE x0 b) k f) := by
  unfold val_main_v19
  refine (gatherUp _ _ b k f).trans ((w12_apply x6 _ k f).trans ?_)
  refine congrArg (fun e : Fin 64 => x6 (ix4 (0 : Fin 2) e k f)) (Fin.ext ?_)
  show min (val_main_v18 (F := Ideal) x0 (ix2 b (0 : Fin 1))).toInt.toNat 63 = _
  rw [idx18 x0 hb b]
  exact clamp_eq _ (hb b)
include hb in
theorem w28_apply (b : Fin 200) (f : Fin 512) (k : Fin 2048) : val_main_v28 (F := Ideal) x0 x7 (ix3 b f k) = x7 (ix4 (0 : Fin 2) (expE x0 b) f k) := by
  unfold val_main_v28
  refine (gatherDown _ _ b f k).trans ((w21_apply x7 _ f k).trans ?_)
  refine congrArg (fun e : Fin 64 => x7 (ix4 (0 : Fin 2) e f k)) (Fin.ext ?_)
  show min (val_main_v27 (F := Ideal) x0 (ix2 b (0 : Fin 1))).toInt.toNat 63 = _
  rw [idx27 x0 hb b]
  exact clamp_eq _ (hb b)

theorem x1_apply (b : Fin 200) (a : Fin 512) (k : Fin 2048) : val_main_v1 (F := Ideal) x4 (ix3 b a k) = x4 (ix2 (rowE b a) k) := by
  rw [val_main_v1_apply, val_main_v0_apply]
  refine congrArg x4 (funext fun i => Fin.ext ?_)
  have h0 := b.isLt
  have h1 := a.isLt
  have h2 := k.isLt
  fin_cases i
  · show ((b.val * 512 + a.val) * 2048 + k.val) / 2048 = 512 * b.val + a.val; omega
  · show ((b.val * 512 + a.val) * 2048 + k.val) % 2048 = k.val; omega

include hb in
theorem gate_eq (b : Fin 200) (a f : Fin 512) : val_main_v29 (F := Ideal) x0 x4 x5 (ix3 b a f) = upE x0 x4 x5 b a f := by
  rw [val_main_v29_apply]
  refine Finset.sum_congr rfl fun k _ => congrArg₂ (fun a b : EReal => a * b) ((congrArg (val_main_v1 (F := Ideal) x4) (funext fun i => ?_)).trans (x1_apply x4 b a k)) ((congrArg (val_main_v10 (F := Ideal) x0 x5) (funext fun i => ?_)).trans (w10_apply x0 x5 hb b k f))
  · fin_cases i <;> rfl
  · fin_cases i <;> rfl
include hb in
theorem up_eq (b : Fin 200) (a f : Fin 512) : val_main_v31 (F := Ideal) x0 x4 x6 (ix3 b a f) = upE x0 x4 x6 b a f := by
  rw [val_main_v31_apply]
  refine Finset.sum_congr rfl fun k _ => congrArg₂ (fun a b : EReal => a * b) ((congrArg (val_main_v1 (F := Ideal) x4) (funext fun i => ?_)).trans (x1_apply x4 b a k)) ((congrArg (val_main_v19 (F := Ideal) x0 x6) (funext fun i => ?_)).trans (w19_apply x0 x6 hb b k f))
  · fin_cases i <;> rfl
  · fin_cases i <;> rfl

include hb in
/-- One over one and the exponential of the negated gate is the logistic function of it. -/
theorem hid_eq (b : Fin 200) (a f : Fin 512) : val_main_v32 (F := Ideal) x0 x4 x5 x6 (ix3 b a f) = hidE x0 x4 x5 x6 b a f := by
  rw [val_main_v32_apply, val_main_v30_apply, val_main_call0_v5_apply, val_main_call0_v4_apply, val_main_call0_cst_0_apply, val_main_call0_v3_apply, val_main_call0_v2_apply, val_main_call0_cst_apply, val_main_call0_v1_apply, val_main_call0_v0_apply, gate_eq x0 x4 x5 hb, up_eq x0 x4 x6 hb]
  show (upE x0 x4 x5 b a f * Ideal.div (Ideal.ofBits .f32 0x3F800000#32) (Ideal.ofBits .f32 0x3F800000#32 + Ideal.exp (-(upE x0 x4 x5 b a f)))) * upE x0 x4 x6 b a f = _
  rw [Ideal.ofBits_one_f32]
  rfl

include hb in
theorem down_eq (b : Fin 200) (a : Fin 512) (j : Fin 2048) : val_main_v33 (F := Ideal) x0 x4 x5 x6 x7 (ix3 b a j) = downE x0 x4 x5 x6 x7 b a j := by
  rw [val_main_v33_apply]
  refine Finset.sum_congr rfl fun f _ => congrArg₂ (fun a b : EReal => a * b) ((congrArg (val_main_v32 (F := Ideal) x0 x4 x5 x6) (funext fun i => ?_)).trans (hid_eq x0 x4 x5 x6 hb b a f)) ((congrArg (val_main_v28 (F := Ideal) x0 x7) (funext fun i => ?_)).trans (w28_apply x0 x7 hb b f j))
  · fin_cases i <;> rfl
  · fin_cases i <;> rfl

include hn in
theorem used_eq (b : Fin 200) (a : Fin 512) (j : Fin 2048) : val_main_call1_v1 (F := Ideal) x1 (ix3 b a j) = BitVec.ofBool (decide (b.val < ((x1 : IVec S1 32) (ix1 (0 : Fin 1))).toNat)) := by
  rw [val_main_call1_v1_apply, val_main_v38_apply, val_main_v37_apply, val_main_v36_apply]
  have e : val_main_v35 (F := Ideal) x1 = fun _ => x1 (ix1 (0 : Fin 1)) := funext fun i => congrArg x1 (funext fun a => by fin_cases a; exact Fin.ext (Nat.lt_one_iff.1 (Fin.isLt _)))
  rw [e]
  show IntOp.cmpi .slt (BitVec.ofNat 32 b.val) (x1 (ix1 (0 : Fin 1))) = _
  have hb := b.isLt
  have e' : (BitVec.ofNat 32 b.val).toNat = b.val := by rw [BitVec.toNat_ofNat]; omega
  rw [WordCmp.cmpi_slt_of_lt (by rw [e']; omega) (by omega), e']

include hb hn in
theorem v41_eq : val_main_v41 (F := Ideal) x0 x1 x4 x5 x6 x7 = arrE x0 x1 x4 x5 x6 x7 := funext fun y => by
  rw [val_main_v41_apply, val_main_v40_apply]
  have h0 : (y 0).val < 102400 := (y 0).isLt
  have h1 : (y 1).val < 2048 := (y 1).isLt
  have ei : idx_main_v40 y = ix3 (⟨(y 0).val / 512, by omega⟩ : Fin 200) (⟨(y 0).val % 512, Nat.mod_lt _ (by decide)⟩ : Fin 512) (⟨(y 1).val, h1⟩ : Fin 2048) := funext fun a => Fin.ext (by
    fin_cases a
    · show ((y 0).val * 2048 + (y 1).val) / 1048576 = (y 0).val / 512; omega
    · show ((y 0).val * 2048 + (y 1).val) / 2048 % 512 = (y 0).val % 512; omega
    · show ((y 0).val * 2048 + (y 1).val) % 2048 = (y 1).val; omega)
  rw [ei, val_main_v39_apply, used_eq x1 hn, down_eq x0 x4 x5 x6 x7 hb]
  show (Scalar.select _ (downE x0 x4 x5 x6 x7 _ _ _) _ : EReal) = outE x0 x1 x4 x5 x6 x7 _ _ _
  unfold outE
  split_ifs with h
  · rw [decide_eq_true h]; rfl
  · rw [decide_eq_false h]
    exact (val_main_call1_v2_apply (F := Ideal) (ix3 (⟨(y 0).val / 512, by omega⟩ : Fin 200) (⟨(y 0).val % 512, Nat.mod_lt _ (by decide)⟩ : Fin 512) (⟨(y 1).val, h1⟩ : Fin 2048))).trans Ideal.ofBits_zero_f32
end

end Cert.Proof.H
-- ==== Proof.H.Value.lean ====
/-
  The value claim of the routed experts, and the frames of its programs.
-/
module

public import proofs.«01_k».proof.Proof.H.Array
public import proofs.«01_k».proof.Proof.H.Ref
public import proofs.«01_k».proof.Proof.Gen.Reference8Ideal.Run
public import proofs.«01_k».proof.Proof.Gen.Kernel8
public import proofs.«01_k».proof.Defs
public import Idealize.ShloMosaic.Lib.Quiescent

@[expose] public section

set_option maxRecDepth 65536

noncomputable section

namespace Cert.Proof.H

open Idealize.ShloMosaic Idealize.SL.Sem

set_option smartUnfolding false in
set_option maxHeartbeats 1000000 in
/-- The two programs have one text, so the run over any floats gives the kernel's frame. -/
theorem frame_kernel : Cert.quiescent_Kernel8 := fun m g h => frame (F := Bits) m g (good_of_pre (F := Bits) m h)
theorem frame_ideal : Cert.quiescent_Kernel8Ideal := fun m g h => frame m g (good_of_pre m h)

/-- The reference has no semaphores, so its run leaves every counter at zero. -/
theorem frame_ref : Cert.quiescent_Reference8Ideal := fun m g _ =>
  (θ_run _ _ _).mono (fun r h => ⟨fun c => (h c).2, sem_eq_zero_of_no_sems (by decide) r.2⟩) (Cert.Reference8Ideal.Value.run m g)

theorem algebraic : Cert.algebraic_Kernel8Ideal_Reference8Ideal := fun m g m' g' hp hm => by
  have H : GoodM m := good_of_pre m hp
  refine ⟨fun c => arrE (beM m c) (nuM m c) (xM m c) (w5M m c) (w6M m c) (w7M m c), run_value m g H, ?_⟩
  refine (θ_run _ _ _).mono (fun r h c => ?_) (Cert.Reference8Ideal.Value.run m' g')
  obtain ⟨h0, hr⟩ := h c
  obtain ⟨e0, e1, e2, e3, e4, e5, e6, e7⟩ := hm c
  refine ⟨h0.trans ((Cert.Reference8Ideal.Read.val_main_v41_eq _ _ _ _ _ _).trans ?_), hr⟩
  simp only [e0, e1, e4, e5, e6, e7]
  refine v41_eq (beM m c) (nuM m c) (xM m c) (w5M m c) (w6M m c) (w7M m c) (fun t => ?_) ?_
  · exact lt_of_eq_of_lt (congrArg BitVec.toNat (bw_eq m c t).symm) ((H c).hb t)
  · exact le_of_eq_of_le (congrArg BitVec.toNat (nw_eq m c).symm) (H c).n2

end Cert.Proof.H
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.Pre_tables
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Reference8Ideal
public import proofs.«01_k».proof.Proof.Gen.Reference8Ideal.Run
public import proofs.«01_k».proof.Proof.Gen.Reference8Ideal.Read
public import proofs.«01_k».proof.Proof.S.Frames
public import proofs.«01_k».proof.Proof.S.Value
public import proofs.«01_k».proof.Proof.A.Value
public import proofs.«01_k».proof.Proof.B.Value
public import proofs.«01_k».proof.Proof.C.Value
public import proofs.«01_k».proof.Proof.D.Value
public import proofs.«01_k».proof.Proof.E.Value
public import proofs.«01_k».proof.Proof.G.Value
public import proofs.«01_k».proof.Proof.H.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite_qk.Gen.facts, Cert.Pre_tables.Gen.facts,
  Cert.Proof.S.frame_kernel, Cert.Proof.S.frame_ideal, fun m g _ => Cert.Proof.S.frame_ideal m g trivial, Cert.Proof.S.frame_ref,
  fun m g _ => Cert.Proof.S.frame_ref m g trivial, Cert.Proof.A.frame_kernel, Cert.Proof.A.frame_ideal, Cert.Proof.A.frame_ref,
    Cert.Proof.B.frame_kernel, Cert.Proof.B.frame_ideal, Cert.Proof.B.frame_ref, Cert.Proof.C.frame_kernel, Cert.Proof.C.frame_ideal, Cert.Proof.C.frame_ref, Cert.Proof.D.frame_kernel, Cert.Proof.D.frame_ideal, Cert.Proof.D.frame_ref, Cert.Proof.E.frame_kernel, Cert.Proof.E.frame_ideal, Cert.Proof.E.frame_ref, Cert.Proof.G.frame_kernel, Cert.Proof.G.frame_ideal, Cert.Proof.G.frame_ref, Cert.Proof.H.frame_kernel, Cert.Proof.H.frame_ideal, Cert.Proof.H.frame_ref,
  Cert.Proof.S.preserves, Cert.Proof.S.algebraic, trivial, Cert.Proof.A.algebraic,
    trivial, Cert.Proof.B.algebraic, trivial, Cert.Proof.C.algebraic, trivial, Cert.Proof.D.algebraic, trivial, Cert.Proof.E.algebraic, trivial, Cert.Proof.G.algebraic, trivial, Cert.Proof.H.algebraic⟩

end Cert.Proof

end
